-- ==== Defs.lean ====
def Pre_DequantP (m : (ℓ : Loc Cert.DequantP.nD Cert.DequantP.τ Cert.DequantP.sig) → Buf (Elt Bits) ℓ) : Prop :=
  True

def Pre_DequantPIdeal (m : (ℓ : Loc Cert.DequantPIdeal.nD Cert.DequantPIdeal.τ Cert.DequantPIdeal.sig) → Buf (Elt Ideal) ℓ) : Prop :=
  True

def Pre_DequantPReferenceIdeal (m : (ℓ : Loc Cert.DequantPReferenceIdeal.nD Cert.DequantPReferenceIdeal.τ Cert.DequantPReferenceIdeal.sig) → Buf (Elt Ideal) ℓ) : Prop :=
  True

def Pre_DequantQ (m : (ℓ : Loc Cert.DequantQ.nD Cert.DequantQ.τ Cert.DequantQ.sig) → Buf (Elt Bits) ℓ) : Prop :=
  True

def Pre_DequantQIdeal (m : (ℓ : Loc Cert.DequantQIdeal.nD Cert.DequantQIdeal.τ Cert.DequantQIdeal.sig) → Buf (Elt Ideal) ℓ) : Prop :=
  True

def Pre_DequantQReferenceIdeal (m : (ℓ : Loc Cert.DequantQReferenceIdeal.nD Cert.DequantQReferenceIdeal.τ Cert.DequantQReferenceIdeal.sig) → Buf (Elt Ideal) ℓ) : Prop :=
  True

def Pre_Dp (m : (ℓ : Loc Cert.Dp.nD Cert.Dp.τ Cert.Dp.sig) → Buf (Elt Bits) ℓ) : Prop :=
  True

def Pre_DpIdeal (m : (ℓ : Loc Cert.DpIdeal.nD Cert.DpIdeal.τ Cert.DpIdeal.sig) → Buf (Elt Ideal) ℓ) : Prop :=
  True

def Pre_DpReferenceIdeal (m : (ℓ : Loc Cert.DpReferenceIdeal.nD Cert.DpReferenceIdeal.τ Cert.DpReferenceIdeal.sig) → Buf (Elt Ideal) ℓ) : Prop :=
  True

def Pre_LossDq (m : (ℓ : Loc Cert.LossDq.nD Cert.LossDq.τ Cert.LossDq.sig) → Buf (Elt Bits) ℓ) : Prop :=
  True

def Pre_LossDqIdeal (m : (ℓ : Loc Cert.LossDqIdeal.nD Cert.LossDqIdeal.τ Cert.LossDqIdeal.sig) → Buf (Elt Ideal) ℓ) : Prop :=
  True

def Pre_LossDqIdeal_in_range [hPre_in_range : Cert.Pre_in_range.Facts] (m : (ℓ : Loc Cert.LossDqIdeal.nD Cert.LossDqIdeal.τ Cert.LossDqIdeal.sig) → Buf (Elt Ideal) ℓ) : Prop :=
  ∀ c : Dev Cert.LossDqIdeal.nD,
    (Cert.Pre_in_range.fn (F := Ideal) (m ((c.tc : Thread Cert.LossDqIdeal.nD Cert.LossDqIdeal.τ).loc Cert.LossDqIdeal.main_arg0)) (m ((c.tc : Thread Cert.LossDqIdeal.nD Cert.LossDqIdeal.τ).loc Cert.LossDqIdeal.main_arg1)) (m ((c.tc : Thread Cert.LossDqIdeal.nD Cert.LossDqIdeal.τ).loc Cert.LossDqIdeal.main_arg2)) (m ((c.tc : Thread Cert.LossDqIdeal.nD Cert.LossDqIdeal.τ).loc Cert.LossDqIdeal.main_arg3))) = (fun _ => 1#1)

def Pre_LossDqReferenceIdeal (m : (ℓ : Loc Cert.LossDqReferenceIdeal.nD Cert.LossDqReferenceIdeal.τ Cert.LossDqReferenceIdeal.sig) → Buf (Elt Ideal) ℓ) : Prop :=
  True

def Pre_LossDqReferenceIdeal_in_range [hPre_in_range : Cert.Pre_in_range.Facts] (m : (ℓ : Loc Cert.LossDqReferenceIdeal.nD Cert.LossDqReferenceIdeal.τ Cert.LossDqReferenceIdeal.sig) → Buf (Elt Ideal) ℓ) : Prop :=
  ∀ c : Dev Cert.LossDqReferenceIdeal.nD,
    (Cert.Pre_in_range.fn (F := Ideal) (m ((c.tc : Thread Cert.LossDqReferenceIdeal.nD Cert.LossDqReferenceIdeal.τ).loc Cert.LossDqReferenceIdeal.main_arg0)) (m ((c.tc : Thread Cert.LossDqReferenceIdeal.nD Cert.LossDqReferenceIdeal.τ).loc Cert.LossDqReferenceIdeal.main_arg1)) (m ((c.tc : Thread Cert.LossDqReferenceIdeal.nD Cert.LossDqReferenceIdeal.τ).loc Cert.LossDqReferenceIdeal.main_arg2)) (m ((c.tc : Thread Cert.LossDqReferenceIdeal.nD Cert.LossDqReferenceIdeal.τ).loc Cert.LossDqReferenceIdeal.main_arg3))) = (fun _ => 1#1)

def quiescent_DequantP [hDequantP : Cert.DequantP.Facts] : Prop :=
  ∀ (m : (ℓ : Loc Cert.DequantP.nD Cert.DequantP.τ Cert.DequantP.sig) → Buf (Elt Bits) ℓ) (g : Dev Cert.DequantP.nD → PrngReg), Pre_DequantP m →
    θ_run (Cert.DequantP.defs (F := Bits)) (onTc (τ := Cert.DequantP.τ) (Cert.DequantP.main (F := Bits))) ⟨m, fun _ => 0, g⟩ (fun r => (∀ c : Dev Cert.DequantP.nD,
      r.2.mem ((c.tc : Thread Cert.DequantP.nD Cert.DequantP.τ).loc Cert.DequantP.main_arg0) = m ((c.tc : Thread Cert.DequantP.nD Cert.DequantP.τ).loc Cert.DequantP.main_arg0)
      ∧ r.2.mem ((c.tc : Thread Cert.DequantP.nD Cert.DequantP.τ).loc Cert.DequantP.main_arg1) = m ((c.tc : Thread Cert.DequantP.nD Cert.DequantP.τ).loc Cert.DequantP.main_arg1))
      ∧ r.2.sem = fun _ => 0)

def quiescent_DequantPIdeal [hDequantPIdeal : Cert.DequantPIdeal.Facts] : Prop :=
  ∀ (m : (ℓ : Loc Cert.DequantPIdeal.nD Cert.DequantPIdeal.τ Cert.DequantPIdeal.sig) → Buf (Elt Ideal) ℓ) (g : Dev Cert.DequantPIdeal.nD → PrngReg), Pre_DequantPIdeal m →
    θ_run (Cert.DequantPIdeal.defs (F := Ideal)) (onTc (τ := Cert.DequantPIdeal.τ) (Cert.DequantPIdeal.main (F := Ideal))) ⟨m, fun _ => 0, g⟩ (fun r => (∀ c : Dev Cert.DequantPIdeal.nD,
      r.2.mem ((c.tc : Thread Cert.DequantPIdeal.nD Cert.DequantPIdeal.τ).loc Cert.DequantPIdeal.main_arg0) = m ((c.tc : Thread Cert.DequantPIdeal.nD Cert.DequantPIdeal.τ).loc Cert.DequantPIdeal.main_arg0)
      ∧ r.2.mem ((c.tc : Thread Cert.DequantPIdeal.nD Cert.DequantPIdeal.τ).loc Cert.DequantPIdeal.main_arg1) = m ((c.tc : Thread Cert.DequantPIdeal.nD Cert.DequantPIdeal.τ).loc Cert.DequantPIdeal.main_arg1))
      ∧ r.2.sem = fun _ => 0)

def quiescent_DequantPReferenceIdeal [hDequantPReferenceIdeal : Cert.DequantPReferenceIdeal.Facts] : Prop :=
  ∀ (m : (ℓ : Loc Cert.DequantPReferenceIdeal.nD Cert.DequantPReferenceIdeal.τ Cert.DequantPReferenceIdeal.sig) → Buf (Elt Ideal) ℓ) (g : Dev Cert.DequantPReferenceIdeal.nD → PrngReg), Pre_DequantPReferenceIdeal m →
    θ_run (Cert.DequantPReferenceIdeal.defs (F := Ideal)) (onTc (τ := Cert.DequantPReferenceIdeal.τ) (Cert.DequantPReferenceIdeal.main (F := Ideal))) ⟨m, fun _ => 0, g⟩ (fun r => (∀ c : Dev Cert.DequantPReferenceIdeal.nD,
      r.2.mem ((c.tc : Thread Cert.DequantPReferenceIdeal.nD Cert.DequantPReferenceIdeal.τ).loc Cert.DequantPReferenceIdeal.main_arg0) = m ((c.tc : Thread Cert.DequantPReferenceIdeal.nD Cert.DequantPReferenceIdeal.τ).loc Cert.DequantPReferenceIdeal.main_arg0)
      ∧ r.2.mem ((c.tc : Thread Cert.DequantPReferenceIdeal.nD Cert.DequantPReferenceIdeal.τ).loc Cert.DequantPReferenceIdeal.main_arg1) = m ((c.tc : Thread Cert.DequantPReferenceIdeal.nD Cert.DequantPReferenceIdeal.τ).loc Cert.DequantPReferenceIdeal.main_arg1))
      ∧ r.2.sem = fun _ => 0)

def quiescent_DequantQ [hDequantQ : Cert.DequantQ.Facts] : Prop :=
  ∀ (m : (ℓ : Loc Cert.DequantQ.nD Cert.DequantQ.τ Cert.DequantQ.sig) → Buf (Elt Bits) ℓ) (g : Dev Cert.DequantQ.nD → PrngReg), Pre_DequantQ m →
    θ_run (Cert.DequantQ.defs (F := Bits)) (onTc (τ := Cert.DequantQ.τ) (Cert.DequantQ.main (F := Bits))) ⟨m, fun _ => 0, g⟩ (fun r => (∀ c : Dev Cert.DequantQ.nD,
      r.2.mem ((c.tc : Thread Cert.DequantQ.nD Cert.DequantQ.τ).loc Cert.DequantQ.main_arg0) = m ((c.tc : Thread Cert.DequantQ.nD Cert.DequantQ.τ).loc Cert.DequantQ.main_arg0)
      ∧ r.2.mem ((c.tc : Thread Cert.DequantQ.nD Cert.DequantQ.τ).loc Cert.DequantQ.main_arg1) = m ((c.tc : Thread Cert.DequantQ.nD Cert.DequantQ.τ).loc Cert.DequantQ.main_arg1))
      ∧ r.2.sem = fun _ => 0)

def quiescent_DequantQIdeal [hDequantQIdeal : Cert.DequantQIdeal.Facts] : Prop :=
  ∀ (m : (ℓ : Loc Cert.DequantQIdeal.nD Cert.DequantQIdeal.τ Cert.DequantQIdeal.sig) → Buf (Elt Ideal) ℓ) (g : Dev Cert.DequantQIdeal.nD → PrngReg), Pre_DequantQIdeal m →
    θ_run (Cert.DequantQIdeal.defs (F := Ideal)) (onTc (τ := Cert.DequantQIdeal.τ) (Cert.DequantQIdeal.main (F := Ideal))) ⟨m, fun _ => 0, g⟩ (fun r => (∀ c : Dev Cert.DequantQIdeal.nD,
      r.2.mem ((c.tc : Thread Cert.DequantQIdeal.nD Cert.DequantQIdeal.τ).loc Cert.DequantQIdeal.main_arg0) = m ((c.tc : Thread Cert.DequantQIdeal.nD Cert.DequantQIdeal.τ).loc Cert.DequantQIdeal.main_arg0)
      ∧ r.2.mem ((c.tc : Thread Cert.DequantQIdeal.nD Cert.DequantQIdeal.τ).loc Cert.DequantQIdeal.main_arg1) = m ((c.tc : Thread Cert.DequantQIdeal.nD Cert.DequantQIdeal.τ).loc Cert.DequantQIdeal.main_arg1))
      ∧ r.2.sem = fun _ => 0)

def quiescent_DequantQReferenceIdeal [hDequantQReferenceIdeal : Cert.DequantQReferenceIdeal.Facts] : Prop :=
  ∀ (m : (ℓ : Loc Cert.DequantQReferenceIdeal.nD Cert.DequantQReferenceIdeal.τ Cert.DequantQReferenceIdeal.sig) → Buf (Elt Ideal) ℓ) (g : Dev Cert.DequantQReferenceIdeal.nD → PrngReg), Pre_DequantQReferenceIdeal m →
    θ_run (Cert.DequantQReferenceIdeal.defs (F := Ideal)) (onTc (τ := Cert.DequantQReferenceIdeal.τ) (Cert.DequantQReferenceIdeal.main (F := Ideal))) ⟨m, fun _ => 0, g⟩ (fun r => (∀ c : Dev Cert.DequantQReferenceIdeal.nD,
      r.2.mem ((c.tc : Thread Cert.DequantQReferenceIdeal.nD Cert.DequantQReferenceIdeal.τ).loc Cert.DequantQReferenceIdeal.main_arg0) = m ((c.tc : Thread Cert.DequantQReferenceIdeal.nD Cert.DequantQReferenceIdeal.τ).loc Cert.DequantQReferenceIdeal.main_arg0)
      ∧ r.2.mem ((c.tc : Thread Cert.DequantQReferenceIdeal.nD Cert.DequantQReferenceIdeal.τ).loc Cert.DequantQReferenceIdeal.main_arg1) = m ((c.tc : Thread Cert.DequantQReferenceIdeal.nD Cert.DequantQReferenceIdeal.τ).loc Cert.DequantQReferenceIdeal.main_arg1))
      ∧ r.2.sem = fun _ => 0)

def quiescent_Dp [hDp : Cert.Dp.Facts] : Prop :=
  ∀ (m : (ℓ : Loc Cert.Dp.nD Cert.Dp.τ Cert.Dp.sig) → Buf (Elt Bits) ℓ) (g : Dev Cert.Dp.nD → PrngReg), Pre_Dp m →
    θ_run (Cert.Dp.defs (F := Bits)) (onTc (τ := Cert.Dp.τ) (Cert.Dp.main (F := Bits))) ⟨m, fun _ => 0, g⟩ (fun r => (∀ c : Dev Cert.Dp.nD,
      r.2.mem ((c.tc : Thread Cert.Dp.nD Cert.Dp.τ).loc Cert.Dp.main_arg0) = m ((c.tc : Thread Cert.Dp.nD Cert.Dp.τ).loc Cert.Dp.main_arg0)
      ∧ r.2.mem ((c.tc : Thread Cert.Dp.nD Cert.Dp.τ).loc Cert.Dp.main_arg1) = m ((c.tc : Thread Cert.Dp.nD Cert.Dp.τ).loc Cert.Dp.main_arg1)
      ∧ r.2.mem ((c.tc : Thread Cert.Dp.nD Cert.Dp.τ).loc Cert.Dp.main_arg2) = m ((c.tc : Thread Cert.Dp.nD Cert.Dp.τ).loc Cert.Dp.main_arg2))
      ∧ r.2.sem = fun _ => 0)

def quiescent_DpIdeal [hDpIdeal : Cert.DpIdeal.Facts] : Prop :=
  ∀ (m : (ℓ : Loc Cert.DpIdeal.nD Cert.DpIdeal.τ Cert.DpIdeal.sig) → Buf (Elt Ideal) ℓ) (g : Dev Cert.DpIdeal.nD → PrngReg), Pre_DpIdeal m →
    θ_run (Cert.DpIdeal.defs (F := Ideal)) (onTc (τ := Cert.DpIdeal.τ) (Cert.DpIdeal.main (F := Ideal))) ⟨m, fun _ => 0, g⟩ (fun r => (∀ c : Dev Cert.DpIdeal.nD,
      r.2.mem ((c.tc : Thread Cert.DpIdeal.nD Cert.DpIdeal.τ).loc Cert.DpIdeal.main_arg0) = m ((c.tc : Thread Cert.DpIdeal.nD Cert.DpIdeal.τ).loc Cert.DpIdeal.main_arg0)
      ∧ r.2.mem ((c.tc : Thread Cert.DpIdeal.nD Cert.DpIdeal.τ).loc Cert.DpIdeal.main_arg1) = m ((c.tc : Thread Cert.DpIdeal.nD Cert.DpIdeal.τ).loc Cert.DpIdeal.main_arg1)
      ∧ r.2.mem ((c.tc : Thread Cert.DpIdeal.nD Cert.DpIdeal.τ).loc Cert.DpIdeal.main_arg2) = m ((c.tc : Thread Cert.DpIdeal.nD Cert.DpIdeal.τ).loc Cert.DpIdeal.main_arg2))
      ∧ r.2.sem = fun _ => 0)

def quiescent_DpReferenceIdeal [hDpReferenceIdeal : Cert.DpReferenceIdeal.Facts] : Prop :=
  ∀ (m : (ℓ : Loc Cert.DpReferenceIdeal.nD Cert.DpReferenceIdeal.τ Cert.DpReferenceIdeal.sig) → Buf (Elt Ideal) ℓ) (g : Dev Cert.DpReferenceIdeal.nD → PrngReg), Pre_DpReferenceIdeal m →
    θ_run (Cert.DpReferenceIdeal.defs (F := Ideal)) (onTc (τ := Cert.DpReferenceIdeal.τ) (Cert.DpReferenceIdeal.main (F := Ideal))) ⟨m, fun _ => 0, g⟩ (fun r => (∀ c : Dev Cert.DpReferenceIdeal.nD,
      r.2.mem ((c.tc : Thread Cert.DpReferenceIdeal.nD Cert.DpReferenceIdeal.τ).loc Cert.DpReferenceIdeal.main_arg0) = m ((c.tc : Thread Cert.DpReferenceIdeal.nD Cert.DpReferenceIdeal.τ).loc Cert.DpReferenceIdeal.main_arg0)
      ∧ r.2.mem ((c.tc : Thread Cert.DpReferenceIdeal.nD Cert.DpReferenceIdeal.τ).loc Cert.DpReferenceIdeal.main_arg1) = m ((c.tc : Thread Cert.DpReferenceIdeal.nD Cert.DpReferenceIdeal.τ).loc Cert.DpReferenceIdeal.main_arg1)
      ∧ r.2.mem ((c.tc : Thread Cert.DpReferenceIdeal.nD Cert.DpReferenceIdeal.τ).loc Cert.DpReferenceIdeal.main_arg2) = m ((c.tc : Thread Cert.DpReferenceIdeal.nD Cert.DpReferenceIdeal.τ).loc Cert.DpReferenceIdeal.main_arg2))
      ∧ r.2.sem = fun _ => 0)

def quiescent_LossDq [hLossDq : Cert.LossDq.Facts] : Prop :=
  ∀ (m : (ℓ : Loc Cert.LossDq.nD Cert.LossDq.τ Cert.LossDq.sig) → Buf (Elt Bits) ℓ) (g : Dev Cert.LossDq.nD → PrngReg), Pre_LossDq m →
    θ_run (Cert.LossDq.defs (F := Bits)) (onTc (τ := Cert.LossDq.τ) (Cert.LossDq.main (F := Bits))) ⟨m, fun _ => 0, g⟩ (fun r => (∀ c : Dev Cert.LossDq.nD,
      r.2.mem ((c.tc : Thread Cert.LossDq.nD Cert.LossDq.τ).loc Cert.LossDq.main_arg0) = m ((c.tc : Thread Cert.LossDq.nD Cert.LossDq.τ).loc Cert.LossDq.main_arg0)
      ∧ r.2.mem ((c.tc : Thread Cert.LossDq.nD Cert.LossDq.τ).loc Cert.LossDq.main_arg1) = m ((c.tc : Thread Cert.LossDq.nD Cert.LossDq.τ).loc Cert.LossDq.main_arg1)
      ∧ r.2.mem ((c.tc : Thread Cert.LossDq.nD Cert.LossDq.τ).loc Cert.LossDq.main_arg2) = m ((c.tc : Thread Cert.LossDq.nD Cert.LossDq.τ).loc Cert.LossDq.main_arg2)
      ∧ r.2.mem ((c.tc : Thread Cert.LossDq.nD Cert.LossDq.τ).loc Cert.LossDq.main_arg3) = m ((c.tc : Thread Cert.LossDq.nD Cert.LossDq.τ).loc Cert.LossDq.main_arg3))
      ∧ r.2.sem = fun _ => 0)

def quiescent_LossDqIdeal [hLossDqIdeal : Cert.LossDqIdeal.Facts] : Prop :=
  ∀ (m : (ℓ : Loc Cert.LossDqIdeal.nD Cert.LossDqIdeal.τ Cert.LossDqIdeal.sig) → Buf (Elt Ideal) ℓ) (g : Dev Cert.LossDqIdeal.nD → PrngReg), Pre_LossDqIdeal m →
    θ_run (Cert.LossDqIdeal.defs (F := Ideal)) (onTc (τ := Cert.LossDqIdeal.τ) (Cert.LossDqIdeal.main (F := Ideal))) ⟨m, fun _ => 0, g⟩ (fun r => (∀ c : Dev Cert.LossDqIdeal.nD,
      r.2.mem ((c.tc : Thread Cert.LossDqIdeal.nD Cert.LossDqIdeal.τ).loc Cert.LossDqIdeal.main_arg0) = m ((c.tc : Thread Cert.LossDqIdeal.nD Cert.LossDqIdeal.τ).loc Cert.LossDqIdeal.main_arg0)
      ∧ r.2.mem ((c.tc : Thread Cert.LossDqIdeal.nD Cert.LossDqIdeal.τ).loc Cert.LossDqIdeal.main_arg1) = m ((c.tc : Thread Cert.LossDqIdeal.nD Cert.LossDqIdeal.τ).loc Cert.LossDqIdeal.main_arg1)
      ∧ r.2.mem ((c.tc : Thread Cert.LossDqIdeal.nD Cert.LossDqIdeal.τ).loc Cert.LossDqIdeal.main_arg2) = m ((c.tc : Thread Cert.LossDqIdeal.nD Cert.LossDqIdeal.τ).loc Cert.LossDqIdeal.main_arg2)
      ∧ r.2.mem ((c.tc : Thread Cert.LossDqIdeal.nD Cert.LossDqIdeal.τ).loc Cert.LossDqIdeal.main_arg3) = m ((c.tc : Thread Cert.LossDqIdeal.nD Cert.LossDqIdeal.τ).loc Cert.LossDqIdeal.main_arg3))
      ∧ r.2.sem = fun _ => 0)

def quiescent_LossDqIdeal_pre_in_range [hLossDqIdeal : Cert.LossDqIdeal.Facts] [hPre_in_range : Cert.Pre_in_range.Facts] : Prop :=
  ∀ (m : (ℓ : Loc Cert.LossDqIdeal.nD Cert.LossDqIdeal.τ Cert.LossDqIdeal.sig) → Buf (Elt Ideal) ℓ) (g : Dev Cert.LossDqIdeal.nD → PrngReg), Pre_LossDqIdeal_in_range m →
    θ_run (Cert.LossDqIdeal.defs (F := Ideal)) (onTc (τ := Cert.LossDqIdeal.τ) (Cert.LossDqIdeal.main (F := Ideal))) ⟨m, fun _ => 0, g⟩ (fun r => (∀ c : Dev Cert.LossDqIdeal.nD,
      r.2.mem ((c.tc : Thread Cert.LossDqIdeal.nD Cert.LossDqIdeal.τ).loc Cert.LossDqIdeal.main_arg0) = m ((c.tc : Thread Cert.LossDqIdeal.nD Cert.LossDqIdeal.τ).loc Cert.LossDqIdeal.main_arg0)
      ∧ r.2.mem ((c.tc : Thread Cert.LossDqIdeal.nD Cert.LossDqIdeal.τ).loc Cert.LossDqIdeal.main_arg1) = m ((c.tc : Thread Cert.LossDqIdeal.nD Cert.LossDqIdeal.τ).loc Cert.LossDqIdeal.main_arg1)
      ∧ r.2.mem ((c.tc : Thread Cert.LossDqIdeal.nD Cert.LossDqIdeal.τ).loc Cert.LossDqIdeal.main_arg2) = m ((c.tc : Thread Cert.LossDqIdeal.nD Cert.LossDqIdeal.τ).loc Cert.LossDqIdeal.main_arg2)
      ∧ r.2.mem ((c.tc : Thread Cert.LossDqIdeal.nD Cert.LossDqIdeal.τ).loc Cert.LossDqIdeal.main_arg3) = m ((c.tc : Thread Cert.LossDqIdeal.nD Cert.LossDqIdeal.τ).loc Cert.LossDqIdeal.main_arg3))
      ∧ r.2.sem = fun _ => 0)

def quiescent_LossDqReferenceIdeal [hLossDqReferenceIdeal : Cert.LossDqReferenceIdeal.Facts] : Prop :=
  ∀ (m : (ℓ : Loc Cert.LossDqReferenceIdeal.nD Cert.LossDqReferenceIdeal.τ Cert.LossDqReferenceIdeal.sig) → Buf (Elt Ideal) ℓ) (g : Dev Cert.LossDqReferenceIdeal.nD → PrngReg), Pre_LossDqReferenceIdeal m →
    θ_run (Cert.LossDqReferenceIdeal.defs (F := Ideal)) (onTc (τ := Cert.LossDqReferenceIdeal.τ) (Cert.LossDqReferenceIdeal.main (F := Ideal))) ⟨m, fun _ => 0, g⟩ (fun r => (∀ c : Dev Cert.LossDqReferenceIdeal.nD,
      r.2.mem ((c.tc : Thread Cert.LossDqReferenceIdeal.nD Cert.LossDqReferenceIdeal.τ).loc Cert.LossDqReferenceIdeal.main_arg0) = m ((c.tc : Thread Cert.LossDqReferenceIdeal.nD Cert.LossDqReferenceIdeal.τ).loc Cert.LossDqReferenceIdeal.main_arg0)
      ∧ r.2.mem ((c.tc : Thread Cert.LossDqReferenceIdeal.nD Cert.LossDqReferenceIdeal.τ).loc Cert.LossDqReferenceIdeal.main_arg1) = m ((c.tc : Thread Cert.LossDqReferenceIdeal.nD Cert.LossDqReferenceIdeal.τ).loc Cert.LossDqReferenceIdeal.main_arg1)
      ∧ r.2.mem ((c.tc : Thread Cert.LossDqReferenceIdeal.nD Cert.LossDqReferenceIdeal.τ).loc Cert.LossDqReferenceIdeal.main_arg2) = m ((c.tc : Thread Cert.LossDqReferenceIdeal.nD Cert.LossDqReferenceIdeal.τ).loc Cert.LossDqReferenceIdeal.main_arg2)
      ∧ r.2.mem ((c.tc : Thread Cert.LossDqReferenceIdeal.nD Cert.LossDqReferenceIdeal.τ).loc Cert.LossDqReferenceIdeal.main_arg3) = m ((c.tc : Thread Cert.LossDqReferenceIdeal.nD Cert.LossDqReferenceIdeal.τ).loc Cert.LossDqReferenceIdeal.main_arg3))
      ∧ r.2.sem = fun _ => 0)

def quiescent_LossDqReferenceIdeal_pre_in_range [hLossDqReferenceIdeal : Cert.LossDqReferenceIdeal.Facts] [hPre_in_range : Cert.Pre_in_range.Facts] : Prop :=
  ∀ (m : (ℓ : Loc Cert.LossDqReferenceIdeal.nD Cert.LossDqReferenceIdeal.τ Cert.LossDqReferenceIdeal.sig) → Buf (Elt Ideal) ℓ) (g : Dev Cert.LossDqReferenceIdeal.nD → PrngReg), Pre_LossDqReferenceIdeal_in_range m →
    θ_run (Cert.LossDqReferenceIdeal.defs (F := Ideal)) (onTc (τ := Cert.LossDqReferenceIdeal.τ) (Cert.LossDqReferenceIdeal.main (F := Ideal))) ⟨m, fun _ => 0, g⟩ (fun r => (∀ c : Dev Cert.LossDqReferenceIdeal.nD,
      r.2.mem ((c.tc : Thread Cert.LossDqReferenceIdeal.nD Cert.LossDqReferenceIdeal.τ).loc Cert.LossDqReferenceIdeal.main_arg0) = m ((c.tc : Thread Cert.LossDqReferenceIdeal.nD Cert.LossDqReferenceIdeal.τ).loc Cert.LossDqReferenceIdeal.main_arg0)
      ∧ r.2.mem ((c.tc : Thread Cert.LossDqReferenceIdeal.nD Cert.LossDqReferenceIdeal.τ).loc Cert.LossDqReferenceIdeal.main_arg1) = m ((c.tc : Thread Cert.LossDqReferenceIdeal.nD Cert.LossDqReferenceIdeal.τ).loc Cert.LossDqReferenceIdeal.main_arg1)
      ∧ r.2.mem ((c.tc : Thread Cert.LossDqReferenceIdeal.nD Cert.LossDqReferenceIdeal.τ).loc Cert.LossDqReferenceIdeal.main_arg2) = m ((c.tc : Thread Cert.LossDqReferenceIdeal.nD Cert.LossDqReferenceIdeal.τ).loc Cert.LossDqReferenceIdeal.main_arg2)
      ∧ r.2.mem ((c.tc : Thread Cert.LossDqReferenceIdeal.nD Cert.LossDqReferenceIdeal.τ).loc Cert.LossDqReferenceIdeal.main_arg3) = m ((c.tc : Thread Cert.LossDqReferenceIdeal.nD Cert.LossDqReferenceIdeal.τ).loc Cert.LossDqReferenceIdeal.main_arg3))
      ∧ r.2.sem = fun _ => 0)

def preserves_DequantP_DequantPIdeal : Prop :=
  True

def algebraic_DequantPIdeal_DequantPReferenceIdeal [hDequantPIdeal : Cert.DequantPIdeal.Facts] [hDequantPReferenceIdeal : Cert.DequantPReferenceIdeal.Facts] : Prop :=
  ∀ (m : (ℓ : Loc Cert.DequantPIdeal.nD Cert.DequantPIdeal.τ Cert.DequantPIdeal.sig) → Buf (Elt Ideal) ℓ) (g : Dev Cert.DequantPIdeal.nD → PrngReg)
    (m' : (ℓ : Loc Cert.DequantPReferenceIdeal.nD Cert.DequantPReferenceIdeal.τ Cert.DequantPReferenceIdeal.sig) → Buf (Elt Ideal) ℓ) (g' : Dev Cert.DequantPReferenceIdeal.nD → PrngReg), Pre_DequantPIdeal m →
    (∀ c : Dev Cert.DequantPIdeal.nD,
      m' ((c.tc : Thread Cert.DequantPReferenceIdeal.nD Cert.DequantPReferenceIdeal.τ).loc Cert.DequantPReferenceIdeal.main_arg0) = m ((c.tc : Thread Cert.DequantPIdeal.nD Cert.DequantPIdeal.τ).loc Cert.DequantPIdeal.main_arg0)
      ∧ m' ((c.tc : Thread Cert.DequantPReferenceIdeal.nD Cert.DequantPReferenceIdeal.τ).loc Cert.DequantPReferenceIdeal.main_arg1) = m ((c.tc : Thread Cert.DequantPIdeal.nD Cert.DequantPIdeal.τ).loc Cert.DequantPIdeal.main_arg1)) →
    ∃ (v0 : (c : Dev Cert.DequantPIdeal.nD) → Buf (Elt Ideal) ((c.tc : Thread Cert.DequantPIdeal.nD Cert.DequantPIdeal.τ).loc Cert.DequantPIdeal.main_v0)),
      θ_run (Cert.DequantPIdeal.defs (F := Ideal)) (onTc (τ := Cert.DequantPIdeal.τ) (Cert.DequantPIdeal.main (F := Ideal))) ⟨m, fun _ => 0, g⟩ (fun r => ∀ c : Dev Cert.DequantPIdeal.nD,
          r.2.mem ((c.tc : Thread Cert.DequantPIdeal.nD Cert.DequantPIdeal.τ).loc Cert.DequantPIdeal.main_v0) = v0 c
          ∧ r.2.mem ((c.tc : Thread Cert.DequantPIdeal.nD Cert.DequantPIdeal.τ).loc Cert.DequantPIdeal.main_arg0) = m ((c.tc : Thread Cert.DequantPIdeal.nD Cert.DequantPIdeal.τ).loc Cert.DequantPIdeal.main_arg0)
          ∧ r.2.mem ((c.tc : Thread Cert.DequantPIdeal.nD Cert.DequantPIdeal.τ).loc Cert.DequantPIdeal.main_arg1) = m ((c.tc : Thread Cert.DequantPIdeal.nD Cert.DequantPIdeal.τ).loc Cert.DequantPIdeal.main_arg1))
      ∧ θ_run (Cert.DequantPReferenceIdeal.defs (F := Ideal)) (onTc (τ := Cert.DequantPReferenceIdeal.τ) (Cert.DequantPReferenceIdeal.main (F := Ideal))) ⟨m', fun _ => 0, g'⟩ (fun r => ∀ c : Dev Cert.DequantPReferenceIdeal.nD,
          r.2.mem ((c.tc : Thread Cert.DequantPReferenceIdeal.nD Cert.DequantPReferenceIdeal.τ).loc Cert.DequantPReferenceIdeal.main_v0) = v0 c
          ∧ r.2.mem ((c.tc : Thread Cert.DequantPReferenceIdeal.nD Cert.DequantPReferenceIdeal.τ).loc Cert.DequantPReferenceIdeal.main_arg0) = m' ((c.tc : Thread Cert.DequantPReferenceIdeal.nD Cert.DequantPReferenceIdeal.τ).loc Cert.DequantPReferenceIdeal.main_arg0)
          ∧ r.2.mem ((c.tc : Thread Cert.DequantPReferenceIdeal.nD Cert.DequantPReferenceIdeal.τ).loc Cert.DequantPReferenceIdeal.main_arg1) = m' ((c.tc : Thread Cert.DequantPReferenceIdeal.nD Cert.DequantPReferenceIdeal.τ).loc Cert.DequantPReferenceIdeal.main_arg1))

def preserves_DequantQ_DequantQIdeal : Prop :=
  True

def algebraic_DequantQIdeal_DequantQReferenceIdeal [hDequantQIdeal : Cert.DequantQIdeal.Facts] [hDequantQReferenceIdeal : Cert.DequantQReferenceIdeal.Facts] : Prop :=
  ∀ (m : (ℓ : Loc Cert.DequantQIdeal.nD Cert.DequantQIdeal.τ Cert.DequantQIdeal.sig) → Buf (Elt Ideal) ℓ) (g : Dev Cert.DequantQIdeal.nD → PrngReg)
    (m' : (ℓ : Loc Cert.DequantQReferenceIdeal.nD Cert.DequantQReferenceIdeal.τ Cert.DequantQReferenceIdeal.sig) → Buf (Elt Ideal) ℓ) (g' : Dev Cert.DequantQReferenceIdeal.nD → PrngReg), Pre_DequantQIdeal m →
    (∀ c : Dev Cert.DequantQIdeal.nD,
      m' ((c.tc : Thread Cert.DequantQReferenceIdeal.nD Cert.DequantQReferenceIdeal.τ).loc Cert.DequantQReferenceIdeal.main_arg0) = m ((c.tc : Thread Cert.DequantQIdeal.nD Cert.DequantQIdeal.τ).loc Cert.DequantQIdeal.main_arg0)
      ∧ m' ((c.tc : Thread Cert.DequantQReferenceIdeal.nD Cert.DequantQReferenceIdeal.τ).loc Cert.DequantQReferenceIdeal.main_arg1) = m ((c.tc : Thread Cert.DequantQIdeal.nD Cert.DequantQIdeal.τ).loc Cert.DequantQIdeal.main_arg1)) →
    ∃ (v0 : (c : Dev Cert.DequantQIdeal.nD) → Buf (Elt Ideal) ((c.tc : Thread Cert.DequantQIdeal.nD Cert.DequantQIdeal.τ).loc Cert.DequantQIdeal.main_v0)),
      θ_run (Cert.DequantQIdeal.defs (F := Ideal)) (onTc (τ := Cert.DequantQIdeal.τ) (Cert.DequantQIdeal.main (F := Ideal))) ⟨m, fun _ => 0, g⟩ (fun r => ∀ c : Dev Cert.DequantQIdeal.nD,
          r.2.mem ((c.tc : Thread Cert.DequantQIdeal.nD Cert.DequantQIdeal.τ).loc Cert.DequantQIdeal.main_v0) = v0 c
          ∧ r.2.mem ((c.tc : Thread Cert.DequantQIdeal.nD Cert.DequantQIdeal.τ).loc Cert.DequantQIdeal.main_arg0) = m ((c.tc : Thread Cert.DequantQIdeal.nD Cert.DequantQIdeal.τ).loc Cert.DequantQIdeal.main_arg0)
          ∧ r.2.mem ((c.tc : Thread Cert.DequantQIdeal.nD Cert.DequantQIdeal.τ).loc Cert.DequantQIdeal.main_arg1) = m ((c.tc : Thread Cert.DequantQIdeal.nD Cert.DequantQIdeal.τ).loc Cert.DequantQIdeal.main_arg1))
      ∧ θ_run (Cert.DequantQReferenceIdeal.defs (F := Ideal)) (onTc (τ := Cert.DequantQReferenceIdeal.τ) (Cert.DequantQReferenceIdeal.main (F := Ideal))) ⟨m', fun _ => 0, g'⟩ (fun r => ∀ c : Dev Cert.DequantQReferenceIdeal.nD,
          r.2.mem ((c.tc : Thread Cert.DequantQReferenceIdeal.nD Cert.DequantQReferenceIdeal.τ).loc Cert.DequantQReferenceIdeal.main_v0) = v0 c
          ∧ r.2.mem ((c.tc : Thread Cert.DequantQReferenceIdeal.nD Cert.DequantQReferenceIdeal.τ).loc Cert.DequantQReferenceIdeal.main_arg0) = m' ((c.tc : Thread Cert.DequantQReferenceIdeal.nD Cert.DequantQReferenceIdeal.τ).loc Cert.DequantQReferenceIdeal.main_arg0)
          ∧ r.2.mem ((c.tc : Thread Cert.DequantQReferenceIdeal.nD Cert.DequantQReferenceIdeal.τ).loc Cert.DequantQReferenceIdeal.main_arg1) = m' ((c.tc : Thread Cert.DequantQReferenceIdeal.nD Cert.DequantQReferenceIdeal.τ).loc Cert.DequantQReferenceIdeal.main_arg1))

def preserves_Dp_DpIdeal : Prop :=
  True

def algebraic_DpIdeal_DpReferenceIdeal [hDpIdeal : Cert.DpIdeal.Facts] [hDpReferenceIdeal : Cert.DpReferenceIdeal.Facts] : Prop :=
  ∀ (m : (ℓ : Loc Cert.DpIdeal.nD Cert.DpIdeal.τ Cert.DpIdeal.sig) → Buf (Elt Ideal) ℓ) (g : Dev Cert.DpIdeal.nD → PrngReg)
    (m' : (ℓ : Loc Cert.DpReferenceIdeal.nD Cert.DpReferenceIdeal.τ Cert.DpReferenceIdeal.sig) → Buf (Elt Ideal) ℓ) (g' : Dev Cert.DpReferenceIdeal.nD → PrngReg), Pre_DpIdeal m →
    (∀ c : Dev Cert.DpIdeal.nD,
      m' ((c.tc : Thread Cert.DpReferenceIdeal.nD Cert.DpReferenceIdeal.τ).loc Cert.DpReferenceIdeal.main_arg0) = m ((c.tc : Thread Cert.DpIdeal.nD Cert.DpIdeal.τ).loc Cert.DpIdeal.main_arg0)
      ∧ m' ((c.tc : Thread Cert.DpReferenceIdeal.nD Cert.DpReferenceIdeal.τ).loc Cert.DpReferenceIdeal.main_arg1) = m ((c.tc : Thread Cert.DpIdeal.nD Cert.DpIdeal.τ).loc Cert.DpIdeal.main_arg1)
      ∧ m' ((c.tc : Thread Cert.DpReferenceIdeal.nD Cert.DpReferenceIdeal.τ).loc Cert.DpReferenceIdeal.main_arg2) = m ((c.tc : Thread Cert.DpIdeal.nD Cert.DpIdeal.τ).loc Cert.DpIdeal.main_arg2)) →
    ∃ (v0 : (c : Dev Cert.DpIdeal.nD) → Buf (Elt Ideal) ((c.tc : Thread Cert.DpIdeal.nD Cert.DpIdeal.τ).loc Cert.DpIdeal.main_v0)),
      θ_run (Cert.DpIdeal.defs (F := Ideal)) (onTc (τ := Cert.DpIdeal.τ) (Cert.DpIdeal.main (F := Ideal))) ⟨m, fun _ => 0, g⟩ (fun r => ∀ c : Dev Cert.DpIdeal.nD,
          r.2.mem ((c.tc : Thread Cert.DpIdeal.nD Cert.DpIdeal.τ).loc Cert.DpIdeal.main_v0) = v0 c
          ∧ r.2.mem ((c.tc : Thread Cert.DpIdeal.nD Cert.DpIdeal.τ).loc Cert.DpIdeal.main_arg0) = m ((c.tc : Thread Cert.DpIdeal.nD Cert.DpIdeal.τ).loc Cert.DpIdeal.main_arg0)
          ∧ r.2.mem ((c.tc : Thread Cert.DpIdeal.nD Cert.DpIdeal.τ).loc Cert.DpIdeal.main_arg1) = m ((c.tc : Thread Cert.DpIdeal.nD Cert.DpIdeal.τ).loc Cert.DpIdeal.main_arg1)
          ∧ r.2.mem ((c.tc : Thread Cert.DpIdeal.nD Cert.DpIdeal.τ).loc Cert.DpIdeal.main_arg2) = m ((c.tc : Thread Cert.DpIdeal.nD Cert.DpIdeal.τ).loc Cert.DpIdeal.main_arg2))
      ∧ θ_run (Cert.DpReferenceIdeal.defs (F := Ideal)) (onTc (τ := Cert.DpReferenceIdeal.τ) (Cert.DpReferenceIdeal.main (F := Ideal))) ⟨m', fun _ => 0, g'⟩ (fun r => ∀ c : Dev Cert.DpReferenceIdeal.nD,
          r.2.mem ((c.tc : Thread Cert.DpReferenceIdeal.nD Cert.DpReferenceIdeal.τ).loc Cert.DpReferenceIdeal.main_v0) = v0 c
          ∧ r.2.mem ((c.tc : Thread Cert.DpReferenceIdeal.nD Cert.DpReferenceIdeal.τ).loc Cert.DpReferenceIdeal.main_arg0) = m' ((c.tc : Thread Cert.DpReferenceIdeal.nD Cert.DpReferenceIdeal.τ).loc Cert.DpReferenceIdeal.main_arg0)
          ∧ r.2.mem ((c.tc : Thread Cert.DpReferenceIdeal.nD Cert.DpReferenceIdeal.τ).loc Cert.DpReferenceIdeal.main_arg1) = m' ((c.tc : Thread Cert.DpReferenceIdeal.nD Cert.DpReferenceIdeal.τ).loc Cert.DpReferenceIdeal.main_arg1)
          ∧ r.2.mem ((c.tc : Thread Cert.DpReferenceIdeal.nD Cert.DpReferenceIdeal.τ).loc Cert.DpReferenceIdeal.main_arg2) = m' ((c.tc : Thread Cert.DpReferenceIdeal.nD Cert.DpReferenceIdeal.τ).loc Cert.DpReferenceIdeal.main_arg2))

def preserves_LossDq_LossDqIdeal : Prop :=
  IdealRules.named_const.Statement Cert.LossDqIdeal.κ "masked" .f32 0xFF61B1E6#32 ⊥
  ∧ IdealRules.named_const.Statement Cert.LossDqIdeal.κ "log2e_over_tau" .f32 0x41E6D4CA#32 ((20 * (Real.log 2)⁻¹ : ℝ) : EReal)
  ∧ IdealRules.named_const.Statement Cert.LossDqIdeal.κ "log2e" .f32 0x3FB8AA3B#32 (((Real.log 2)⁻¹ : ℝ) : EReal)

def algebraic_LossDqIdeal_LossDqReferenceIdeal_pre_in_range [hLossDqIdeal : Cert.LossDqIdeal.Facts] [hLossDqReferenceIdeal : Cert.LossDqReferenceIdeal.Facts] [hPre_in_range : Cert.Pre_in_range.Facts] : Prop :=
  ∀ (m : (ℓ : Loc Cert.LossDqIdeal.nD Cert.LossDqIdeal.τ Cert.LossDqIdeal.sig) → Buf (Elt Ideal) ℓ) (g : Dev Cert.LossDqIdeal.nD → PrngReg)
    (m' : (ℓ : Loc Cert.LossDqReferenceIdeal.nD Cert.LossDqReferenceIdeal.τ Cert.LossDqReferenceIdeal.sig) → Buf (Elt Ideal) ℓ) (g' : Dev Cert.LossDqReferenceIdeal.nD → PrngReg), Pre_LossDqIdeal_in_range m →
    (∀ c : Dev Cert.LossDqIdeal.nD,
      m' ((c.tc : Thread Cert.LossDqReferenceIdeal.nD Cert.LossDqReferenceIdeal.τ).loc Cert.LossDqReferenceIdeal.main_arg0) = m ((c.tc : Thread Cert.LossDqIdeal.nD Cert.LossDqIdeal.τ).loc Cert.LossDqIdeal.main_arg0)
      ∧ m' ((c.tc : Thread Cert.LossDqReferenceIdeal.nD Cert.LossDqReferenceIdeal.τ).loc Cert.LossDqReferenceIdeal.main_arg1) = m ((c.tc : Thread Cert.LossDqIdeal.nD Cert.LossDqIdeal.τ).loc Cert.LossDqIdeal.main_arg1)
      ∧ m' ((c.tc : Thread Cert.LossDqReferenceIdeal.nD Cert.LossDqReferenceIdeal.τ).loc Cert.LossDqReferenceIdeal.main_arg2) = m ((c.tc : Thread Cert.LossDqIdeal.nD Cert.LossDqIdeal.τ).loc Cert.LossDqIdeal.main_arg2)
      ∧ m' ((c.tc : Thread Cert.LossDqReferenceIdeal.nD Cert.LossDqReferenceIdeal.τ).loc Cert.LossDqReferenceIdeal.main_arg3) = m ((c.tc : Thread Cert.LossDqIdeal.nD Cert.LossDqIdeal.τ).loc Cert.LossDqIdeal.main_arg3)) →
    ∃ (v0 : (c : Dev Cert.LossDqIdeal.nD) → Buf (Elt Ideal) ((c.tc : Thread Cert.LossDqIdeal.nD Cert.LossDqIdeal.τ).loc Cert.LossDqIdeal.main_v1_0)) (v1 : (c : Dev Cert.LossDqIdeal.nD) → Buf (Elt Ideal) ((c.tc : Thread Cert.LossDqIdeal.nD Cert.LossDqIdeal.τ).loc Cert.LossDqIdeal.main_v1_1)) (v2 : (c : Dev Cert.LossDqIdeal.nD) → Buf (Elt Ideal) ((c.tc : Thread Cert.LossDqIdeal.nD Cert.LossDqIdeal.τ).loc Cert.LossDqIdeal.main_v1_2)) (v3 : (c : Dev Cert.LossDqIdeal.nD) → Buf (Elt Ideal) ((c.tc : Thread Cert.LossDqIdeal.nD Cert.LossDqIdeal.τ).loc Cert.LossDqIdeal.main_v1_3)),
      θ_run (Cert.LossDqIdeal.defs (F := Ideal)) (onTc (τ := Cert.LossDqIdeal.τ) (Cert.LossDqIdeal.main (F := Ideal))) ⟨m, fun _ => 0, g⟩ (fun r => ∀ c : Dev Cert.LossDqIdeal.nD,
          r.2.mem ((c.tc : Thread Cert.LossDqIdeal.nD Cert.LossDqIdeal.τ).loc Cert.LossDqIdeal.main_v1_0) = v0 c
          ∧ r.2.mem ((c.tc : Thread Cert.LossDqIdeal.nD Cert.LossDqIdeal.τ).loc Cert.LossDqIdeal.main_v1_1) = v1 c
          ∧ r.2.mem ((c.tc : Thread Cert.LossDqIdeal.nD Cert.LossDqIdeal.τ).loc Cert.LossDqIdeal.main_v1_2) = v2 c
          ∧ r.2.mem ((c.tc : Thread Cert.LossDqIdeal.nD Cert.LossDqIdeal.τ).loc Cert.LossDqIdeal.main_v1_3) = v3 c
          ∧ r.2.mem ((c.tc : Thread Cert.LossDqIdeal.nD Cert.LossDqIdeal.τ).loc Cert.LossDqIdeal.main_arg0) = m ((c.tc : Thread Cert.LossDqIdeal.nD Cert.LossDqIdeal.τ).loc Cert.LossDqIdeal.main_arg0)
          ∧ r.2.mem ((c.tc : Thread Cert.LossDqIdeal.nD Cert.LossDqIdeal.τ).loc Cert.LossDqIdeal.main_arg1) = m ((c.tc : Thread Cert.LossDqIdeal.nD Cert.LossDqIdeal.τ).loc Cert.LossDqIdeal.main_arg1)
          ∧ r.2.mem ((c.tc : Thread Cert.LossDqIdeal.nD Cert.LossDqIdeal.τ).loc Cert.LossDqIdeal.main_arg2) = m ((c.tc : Thread Cert.LossDqIdeal.nD Cert.LossDqIdeal.τ).loc Cert.LossDqIdeal.main_arg2)
          ∧ r.2.mem ((c.tc : Thread Cert.LossDqIdeal.nD Cert.LossDqIdeal.τ).loc Cert.LossDqIdeal.main_arg3) = m ((c.tc : Thread Cert.LossDqIdeal.nD Cert.LossDqIdeal.τ).loc Cert.LossDqIdeal.main_arg3))
      ∧ θ_run (Cert.LossDqReferenceIdeal.defs (F := Ideal)) (onTc (τ := Cert.LossDqReferenceIdeal.τ) (Cert.LossDqReferenceIdeal.main (F := Ideal))) ⟨m', fun _ => 0, g'⟩ (fun r => ∀ c : Dev Cert.LossDqReferenceIdeal.nD,
          r.2.mem ((c.tc : Thread Cert.LossDqReferenceIdeal.nD Cert.LossDqReferenceIdeal.τ).loc Cert.LossDqReferenceIdeal.main_v1_0) = v0 c
          ∧ r.2.mem ((c.tc : Thread Cert.LossDqReferenceIdeal.nD Cert.LossDqReferenceIdeal.τ).loc Cert.LossDqReferenceIdeal.main_v1_1) = v1 c
          ∧ r.2.mem ((c.tc : Thread Cert.LossDqReferenceIdeal.nD Cert.LossDqReferenceIdeal.τ).loc Cert.LossDqReferenceIdeal.main_v1_2) = v2 c
          ∧ r.2.mem ((c.tc : Thread Cert.LossDqReferenceIdeal.nD Cert.LossDqReferenceIdeal.τ).loc Cert.LossDqReferenceIdeal.main_v1_3) = v3 c
          ∧ r.2.mem ((c.tc : Thread Cert.LossDqReferenceIdeal.nD Cert.LossDqReferenceIdeal.τ).loc Cert.LossDqReferenceIdeal.main_arg0) = m' ((c.tc : Thread Cert.LossDqReferenceIdeal.nD Cert.LossDqReferenceIdeal.τ).loc Cert.LossDqReferenceIdeal.main_arg0)
          ∧ r.2.mem ((c.tc : Thread Cert.LossDqReferenceIdeal.nD Cert.LossDqReferenceIdeal.τ).loc Cert.LossDqReferenceIdeal.main_arg1) = m' ((c.tc : Thread Cert.LossDqReferenceIdeal.nD Cert.LossDqReferenceIdeal.τ).loc Cert.LossDqReferenceIdeal.main_arg1)
          ∧ r.2.mem ((c.tc : Thread Cert.LossDqReferenceIdeal.nD Cert.LossDqReferenceIdeal.τ).loc Cert.LossDqReferenceIdeal.main_arg2) = m' ((c.tc : Thread Cert.LossDqReferenceIdeal.nD Cert.LossDqReferenceIdeal.τ).loc Cert.LossDqReferenceIdeal.main_arg2)
          ∧ r.2.mem ((c.tc : Thread Cert.LossDqReferenceIdeal.nD Cert.LossDqReferenceIdeal.τ).loc Cert.LossDqReferenceIdeal.main_arg3) = m' ((c.tc : Thread Cert.LossDqReferenceIdeal.nD Cert.LossDqReferenceIdeal.τ).loc Cert.LossDqReferenceIdeal.main_arg3))

def Claim : Prop :=
  ∃ (hDequantP : Cert.DequantP.Facts) (hDequantPIdeal : Cert.DequantPIdeal.Facts) (hDequantPReferenceIdeal : Cert.DequantPReferenceIdeal.Facts) (hDequantQ : Cert.DequantQ.Facts) (hDequantQIdeal : Cert.DequantQIdeal.Facts) (hDequantQReferenceIdeal : Cert.DequantQReferenceIdeal.Facts) (hDp : Cert.Dp.Facts) (hDpIdeal : Cert.DpIdeal.Facts) (hDpReferenceIdeal : Cert.DpReferenceIdeal.Facts) (hLossDq : Cert.LossDq.Facts) (hLossDqIdeal : Cert.LossDqIdeal.Facts) (hLossDqReferenceIdeal : Cert.LossDqReferenceIdeal.Facts) (hPre_in_range : Cert.Pre_in_range.Facts),
    quiescent_DequantP (hDequantP := hDequantP)
    ∧ quiescent_DequantPIdeal (hDequantPIdeal := hDequantPIdeal)
    ∧ quiescent_DequantPReferenceIdeal (hDequantPReferenceIdeal := hDequantPReferenceIdeal)
    ∧ quiescent_DequantQ (hDequantQ := hDequantQ)
    ∧ quiescent_DequantQIdeal (hDequantQIdeal := hDequantQIdeal)
    ∧ quiescent_DequantQReferenceIdeal (hDequantQReferenceIdeal := hDequantQReferenceIdeal)
    ∧ quiescent_Dp (hDp := hDp)
    ∧ quiescent_DpIdeal (hDpIdeal := hDpIdeal)
    ∧ quiescent_DpReferenceIdeal (hDpReferenceIdeal := hDpReferenceIdeal)
    ∧ quiescent_LossDq (hLossDq := hLossDq)
    ∧ quiescent_LossDqIdeal (hLossDqIdeal := hLossDqIdeal)
    ∧ quiescent_LossDqIdeal_pre_in_range (hLossDqIdeal := hLossDqIdeal) (hPre_in_range := hPre_in_range)
    ∧ quiescent_LossDqReferenceIdeal (hLossDqReferenceIdeal := hLossDqReferenceIdeal)
    ∧ quiescent_LossDqReferenceIdeal_pre_in_range (hLossDqReferenceIdeal := hLossDqReferenceIdeal) (hPre_in_range := hPre_in_range)
    ∧ preserves_DequantP_DequantPIdeal
    ∧ algebraic_DequantPIdeal_DequantPReferenceIdeal (hDequantPIdeal := hDequantPIdeal) (hDequantPReferenceIdeal := hDequantPReferenceIdeal)
    ∧ preserves_DequantQ_DequantQIdeal
    ∧ algebraic_DequantQIdeal_DequantQReferenceIdeal (hDequantQIdeal := hDequantQIdeal) (hDequantQReferenceIdeal := hDequantQReferenceIdeal)
    ∧ preserves_Dp_DpIdeal
    ∧ algebraic_DpIdeal_DpReferenceIdeal (hDpIdeal := hDpIdeal) (hDpReferenceIdeal := hDpReferenceIdeal)
    ∧ preserves_LossDq_LossDqIdeal
    ∧ algebraic_LossDqIdeal_LossDqReferenceIdeal_pre_in_range (hLossDqIdeal := hLossDqIdeal) (hLossDqReferenceIdeal := hLossDqReferenceIdeal) (hPre_in_range := hPre_in_range)
-- ==== Pre_in_range.lean ====
abbrev S2x4096x768 : Shape := ⟨3, ![2, 4096, 768]⟩
abbrev S2x4096x6 : Shape := ⟨3, ![2, 4096, 6]⟩
abbrev S2x768x16384 : Shape := ⟨3, ![2, 768, 16384]⟩
abbrev S2x4096x1 : Shape := ⟨3, ![2, 4096, 1]⟩
abbrev S_ : Shape := ⟨0, ![]⟩

class Facts : Prop where
  bcast_S_S2x4096x768 : S_.BroadcastsInDim S2x4096x768 (![] : Fin 0 → Fin S2x4096x768.rank)
  reducesTo_S2x4096x768_S_d0_1_2 : S2x4096x768.ReducesTo [0, 1, 2] S_
  h_S_ : 0 < S_.numel
  bcast_S_S2x4096x6 : S_.BroadcastsInDim S2x4096x6 (![] : Fin 0 → Fin S2x4096x6.rank)
  reducesTo_S2x4096x6_S_d0_1_2 : S2x4096x6.ReducesTo [0, 1, 2] S_
  bcast_S_S2x768x16384 : S_.BroadcastsInDim S2x768x16384 (![] : Fin 0 → Fin S2x768x16384.rank)
  reducesTo_S2x768x16384_S_d0_1_2 : S2x768x16384.ReducesTo [0, 1, 2] S_
  bcast_S_S2x4096x1 : S_.BroadcastsInDim S2x4096x1 (![] : Fin 0 → Fin S2x4096x1.rank)
  reducesTo_S2x4096x1_S_d0_1_2 : S2x4096x1.ReducesTo [0, 1, 2] S_

variable [Facts]

def fn_part1 {F : FTy → Type} [FloatOps F] (main_arg3 : IVec S2x4096x1 32) (main_v15 : IVec S_ 1) (main_c_5 : IVec S_ 32) : IVec S_ 1 :=
  let main_v16 : IVec S2x4096x1 32 := broadcastInDim S2x4096x1 ![] bcast_S_S2x4096x1 main_c_5
  let main_v17 : IVec S2x4096x1 1 := cmpi .sge main_arg3 main_v16
  let main_c_6 : IVec S_ 32 := constantI S_ 32 16384#32
  let main_v18 : IVec S2x4096x1 32 := broadcastInDim S2x4096x1 ![] bcast_S_S2x4096x1 main_c_6
  let main_v19 : IVec S2x4096x1 1 := cmpi .slt main_arg3 main_v18
  let main_v20 : IVec S2x4096x1 1 := andi main_v17 main_v19
  let main_c_7 : IVec S_ 1 := constantI S_ 1 1#1
  let main_v21 : IVec S_ 1 := (fun x v => Host.reduce IntOp.andi x v reducesTo_S2x4096x1_S_d0_1_2 h_S_) main_v20 main_c_7
  let main_v22 : IVec S_ 1 := andi main_v15 main_v21
  main_v22

def fn {F : FTy → Type} [FloatOps F] (main_arg0 : IVec S2x4096x768 8) (main_arg1 : FVec F S2x4096x6 .f32) (main_arg2 : FVec F S2x768x16384 .bf16) (main_arg3 : IVec S2x4096x1 32) : IVec S_ 1 :=
  let main_c : IVec S_ 8 := constantI S_ 8 127#8
  let main_v0 : IVec S2x4096x768 8 := broadcastInDim S2x4096x768 ![] bcast_S_S2x4096x768 main_c
  let main_v1 : IVec S2x4096x768 1 := cmpi .ne main_arg0 main_v0
  let main_c_0 : IVec S_ 8 := constantI S_ 8 255#8
  let main_v2 : IVec S2x4096x768 8 := broadcastInDim S2x4096x768 ![] bcast_S_S2x4096x768 main_c_0
  let main_v3 : IVec S2x4096x768 1 := cmpi .ne main_arg0 main_v2
  let main_v4 : IVec S2x4096x768 1 := andi main_v1 main_v3
  let main_c_1 : IVec S_ 1 := constantI S_ 1 1#1
  let main_v5 : IVec S_ 1 := (fun x v => Host.reduce IntOp.andi x v reducesTo_S2x4096x768_S_d0_1_2 h_S_) main_v4 main_c_1
  let main_v6 : FVec F S2x4096x6 .f32 := Host.absf main_arg1
  let main_cst : FVec F S_ .f32 := constant S_ .f32 0x7F800000#32
  let main_v7 : FVec F S2x4096x6 .f32 := broadcastInDim S2x4096x6 ![] bcast_S_S2x4096x6 main_cst
  let main_v8 : IVec S2x4096x6 1 := cmpf .olt main_v6 main_v7
  let main_c_2 : IVec S_ 1 := constantI S_ 1 1#1
  let main_v9 : IVec S_ 1 := (fun x v => Host.reduce IntOp.andi x v reducesTo_S2x4096x6_S_d0_1_2 h_S_) main_v8 main_c_2
  let main_v10 : IVec S_ 1 := andi main_v5 main_v9
  let main_v11 : FVec F S2x768x16384 .bf16 := Host.absf main_arg2
  let main_cst_3 : FVec F S_ .bf16 := constant S_ .bf16 0x7F80#16
  let main_v12 : FVec F S2x768x16384 .bf16 := broadcastInDim S2x768x16384 ![] bcast_S_S2x768x16384 main_cst_3
  let main_v13 : IVec S2x768x16384 1 := cmpf .olt main_v11 main_v12
  let main_c_4 : IVec S_ 1 := constantI S_ 1 1#1
  let main_v14 : IVec S_ 1 := (fun x v => Host.reduce IntOp.andi x v reducesTo_S2x768x16384_S_d0_1_2 h_S_) main_v13 main_c_4
  let main_v15 : IVec S_ 1 := andi main_v10 main_v14
  let main_c_5 : IVec S_ 32 := constantI S_ 32 0#32
  fn_part1 (F := F) main_arg3 main_v15 main_c_5
-- ==== DequantP.lean ====
abbrev S2x16384x768 : Shape := ⟨3, ![2, 16384, 768]⟩
abbrev S2x6x16384 : Shape := ⟨3, ![2, 6, 16384]⟩
abbrev S2x768x16384 : Shape := ⟨3, ![2, 768, 16384]⟩
abbrev S1x1024x768 : Shape := ⟨3, ![1, 1024, 768]⟩
abbrev S1x6x1024 : Shape := ⟨3, ![1, 6, 1024]⟩
abbrev S1x768x1024 : Shape := ⟨3, ![1, 768, 1024]⟩
abbrev S1x1024x128 : Shape := ⟨3, ![1, 1024, 128]⟩
abbrev S1024x128 : Shape := ⟨2, ![1024, 128]⟩
abbrev S1x1x1024 : Shape := ⟨3, ![1, 1, 1024]⟩
abbrev S1x1024 : Shape := ⟨2, ![1, 1024]⟩
abbrev S128x1024 : Shape := ⟨2, ![128, 1024]⟩
abbrev S1x128x1024 : Shape := ⟨3, ![1, 128, 1024]⟩

abbrev nBuf : Space → Nat
  | .hbm => 3
  | .vmem => 6
  | .smem => 0
  | _ => 0

abbrev bufTy : (tb : Table) → Fin (tcTables nBuf tb) → BufTy
  | .hbm, ⟨0, _⟩ => ⟨S2x16384x768, .fp8e4m3⟩
  | .hbm, ⟨1, _⟩ => ⟨S2x6x16384, .f32⟩
  | .hbm, ⟨2, _⟩ => ⟨S2x768x16384, .bf16⟩
  | .local _ .vmem, ⟨0, _⟩ => ⟨S1x1024x768, .fp8e4m3⟩
  | .local _ .vmem, ⟨1, _⟩ => ⟨S1x1024x768, .fp8e4m3⟩
  | .local _ .vmem, ⟨2, _⟩ => ⟨S1x6x1024, .f32⟩
  | .local _ .vmem, ⟨3, _⟩ => ⟨S1x6x1024, .f32⟩
  | .local _ .vmem, ⟨4, _⟩ => ⟨S1x768x1024, .bf16⟩
  | .local _ .vmem, ⟨5, _⟩ => ⟨S1x768x1024, .bf16⟩
  | _, _ => ⟨S2x16384x768, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x1024x768 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x6x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x768x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== DequantPReferenceIdeal.lean ====
abbrev S2x16384x768 : Shape := ⟨3, ![2, 16384, 768]⟩
abbrev S2x6x16384 : Shape := ⟨3, ![2, 6, 16384]⟩
abbrev S2x768x16384 : Shape := ⟨3, ![2, 768, 16384]⟩
abbrev S1x6x16384 : Shape := ⟨3, ![1, 6, 16384]⟩
abbrev S6x16384 : Shape := ⟨2, ![6, 16384]⟩
abbrev S16384x6 : Shape := ⟨2, ![16384, 6]⟩
abbrev S1x16384x768 : Shape := ⟨3, ![1, 16384, 768]⟩
abbrev S16384x768 : Shape := ⟨2, ![16384, 768]⟩
abbrev S16384x6x1 : Shape := ⟨3, ![16384, 6, 1]⟩
abbrev S16384x6x128 : Shape := ⟨3, ![16384, 6, 128]⟩
abbrev S768x16384 : Shape := ⟨2, ![768, 16384]⟩
abbrev S1x768x16384 : Shape := ⟨3, ![1, 768, 16384]⟩

abbrev nBuf : Space → Nat
  | .hbm => 3
  | .vmem => 3
  | .smem => 0
  | _ => 0

abbrev bufTy : (tb : Table) → Fin (tcTables nBuf tb) → BufTy
  | .hbm, ⟨0, _⟩ => ⟨S2x16384x768, .fp8e4m3⟩
  | .hbm, ⟨1, _⟩ => ⟨S2x6x16384, .f32⟩
  | .hbm, ⟨2, _⟩ => ⟨S2x768x16384, .bf16⟩
  | .local _ .vmem, ⟨0, _⟩ => ⟨S2x16384x768, .fp8e4m3⟩
  | .local _ .vmem, ⟨1, _⟩ => ⟨S2x6x16384, .f32⟩
  | .local _ .vmem, ⟨2, _⟩ => ⟨S2x768x16384, .bf16⟩
  | _, _ => ⟨S2x16384x768, .fp8e4m3⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

abbrev stage0_0 : Fin 1 → Memref sig .tc .vmem S2x16384x768 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x6x16384 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x768x16384 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== DequantQ.lean ====
abbrev S2x4096x768 : Shape := ⟨3, ![2, 4096, 768]⟩
abbrev S2x6x4096 : Shape := ⟨3, ![2, 6, 4096]⟩
abbrev S2x768x4096 : Shape := ⟨3, ![2, 768, 4096]⟩
abbrev S1x1024x768 : Shape := ⟨3, ![1, 1024, 768]⟩
abbrev S1x6x1024 : Shape := ⟨3, ![1, 6, 1024]⟩
abbrev S1x768x1024 : Shape := ⟨3, ![1, 768, 1024]⟩
abbrev S1x1024x128 : Shape := ⟨3, ![1, 1024, 128]⟩
abbrev S1024x128 : Shape := ⟨2, ![1024, 128]⟩
abbrev S1x1x1024 : Shape := ⟨3, ![1, 1, 1024]⟩
abbrev S1x1024 : Shape := ⟨2, ![1, 1024]⟩
abbrev S128x1024 : Shape := ⟨2, ![128, 1024]⟩
abbrev S1x128x1024 : Shape := ⟨3, ![1, 128, 1024]⟩

abbrev nBuf : Space → Nat
  | .hbm => 3
  | .vmem => 6
  | .smem => 0
  | _ => 0

abbrev bufTy : (tb : Table) → Fin (tcTables nBuf tb) → BufTy
  | .hbm, ⟨0, _⟩ => ⟨S2x4096x768, .fp8e4m3⟩
  | .hbm, ⟨1, _⟩ => ⟨S2x6x4096, .f32⟩
  | .hbm, ⟨2, _⟩ => ⟨S2x768x4096, .bf16⟩
  | .local _ .vmem, ⟨0, _⟩ => ⟨S1x1024x768, .fp8e4m3⟩
  | .local _ .vmem, ⟨1, _⟩ => ⟨S1x1024x768, .fp8e4m3⟩
  | .local _ .vmem, ⟨2, _⟩ => ⟨S1x6x1024, .f32⟩
  | .local _ .vmem, ⟨3, _⟩ => ⟨S1x6x1024, .f32⟩
  | .local _ .vmem, ⟨4, _⟩ => ⟨S1x768x1024, .bf16⟩
  | .local _ .vmem, ⟨5, _⟩ => ⟨S1x768x1024, .bf16⟩
  | _, _ => ⟨S2x4096x768, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x1024x768 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x6x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x768x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== DequantQReferenceIdeal.lean ====
abbrev S2x4096x768 : Shape := ⟨3, ![2, 4096, 768]⟩
abbrev S2x6x4096 : Shape := ⟨3, ![2, 6, 4096]⟩
abbrev S2x768x4096 : Shape := ⟨3, ![2, 768, 4096]⟩
abbrev S1x6x4096 : Shape := ⟨3, ![1, 6, 4096]⟩
abbrev S6x4096 : Shape := ⟨2, ![6, 4096]⟩
abbrev S4096x6 : Shape := ⟨2, ![4096, 6]⟩
abbrev S1x4096x768 : Shape := ⟨3, ![1, 4096, 768]⟩
abbrev S4096x768 : Shape := ⟨2, ![4096, 768]⟩
abbrev S4096x6x1 : Shape := ⟨3, ![4096, 6, 1]⟩
abbrev S4096x6x128 : Shape := ⟨3, ![4096, 6, 128]⟩
abbrev S768x4096 : Shape := ⟨2, ![768, 4096]⟩
abbrev S1x768x4096 : Shape := ⟨3, ![1, 768, 4096]⟩

abbrev nBuf : Space → Nat
  | .hbm => 3
  | .vmem => 3
  | .smem => 0
  | _ => 0

abbrev bufTy : (tb : Table) → Fin (tcTables nBuf tb) → BufTy
  | .hbm, ⟨0, _⟩ => ⟨S2x4096x768, .fp8e4m3⟩
  | .hbm, ⟨1, _⟩ => ⟨S2x6x4096, .f32⟩
  | .hbm, ⟨2, _⟩ => ⟨S2x768x4096, .bf16⟩
  | .local _ .vmem, ⟨0, _⟩ => ⟨S2x4096x768, .fp8e4m3⟩
  | .local _ .vmem, ⟨1, _⟩ => ⟨S2x6x4096, .f32⟩
  | .local _ .vmem, ⟨2, _⟩ => ⟨S2x768x4096, .bf16⟩
  | _, _ => ⟨S2x4096x768, .fp8e4m3⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

abbrev stage0_0 : Fin 1 → Memref sig .tc .vmem S2x4096x768 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x6x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x768x4096 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== Dp.lean ====
abbrev S2x768x4096 : Shape := ⟨3, ![2, 768, 4096]⟩
abbrev S2x1x4096 : Shape := ⟨3, ![2, 1, 4096]⟩
abbrev S2x4096x16384 : Shape := ⟨3, ![2, 4096, 16384]⟩
abbrev S2x16384x768 : Shape := ⟨3, ![2, 16384, 768]⟩
abbrev S1x768x2048 : Shape := ⟨3, ![1, 768, 2048]⟩
abbrev S1x1x2048 : Shape := ⟨3, ![1, 1, 2048]⟩
abbrev S1x2048x1024 : Shape := ⟨3, ![1, 2048, 1024]⟩
abbrev S1x1024x768 : Shape := ⟨3, ![1, 1024, 768]⟩
abbrev S768x1024 : Shape := ⟨2, ![768, 1024]⟩
abbrev S768x2048 : Shape := ⟨2, ![768, 2048]⟩
abbrev S1x2048 : Shape := ⟨2, ![1, 2048]⟩
abbrev S2048x1024 : Shape := ⟨2, ![2048, 1024]⟩
abbrev S1024x768 : Shape := ⟨2, ![1024, 768]⟩

abbrev nBuf : Space → Nat
  | .hbm => 4
  | .vmem => 9
  | .smem => 0
  | _ => 0

abbrev bufTy : (tb : Table) → Fin (tcTables nBuf tb) → BufTy
  | .hbm, ⟨0, _⟩ => ⟨S2x768x4096, .bf16⟩
  | .hbm, ⟨1, _⟩ => ⟨S2x1x4096, .f32⟩
  | .hbm, ⟨2, _⟩ => ⟨S2x4096x16384, .fp8e5m2⟩
  | .hbm, ⟨3, _⟩ => ⟨S2x16384x768, .bf16⟩
  | .local _ .vmem, ⟨0, _⟩ => ⟨S1x768x2048, .bf16⟩
  | .local _ .vmem, ⟨1, _⟩ => ⟨S1x768x2048, .bf16⟩
  | .local _ .vmem, ⟨2, _⟩ => ⟨S1x1x2048, .f32⟩
  | .local _ .vmem, ⟨3, _⟩ => ⟨S1x1x2048, .f32⟩
  | .local _ .vmem, ⟨4, _⟩ => ⟨S1x2048x1024, .fp8e5m2⟩
  | .local _ .vmem, ⟨5, _⟩ => ⟨S1x2048x1024, .fp8e5m2⟩
  | .local _ .vmem, ⟨6, _⟩ => ⟨S1x1024x768, .bf16⟩
  | .local _ .vmem, ⟨7, _⟩ => ⟨S1x1024x768, .bf16⟩
  | .local _ .vmem, ⟨8, _⟩ => ⟨S768x1024, .f32⟩
  | _, _ => ⟨S2x768x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 16, 2], ![false, false, false]⟩

def k0_cond2 (i : grid0.Coords) : BitVec 1 :=
  let arg2 : BitVec 32 := BitVec.ofNat 32 (i 2).val
  let c1_i32 : BitVec 32 := 1#32
  let v19 : BitVec 1 := Scalar.cmpi .eq arg2 c1_i32
  let v20 : BitVec 32 := Scalar.extui v19
  let c0_i32_13 : BitVec 32 := 0#32
  let v21 : BitVec 1 := Scalar.cmpi .ne v20 c0_i32_13
  v21

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1x768x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x2048x1024 .fp8e5m2 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x1024x768 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== DpReferenceIdeal.lean ====
abbrev S2x768x4096 : Shape := ⟨3, ![2, 768, 4096]⟩
abbrev S2x1x4096 : Shape := ⟨3, ![2, 1, 4096]⟩
abbrev S2x4096x16384 : Shape := ⟨3, ![2, 4096, 16384]⟩
abbrev S2x16384x768 : Shape := ⟨3, ![2, 16384, 768]⟩
abbrev S1x768x4096 : Shape := ⟨3, ![1, 768, 4096]⟩
abbrev S768x4096 : Shape := ⟨2, ![768, 4096]⟩
abbrev S4096x768 : Shape := ⟨2, ![4096, 768]⟩
abbrev S1x4096x16384 : Shape := ⟨3, ![1, 4096, 16384]⟩
abbrev S4096x16384 : Shape := ⟨2, ![4096, 16384]⟩
abbrev S1x1x4096 : Shape := ⟨3, ![1, 1, 4096]⟩
abbrev S1x4096 : Shape := ⟨2, ![1, 4096]⟩
abbrev S4096x1 : Shape := ⟨2, ![4096, 1]⟩
abbrev S16384x768 : Shape := ⟨2, ![16384, 768]⟩
abbrev S1x16384x768 : Shape := ⟨3, ![1, 16384, 768]⟩

abbrev nBuf : Space → Nat
  | .hbm => 4
  | .vmem => 4
  | .smem => 0
  | _ => 0

abbrev bufTy : (tb : Table) → Fin (tcTables nBuf tb) → BufTy
  | .hbm, ⟨0, _⟩ => ⟨S2x768x4096, .bf16⟩
  | .hbm, ⟨1, _⟩ => ⟨S2x1x4096, .f32⟩
  | .hbm, ⟨2, _⟩ => ⟨S2x4096x16384, .fp8e5m2⟩
  | .hbm, ⟨3, _⟩ => ⟨S2x16384x768, .bf16⟩
  | .local _ .vmem, ⟨0, _⟩ => ⟨S2x768x4096, .bf16⟩
  | .local _ .vmem, ⟨1, _⟩ => ⟨S2x1x4096, .f32⟩
  | .local _ .vmem, ⟨2, _⟩ => ⟨S2x4096x16384, .fp8e5m2⟩
  | .local _ .vmem, ⟨3, _⟩ => ⟨S2x16384x768, .bf16⟩
  | _, _ => ⟨S2x768x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

abbrev stage0_0 : Fin 1 → Memref sig .tc .vmem S2x768x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x4096x16384 .fp8e5m2 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x16384x768 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== LossDq.lean ====
abbrev S2x4096x768 : Shape := ⟨3, ![2, 4096, 768]⟩
abbrev S2x4096x6 : Shape := ⟨3, ![2, 4096, 6]⟩
abbrev S2x768x16384 : Shape := ⟨3, ![2, 768, 16384]⟩
abbrev S2x4096x1 : Shape := ⟨3, ![2, 4096, 1]⟩
abbrev S32x1x256 : Shape := ⟨3, ![32, 1, 256]⟩
abbrev S2x4096x16384 : Shape := ⟨3, ![2, 4096, 16384]⟩
abbrev S1x256x768 : Shape := ⟨3, ![1, 256, 768]⟩
abbrev S1x256x6 : Shape := ⟨3, ![1, 256, 6]⟩
abbrev S1x768x2048 : Shape := ⟨3, ![1, 768, 2048]⟩
abbrev S1x256x1 : Shape := ⟨3, ![1, 256, 1]⟩
abbrev S1x1x256 : Shape := ⟨3, ![1, 1, 256]⟩
abbrev S1x256x16384 : Shape := ⟨3, ![1, 256, 16384]⟩
abbrev S256x16384 : Shape := ⟨2, ![256, 16384]⟩
abbrev S256x768 : Shape := ⟨2, ![256, 768]⟩
abbrev S256x128 : Shape := ⟨2, ![256, 128]⟩
abbrev S768x256 : Shape := ⟨2, ![768, 256]⟩
abbrev S1x256x128 : Shape := ⟨3, ![1, 256, 128]⟩
abbrev S256x1 : Shape := ⟨2, ![256, 1]⟩
abbrev S768x2048 : Shape := ⟨2, ![768, 2048]⟩
abbrev S256x2048 : Shape := ⟨2, ![256, 2048]⟩
abbrev S256 : Shape := ⟨1, ![256]⟩
abbrev S128x256 : Shape := ⟨2, ![128, 256]⟩
abbrev S1x256 : Shape := ⟨2, ![1, 256]⟩
abbrev S1x256x2048 : Shape := ⟨3, ![1, 256, 2048]⟩

abbrev nBuf : Space → Nat
  | .hbm => 9
  | .vmem => 23
  | .smem => 0
  | _ => 0

abbrev bufTy : (tb : Table) → Fin (tcTables nBuf tb) → BufTy
  | .hbm, ⟨0, _⟩ => ⟨S2x4096x768, .i8⟩
  | .hbm, ⟨1, _⟩ => ⟨S2x4096x6, .f32⟩
  | .hbm, ⟨2, _⟩ => ⟨S2x768x16384, .bf16⟩
  | .hbm, ⟨3, _⟩ => ⟨S2x4096x1, .i32⟩
  | .hbm, ⟨4, _⟩ => ⟨S2x4096x768, .fp8e4m3⟩
  | .hbm, ⟨5, _⟩ => ⟨S32x1x256, .f32⟩
  | .hbm, ⟨6, _⟩ => ⟨S2x4096x768, .bf16⟩
  | .hbm, ⟨7, _⟩ => ⟨S2x4096x16384, .fp8e5m2⟩
  | .hbm, ⟨8, _⟩ => ⟨S32x1x256, .f32⟩
  | .local _ .vmem, ⟨0, _⟩ => ⟨S1x256x768, .fp8e4m3⟩
  | .local _ .vmem, ⟨1, _⟩ => ⟨S1x256x768, .fp8e4m3⟩
  | .local _ .vmem, ⟨2, _⟩ => ⟨S1x256x6, .f32⟩
  | .local _ .vmem, ⟨3, _⟩ => ⟨S1x256x6, .f32⟩
  | .local _ .vmem, ⟨4, _⟩ => ⟨S1x768x2048, .bf16⟩
  | .local _ .vmem, ⟨5, _⟩ => ⟨S1x768x2048, .bf16⟩
  | .local _ .vmem, ⟨6, _⟩ => ⟨S1x256x1, .i32⟩
  | .local _ .vmem, ⟨7, _⟩ => ⟨S1x256x1, .i32⟩
  | .local _ .vmem, ⟨8, _⟩ => ⟨S1x1x256, .f32⟩
  | .local _ .vmem, ⟨9, _⟩ => ⟨S1x1x256, .f32⟩
  | .local _ .vmem, ⟨10, _⟩ => ⟨S1x256x768, .bf16⟩
  | .local _ .vmem, ⟨11, _⟩ => ⟨S1x256x768, .bf16⟩
  | .local _ .vmem, ⟨12, _⟩ => ⟨S1x256x16384, .fp8e5m2⟩
  | .local _ .vmem, ⟨13, _⟩ => ⟨S1x256x16384, .fp8e5m2⟩
  | .local _ .vmem, ⟨14, _⟩ => ⟨S1x1x256, .f32⟩
  | .local _ .vmem, ⟨15, _⟩ => ⟨S1x1x256, .f32⟩
  | .local _ .vmem, ⟨16, _⟩ => ⟨S256x16384, .f32⟩
  | .local _ .vmem, ⟨17, _⟩ => ⟨S256x768, .bf16⟩
  | .local _ .vmem, ⟨18, _⟩ => ⟨S256x128, .f32⟩
  | .local _ .vmem, ⟨19, _⟩ => ⟨S256x128, .f32⟩
  | .local _ .vmem, ⟨20, _⟩ => ⟨S256x128, .f32⟩
  | .local _ .vmem, ⟨21, _⟩ => ⟨S768x256, .f32⟩
  | .local _ .vmem, ⟨22, _⟩ => ⟨S256x128, .f32⟩
  | _, _ => ⟨S2x4096x768, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev main_v1_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_scratch3 : Ref sig .tc := ⟨.vmem, 19, rfl⟩
abbrev cc0_scratch4 : Ref sig .tc := ⟨.vmem, 20, rfl⟩
abbrev cc0_scratch5 : Ref sig .tc := ⟨.vmem, 21, rfl⟩
abbrev cc0_scratch6 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨4, ![2, 16, 2, 8], ![false, false, false, false]⟩

def k0_mult1 (i : grid0.Coords) : BitVec 32 :=
  let arg3 : BitVec 32 := BitVec.ofNat 32 (i 3).val
  let c2048_i32 : BitVec 32 := 2048#32
  let v1 : BitVec 32 := Scalar.muli arg3 c2048_i32
  v1
def k0_cond2 (i : grid0.Coords) : BitVec 1 :=
  let arg2 : BitVec 32 := BitVec.ofNat 32 (i 2).val
  let c0_i32_2 : BitVec 32 := 0#32
  let v8 : BitVec 1 := Scalar.cmpi .eq arg2 c0_i32_2
  let v9 : BitVec 32 := Scalar.extui v8
  let c0_i32_3 : BitVec 32 := 0#32
  let v10 : BitVec 1 := Scalar.cmpi .ne v9 c0_i32_3
  v10

def k0_off1 (i : grid0.Coords) : Fin 2 → Nat :=
  let c0_14 : Index := 0#32
  let arg3 : BitVec 32 := BitVec.ofNat 32 (i 3).val
  let c2048_i32 : BitVec 32 := 2048#32
  let v1 : BitVec 32 := Scalar.muli arg3 c2048_i32
  let v2 : BitVec 32 := v1
  let v28 : Index := Scalar.indexCast v2
  ![0, v28.toNat]
def k0_off2 (i : grid0.Coords) (c0_i32_22 : BitVec 32) : Fin 2 → Nat :=
  let c0_23 : Index := 0#32
  let arg3 : BitVec 32 := BitVec.ofNat 32 (i 3).val
  let c2048_i32 : BitVec 32 := 2048#32
  let v1 : BitVec 32 := Scalar.muli arg3 c2048_i32
  let v2 : BitVec 32 := v1
  let v38 : BitVec 32 := Scalar.addi v2 c0_i32_22
  let v39 : Index := Scalar.indexCast v38
  ![0, v39.toNat]
def k0_cond4 (i : grid0.Coords) : BitVec 1 :=
  let arg2 : BitVec 32 := BitVec.ofNat 32 (i 2).val
  let c1_i32_6 : BitVec 32 := 1#32
  let v16 : BitVec 1 := Scalar.cmpi .eq arg2 c1_i32_6
  let v17 : BitVec 32 := Scalar.extui v16
  let c0_i32_7 : BitVec 32 := 0#32
  let v18 : BitVec 1 := Scalar.cmpi .ne v17 c0_i32_7
  v18

def k0_off3 (i : grid0.Coords) (c0_i32_16 : BitVec 32) : Fin 2 → Nat :=
  let c0_17 : Index := 0#32
  let arg3 : BitVec 32 := BitVec.ofNat 32 (i 3).val
  let c2048_i32 : BitVec 32 := 2048#32
  let v1 : BitVec 32 := Scalar.muli arg3 c2048_i32
  let v2 : BitVec 32 := v1
  let v31 : BitVec 32 := Scalar.addi v2 c0_i32_16
  let v32 : Index := Scalar.indexCast v31
  ![0, v32.toNat]
def k0_off4 (i : grid0.Coords) (c0_i32_21 : BitVec 32) : Fin 3 → Nat :=
  let c0_22 : Index := 0#32
  let c0_23 : Index := 0#32
  let arg3 : BitVec 32 := BitVec.ofNat 32 (i 3).val
  let c2048_i32 : BitVec 32 := 2048#32
  let v1 : BitVec 32 := Scalar.muli arg3 c2048_i32
  let v2 : BitVec 32 := v1
  let v53 : BitVec 32 := Scalar.addi v2 c0_i32_21
  let v54 : Index := Scalar.indexCast v53
  ![0, 0, v54.toNat]
def k0_off5 (i : grid0.Coords) : Fin 3 → Nat :=
  let c0_144 : Index := 0#32
  let c0_145 : Index := 0#32
  let arg3 : BitVec 32 := BitVec.ofNat 32 (i 3).val
  let c2048_i32 : BitVec 32 := 2048#32
  let v1 : BitVec 32 := Scalar.muli arg3 c2048_i32
  let v2 : BitVec 32 := v1
  let v463 : Index := Scalar.indexCast v2
  ![0, 0, v463.toNat]
def k0_cond3 (i : grid0.Coords) : BitVec 1 :=
  let arg2 : BitVec 32 := BitVec.ofNat 32 (i 2).val
  let c1_i32 : BitVec 32 := 1#32
  let v11 : BitVec 1 := Scalar.cmpi .eq arg2 c1_i32
  let arg3 : BitVec 32 := BitVec.ofNat 32 (i 3).val
  let c0_i32_4 : BitVec 32 := 0#32
  let v12 : BitVec 1 := Scalar.cmpi .eq arg3 c0_i32_4
  let v13 : BitVec 1 := Scalar.andi v11 v12
  let v14 : BitVec 32 := Scalar.extui v13
  let c0_i32_5 : BitVec 32 := 0#32
  let v15 : BitVec 1 := Scalar.cmpi .ne v14 c0_i32_5
  v15

def k0_cond5 (i : grid0.Coords) : BitVec 1 :=
  let arg2 : BitVec 32 := BitVec.ofNat 32 (i 2).val
  let c1_i32_8 : BitVec 32 := 1#32
  let v19 : BitVec 1 := Scalar.cmpi .eq arg2 c1_i32_8
  let arg3 : BitVec 32 := BitVec.ofNat 32 (i 3).val
  let c7_i32 : BitVec 32 := 7#32
  let v20 : BitVec 1 := Scalar.cmpi .eq arg3 c7_i32
  let v21 : BitVec 1 := Scalar.andi v19 v20
  let v22 : BitVec 32 := Scalar.extui v21
  let c0_i32_9 : BitVec 32 := 0#32
  let v23 : BitVec 1 := Scalar.cmpi .ne v22 c0_i32_9
  v23

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![arg0.toNat, c0_i32.toNat, arg3.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

abbrev stage0_0 : Fin 2 → Memref sig .tc .vmem S1x256x768 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false, false]

abbrev stage0_1 : Fin 2 → Memref sig .tc .vmem S1x256x6 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false, false]

abbrev stage0_2 : Fin 2 → Memref sig .tc .vmem S1x768x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false, true]

abbrev stage0_3 : Fin 2 → Memref sig .tc .vmem S1x256x1 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false, false]

abbrev stage0_4 : Fin 2 → Memref sig .tc .vmem S1x1x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false, false]

abbrev stage0_5 : Fin 2 → Memref sig .tc .vmem S1x256x768 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false, false]

abbrev stage0_6 : Fin 2 → Memref sig .tc .vmem S1x256x16384 .fp8e5m2 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false, false]

abbrev stage0_7 : Fin 2 → Memref sig .tc .vmem S1x1x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false, false]
-- ==== LossDqIdeal.lean ====
variable {F : FTy → Type} [FloatOps F] [Named F]
def κ : String → Option EReal := fun
  | "log2e" => some (((Real.log 2)⁻¹ : ℝ) : EReal)
  | "log2e_over_tau" => some ((20 * (Real.log 2)⁻¹ : ℝ) : EReal)
  | "masked" => some ⊥
  | _ => none
-- ==== LossDqReferenceIdeal.lean ====
abbrev S2x4096x768 : Shape := ⟨3, ![2, 4096, 768]⟩
abbrev S2x4096x6 : Shape := ⟨3, ![2, 4096, 6]⟩
abbrev S2x768x16384 : Shape := ⟨3, ![2, 768, 16384]⟩
abbrev S2x4096x1 : Shape := ⟨3, ![2, 4096, 1]⟩
abbrev S32x1x256 : Shape := ⟨3, ![32, 1, 256]⟩
abbrev S2x4096x16384 : Shape := ⟨3, ![2, 4096, 16384]⟩
abbrev S1x4096x768 : Shape := ⟨3, ![1, 4096, 768]⟩
abbrev S4096x768 : Shape := ⟨2, ![4096, 768]⟩
abbrev S1x4096x6 : Shape := ⟨3, ![1, 4096, 6]⟩
abbrev S4096x6 : Shape := ⟨2, ![4096, 6]⟩
abbrev S4096x6x1 : Shape := ⟨3, ![4096, 6, 1]⟩
abbrev S4096x6x128 : Shape := ⟨3, ![4096, 6, 128]⟩
abbrev S1x768x16384 : Shape := ⟨3, ![1, 768, 16384]⟩
abbrev S768x16384 : Shape := ⟨2, ![768, 16384]⟩
abbrev S16384x768 : Shape := ⟨2, ![16384, 768]⟩
abbrev S4096x16384 : Shape := ⟨2, ![4096, 16384]⟩
abbrev S4096 : Shape := ⟨1, ![4096]⟩
abbrev S4096x1 : Shape := ⟨2, ![4096, 1]⟩
abbrev S1x4096x1 : Shape := ⟨3, ![1, 4096, 1]⟩
abbrev S16x1x256 : Shape := ⟨3, ![16, 1, 256]⟩
abbrev S1x4096x16384 : Shape := ⟨3, ![1, 4096, 16384]⟩

abbrev nBuf : Space → Nat
  | .hbm => 9
  | .vmem => 8
  | .smem => 0
  | _ => 0

abbrev bufTy : (tb : Table) → Fin (tcTables nBuf tb) → BufTy
  | .hbm, ⟨0, _⟩ => ⟨S2x4096x768, .i8⟩
  | .hbm, ⟨1, _⟩ => ⟨S2x4096x6, .f32⟩
  | .hbm, ⟨2, _⟩ => ⟨S2x768x16384, .bf16⟩
  | .hbm, ⟨3, _⟩ => ⟨S2x4096x1, .i32⟩
  | .hbm, ⟨4, _⟩ => ⟨S2x4096x768, .fp8e4m3⟩
  | .hbm, ⟨5, _⟩ => ⟨S32x1x256, .f32⟩
  | .hbm, ⟨6, _⟩ => ⟨S2x4096x768, .bf16⟩
  | .hbm, ⟨7, _⟩ => ⟨S2x4096x16384, .fp8e5m2⟩
  | .hbm, ⟨8, _⟩ => ⟨S32x1x256, .f32⟩
  | .local _ .vmem, ⟨0, _⟩ => ⟨S2x4096x768, .fp8e4m3⟩
  | .local _ .vmem, ⟨1, _⟩ => ⟨S2x4096x6, .f32⟩
  | .local _ .vmem, ⟨2, _⟩ => ⟨S2x768x16384, .bf16⟩
  | .local _ .vmem, ⟨3, _⟩ => ⟨S2x4096x1, .i32⟩
  | .local _ .vmem, ⟨4, _⟩ => ⟨S32x1x256, .f32⟩
  | .local _ .vmem, ⟨5, _⟩ => ⟨S2x4096x768, .bf16⟩
  | .local _ .vmem, ⟨6, _⟩ => ⟨S2x4096x16384, .fp8e5m2⟩
  | .local _ .vmem, ⟨7, _⟩ => ⟨S32x1x256, .f32⟩
  | _, _ => ⟨S2x4096x768, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev main_v1_3 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F] [Named F]

def κ : String → Option EReal := fun
  | "log2e" => some (((Real.log 2)⁻¹ : ℝ) : EReal)
  | _ => none

abbrev grid0 : Pipeline.Grid := .none

abbrev stage0_0 : Fin 1 → Memref sig .tc .vmem S2x4096x768 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x4096x6 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x768x16384 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x4096x1 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S32x1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x4096x768 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S2x4096x16384 .fp8e5m2 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S32x1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== Proof.DequantPValue.lean ====
/- The dequantised passages, transposed: the kernel's array and its reference's array at an index, and their equality. -/
module

public import proofs.«01_k».proof.Defs
public import proofs.«01_k».proof.Proof.Gen.DequantPIdeal.Value
public import proofs.«01_k».proof.Proof.Gen.DequantPReferenceIdeal.Value

public import Idealize.ShloMosaic.Lib.Pointwise
public import Idealize.ShloMosaic.Lib.VecWindow
public import Idealize.ShloMosaic.Lib.Pipeline.ValueKit.Tiles

@[expose] public section

set_option maxRecDepth 16384
set_option maxHeartbeats 1000000

noncomputable section

namespace Cert.DequantPIdeal.Hand

open Cert.DequantPIdeal Cert.DequantPIdeal.Gen Idealize.ShloMosaic Idealize.ShloMosaic.TcCoe Idealize.SL.Sem

/-- The block of a column of 768. -/
def bk (d : Fin 768) : Fin 6 := ⟨d.val / 128, by omega⟩

/-- The array: codes times their block's scale. -/
def deq (a : Vec Ideal S2x16384x768 .fp8e4m3) (b : Vec Ideal S2x6x16384 .f32) : Vec Ideal S2x768x16384 .bf16 :=
  fun i => EReal.mul (a (ix3 (i 0) (i 2) (i 1))) (b (ix3 (i 0) (bk (i 1)) (i 2)))

/-- One point's block of it. -/
def deqBlk (a : Vec Ideal S1x1024x768 .fp8e4m3) (b : Vec Ideal S1x6x1024 .f32) : Vec Ideal S1x768x1024 .bf16 :=
  fun i => EReal.mul (a (ix3 (i 0) (i 2) (i 1))) (b (ix3 (i 0) (bk (i 1)) (i 2)))

theorem pay_0 (a : Vec Ideal S1x1024x128 .fp8e4m3) (b : Vec Ideal S1x1x1024 .f32) (d : Fin 128) (n : Fin 1024) :
    k0_pay2 (F := Ideal) a b (ix3 0 d n) = EReal.mul (a (ix3 0 n d)) (b (ix3 0 0 n)) := by
  pointwise [k0_pay2]
  rfl

theorem piece_0 (x0 : Vec Ideal S1x1024x768 .fp8e4m3) (x1 : Vec Ideal S1x6x1024 .f32) (y : S1x128x1024.Idx) :
    k0_pay2 (View.ld x0 r0_0) (View.ld x1 r0_1) y = deqBlk x0 x1 (r0_2.emb y) := by
  obtain ⟨z, d, n, rfl⟩ : ∃ (z : Fin 1) (d : Fin 128) (n : Fin 1024), y = ix3 z d n := ⟨y 0, y 1, y 2, eq_ix3 y⟩
  obtain rfl : z = 0 := Subsingleton.elim _ _
  refine (pay_0 _ _ d n).trans ?_
  rw [View.ld_apply, View.ld_apply]
  refine congrArg₂ EReal.mul (congrArg x0 ?_) (congrArg x1 ?_)
  · funext a; apply Fin.ext
    match a with
    | ⟨0, _⟩ => rfl
    | ⟨1, _⟩ => rfl
    | ⟨2, _⟩ => rfl
  · funext a; apply Fin.ext
    match a with
    | ⟨0, _⟩ => rfl
    | ⟨1, _⟩ => show 0 + 1 * 0 = (0 + 1 * d.val) / 128; omega
    | ⟨2, _⟩ => rfl

theorem pay_1 (a : Vec Ideal S1x1024x128 .fp8e4m3) (b : Vec Ideal S1x1x1024 .f32) (d : Fin 128) (n : Fin 1024) :
    k0_pay3 (F := Ideal) a b (ix3 0 d n) = EReal.mul (a (ix3 0 n d)) (b (ix3 0 0 n)) := by
  pointwise [k0_pay3]
  rfl

theorem piece_1 (x0 : Vec Ideal S1x1024x768 .fp8e4m3) (x1 : Vec Ideal S1x6x1024 .f32) (y : S1x128x1024.Idx) :
    k0_pay3 (View.ld x0 r0_3) (View.ld x1 r0_4) y = deqBlk x0 x1 (r0_5.emb y) := by
  obtain ⟨z, d, n, rfl⟩ : ∃ (z : Fin 1) (d : Fin 128) (n : Fin 1024), y = ix3 z d n := ⟨y 0, y 1, y 2, eq_ix3 y⟩
  obtain rfl : z = 0 := Subsingleton.elim _ _
  refine (pay_1 _ _ d n).trans ?_
  rw [View.ld_apply, View.ld_apply]
  refine congrArg₂ EReal.mul (congrArg x0 ?_) (congrArg x1 ?_)
  · funext a; apply Fin.ext
    match a with
    | ⟨0, _⟩ => rfl
    | ⟨1, _⟩ => rfl
    | ⟨2, _⟩ => rfl
  · funext a; apply Fin.ext
    match a with
    | ⟨0, _⟩ => rfl
    | ⟨1, _⟩ => show 1 + 1 * 0 = (128 + 1 * d.val) / 128; omega
    | ⟨2, _⟩ => rfl

theorem pay_2 (a : Vec Ideal S1x1024x128 .fp8e4m3) (b : Vec Ideal S1x1x1024 .f32) (d : Fin 128) (n : Fin 1024) :
    k0_pay6 (F := Ideal) (k0_pay4 a) (k0_pay5 b) (ix3 0 d n) = EReal.mul (a (ix3 0 n d)) (b (ix3 0 0 n)) := by
  pointwise [k0_pay6, k0_pay4, k0_pay5]
  rfl

theorem piece_2 (x0 : Vec Ideal S1x1024x768 .fp8e4m3) (x1 : Vec Ideal S1x6x1024 .f32) (y : S1x128x1024.Idx) :
    k0_pay6 (k0_pay4 (View.ld x0 r0_6)) (k0_pay5 (View.ld x1 r0_7)) y = deqBlk x0 x1 (r0_8.emb y) := by
  obtain ⟨z, d, n, rfl⟩ : ∃ (z : Fin 1) (d : Fin 128) (n : Fin 1024), y = ix3 z d n := ⟨y 0, y 1, y 2, eq_ix3 y⟩
  obtain rfl : z = 0 := Subsingleton.elim _ _
  refine (pay_2 _ _ d n).trans ?_
  rw [View.ld_apply, View.ld_apply]
  refine congrArg₂ EReal.mul (congrArg x0 ?_) (congrArg x1 ?_)
  · funext a; apply Fin.ext
    match a with
    | ⟨0, _⟩ => rfl
    | ⟨1, _⟩ => rfl
    | ⟨2, _⟩ => rfl
  · funext a; apply Fin.ext
    match a with
    | ⟨0, _⟩ => rfl
    | ⟨1, _⟩ => show 2 + 1 * 0 = (256 + 1 * d.val) / 128; omega
    | ⟨2, _⟩ => rfl

theorem pay_3 (a : Vec Ideal S1x1024x128 .fp8e4m3) (b : Vec Ideal S1x1x1024 .f32) (d : Fin 128) (n : Fin 1024) :
    k0_pay7 (F := Ideal) a b (ix3 0 d n) = EReal.mul (a (ix3 0 n d)) (b (ix3 0 0 n)) := by
  pointwise [k0_pay7]
  rfl

theorem piece_3 (x0 : Vec Ideal S1x1024x768 .fp8e4m3) (x1 : Vec Ideal S1x6x1024 .f32) (y : S1x128x1024.Idx) :
    k0_pay7 (View.ld x0 r0_9) (View.ld x1 r0_10) y = deqBlk x0 x1 (r0_11.emb y) := by
  obtain ⟨z, d, n, rfl⟩ : ∃ (z : Fin 1) (d : Fin 128) (n : Fin 1024), y = ix3 z d n := ⟨y 0, y 1, y 2, eq_ix3 y⟩
  obtain rfl : z = 0 := Subsingleton.elim _ _
  refine (pay_3 _ _ d n).trans ?_
  rw [View.ld_apply, View.ld_apply]
  refine congrArg₂ EReal.mul (congrArg x0 ?_) (congrArg x1 ?_)
  · funext a; apply Fin.ext
    match a with
    | ⟨0, _⟩ => rfl
    | ⟨1, _⟩ => rfl
    | ⟨2, _⟩ => rfl
  · funext a; apply Fin.ext
    match a with
    | ⟨0, _⟩ => rfl
    | ⟨1, _⟩ => show 3 + 1 * 0 = (384 + 1 * d.val) / 128; omega
    | ⟨2, _⟩ => rfl

theorem pay_4 (a : Vec Ideal S1x1024x128 .fp8e4m3) (b : Vec Ideal S1x1x1024 .f32) (d : Fin 128) (n : Fin 1024) :
    k0_pay8 (F := Ideal) a b (ix3 0 d n) = EReal.mul (a (ix3 0 n d)) (b (ix3 0 0 n)) := by
  pointwise [k0_pay8]
  rfl

theorem piece_4 (x0 : Vec Ideal S1x1024x768 .fp8e4m3) (x1 : Vec Ideal S1x6x1024 .f32) (y : S1x128x1024.Idx) :
    k0_pay8 (View.ld x0 r0_12) (View.ld x1 r0_13) y = deqBlk x0 x1 (r0_14.emb y) := by
  obtain ⟨z, d, n, rfl⟩ : ∃ (z : Fin 1) (d : Fin 128) (n : Fin 1024), y = ix3 z d n := ⟨y 0, y 1, y 2, eq_ix3 y⟩
  obtain rfl : z = 0 := Subsingleton.elim _ _
  refine (pay_4 _ _ d n).trans ?_
  rw [View.ld_apply, View.ld_apply]
  refine congrArg₂ EReal.mul (congrArg x0 ?_) (congrArg x1 ?_)
  · funext a; apply Fin.ext
    match a with
    | ⟨0, _⟩ => rfl
    | ⟨1, _⟩ => rfl
    | ⟨2, _⟩ => rfl
  · funext a; apply Fin.ext
    match a with
    | ⟨0, _⟩ => rfl
    | ⟨1, _⟩ => show 4 + 1 * 0 = (512 + 1 * d.val) / 128; omega
    | ⟨2, _⟩ => rfl

theorem pay_5 (a : Vec Ideal S1x1024x128 .fp8e4m3) (b : Vec Ideal S1x1x1024 .f32) (d : Fin 128) (n : Fin 1024) :
    k0_pay1 (F := Ideal) (k0_pay9 a) b (ix3 0 d n) = EReal.mul (a (ix3 0 n d)) (b (ix3 0 0 n)) := by
  pointwise [k0_pay1, k0_pay9]
  rfl

theorem piece_5 (x0 : Vec Ideal S1x1024x768 .fp8e4m3) (x1 : Vec Ideal S1x6x1024 .f32) (y : S1x128x1024.Idx) :
    k0_pay1 (k0_pay9 (View.ld x0 r0_15)) (View.ld x1 r0_16) y = deqBlk x0 x1 (r0_17.emb y) := by
  obtain ⟨z, d, n, rfl⟩ : ∃ (z : Fin 1) (d : Fin 128) (n : Fin 1024), y = ix3 z d n := ⟨y 0, y 1, y 2, eq_ix3 y⟩
  obtain rfl : z = 0 := Subsingleton.elim _ _
  refine (pay_5 _ _ d n).trans ?_
  rw [View.ld_apply, View.ld_apply]
  refine congrArg₂ EReal.mul (congrArg x0 ?_) (congrArg x1 ?_)
  · funext a; apply Fin.ext
    match a with
    | ⟨0, _⟩ => rfl
    | ⟨1, _⟩ => rfl
    | ⟨2, _⟩ => rfl
  · funext a; apply Fin.ext
    match a with
    | ⟨0, _⟩ => rfl
    | ⟨1, _⟩ => show 5 + 1 * 0 = (640 + 1 * d.val) / 128; omega
    | ⟨2, _⟩ => rfl

/-- What the body leaves in the output's buffer. -/
theorem out_eq (x0 : Vec Ideal S1x1024x768 .fp8e4m3) (x1 : Vec Ideal S1x6x1024 .f32) : out0_2 x0 x1 = deqBlk x0 x1 := by
  funext y
  unfold out0_2
  exact View.canon_apply_of_pieces (Val := Elt Ideal) (S := S1x768x1024) (e := .bf16) (deqBlk x0 x1) _
    (by intro pc hpc; simp only [List.mem_cons, List.not_mem_nil, or_false] at hpc
        rcases hpc with rfl | rfl | rfl | rfl | rfl | rfl
        · exact piece_5 x0 x1
        · exact piece_4 x0 x1
        · exact piece_3 x0 x1
        · exact piece_2 x0 x1
        · exact piece_1 x0 x1
        · exact piece_0 x0 x1) _ (cover0_2 _ _ _ _ _ _ _)

variable (m : (ℓ : Loc nD τ sig) → Buf (Elt Ideal) ℓ)

/-- The block indices of the three windows at a point. -/
theorem idx : ∀ t : Fin cfg0.N, (win0_0.index t = ![t.val / 16, t.val % 16, 0] ∧ win0_1.index t = ![t.val / 16, 0, t.val % 16])
    ∧ win0_2.index t = ![t.val / 16, 0, t.val % 16] :=
  (by decide +kernel : ∀ t : Fin grid0.N, _)

/-- What a point writes back is its block of the array. -/
theorem flushed (c : Dev nD) (t : Fin cfg0.N) :
    (dats m 0 c).flushed 2 t = ((cfg0.win 2).blk t).view.read (Elt Ideal)
      (deq (m ((c : Thread nD τ).loc main_arg0)) (m ((c : Thread nD τ).loc main_arg1))) := by
  rw [Value.flushed2, out_eq]
  obtain ⟨⟨e0, e1⟩, e2⟩ := idx t
  funext j
  refine Eq.trans (show _ = deqBlk (iblk m c 0 t) (iblk m c 1 t) j from rfl) ?_
  rw [View.read_apply]
  refine congrArg₂ EReal.mul ?_ ?_
  · unfold iblk
    rw [View.read_apply]
    show m _ _ = m _ _
    congr 1
    funext a; apply Fin.ext
    match a with
    | ⟨0, _⟩ => show win0_0.index t 0 * 1 + 1 * (j 0).val = win0_2.index t 0 * 1 + 1 * (j 0).val; rw [e0, e2]; rfl
    | ⟨1, _⟩ => show win0_0.index t 1 * 1024 + 1 * (j 2).val = win0_2.index t 2 * 1024 + 1 * (j 2).val; rw [e0, e2]; rfl
    | ⟨2, _⟩ => show win0_0.index t 2 * 768 + 1 * (j 1).val = win0_2.index t 1 * 768 + 1 * (j 1).val; rw [e0, e2]; rfl
  · unfold iblk
    rw [View.read_apply]
    show m _ _ = m _ _
    congr 1
    funext a; apply Fin.ext
    match a with
    | ⟨0, _⟩ => show win0_1.index t 0 * 1 + 1 * (j 0).val = win0_2.index t 0 * 1 + 1 * (j 0).val; rw [e1, e2]
    | ⟨1, _⟩ =>
      show win0_1.index t 1 * 6 + 1 * ((j 1).val / 128) = (win0_2.index t 1 * 768 + 1 * (j 1).val) / 128
      rw [e1, e2]
      show 0 * 6 + 1 * ((j 1).val / 128) = (0 * 768 + 1 * (j 1).val) / 128
      omega
    | ⟨2, _⟩ => show win0_1.index t 2 * 1024 + 1 * (j 2).val = win0_2.index t 2 * 1024 + 1 * (j 2).val; rw [e1, e2]

/-- Every index of the array is in some point's block. -/
theorem covered (i : S2x768x16384.Idx) : ∃ t : Fin cfg0.N, (cfg0.win 2).flush t = true ∧ i ∈ ((cfg0.win 2).blk t).view.set := by
  obtain ⟨b, d, n, rfl⟩ : ∃ (b : Fin 2) (d : Fin 768) (n : Fin 16384), i = ix3 b d n := ⟨i 0, i 1, i 2, eq_ix3 i⟩
  have hN : cfg0.N = 32 := N_0
  have hb := b.2
  have hn := n.2
  have hlt : 16 * b.val + n.val / 1024 < cfg0.N := lt_of_lt_of_eq (by omega) hN.symm
  refine ⟨⟨16 * b.val + n.val / 1024, hlt⟩, flush0_2 _, ?_⟩
  have h := ((cfg0.win 2).blk ⟨16 * b.val + n.val / 1024, hlt⟩).view.emb_mem_set
    (ix3 0 d ⟨n.val % 1024, by omega⟩ : S1x768x1024.Idx)
  have e := (idx ⟨16 * b.val + n.val / 1024, hlt⟩).2
  refine Eq.mp (congrArg (· ∈ _) ?_) h
  funext a; apply Fin.ext
  match a with
  | ⟨0, _⟩ =>
    show win0_2.index _ 0 * 1 + 1 * 0 = b.val
    rw [e]; show (16 * b.val + n.val / 1024) / 16 * 1 + 1 * 0 = b.val; omega
  | ⟨1, _⟩ =>
    show win0_2.index _ 1 * 768 + 1 * d.val = d.val
    rw [e]; show 0 * 768 + 1 * d.val = d.val; omega
  | ⟨2, _⟩ =>
    show win0_2.index _ 2 * 1024 + 1 * (n.val % 1024) = n.val
    rw [e]; show (16 * b.val + n.val / 1024) % 16 * 1024 + 1 * (n.val % 1024) = n.val; omega

/-- The kernel's array after the run. -/
theorem final (c : Dev nD) :
    (dats m 0 c).arrAt 2 cfg0.N = deq (m ((c : Thread nD τ).loc main_arg0)) (m ((c : Thread nD τ).loc main_arg1)) :=
  (dats m 0 c).arrAt_eq_of_cover 2 _ (fun t _ => flushed m c t) covered

end Cert.DequantPIdeal.Hand

namespace Cert.DequantPReferenceIdeal.Hand

open Cert.DequantPReferenceIdeal Cert.DequantPReferenceIdeal.Gen Idealize.ShloMosaic Idealize.ShloMosaic.TcCoe Idealize.SL.Sem

/-- The scale of a row's column, after the scales are repeated. -/
theorem rep_apply (s : FVec Ideal S16384x6 .bf16) (n : Fin 16384) (d : Fin 768) :
    shapeCast S16384x768 (broadcastTo S16384x6x128 (shapeCast S16384x6x1 s shapeCasts_S16384x6_S16384x6x1) broadcasts_S16384x6x1_S16384x6x128)
      shapeCasts_S16384x6x128_S16384x768 (ix2 n d) = s (ix2 n (Cert.DequantPIdeal.Hand.bk d)) := by
  pointwise
  rfl

theorem pay1_apply (s : Vec Ideal S1x6x16384 .f32) (a : Vec Ideal S1x16384x768 .fp8e4m3) (d : Fin 768) (n : Fin 16384) :
    k0_pay1 (F := Ideal) s a (ix3 0 d n) = EReal.mul (a (ix3 0 n d)) (s (ix3 0 (Cert.DequantPIdeal.Hand.bk d) n)) := by
  pointwise [k0_pay1, rep_apply]
  rfl

theorem pay2_apply (s : Vec Ideal S1x6x16384 .f32) (a : Vec Ideal S1x16384x768 .fp8e4m3) (d : Fin 768) (n : Fin 16384) :
    k0_pay2 (F := Ideal) s a (ix3 0 d n) = EReal.mul (a (ix3 0 n d)) (s (ix3 0 (Cert.DequantPIdeal.Hand.bk d) n)) := pay1_apply s a d n

theorem piece_0 (a : Vec Ideal S2x16384x768 .fp8e4m3) (b : Vec Ideal S2x6x16384 .f32) (y : S1x768x16384.Idx) :
    k0_pay1 (F := Ideal) (View.ld b r0_0) (View.ld a r0_1) y = Cert.DequantPIdeal.Hand.deq a b (r0_2.emb y) := by
  obtain ⟨z, d, n, rfl⟩ : ∃ (z : Fin 1) (d : Fin 768) (n : Fin 16384), y = ix3 z d n := ⟨y 0, y 1, y 2, eq_ix3 y⟩
  obtain rfl : z = 0 := Subsingleton.elim _ _
  refine (pay1_apply _ _ d n).trans ?_
  rw [View.ld_apply, View.ld_apply]
  refine congrArg₂ EReal.mul (congrArg a ?_) (congrArg b ?_)
  · funext a; apply Fin.ext
    match a with
    | ⟨0, _⟩ => rfl
    | ⟨1, _⟩ => rfl
    | ⟨2, _⟩ => rfl
  · funext a; apply Fin.ext
    match a with
    | ⟨0, _⟩ => rfl
    | ⟨1, _⟩ => show 0 + 1 * (d.val / 128) = (0 + 1 * d.val) / 128; omega
    | ⟨2, _⟩ => rfl

theorem piece_1 (a : Vec Ideal S2x16384x768 .fp8e4m3) (b : Vec Ideal S2x6x16384 .f32) (y : S1x768x16384.Idx) :
    k0_pay2 (F := Ideal) (View.ld b r0_3) (View.ld a r0_4) y = Cert.DequantPIdeal.Hand.deq a b (r0_5.emb y) := by
  obtain ⟨z, d, n, rfl⟩ : ∃ (z : Fin 1) (d : Fin 768) (n : Fin 16384), y = ix3 z d n := ⟨y 0, y 1, y 2, eq_ix3 y⟩
  obtain rfl : z = 0 := Subsingleton.elim _ _
  refine (pay2_apply _ _ d n).trans ?_
  rw [View.ld_apply, View.ld_apply]
  refine congrArg₂ EReal.mul (congrArg a ?_) (congrArg b ?_)
  · funext a; apply Fin.ext
    match a with
    | ⟨0, _⟩ => rfl
    | ⟨1, _⟩ => rfl
    | ⟨2, _⟩ => rfl
  · funext a; apply Fin.ext
    match a with
    | ⟨0, _⟩ => rfl
    | ⟨1, _⟩ => show 0 + 1 * (d.val / 128) = (0 + 1 * d.val) / 128; omega
    | ⟨2, _⟩ => rfl

/-- The reference's array. -/
theorem G2_eq (a : Vec Ideal S2x16384x768 .fp8e4m3) (b : Vec Ideal S2x6x16384 .f32) : Value.G2 a b = Cert.DequantPIdeal.Hand.deq a b := by
  funext y
  exact View.canon_apply_of_pieces (Val := Elt Ideal) (S := S2x768x16384) (e := .bf16) (Cert.DequantPIdeal.Hand.deq a b) _
    (by intro pc hpc; simp only [List.mem_cons, List.not_mem_nil, or_false] at hpc
        rcases hpc with rfl | rfl
        · exact piece_1 a b
        · exact piece_0 a b) _ (cover0_2 _ _ _)

end Cert.DequantPReferenceIdeal.Hand

namespace Cert

open Idealize.ShloMosaic Idealize.ShloMosaic.TcCoe Idealize.SL.Sem

/-- The kernel and its reference, over the extended reals, end with the same array. -/
theorem algebraic_dequant_p : letI := Cert.DequantPIdeal.Gen.facts; letI := Cert.DequantPReferenceIdeal.Gen.facts;
    algebraic_DequantPIdeal_DequantPReferenceIdeal := by
  intro m g m' g' _ hagree
  refine ⟨fun c => Cert.DequantPIdeal.Hand.deq (m ((c : Thread Cert.DequantPIdeal.nD Cert.DequantPIdeal.τ).loc Cert.DequantPIdeal.main_arg0)) (m ((c : Thread Cert.DequantPIdeal.nD Cert.DequantPIdeal.τ).loc Cert.DequantPIdeal.main_arg1)),
    (θ_run _ _ _).mono (fun r h c => ⟨(h c).1.trans (Cert.DequantPIdeal.Hand.final m c), (h c).2⟩) (Cert.DequantPIdeal.Value.run_blocks m g),
    (θ_run _ _ _).mono (fun r h c => ⟨?_, (h c).2⟩) (Cert.DequantPReferenceIdeal.Value.run m' g')⟩
  rw [(h c).1]
  obtain ⟨h0, h1⟩ := hagree c
  rw [h0, h1]
  exact Cert.DequantPReferenceIdeal.Hand.G2_eq _ _

end Cert

end
-- ==== Proof.DequantQValue.lean ====
/- The dequantised queries, transposed: the kernel's array and its reference's array at an index, and their equality. -/
module

public import proofs.«01_k».proof.Defs
public import proofs.«01_k».proof.Proof.Gen.DequantQIdeal.Value
public import proofs.«01_k».proof.Proof.Gen.DequantQReferenceIdeal.Value
public import proofs.«01_k».proof.Proof.DequantPValue
public import Idealize.ShloMosaic.Lib.Pointwise
public import Idealize.ShloMosaic.Lib.VecWindow
public import Idealize.ShloMosaic.Lib.Pipeline.ValueKit.Tiles

@[expose] public section

set_option maxRecDepth 16384
set_option maxHeartbeats 1000000

noncomputable section

namespace Cert.DequantQIdeal.Hand

open Cert.DequantQIdeal Cert.DequantQIdeal.Gen Idealize.ShloMosaic Idealize.ShloMosaic.TcCoe Idealize.SL.Sem

/-- The block of a column of 768. -/
def bk (d : Fin 768) : Fin 6 := ⟨d.val / 128, by omega⟩

/-- The array: codes times their block's scale. -/
def deq (a : Vec Ideal S2x4096x768 .fp8e4m3) (b : Vec Ideal S2x6x4096 .f32) : Vec Ideal S2x768x4096 .bf16 :=
  fun i => EReal.mul (a (ix3 (i 0) (i 2) (i 1))) (b (ix3 (i 0) (bk (i 1)) (i 2)))

/-- One point's block of it. -/
def deqBlk (a : Vec Ideal S1x1024x768 .fp8e4m3) (b : Vec Ideal S1x6x1024 .f32) : Vec Ideal S1x768x1024 .bf16 :=
  fun i => EReal.mul (a (ix3 (i 0) (i 2) (i 1))) (b (ix3 (i 0) (bk (i 1)) (i 2)))

/-- What the body leaves in the output's buffer: the body is the one that dequantises the passages. -/
theorem out_eq (x0 : Vec Ideal S1x1024x768 .fp8e4m3) (x1 : Vec Ideal S1x6x1024 .f32) : out0_2 x0 x1 = deqBlk x0 x1 :=
  Cert.DequantPIdeal.Hand.out_eq x0 x1

variable (m : (ℓ : Loc nD τ sig) → Buf (Elt Ideal) ℓ)

/-- The block indices of the three windows at a point. -/
theorem idx : ∀ t : Fin cfg0.N, (win0_0.index t = ![t.val / 4, t.val % 4, 0] ∧ win0_1.index t = ![t.val / 4, 0, t.val % 4])
    ∧ win0_2.index t = ![t.val / 4, 0, t.val % 4] :=
  (by decide +kernel : ∀ t : Fin grid0.N, _)

/-- What a point writes back is its block of the array. -/
theorem flushed (c : Dev nD) (t : Fin cfg0.N) :
    (dats m 0 c).flushed 2 t = ((cfg0.win 2).blk t).view.read (Elt Ideal)
      (deq (m ((c : Thread nD τ).loc main_arg0)) (m ((c : Thread nD τ).loc main_arg1))) := by
  rw [Value.flushed2, out_eq]
  obtain ⟨⟨e0, e1⟩, e2⟩ := idx t
  funext j
  refine Eq.trans (show _ = deqBlk (iblk m c 0 t) (iblk m c 1 t) j from rfl) ?_
  rw [View.read_apply]
  refine congrArg₂ EReal.mul ?_ ?_
  · unfold iblk
    rw [View.read_apply]
    show m _ _ = m _ _
    congr 1
    funext a; apply Fin.ext
    match a with
    | ⟨0, _⟩ => show win0_0.index t 0 * 1 + 1 * (j 0).val = win0_2.index t 0 * 1 + 1 * (j 0).val; rw [e0, e2]; rfl
    | ⟨1, _⟩ => show win0_0.index t 1 * 1024 + 1 * (j 2).val = win0_2.index t 2 * 1024 + 1 * (j 2).val; rw [e0, e2]; rfl
    | ⟨2, _⟩ => show win0_0.index t 2 * 768 + 1 * (j 1).val = win0_2.index t 1 * 768 + 1 * (j 1).val; rw [e0, e2]; rfl
  · unfold iblk
    rw [View.read_apply]
    show m _ _ = m _ _
    congr 1
    funext a; apply Fin.ext
    match a with
    | ⟨0, _⟩ => show win0_1.index t 0 * 1 + 1 * (j 0).val = win0_2.index t 0 * 1 + 1 * (j 0).val; rw [e1, e2]
    | ⟨1, _⟩ =>
      show win0_1.index t 1 * 6 + 1 * ((j 1).val / 128) = (win0_2.index t 1 * 768 + 1 * (j 1).val) / 128
      rw [e1, e2]
      show 0 * 6 + 1 * ((j 1).val / 128) = (0 * 768 + 1 * (j 1).val) / 128
      omega
    | ⟨2, _⟩ => show win0_1.index t 2 * 1024 + 1 * (j 2).val = win0_2.index t 2 * 1024 + 1 * (j 2).val; rw [e1, e2]

/-- Every index of the array is in some point's block. -/
theorem covered (i : S2x768x4096.Idx) : ∃ t : Fin cfg0.N, (cfg0.win 2).flush t = true ∧ i ∈ ((cfg0.win 2).blk t).view.set := by
  obtain ⟨b, d, n, rfl⟩ : ∃ (b : Fin 2) (d : Fin 768) (n : Fin 4096), i = ix3 b d n := ⟨i 0, i 1, i 2, eq_ix3 i⟩
  have hN : cfg0.N = 8 := N_0
  have hb := b.2
  have hn := n.2
  have hlt : 4 * b.val + n.val / 1024 < cfg0.N := lt_of_lt_of_eq (by omega) hN.symm
  refine ⟨⟨4 * b.val + n.val / 1024, hlt⟩, flush0_2 _, ?_⟩
  have h := ((cfg0.win 2).blk ⟨4 * b.val + n.val / 1024, hlt⟩).view.emb_mem_set
    (ix3 0 d ⟨n.val % 1024, by omega⟩ : S1x768x1024.Idx)
  have e := (idx ⟨4 * b.val + n.val / 1024, hlt⟩).2
  refine Eq.mp (congrArg (· ∈ _) ?_) h
  funext a; apply Fin.ext
  match a with
  | ⟨0, _⟩ =>
    show win0_2.index _ 0 * 1 + 1 * 0 = b.val
    rw [e]; show (4 * b.val + n.val / 1024) / 4 * 1 + 1 * 0 = b.val; omega
  | ⟨1, _⟩ =>
    show win0_2.index _ 1 * 768 + 1 * d.val = d.val
    rw [e]; show 0 * 768 + 1 * d.val = d.val; omega
  | ⟨2, _⟩ =>
    show win0_2.index _ 2 * 1024 + 1 * (n.val % 1024) = n.val
    rw [e]; show (4 * b.val + n.val / 1024) % 4 * 1024 + 1 * (n.val % 1024) = n.val; omega

/-- The kernel's array after the run. -/
theorem final (c : Dev nD) :
    (dats m 0 c).arrAt 2 cfg0.N = deq (m ((c : Thread nD τ).loc main_arg0)) (m ((c : Thread nD τ).loc main_arg1)) :=
  (dats m 0 c).arrAt_eq_of_cover 2 _ (fun t _ => flushed m c t) covered

end Cert.DequantQIdeal.Hand

namespace Cert.DequantQReferenceIdeal.Hand

open Cert.DequantQReferenceIdeal Cert.DequantQReferenceIdeal.Gen Idealize.ShloMosaic Idealize.ShloMosaic.TcCoe Idealize.SL.Sem

/-- The scale of a row's column, after the scales are repeated. -/
theorem rep_apply (s : FVec Ideal S4096x6 .bf16) (n : Fin 4096) (d : Fin 768) :
    shapeCast S4096x768 (broadcastTo S4096x6x128 (shapeCast S4096x6x1 s shapeCasts_S4096x6_S4096x6x1) broadcasts_S4096x6x1_S4096x6x128)
      shapeCasts_S4096x6x128_S4096x768 (ix2 n d) = s (ix2 n (Cert.DequantQIdeal.Hand.bk d)) := by
  pointwise
  rfl

theorem pay1_apply (s : Vec Ideal S1x6x4096 .f32) (a : Vec Ideal S1x4096x768 .fp8e4m3) (d : Fin 768) (n : Fin 4096) :
    k0_pay1 (F := Ideal) s a (ix3 0 d n) = EReal.mul (a (ix3 0 n d)) (s (ix3 0 (Cert.DequantQIdeal.Hand.bk d) n)) := by
  pointwise [k0_pay1, rep_apply]
  rfl

theorem pay2_apply (s : Vec Ideal S1x6x4096 .f32) (a : Vec Ideal S1x4096x768 .fp8e4m3) (d : Fin 768) (n : Fin 4096) :
    k0_pay2 (F := Ideal) s a (ix3 0 d n) = EReal.mul (a (ix3 0 n d)) (s (ix3 0 (Cert.DequantQIdeal.Hand.bk d) n)) := pay1_apply s a d n

theorem piece_0 (a : Vec Ideal S2x4096x768 .fp8e4m3) (b : Vec Ideal S2x6x4096 .f32) (y : S1x768x4096.Idx) :
    k0_pay1 (F := Ideal) (View.ld b r0_0) (View.ld a r0_1) y = Cert.DequantQIdeal.Hand.deq a b (r0_2.emb y) := by
  obtain ⟨z, d, n, rfl⟩ : ∃ (z : Fin 1) (d : Fin 768) (n : Fin 4096), y = ix3 z d n := ⟨y 0, y 1, y 2, eq_ix3 y⟩
  obtain rfl : z = 0 := Subsingleton.elim _ _
  refine (pay1_apply _ _ d n).trans ?_
  rw [View.ld_apply, View.ld_apply]
  refine congrArg₂ EReal.mul (congrArg a ?_) (congrArg b ?_)
  · funext a; apply Fin.ext
    match a with
    | ⟨0, _⟩ => rfl
    | ⟨1, _⟩ => rfl
    | ⟨2, _⟩ => rfl
  · funext a; apply Fin.ext
    match a with
    | ⟨0, _⟩ => rfl
    | ⟨1, _⟩ => show 0 + 1 * (d.val / 128) = (0 + 1 * d.val) / 128; omega
    | ⟨2, _⟩ => rfl

theorem piece_1 (a : Vec Ideal S2x4096x768 .fp8e4m3) (b : Vec Ideal S2x6x4096 .f32) (y : S1x768x4096.Idx) :
    k0_pay2 (F := Ideal) (View.ld b r0_3) (View.ld a r0_4) y = Cert.DequantQIdeal.Hand.deq a b (r0_5.emb y) := by
  obtain ⟨z, d, n, rfl⟩ : ∃ (z : Fin 1) (d : Fin 768) (n : Fin 4096), y = ix3 z d n := ⟨y 0, y 1, y 2, eq_ix3 y⟩
  obtain rfl : z = 0 := Subsingleton.elim _ _
  refine (pay2_apply _ _ d n).trans ?_
  rw [View.ld_apply, View.ld_apply]
  refine congrArg₂ EReal.mul (congrArg a ?_) (congrArg b ?_)
  · funext a; apply Fin.ext
    match a with
    | ⟨0, _⟩ => rfl
    | ⟨1, _⟩ => rfl
    | ⟨2, _⟩ => rfl
  · funext a; apply Fin.ext
    match a with
    | ⟨0, _⟩ => rfl
    | ⟨1, _⟩ => show 0 + 1 * (d.val / 128) = (0 + 1 * d.val) / 128; omega
    | ⟨2, _⟩ => rfl

/-- The reference's array. -/
theorem G2_eq (a : Vec Ideal S2x4096x768 .fp8e4m3) (b : Vec Ideal S2x6x4096 .f32) : Value.G2 a b = Cert.DequantQIdeal.Hand.deq a b := by
  funext y
  exact View.canon_apply_of_pieces (Val := Elt Ideal) (S := S2x768x4096) (e := .bf16) (Cert.DequantQIdeal.Hand.deq a b) _
    (by intro pc hpc; simp only [List.mem_cons, List.not_mem_nil, or_false] at hpc
        rcases hpc with rfl | rfl
        · exact piece_1 a b
        · exact piece_0 a b) _ (cover0_2 _ _ _)

end Cert.DequantQReferenceIdeal.Hand

namespace Cert

open Idealize.ShloMosaic Idealize.ShloMosaic.TcCoe Idealize.SL.Sem

/-- The kernel and its reference, over the extended reals, end with the same array. -/
theorem algebraic_dequant_q : letI := Cert.DequantQIdeal.Gen.facts; letI := Cert.DequantQReferenceIdeal.Gen.facts;
    algebraic_DequantQIdeal_DequantQReferenceIdeal := by
  intro m g m' g' _ hagree
  refine ⟨fun c => Cert.DequantQIdeal.Hand.deq (m ((c : Thread Cert.DequantQIdeal.nD Cert.DequantQIdeal.τ).loc Cert.DequantQIdeal.main_arg0)) (m ((c : Thread Cert.DequantQIdeal.nD Cert.DequantQIdeal.τ).loc Cert.DequantQIdeal.main_arg1)),
    (θ_run _ _ _).mono (fun r h c => ⟨(h c).1.trans (Cert.DequantQIdeal.Hand.final m c), (h c).2⟩) (Cert.DequantQIdeal.Value.run_blocks m g),
    (θ_run _ _ _).mono (fun r h c => ⟨?_, (h c).2⟩) (Cert.DequantQReferenceIdeal.Value.run m' g')⟩
  rw [(h c).1]
  obtain ⟨h0, h1⟩ := hagree c
  rw [h0, h1]
  exact Cert.DequantQReferenceIdeal.Hand.G2_eq _ _

end Cert

end
-- ==== Proof.DpBody.lean ====
/- What one grid point of the `dp` kernel leaves: its payloads applied to the point's blocks. -/
module

public import proofs.«01_k».proof.Proof.Gen.DpIdeal.Value
public import Idealize.ShloMosaic.Lib.Pointwise

@[expose] public section

noncomputable section

namespace Cert.DpIdeal.Body

open Cert.DpIdeal Cert.DpIdeal.Gen Idealize.ShloMosaic Idealize.ShloMosaic.TcCoe Idealize.SL.Sem

variable {F : FTy → Type} [FloatOps F]
variable (m : (ℓ : Loc nD τ sig) → Buf (Elt F) ℓ)

theorem hz2 : (![0, 0] : Fin 2 → Nat) = fun _ => 0 := funext fun a => by fin_cases a <;> rfl
theorem hz3 : (![0, 0, 0] : Fin 3 → Nat) = fun _ => 0 := funext fun a => by fin_cases a <;> rfl

/-- The last point of a run writes the scaled transpose of the accumulator after its own addition. -/
theorem out_B (c : Dev nD) (i : grid0.Coords) (a3 : Memref sig .tc .vmem S1x768x2048 .bf16) (h3 : a3.IsWhole)
    (a4 : Memref sig .tc .vmem S1x1x2048 .f32) (h4 : a4.IsWhole) (a5 : Memref sig .tc .vmem S1x2048x1024 .fp8e5m2) (h5 : a5.IsWhole)
    (a6 : Memref sig .tc .vmem S1x1024x768 .bf16) (h6 : a6.IsWhole) (a7 : Memref sig .tc .vmem S768x1024 .f32) (h7 : a7.IsWhole)
    (hc0 : ¬cond0_0 i) (hc1 : cond0_1 i) (x0 : Vec F S1x768x2048 .bf16) (x1 : Vec F S1x1x2048 .f32)
    (x2 : Vec F S1x2048x1024 .fp8e5m2) (xs : Vec F S768x1024 .f32) :
    out0_B_3 c i a3 h3 a4 h4 a5 h5 a6 h6 a7 h7 hc0 hc1 x0 x1 x2 xs = k0_pay3 (k0_pay2 x0 x1 xs x2) := by
  unfold out0_B_3
  rw [View.read_writes_eq_canon _ _ _ (cover0_B_3 c i a3 h3 a4 h4 a5 h5 a6 h6 a7 h7 hc0 hc1 x0 x1 x2 xs)]
  unfold kernelRun0_B
  dsimp only
  sl_unfold_words
  rw [View.canon_unit_zero hz3, View.readCov_unit_zero (S := S768x1024) _ hz2]
  simp only [View.readAt_eq_ld, h3.read_unread, h4.read_unread, h5.read_unread, h7.read_unread, View.ld_unit_zero (S := S1x768x2048) hz3,
    View.ld_unit_zero (S := S1x1x2048) hz3, View.ld_unit_zero (S := S1x2048x1024) hz3, View.ld_unit_zero (S := S768x1024) hz2]

/-- The first point of a run leaves the accumulator at its own addition to zero. -/
theorem sout_A (c : Dev nD) (i : grid0.Coords) (a3 : Memref sig .tc .vmem S1x768x2048 .bf16) (h3 : a3.IsWhole)
    (a4 : Memref sig .tc .vmem S1x1x2048 .f32) (h4 : a4.IsWhole) (a5 : Memref sig .tc .vmem S1x2048x1024 .fp8e5m2) (h5 : a5.IsWhole)
    (a6 : Memref sig .tc .vmem S1x1024x768 .bf16) (h6 : a6.IsWhole) (a7 : Memref sig .tc .vmem S768x1024 .f32) (h7 : a7.IsWhole)
    (hc0 : cond0_0 i) (hc1 : ¬cond0_1 i) (x0 : Vec F S1x768x2048 .bf16) (x1 : Vec F S1x1x2048 .f32)
    (x2 : Vec F S1x2048x1024 .fp8e5m2) :
    sout0_A_0 c i a3 h3 a4 h4 a5 h5 a6 h6 a7 h7 hc0 hc1 x0 x1 x2 = k0_pay2 x0 x1 k0_pay1 x2 := by
  unfold sout0_A_0
  rw [View.read_writes_eq_canon _ _ _ (scover0_A_0 c i a3 h3 a4 h4 a5 h5 a6 h6 a7 h7 hc0 hc1 x0 x1 x2)]
  unfold kernelRun0_A
  dsimp only
  sl_unfold_words
  rw [View.canon_cons_unit_zero (S := S768x1024) hz2, View.readCov_unit_zero (S := S768x1024) _ hz2]
  simp only [View.readAt_eq_ld, h3.read_unread, h4.read_unread, h5.read_unread, View.ld_unit_zero (S := S1x768x2048) hz3,
    View.ld_unit_zero (S := S1x1x2048) hz3, View.ld_unit_zero (S := S1x2048x1024) hz3]

/-- What a run's last point writes, in the blocks of the run's two points. -/
theorem outs_last (c : Dev nD) (t : Fin cfg0.N) (ht : t.val % 2 = 1) (t' : Fin cfg0.N) (ht' : t'.val = t.val - 1) :
    (outsAt0 m c t.val t.isLt).1 = k0_pay3 (k0_pay2 (iblk m c 0 t) (iblk m c 1 t)
      (k0_pay2 (iblk m c 0 t') (iblk m c 1 t') k0_pay1 (iblk m c 2 t')) (iblk m c 2 t)) := by
  have h : outsAt0 m c (t.val - 1) (Nat.lt_of_le_of_lt (Nat.sub_le _ _) t.isLt) = outsAt0 m c t'.val t'.isLt := by
    congr 1; exact ht'.symm
  rw [outsAt0_B m c t (by omega) ht]
  dsimp only
  rw [out_B, h, outsAt0_A m c t' (by omega) (by omega)]
  dsimp only
  rw [sout_A]

end Cert.DpIdeal.Body

end
-- ==== Proof.DpValue.lean ====
/- The `dp` kernel's result and its reference's result at an index, and their equality. -/
module

public import proofs.«01_k».proof.Defs
public import proofs.«01_k».proof.Proof.DpBody
public import proofs.«01_k».proof.Proof.Gen.DpReferenceIdeal.Value
public import Idealize.ShloMosaic.Lib.Pointwise

@[expose] public section

noncomputable section

open scoped BigOperators

namespace Cert.DpIdeal.Body

open Cert.DpIdeal Cert.DpIdeal.Gen Idealize.ShloMosaic Idealize.ShloMosaic.TcCoe Idealize.SL.Sem

variable (m : (ℓ : Loc nD τ sig) → Buf (Elt Ideal) ℓ)

/-- One point's addition to the accumulator, read at an index. -/
theorem pay2_apply (x0 : Vec Ideal S1x768x2048 .bf16) (x1 : Vec Ideal S1x1x2048 .f32) (xs : Vec Ideal S768x1024 .f32)
    (x2 : Vec Ideal S1x2048x1024 .fp8e5m2) (d : Fin 768) (p : Fin 1024) :
    k0_pay2 x0 x1 xs x2 (ix2 d p) = xs (ix2 d p) + ∑ q : Fin 2048, x0 (ix3 0 d q) * x1 (ix3 0 0 q) * x2 (ix3 0 q p) := by
  pointwise [k0_pay2]

/-- The accumulator starts at zero. -/
theorem pay1_apply (d : Fin 768) (p : Fin 1024) : k0_pay1 (F := Ideal) (ix2 d p) = 0 := by
  pointwise [k0_pay1]

/-- The block written back is the accumulator times 20, transposed. -/
theorem pay3_apply (x : Vec Ideal S768x1024 .f32) (p : Fin 1024) (d : Fin 768) :
    k0_pay3 x (ix3 0 p d) = x (ix2 d p) * Ideal.ofBits .f32 0x41A00000#32 := by
  pointwise [k0_pay3]

/-- The block indices of the three inputs at a point, and the output's. -/
theorem idx : ∀ t : Fin cfg0.N, (win0_0.index t = ![t.val / 32, 0, t.val % 2] ∧ win0_1.index t = ![t.val / 32, 0, t.val % 2])
    ∧ win0_2.index t = ![t.val / 32, t.val % 2, t.val / 2 % 16] :=
  (by decide +kernel : ∀ t : Fin grid0.N, _)

theorem lt64 (t : Fin cfg0.N) : t.val < 64 := t.isLt.trans_eq N_0

theorem blk0 (c : Dev nD) (t : Fin cfg0.N) (d : Fin 768) (q : Fin 2048) (b : Fin 2) (k : Fin 4096)
    (hb : b.val = t.val / 32) (hk : k.val = t.val % 2 * 2048 + q.val) :
    iblk m c 0 t (ix3 0 d q) = m ((c : Thread nD τ).loc main_arg0) (ix3 b d k) := by
  unfold iblk
  rw [View.read_apply]
  show m _ _ = m _ _
  congr 1
  funext a; apply Fin.ext
  have h := (idx t).1.1
  match a with
  | ⟨0, _⟩ => show win0_0.index t 0 * 1 + 1 * 0 = b.val; rw [h, hb]; simp
  | ⟨1, _⟩ => show win0_0.index t 1 * 768 + 1 * d.val = d.val; rw [h]; simp
  | ⟨2, _⟩ => show win0_0.index t 2 * 2048 + 1 * q.val = k.val; rw [h, hk]; simp

theorem blk1 (c : Dev nD) (t : Fin cfg0.N) (q : Fin 2048) (b : Fin 2) (k : Fin 4096)
    (hb : b.val = t.val / 32) (hk : k.val = t.val % 2 * 2048 + q.val) :
    iblk m c 1 t (ix3 0 0 q) = m ((c : Thread nD τ).loc main_arg1) (ix3 b 0 k) := by
  unfold iblk
  rw [View.read_apply]
  show m _ _ = m _ _
  congr 1
  funext a; apply Fin.ext
  have h := (idx t).1.2
  match a with
  | ⟨0, _⟩ => show win0_1.index t 0 * 1 + 1 * 0 = b.val; rw [h, hb]; simp
  | ⟨1, _⟩ => show win0_1.index t 1 * 1 + 1 * 0 = 0; rw [h]; simp
  | ⟨2, _⟩ => show win0_1.index t 2 * 2048 + 1 * q.val = k.val; rw [h, hk]; simp

theorem blk2 (c : Dev nD) (t : Fin cfg0.N) (q : Fin 2048) (p : Fin 1024) (b : Fin 2) (k : Fin 4096)
    (n : Fin 16384) (hb : b.val = t.val / 32) (hk : k.val = t.val % 2 * 2048 + q.val) (hn : n.val = t.val / 2 % 16 * 1024 + p.val) :
    iblk m c 2 t (ix3 0 q p) = m ((c : Thread nD τ).loc main_arg2) (ix3 b k n) := by
  unfold iblk
  rw [View.read_apply]
  show m _ _ = m _ _
  congr 1
  funext a; apply Fin.ext
  have h := (idx t).2
  match a with
  | ⟨0, _⟩ => show win0_2.index t 0 * 1 + 1 * 0 = b.val; rw [h, hb]; simp
  | ⟨1, _⟩ => show win0_2.index t 1 * 2048 + 1 * q.val = k.val; rw [h, hk]; simp
  | ⟨2, _⟩ => show win0_2.index t 2 * 1024 + 1 * p.val = n.val; rw [h, hn]; simp

/-- The gradient of the passages, as one function of the three arrays. -/
def dpOf (q : Vec Ideal S2x768x4096 .bf16) (s : Vec Ideal S2x1x4096 .f32) (l : Vec Ideal S2x4096x16384 .fp8e5m2)
    (b : Fin 2) (p : Fin 16384) (d : Fin 768) : EReal :=
  (∑ k : Fin 4096, l (ix3 b k p) * s (ix3 b 0 k) * q (ix3 b d k)) * Ideal.ofBits .f32 0x41A00000#32

/-- The kernel's result array holds `dpOf` of its arguments. -/
theorem G3_apply (c : Dev nD) (b : Fin 2) (p : Fin 16384) (d : Fin 768) :
    Value.G3 m c (ix3 b p d) = dpOf (m ((c : Thread nD τ).loc main_arg0)) (m ((c : Thread nD τ).loc main_arg1))
      (m ((c : Thread nD τ).loc main_arg2)) b p d := by
  have hN : cfg0.N = 64 := N_0
  have hr : Value.run3Of (ix3 b p d) = 16 * b.val + p.val / 1024 := by
    show 16 * (b.val / 1 - 0) + 1 * (p.val / 1024 - 0) + 1 * (d.val / 768 - 0) = _
    omega
  have hlt : 2 * (16 * b.val + p.val / 1024) + 1 < cfg0.N := by omega
  have hp : Value.pt3Of (ix3 b p d) < cfg0.N := by unfold Value.pt3Of; rw [hr]; exact hlt
  unfold Value.G3
  rw [dif_pos hp, ← Value.outsAt0_sweep m c _ hp]
  have hl : Value.loc3Of (ix3 b p d) = ix3 0 ⟨p.val % 1024, Nat.mod_lt _ (by decide)⟩ d := by
    funext a; apply Fin.ext
    match a with
    | ⟨0, _⟩ => show b.val % 1 = 0; omega
    | ⟨1, _⟩ => rfl
    | ⟨2, _⟩ => show d.val % 768 = d.val; omega
  have hpt : (⟨Value.pt3Of (ix3 b p d), hp⟩ : Fin cfg0.N) = ⟨2 * (16 * b.val + p.val / 1024) + 1, hlt⟩ := by
    apply Fin.ext; show 2 * _ + 1 = _; rw [hr]
  have h := outs_last m c ⟨Value.pt3Of (ix3 b p d), hp⟩ (by rw [hpt]; dsimp only; omega)
    ⟨2 * (16 * b.val + p.val / 1024), by omega⟩ (by rw [hpt]; rfl)
  rw [hpt] at h
  have h' : (outsAt0 m c (Value.pt3Of (ix3 b p d)) hp).1 = (outsAt0 m c (2 * (16 * b.val + p.val / 1024) + 1) hlt).1 := by
    congr 2; unfold Value.pt3Of; rw [hr]
  rw [h', h, hl, pay3_apply, pay2_apply, pay2_apply, pay1_apply, zero_add]
  unfold dpOf
  congr 1
  rw [Fin.sum_univ_two_halves 2048 2048 rfl]
  congr 1
  · refine Finset.sum_congr rfl fun k _ => ?_
    have hk : (k.val : ℕ) < 4096 := by have := k.isLt; omega
    rw [blk0 m c _ _ _ b ⟨_, hk⟩ (by dsimp only; omega) (by dsimp only; omega), blk1 m c _ _ b ⟨_, hk⟩ (by dsimp only; omega) (by dsimp only; omega),
      blk2 m c _ _ _ b ⟨_, hk⟩ p (by dsimp only; omega) (by dsimp only; omega) (by dsimp only; omega), mul_comm, ← mul_assoc, mul_right_comm]
  · refine Finset.sum_congr rfl fun k _ => ?_
    have hk : (2048 + k.val : ℕ) < 4096 := by have := k.isLt; omega
    rw [blk0 m c _ _ _ b ⟨_, hk⟩ (by dsimp only; omega) (by dsimp only; omega), blk1 m c _ _ b ⟨_, hk⟩ (by dsimp only; omega) (by dsimp only; omega),
      blk2 m c _ _ _ b ⟨_, hk⟩ p (by dsimp only; omega) (by dsimp only; omega) (by dsimp only; omega), mul_comm, ← mul_assoc, mul_right_comm]

end Cert.DpIdeal.Body

namespace Cert.DpReferenceIdeal.Value

open Cert.DpReferenceIdeal Cert.DpReferenceIdeal.Gen Idealize.ShloMosaic Idealize.ShloMosaic.TcCoe Idealize.SL.Sem

/-- The reference's result array holds `dpOf` of its arguments. -/
theorem G3_apply (q : Vec Ideal S2x768x4096 .bf16) (s : Vec Ideal S2x1x4096 .f32) (l : Vec Ideal S2x4096x16384 .fp8e5m2)
    (b : Fin 2) (p : Fin 16384) (d : Fin 768) :
    G3 q s l (ix3 b p d) = Cert.DpIdeal.Body.dpOf q s l b p d := by
  have h0 : ∀ y, k0_pay2 (F := Ideal) (View.ld q r0_0) (View.ld l r0_1) (View.ld s r0_2) y
      = (fun i : S2x16384x768.Idx => Cert.DpIdeal.Body.dpOf q s l (i 0) (i 1) (i 2)) (r0_3.emb y) := by
    intro y
    idx_vars y
    obtain rfl : y0 = 0 := Subsingleton.elim _ _
    rw [show r0_3.emb (ix3 0 y1 y2) = (ix3 0 y1 y2 : S2x16384x768.Idx) from by
      funext a; apply Fin.ext
      match a with
      | ⟨0, _⟩ => rfl
      | ⟨1, _⟩ => show 0 + 1 * y1.val = y1.val; omega
      | ⟨2, _⟩ => show 0 + 1 * y2.val = y2.val; omega]
    pointwise [k0_pay2, Cert.DpIdeal.Body.dpOf]
  have h1 : ∀ y, k0_pay1 (F := Ideal) (k0_pay3 (View.ld q r0_4) (View.ld l r0_5) (View.ld s r0_6)) y
      = (fun i : S2x16384x768.Idx => Cert.DpIdeal.Body.dpOf q s l (i 0) (i 1) (i 2)) (r0_7.emb y) := by
    intro y
    idx_vars y
    obtain rfl : y0 = 0 := Subsingleton.elim _ _
    rw [show r0_7.emb (ix3 0 y1 y2) = (ix3 1 y1 y2 : S2x16384x768.Idx) from by
      funext a; apply Fin.ext
      match a with
      | ⟨0, _⟩ => rfl
      | ⟨1, _⟩ => show 0 + 1 * y1.val = y1.val; omega
      | ⟨2, _⟩ => show 0 + 1 * y2.val = y2.val; omega]
    pointwise [k0_pay1, k0_pay3, Cert.DpIdeal.Body.dpOf]
  exact View.canon_apply_of_pieces (Val := Elt Ideal) (S := S2x16384x768) (e := .bf16) (fun i : S2x16384x768.Idx => Cert.DpIdeal.Body.dpOf q s l (i 0) (i 1) (i 2)) _
    (by intro pc hpc; simp only [List.mem_cons, List.not_mem_nil, or_false] at hpc
        rcases hpc with rfl | rfl
        · exact h1
        · exact h0) _ (cover0_3 _ _ _)

end Cert.DpReferenceIdeal.Value

namespace Cert

open Idealize.ShloMosaic Idealize.ShloMosaic.TcCoe Idealize.SL.Sem

/-- The kernel and its reference, over the extended reals, end with the same array. -/
theorem algebraic_dp : letI := Cert.DpIdeal.Gen.facts; letI := Cert.DpReferenceIdeal.Gen.facts; algebraic_DpIdeal_DpReferenceIdeal := by
  intro m g m' g' _ hagree
  refine ⟨fun c => Cert.DpIdeal.Value.G3 m c, Cert.DpIdeal.Value.run m g,
    (θ_run _ _ _).mono (fun r h c => ⟨?_, (h c).2⟩) (Cert.DpReferenceIdeal.Value.run m' g')⟩
  rw [(h c).1]
  obtain ⟨h0, h1, h2⟩ := hagree c
  rw [h0, h1, h2]
  funext i
  obtain ⟨b, p, d, rfl⟩ : ∃ (b : Fin 2) (p : Fin 16384) (d : Fin 768), i = ix3 b p d :=
    ⟨i 0, i 1, i 2, funext fun a => by match a with | ⟨0, _⟩ => rfl | ⟨1, _⟩ => rfl | ⟨2, _⟩ => rfl⟩
  exact (Cert.DpReferenceIdeal.Value.G3_apply _ _ _ b p d).trans (Cert.DpIdeal.Body.G3_apply m c b p d).symm

end Cert

end
-- ==== Proof.LossCondsP.lean ====
/- The loss kernel's branch conditions, by the position of the point in the grid. -/
module

public import proofs.«01_k».proof.Proof.Gen.LossDq
public import proofs.«01_k».proof.Proof.Gen.LossDq.Launch
public import proofs.«01_k».proof.Proof.Gen.LossDq.Skeleton
public import proofs.«01_k».proof.Proof.Gen.LossDq.Points
public import Idealize.ShloMosaic.Lib.Pipeline.Value
public import Idealize.ShloMosaic.Lib.Pipeline.FrameBody
public import Idealize.ShloMosaic.Lib.Ring
public import Idealize.ShloMosaic.Lib.Tactic
public import Idealize.ShloMosaic.Lib.WordCmp

@[expose] public section

namespace Cert.LossDq.Hand

open Cert.LossDq Cert.LossDq.Gen
open Idealize.ShloMosaic Idealize.ShloMosaic.TcCoe Idealize.ShloMosaic.Tactic Idealize.SL.Sem

/-- The condition of the body's first branch: the first chunk of the first sweep. -/
abbrev cond0_1 (i : grid0.Coords) : Prop :=
  Scalar.cmpi .ne (Scalar.extui (Scalar.andi (Scalar.cmpi .eq (BitVec.ofNat 32 (i 2).val) 0#32) (Scalar.cmpi .eq (BitVec.ofNat 32 (i 3).val) 0#32))) 0#32 = 1#1

/-- Branch 1 is taken exactly where `t.val % 16 = 0`. -/
theorem hcond1 : ∀ t : Fin cfg0.N, cond0_1 (grid0.coords t) ↔ t.val % 16 = 0 :=
  (by decide +kernel : ∀ t : Fin grid0.N, cond0_1 (grid0.coords t) ↔ t.val % 16 = 0)

/-- Branch 2 is taken exactly where `t.val % 16 < 8`. -/
theorem hcond2 : ∀ t : Fin cfg0.N, k0_cond2 (grid0.coords t) = 1#1 ↔ t.val % 16 < 8 :=
  (by decide +kernel : ∀ t : Fin grid0.N, k0_cond2 (grid0.coords t) = 1#1 ↔ t.val % 16 < 8)

/-- Branch 3 is taken exactly where `t.val % 16 = 8`. -/
theorem hcond3 : ∀ t : Fin cfg0.N, k0_cond3 (grid0.coords t) = 1#1 ↔ t.val % 16 = 8 :=
  (by decide +kernel : ∀ t : Fin grid0.N, k0_cond3 (grid0.coords t) = 1#1 ↔ t.val % 16 = 8)

/-- Branch 4 is taken exactly where `8 ≤ t.val % 16`. -/
theorem hcond4 : ∀ t : Fin cfg0.N, k0_cond4 (grid0.coords t) = 1#1 ↔ 8 ≤ t.val % 16 :=
  (by decide +kernel : ∀ t : Fin grid0.N, k0_cond4 (grid0.coords t) = 1#1 ↔ 8 ≤ t.val % 16)

/-- Branch 5 is taken exactly where `t.val % 16 = 15`. -/
theorem hcond5 : ∀ t : Fin cfg0.N, k0_cond5 (grid0.coords t) = 1#1 ↔ t.val % 16 = 15 :=
  (by decide +kernel : ∀ t : Fin grid0.N, k0_cond5 (grid0.coords t) = 1#1 ↔ t.val % 16 = 15)

end Cert.LossDq.Hand

end
-- ==== Proof.LossRunAP.lean ====
/- The body of the loss kernel run at a point of the grid, case A: the first chunk of the first sweep: the queries are dequantised and the running maxima, sums and picks reset. -/
module

public import proofs.«01_k».proof.Proof.LossCondsP

@[expose] public section

set_option maxRecDepth 65536

noncomputable section

namespace Cert.LossDq.Hand

open Cert.LossDq Cert.LossDq.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

set_option maxHeartbeats 0 in
/-- The body at a point of case A (the first chunk of the first sweep: the queries are dequantised and the running maxima, sums and picks reset): from the buffers it touches, each at some contents, it runs to the
    same buffers, those it only reads unchanged and each it stores into with the pieces the run finds written over
    what it held. -/
def runA (c : Dev nD) (i : grid0.Coords) (arg4 : Memref sig .tc .vmem S1x256x768 .fp8e4m3) (harg4 : arg4.IsWhole) (arg5 : Memref sig .tc .vmem S1x256x6 .f32) (harg5 : arg5.IsWhole) (arg6 : Memref sig .tc .vmem S1x768x2048 .bf16) (harg6 : arg6.IsWhole) (arg7 : Memref sig .tc .vmem S1x256x1 .i32) (harg7 : arg7.IsWhole) (arg8 : Memref sig .tc .vmem S1x1x256 .f32) (harg8 : arg8.IsWhole) (arg9 : Memref sig .tc .vmem S1x256x768 .bf16) (harg9 : arg9.IsWhole) (arg10 : Memref sig .tc .vmem S1x256x16384 .fp8e5m2) (harg10 : arg10.IsWhole) (arg11 : Memref sig .tc .vmem S1x1x256 .f32) (harg11 : arg11.IsWhole) (arg12 : Memref sig .tc .vmem S256x16384 .f32) (harg12 : arg12.IsWhole) (arg13 : Memref sig .tc .vmem S256x768 .bf16) (harg13 : arg13.IsWhole) (arg14 : Memref sig .tc .vmem S256x128 .f32) (harg14 : arg14.IsWhole) (arg15 : Memref sig .tc .vmem S256x128 .f32) (harg15 : arg15.IsWhole) (arg16 : Memref sig .tc .vmem S256x128 .f32) (harg16 : arg16.IsWhole) (arg17 : Memref sig .tc .vmem S768x256 .f32) (harg17 : arg17.IsWhole) (arg18 : Memref sig .tc .vmem S256x128 .f32) (harg18 : arg18.IsWhole) (hc1 : cond0_1 i) (hc2 : k0_cond2 i = 1#1) (hc3 : ¬(k0_cond3 i = 1#1)) (hc4 : ¬(k0_cond4 i = 1#1)) (hc5 : ¬(k0_cond5 i = 1#1))
    (x4 : Vec F S1x256x768 .fp8e4m3) (x5 : Vec F S1x256x6 .f32) (x6 : Vec F S1x768x2048 .bf16) (x7 : Vec F S1x256x1 .i32) (x12 : Vec F S256x16384 .f32) (x13 : Vec F S256x768 .bf16) (x14 : Vec F S256x128 .f32) (x15 : Vec F S256x128 .f32) (x16 : Vec F S256x128 .f32) :
    Σ' (L12 : List (View.Piece (Elt F) S256x16384 .f32)), Σ' (L13 : List (View.Piece (Elt F) S256x768 .bf16)), Σ' (L14 : List (View.Piece (Elt F) S256x128 .f32)), Σ' (L15 : List (View.Piece (Elt F) S256x128 .f32)), { L16 : List (View.Piece (Elt F) S256x128 .f32) //
      ∀ (E : Set ℕ) (K : PUnit → sProp 𝕄),
        iprop(owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16 ∗ (iprop(owns (c : Thread nD τ) arg4 fullShare x4 ∗ owns (c : Thread nD τ) arg5 fullShare x5 ∗ owns (c : Thread nD τ) arg6 fullShare x6 ∗ owns (c : Thread nD τ) arg7 fullShare x7 ∗ (arg12.view.loc (c : Thread nD τ) ↦[arg12.view.set]{fullShare} arg12.view.writes (Elt F) (harg12.unread x12) L12) ∗ (arg13.view.loc (c : Thread nD τ) ↦[arg13.view.set]{fullShare} arg13.view.writes (Elt F) (harg13.unread x13) L13) ∗ (arg14.view.loc (c : Thread nD τ) ↦[arg14.view.set]{fullShare} arg14.view.writes (Elt F) (harg14.unread x14) L14) ∗ (arg15.view.loc (c : Thread nD τ) ↦[arg15.view.set]{fullShare} arg15.view.writes (Elt F) (harg15.unread x15) L15) ∗ (arg16.view.loc (c : Thread nD τ) ↦[arg16.view.set]{fullShare} arg16.view.writes (Elt F) (harg16.unread x16) L16)) -∗ K ⟨⟩))
          ⊢ wp frame (wpE (defs₀ (F := F)) Variants.none c none) E (cc0_loss_dq i arg4 harg4 arg5 harg5 arg6 harg6 arg7 harg7 arg8 harg8 arg9 harg9 arg10 harg10 arg11 harg11 arg12 harg12 arg13 harg13 arg14 harg14 arg15 harg15 arg16 harg16 arg17 harg17 arg18 harg18) K } := by
  refine ⟨?_, ?_, ?_, ?_, ?_, fun E K => ?run⟩
  case run =>
    simp only [cc0_loss_dq_eq_skeleton]; unfold cc0_loss_dq_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton]
    unfold owns
    iintro ⟨⟨%f4, %hf4, H4⟩, ⟨%f5, %hf5, H5⟩, ⟨%f6, %hf6, H6⟩, ⟨%f7, %hf7, H7⟩, ⟨%f12, %hf12, H12⟩, ⟨%f13, %hf13, H13⟩, ⟨%f14, %hf14, H14⟩, ⟨%f15, %hf15, H15⟩, ⟨%f16, %hf16, H16⟩, Hk⟩
    obtain rfl := harg4.eq_unread hf4; obtain rfl := harg5.eq_unread hf5; obtain rfl := harg6.eq_unread hf6; obtain rfl := harg7.eq_unread hf7; obtain rfl := harg12.eq_unread hf12; obtain rfl := harg13.eq_unread hf13; obtain rfl := harg14.eq_unread hf14; obtain rfl := harg15.eq_unread hf15; obtain rfl := harg16.eq_unread hf16
    sl_exec (disch := first | sl_exact hc1 | sl_exact hc2 | sl_exact hc3 | sl_exact hc4 | sl_exact hc5)
    sl_step
    iapply Hk
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H12]
    · iexact H12
    isplitl [H13]
    · iexact H13
    isplitl [H14]
    · iexact H14
    isplitl [H15]
    · iexact H15
    iexact H16

end Cert.LossDq.Hand

end
-- ==== Proof.LossRunBP.lean ====
/- The body of the loss kernel run at a point of the grid, case B: a later chunk of the first sweep. -/
module

public import proofs.«01_k».proof.Proof.LossCondsP

@[expose] public section

set_option maxRecDepth 65536

noncomputable section

namespace Cert.LossDq.Hand

open Cert.LossDq Cert.LossDq.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

set_option maxHeartbeats 0 in
/-- The body at a point of case B (a later chunk of the first sweep): from the buffers it touches, each at some contents, it runs to the
    same buffers, those it only reads unchanged and each it stores into with the pieces the run finds written over
    what it held. -/
def runB (c : Dev nD) (i : grid0.Coords) (arg4 : Memref sig .tc .vmem S1x256x768 .fp8e4m3) (harg4 : arg4.IsWhole) (arg5 : Memref sig .tc .vmem S1x256x6 .f32) (harg5 : arg5.IsWhole) (arg6 : Memref sig .tc .vmem S1x768x2048 .bf16) (harg6 : arg6.IsWhole) (arg7 : Memref sig .tc .vmem S1x256x1 .i32) (harg7 : arg7.IsWhole) (arg8 : Memref sig .tc .vmem S1x1x256 .f32) (harg8 : arg8.IsWhole) (arg9 : Memref sig .tc .vmem S1x256x768 .bf16) (harg9 : arg9.IsWhole) (arg10 : Memref sig .tc .vmem S1x256x16384 .fp8e5m2) (harg10 : arg10.IsWhole) (arg11 : Memref sig .tc .vmem S1x1x256 .f32) (harg11 : arg11.IsWhole) (arg12 : Memref sig .tc .vmem S256x16384 .f32) (harg12 : arg12.IsWhole) (arg13 : Memref sig .tc .vmem S256x768 .bf16) (harg13 : arg13.IsWhole) (arg14 : Memref sig .tc .vmem S256x128 .f32) (harg14 : arg14.IsWhole) (arg15 : Memref sig .tc .vmem S256x128 .f32) (harg15 : arg15.IsWhole) (arg16 : Memref sig .tc .vmem S256x128 .f32) (harg16 : arg16.IsWhole) (arg17 : Memref sig .tc .vmem S768x256 .f32) (harg17 : arg17.IsWhole) (arg18 : Memref sig .tc .vmem S256x128 .f32) (harg18 : arg18.IsWhole) (hc1 : ¬(cond0_1 i)) (hc2 : k0_cond2 i = 1#1) (hc3 : ¬(k0_cond3 i = 1#1)) (hc4 : ¬(k0_cond4 i = 1#1)) (hc5 : ¬(k0_cond5 i = 1#1))
    (x6 : Vec F S1x768x2048 .bf16) (x7 : Vec F S1x256x1 .i32) (x12 : Vec F S256x16384 .f32) (x13 : Vec F S256x768 .bf16) (x14 : Vec F S256x128 .f32) (x15 : Vec F S256x128 .f32) (x16 : Vec F S256x128 .f32) :
    Σ' (L12 : List (View.Piece (Elt F) S256x16384 .f32)), Σ' (L14 : List (View.Piece (Elt F) S256x128 .f32)), Σ' (L15 : List (View.Piece (Elt F) S256x128 .f32)), { L16 : List (View.Piece (Elt F) S256x128 .f32) //
      ∀ (E : Set ℕ) (K : PUnit → sProp 𝕄),
        iprop(owns (c : Thread nD τ) arg6 fullShare x6 ∗ owns (c : Thread nD τ) arg7 fullShare x7 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16 ∗ (iprop(owns (c : Thread nD τ) arg6 fullShare x6 ∗ owns (c : Thread nD τ) arg7 fullShare x7 ∗ (arg12.view.loc (c : Thread nD τ) ↦[arg12.view.set]{fullShare} arg12.view.writes (Elt F) (harg12.unread x12) L12) ∗ owns (c : Thread nD τ) arg13 fullShare x13 ∗ (arg14.view.loc (c : Thread nD τ) ↦[arg14.view.set]{fullShare} arg14.view.writes (Elt F) (harg14.unread x14) L14) ∗ (arg15.view.loc (c : Thread nD τ) ↦[arg15.view.set]{fullShare} arg15.view.writes (Elt F) (harg15.unread x15) L15) ∗ (arg16.view.loc (c : Thread nD τ) ↦[arg16.view.set]{fullShare} arg16.view.writes (Elt F) (harg16.unread x16) L16)) -∗ K ⟨⟩))
          ⊢ wp frame (wpE (defs₀ (F := F)) Variants.none c none) E (cc0_loss_dq i arg4 harg4 arg5 harg5 arg6 harg6 arg7 harg7 arg8 harg8 arg9 harg9 arg10 harg10 arg11 harg11 arg12 harg12 arg13 harg13 arg14 harg14 arg15 harg15 arg16 harg16 arg17 harg17 arg18 harg18) K } := by
  refine ⟨?_, ?_, ?_, ?_, fun E K => ?run⟩
  case run =>
    simp only [cc0_loss_dq_eq_skeleton]; unfold cc0_loss_dq_skel
    simp only [k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton]
    unfold owns
    iintro ⟨⟨%f6, %hf6, H6⟩, ⟨%f7, %hf7, H7⟩, ⟨%f12, %hf12, H12⟩, ⟨%f13, %hf13, H13⟩, ⟨%f14, %hf14, H14⟩, ⟨%f15, %hf15, H15⟩, ⟨%f16, %hf16, H16⟩, Hk⟩
    obtain rfl := harg6.eq_unread hf6; obtain rfl := harg7.eq_unread hf7; obtain rfl := harg12.eq_unread hf12; obtain rfl := harg13.eq_unread hf13; obtain rfl := harg14.eq_unread hf14; obtain rfl := harg15.eq_unread hf15; obtain rfl := harg16.eq_unread hf16
    sl_exec (disch := first | sl_exact hc1 | sl_exact hc2 | sl_exact hc3 | sl_exact hc4 | sl_exact hc5)
    sl_step
    iapply Hk
    isplitl [H6]
    · iexists _; isplitr; · ipureintro; exact harg6.read_unread _
      iexact H6
    isplitl [H7]
    · iexists _; isplitr; · ipureintro; exact harg7.read_unread _
      iexact H7
    isplitl [H12]
    · iexact H12
    isplitl [H13]
    · iexists _; isplitr; · ipureintro; exact harg13.read_unread _
      iexact H13
    isplitl [H14]
    · iexact H14
    isplitl [H15]
    · iexact H15
    iexact H16

end Cert.LossDq.Hand

end
-- ==== Proof.LossRunCP.lean ====
/- The body of the loss kernel run at a point of the grid, case C: the first chunk of the second sweep: the row scalars are made. -/
module

public import proofs.«01_k».proof.Proof.LossCondsP

@[expose] public section

set_option maxRecDepth 65536

noncomputable section

namespace Cert.LossDq.Hand

open Cert.LossDq Cert.LossDq.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

set_option maxHeartbeats 0 in
/-- The body at a point of case C (the first chunk of the second sweep: the row scalars are made): from the buffers it touches, each at some contents, it runs to the
    same buffers, those it only reads unchanged and each it stores into with the pieces the run finds written over
    what it held. -/
def runC (c : Dev nD) (i : grid0.Coords) (arg4 : Memref sig .tc .vmem S1x256x768 .fp8e4m3) (harg4 : arg4.IsWhole) (arg5 : Memref sig .tc .vmem S1x256x6 .f32) (harg5 : arg5.IsWhole) (arg6 : Memref sig .tc .vmem S1x768x2048 .bf16) (harg6 : arg6.IsWhole) (arg7 : Memref sig .tc .vmem S1x256x1 .i32) (harg7 : arg7.IsWhole) (arg8 : Memref sig .tc .vmem S1x1x256 .f32) (harg8 : arg8.IsWhole) (arg9 : Memref sig .tc .vmem S1x256x768 .bf16) (harg9 : arg9.IsWhole) (arg10 : Memref sig .tc .vmem S1x256x16384 .fp8e5m2) (harg10 : arg10.IsWhole) (arg11 : Memref sig .tc .vmem S1x1x256 .f32) (harg11 : arg11.IsWhole) (arg12 : Memref sig .tc .vmem S256x16384 .f32) (harg12 : arg12.IsWhole) (arg13 : Memref sig .tc .vmem S256x768 .bf16) (harg13 : arg13.IsWhole) (arg14 : Memref sig .tc .vmem S256x128 .f32) (harg14 : arg14.IsWhole) (arg15 : Memref sig .tc .vmem S256x128 .f32) (harg15 : arg15.IsWhole) (arg16 : Memref sig .tc .vmem S256x128 .f32) (harg16 : arg16.IsWhole) (arg17 : Memref sig .tc .vmem S768x256 .f32) (harg17 : arg17.IsWhole) (arg18 : Memref sig .tc .vmem S256x128 .f32) (harg18 : arg18.IsWhole) (hc1 : ¬(cond0_1 i)) (hc2 : ¬(k0_cond2 i = 1#1)) (hc3 : k0_cond3 i = 1#1) (hc4 : k0_cond4 i = 1#1) (hc5 : ¬(k0_cond5 i = 1#1))
    (x6 : Vec F S1x768x2048 .bf16) (x7 : Vec F S1x256x1 .i32) (x8 : Vec F S1x1x256 .f32) (x10 : Vec F S1x256x16384 .fp8e5m2) (x11 : Vec F S1x1x256 .f32) (x12 : Vec F S256x16384 .f32) (x14 : Vec F S256x128 .f32) (x15 : Vec F S256x128 .f32) (x16 : Vec F S256x128 .f32) (x17 : Vec F S768x256 .f32) (x18 : Vec F S256x128 .f32) :
    Σ' (L8 : List (View.Piece (Elt F) S1x1x256 .f32)), Σ' (L10 : List (View.Piece (Elt F) S1x256x16384 .fp8e5m2)), Σ' (L11 : List (View.Piece (Elt F) S1x1x256 .f32)), Σ' (L17 : List (View.Piece (Elt F) S768x256 .f32)), { L18 : List (View.Piece (Elt F) S256x128 .f32) //
      ∀ (E : Set ℕ) (K : PUnit → sProp 𝕄),
        iprop(owns (c : Thread nD τ) arg6 fullShare x6 ∗ owns (c : Thread nD τ) arg7 fullShare x7 ∗ owns (c : Thread nD τ) arg8 fullShare x8 ∗ owns (c : Thread nD τ) arg10 fullShare x10 ∗ owns (c : Thread nD τ) arg11 fullShare x11 ∗ owns (c : Thread nD τ) arg12 fullShare x12 ∗ owns (c : Thread nD τ) arg14 fullShare x14 ∗ owns (c : Thread nD τ) arg15 fullShare x15 ∗ owns (c : Thread nD τ) arg16 fullShare x16 ∗ owns (c : Thread nD τ) arg17 fullShare x17 ∗ owns (c : Thread nD τ) arg18 fullShare x18 ∗ (iprop(owns (c : Thread nD τ) arg6 fullShare x6 ∗ owns (c : Thread nD τ) arg7 fullShare x7 ∗ (arg8.view.loc (c : Thread nD τ) ↦[arg8.view.set]{fullShare} arg8.view.writes (Elt F) (harg8.unread x8) L8) ∗ (arg10.view.loc (c : Thread nD τ) ↦[arg10.view.set]{fullShare} arg10.view.writes (Elt F) (harg10.unread x10) L10) ∗ (arg11.view.loc (c : Thread nD τ) ↦[arg11.view.set]{fullShare} arg11.view.writes (Elt F) (harg11.unread x11) L11) ∗ owns (c : Thread nD τ) arg12 fullShare x12 ∗ owns (c : Thread nD τ) arg14 fullShare x14 ∗ owns (c : Thread nD τ) arg15 fullShare x15 ∗ owns (c : Thread nD τ) arg16 fullShare x16 ∗ (arg17.view.loc (c : Thread nD τ) ↦[arg17.view.set]{fullShare} arg17.view.writes (Elt F) (harg17.unread x17) L17) ∗ (arg18.view.loc (c : Thread nD τ) ↦[arg18.view.set]{fullShare} arg18.view.writes (Elt F) (harg18.unread x18) L18)) -∗ K ⟨⟩))
          ⊢ wp frame (wpE (defs₀ (F := F)) Variants.none c none) E (cc0_loss_dq i arg4 harg4 arg5 harg5 arg6 harg6 arg7 harg7 arg8 harg8 arg9 harg9 arg10 harg10 arg11 harg11 arg12 harg12 arg13 harg13 arg14 harg14 arg15 harg15 arg16 harg16 arg17 harg17 arg18 harg18) K } := by
  refine ⟨?_, ?_, ?_, ?_, ?_, fun E K => ?run⟩
  case run =>
    simp only [cc0_loss_dq_eq_skeleton]; unfold cc0_loss_dq_skel
    simp only [k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton]
    unfold owns
    iintro ⟨⟨%f6, %hf6, H6⟩, ⟨%f7, %hf7, H7⟩, ⟨%f8, %hf8, H8⟩, ⟨%f10, %hf10, H10⟩, ⟨%f11, %hf11, H11⟩, ⟨%f12, %hf12, H12⟩, ⟨%f14, %hf14, H14⟩, ⟨%f15, %hf15, H15⟩, ⟨%f16, %hf16, H16⟩, ⟨%f17, %hf17, H17⟩, ⟨%f18, %hf18, H18⟩, Hk⟩
    obtain rfl := harg6.eq_unread hf6; obtain rfl := harg7.eq_unread hf7; obtain rfl := harg8.eq_unread hf8; obtain rfl := harg10.eq_unread hf10; obtain rfl := harg11.eq_unread hf11; obtain rfl := harg12.eq_unread hf12; obtain rfl := harg14.eq_unread hf14; obtain rfl := harg15.eq_unread hf15; obtain rfl := harg16.eq_unread hf16; obtain rfl := harg17.eq_unread hf17; obtain rfl := harg18.eq_unread hf18
    sl_exec (disch := first | sl_exact hc1 | sl_exact hc2 | sl_exact hc3 | sl_exact hc4 | sl_exact hc5)
    sl_step
    iapply Hk
    isplitl [H6]
    · iexists _; isplitr; · ipureintro; exact harg6.read_unread _
      iexact H6
    isplitl [H7]
    · iexists _; isplitr; · ipureintro; exact harg7.read_unread _
      iexact H7
    isplitl [H8]
    · iexact H8
    isplitl [H10]
    · iexact H10
    isplitl [H11]
    · iexact H11
    isplitl [H12]
    · iexists _; isplitr; · ipureintro; exact harg12.read_unread _
      iexact H12
    isplitl [H14]
    · iexists _; isplitr; · ipureintro; exact harg14.read_unread _
      iexact H14
    isplitl [H15]
    · iexists _; isplitr; · ipureintro; exact harg15.read_unread _
      iexact H15
    isplitl [H16]
    · iexists _; isplitr; · ipureintro; exact harg16.read_unread _
      iexact H16
    isplitl [H17]
    · iexact H17
    iexact H18

end Cert.LossDq.Hand

end
-- ==== Proof.LossRunDP.lean ====
/- The body of the loss kernel run at a point of the grid, case D: a middle chunk of the second sweep. -/
module

public import proofs.«01_k».proof.Proof.LossCondsP

@[expose] public section

set_option maxRecDepth 65536

noncomputable section

namespace Cert.LossDq.Hand

open Cert.LossDq Cert.LossDq.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

set_option maxHeartbeats 0 in
/-- The body at a point of case D (a middle chunk of the second sweep): from the buffers it touches, each at some contents, it runs to the
    same buffers, those it only reads unchanged and each it stores into with the pieces the run finds written over
    what it held. -/
def runD (c : Dev nD) (i : grid0.Coords) (arg4 : Memref sig .tc .vmem S1x256x768 .fp8e4m3) (harg4 : arg4.IsWhole) (arg5 : Memref sig .tc .vmem S1x256x6 .f32) (harg5 : arg5.IsWhole) (arg6 : Memref sig .tc .vmem S1x768x2048 .bf16) (harg6 : arg6.IsWhole) (arg7 : Memref sig .tc .vmem S1x256x1 .i32) (harg7 : arg7.IsWhole) (arg8 : Memref sig .tc .vmem S1x1x256 .f32) (harg8 : arg8.IsWhole) (arg9 : Memref sig .tc .vmem S1x256x768 .bf16) (harg9 : arg9.IsWhole) (arg10 : Memref sig .tc .vmem S1x256x16384 .fp8e5m2) (harg10 : arg10.IsWhole) (arg11 : Memref sig .tc .vmem S1x1x256 .f32) (harg11 : arg11.IsWhole) (arg12 : Memref sig .tc .vmem S256x16384 .f32) (harg12 : arg12.IsWhole) (arg13 : Memref sig .tc .vmem S256x768 .bf16) (harg13 : arg13.IsWhole) (arg14 : Memref sig .tc .vmem S256x128 .f32) (harg14 : arg14.IsWhole) (arg15 : Memref sig .tc .vmem S256x128 .f32) (harg15 : arg15.IsWhole) (arg16 : Memref sig .tc .vmem S256x128 .f32) (harg16 : arg16.IsWhole) (arg17 : Memref sig .tc .vmem S768x256 .f32) (harg17 : arg17.IsWhole) (arg18 : Memref sig .tc .vmem S256x128 .f32) (harg18 : arg18.IsWhole) (hc1 : ¬(cond0_1 i)) (hc2 : ¬(k0_cond2 i = 1#1)) (hc3 : ¬(k0_cond3 i = 1#1)) (hc4 : k0_cond4 i = 1#1) (hc5 : ¬(k0_cond5 i = 1#1))
    (x6 : Vec F S1x768x2048 .bf16) (x7 : Vec F S1x256x1 .i32) (x10 : Vec F S1x256x16384 .fp8e5m2) (x12 : Vec F S256x16384 .f32) (x17 : Vec F S768x256 .f32) (x18 : Vec F S256x128 .f32) :
    Σ' (L10 : List (View.Piece (Elt F) S1x256x16384 .fp8e5m2)), { L17 : List (View.Piece (Elt F) S768x256 .f32) //
      ∀ (E : Set ℕ) (K : PUnit → sProp 𝕄),
        iprop(owns (c : Thread nD τ) arg6 fullShare x6 ∗ owns (c : Thread nD τ) arg7 fullShare x7 ∗ owns (c : Thread nD τ) arg10 fullShare x10 ∗ owns (c : Thread nD τ) arg12 fullShare x12 ∗ owns (c : Thread nD τ) arg17 fullShare x17 ∗ owns (c : Thread nD τ) arg18 fullShare x18 ∗ (iprop(owns (c : Thread nD τ) arg6 fullShare x6 ∗ owns (c : Thread nD τ) arg7 fullShare x7 ∗ (arg10.view.loc (c : Thread nD τ) ↦[arg10.view.set]{fullShare} arg10.view.writes (Elt F) (harg10.unread x10) L10) ∗ owns (c : Thread nD τ) arg12 fullShare x12 ∗ (arg17.view.loc (c : Thread nD τ) ↦[arg17.view.set]{fullShare} arg17.view.writes (Elt F) (harg17.unread x17) L17) ∗ owns (c : Thread nD τ) arg18 fullShare x18) -∗ K ⟨⟩))
          ⊢ wp frame (wpE (defs₀ (F := F)) Variants.none c none) E (cc0_loss_dq i arg4 harg4 arg5 harg5 arg6 harg6 arg7 harg7 arg8 harg8 arg9 harg9 arg10 harg10 arg11 harg11 arg12 harg12 arg13 harg13 arg14 harg14 arg15 harg15 arg16 harg16 arg17 harg17 arg18 harg18) K } := by
  refine ⟨?_, ?_, fun E K => ?run⟩
  case run =>
    simp only [cc0_loss_dq_eq_skeleton]; unfold cc0_loss_dq_skel
    simp only [k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton]
    unfold owns
    iintro ⟨⟨%f6, %hf6, H6⟩, ⟨%f7, %hf7, H7⟩, ⟨%f10, %hf10, H10⟩, ⟨%f12, %hf12, H12⟩, ⟨%f17, %hf17, H17⟩, ⟨%f18, %hf18, H18⟩, Hk⟩
    obtain rfl := harg6.eq_unread hf6; obtain rfl := harg7.eq_unread hf7; obtain rfl := harg10.eq_unread hf10; obtain rfl := harg12.eq_unread hf12; obtain rfl := harg17.eq_unread hf17; obtain rfl := harg18.eq_unread hf18
    sl_exec (disch := first | sl_exact hc1 | sl_exact hc2 | sl_exact hc3 | sl_exact hc4 | sl_exact hc5)
    sl_step
    iapply Hk
    isplitl [H6]
    · iexists _; isplitr; · ipureintro; exact harg6.read_unread _
      iexact H6
    isplitl [H7]
    · iexists _; isplitr; · ipureintro; exact harg7.read_unread _
      iexact H7
    isplitl [H10]
    · iexact H10
    isplitl [H12]
    · iexists _; isplitr; · ipureintro; exact harg12.read_unread _
      iexact H12
    isplitl [H17]
    · iexact H17
    iexists _; isplitr; · ipureintro; exact harg18.read_unread _
    iexact H18

end Cert.LossDq.Hand

end
-- ==== Proof.LossRunEP.lean ====
/- The body of the loss kernel run at a point of the grid, case E: the last chunk of the second sweep: the gradient is written. -/
module

public import proofs.«01_k».proof.Proof.LossCondsP

@[expose] public section

set_option maxRecDepth 65536

noncomputable section

namespace Cert.LossDq.Hand

open Cert.LossDq Cert.LossDq.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

set_option maxHeartbeats 0 in
/-- The body at a point of case E (the last chunk of the second sweep: the gradient is written): from the buffers it touches, each at some contents, it runs to the
    same buffers, those it only reads unchanged and each it stores into with the pieces the run finds written over
    what it held. -/
def runE (c : Dev nD) (i : grid0.Coords) (arg4 : Memref sig .tc .vmem S1x256x768 .fp8e4m3) (harg4 : arg4.IsWhole) (arg5 : Memref sig .tc .vmem S1x256x6 .f32) (harg5 : arg5.IsWhole) (arg6 : Memref sig .tc .vmem S1x768x2048 .bf16) (harg6 : arg6.IsWhole) (arg7 : Memref sig .tc .vmem S1x256x1 .i32) (harg7 : arg7.IsWhole) (arg8 : Memref sig .tc .vmem S1x1x256 .f32) (harg8 : arg8.IsWhole) (arg9 : Memref sig .tc .vmem S1x256x768 .bf16) (harg9 : arg9.IsWhole) (arg10 : Memref sig .tc .vmem S1x256x16384 .fp8e5m2) (harg10 : arg10.IsWhole) (arg11 : Memref sig .tc .vmem S1x1x256 .f32) (harg11 : arg11.IsWhole) (arg12 : Memref sig .tc .vmem S256x16384 .f32) (harg12 : arg12.IsWhole) (arg13 : Memref sig .tc .vmem S256x768 .bf16) (harg13 : arg13.IsWhole) (arg14 : Memref sig .tc .vmem S256x128 .f32) (harg14 : arg14.IsWhole) (arg15 : Memref sig .tc .vmem S256x128 .f32) (harg15 : arg15.IsWhole) (arg16 : Memref sig .tc .vmem S256x128 .f32) (harg16 : arg16.IsWhole) (arg17 : Memref sig .tc .vmem S768x256 .f32) (harg17 : arg17.IsWhole) (arg18 : Memref sig .tc .vmem S256x128 .f32) (harg18 : arg18.IsWhole) (hc1 : ¬(cond0_1 i)) (hc2 : ¬(k0_cond2 i = 1#1)) (hc3 : ¬(k0_cond3 i = 1#1)) (hc4 : k0_cond4 i = 1#1) (hc5 : k0_cond5 i = 1#1)
    (x6 : Vec F S1x768x2048 .bf16) (x7 : Vec F S1x256x1 .i32) (x9 : Vec F S1x256x768 .bf16) (x10 : Vec F S1x256x16384 .fp8e5m2) (x12 : Vec F S256x16384 .f32) (x17 : Vec F S768x256 .f32) (x18 : Vec F S256x128 .f32) :
    Σ' (L9 : List (View.Piece (Elt F) S1x256x768 .bf16)), Σ' (L10 : List (View.Piece (Elt F) S1x256x16384 .fp8e5m2)), { L17 : List (View.Piece (Elt F) S768x256 .f32) //
      ∀ (E : Set ℕ) (K : PUnit → sProp 𝕄),
        iprop(owns (c : Thread nD τ) arg6 fullShare x6 ∗ owns (c : Thread nD τ) arg7 fullShare x7 ∗ owns (c : Thread nD τ) arg9 fullShare x9 ∗ owns (c : Thread nD τ) arg10 fullShare x10 ∗ owns (c : Thread nD τ) arg12 fullShare x12 ∗ owns (c : Thread nD τ) arg17 fullShare x17 ∗ owns (c : Thread nD τ) arg18 fullShare x18 ∗ (iprop(owns (c : Thread nD τ) arg6 fullShare x6 ∗ owns (c : Thread nD τ) arg7 fullShare x7 ∗ (arg9.view.loc (c : Thread nD τ) ↦[arg9.view.set]{fullShare} arg9.view.writes (Elt F) (harg9.unread x9) L9) ∗ (arg10.view.loc (c : Thread nD τ) ↦[arg10.view.set]{fullShare} arg10.view.writes (Elt F) (harg10.unread x10) L10) ∗ owns (c : Thread nD τ) arg12 fullShare x12 ∗ (arg17.view.loc (c : Thread nD τ) ↦[arg17.view.set]{fullShare} arg17.view.writes (Elt F) (harg17.unread x17) L17) ∗ owns (c : Thread nD τ) arg18 fullShare x18) -∗ K ⟨⟩))
          ⊢ wp frame (wpE (defs₀ (F := F)) Variants.none c none) E (cc0_loss_dq i arg4 harg4 arg5 harg5 arg6 harg6 arg7 harg7 arg8 harg8 arg9 harg9 arg10 harg10 arg11 harg11 arg12 harg12 arg13 harg13 arg14 harg14 arg15 harg15 arg16 harg16 arg17 harg17 arg18 harg18) K } := by
  refine ⟨?_, ?_, ?_, fun E K => ?run⟩
  case run =>
    simp only [cc0_loss_dq_eq_skeleton]; unfold cc0_loss_dq_skel
    simp only [k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton]
    unfold owns
    iintro ⟨⟨%f6, %hf6, H6⟩, ⟨%f7, %hf7, H7⟩, ⟨%f9, %hf9, H9⟩, ⟨%f10, %hf10, H10⟩, ⟨%f12, %hf12, H12⟩, ⟨%f17, %hf17, H17⟩, ⟨%f18, %hf18, H18⟩, Hk⟩
    obtain rfl := harg6.eq_unread hf6; obtain rfl := harg7.eq_unread hf7; obtain rfl := harg9.eq_unread hf9; obtain rfl := harg10.eq_unread hf10; obtain rfl := harg12.eq_unread hf12; obtain rfl := harg17.eq_unread hf17; obtain rfl := harg18.eq_unread hf18
    sl_exec (disch := first | sl_exact hc1 | sl_exact hc2 | sl_exact hc3 | sl_exact hc4 | sl_exact hc5)
    sl_step
    iapply Hk
    isplitl [H6]
    · iexists _; isplitr; · ipureintro; exact harg6.read_unread _
      iexact H6
    isplitl [H7]
    · iexists _; isplitr; · ipureintro; exact harg7.read_unread _
      iexact H7
    isplitl [H9]
    · iexact H9
    isplitl [H10]
    · iexact H10
    isplitl [H12]
    · iexists _; isplitr; · ipureintro; exact harg12.read_unread _
      iexact H12
    isplitl [H17]
    · iexact H17
    iexists _; isplitr; · ipureintro; exact harg18.read_unread _
    iexact H18

end Cert.LossDq.Hand

end
-- ==== Proof.LossFrameP.lean ====
/- The loss kernel's pipeline over its whole grid. What each of the five cases of the body leaves in the buffers it stores
   into is named (`newκ_k`); `Spec` is what a proof says of the scratch buffers before a point and of the output buffers
   after one, `Steps` that each case of the body keeps it; from `Steps` follow the body's obligation at every point and the
   run. With the empty `Spec` the run is the frame. -/
module

public import proofs.«01_k».proof.Proof.LossRunAP
public import proofs.«01_k».proof.Proof.LossRunBP
public import proofs.«01_k».proof.Proof.LossRunCP
public import proofs.«01_k».proof.Proof.LossRunDP
public import proofs.«01_k».proof.Proof.LossRunEP
public import Idealize.ShloMosaic.Lib.Claim
public import Idealize.ShloMosaic.Lib.Pipeline.FrameBody

@[expose] public section

set_option maxRecDepth 65536

noncomputable section

namespace Cert.LossDq.Hand

open Cert.LossDq Cert.LossDq.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Cfg Window cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core `c`'s TensorCore buffers when the region is entered: after the host operations `hostOps0` (Launch.lean). -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
/-- @main up to the region, at the certificate's variants `𝒱₀`: the host operations then the region
    (`Pipeline.hmain_prefix`: `StableHlo.wp_seq` over the unscoped buffers, off `main_chain`). -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

abbrev ms0_0 (t : Fin cfg0.N) : Memref sig .tc .vmem S1x256x768 .fp8e4m3 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x256x6 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x768x2048 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x256x1 .i32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x1x256 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x256x768 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x256x16384 .fp8e5m2 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x1x256 .f32 := win0_7.stage (cfg0.slots t 7)
abbrev hs0_7 (t : Fin cfg0.N) : (ms0_7 t).IsWhole := hstage0_7 ((cfg0.slots t 7).cast nbuf0_7)
abbrev sc0_0 : Memref sig .tc .vmem S256x16384 .f32 := Memref.whole cc0_scratch0
abbrev hsc0_0 : sc0_0.IsWhole := Memref.isWhole_whole _
abbrev sc0_1 : Memref sig .tc .vmem S256x768 .bf16 := Memref.whole cc0_scratch1
abbrev hsc0_1 : sc0_1.IsWhole := Memref.isWhole_whole _
abbrev sc0_2 : Memref sig .tc .vmem S256x128 .f32 := Memref.whole cc0_scratch2
abbrev hsc0_2 : sc0_2.IsWhole := Memref.isWhole_whole _
abbrev sc0_3 : Memref sig .tc .vmem S256x128 .f32 := Memref.whole cc0_scratch3
abbrev hsc0_3 : sc0_3.IsWhole := Memref.isWhole_whole _
abbrev sc0_4 : Memref sig .tc .vmem S256x128 .f32 := Memref.whole cc0_scratch4
abbrev hsc0_4 : sc0_4.IsWhole := Memref.isWhole_whole _
abbrev sc0_5 : Memref sig .tc .vmem S768x256 .f32 := Memref.whole cc0_scratch5
abbrev hsc0_5 : sc0_5.IsWhole := Memref.isWhole_whole _
abbrev sc0_6 : Memref sig .tc .vmem S256x128 .f32 := Memref.whole cc0_scratch6
abbrev hsc0_6 : sc0_6.IsWhole := Memref.isWhole_whole _

/-- The launch's invariant, the scratch buffers as memrefs owned at some contents. -/
theorem PhiA0_eq (c : Dev nD) :
    (Pipeline.ΦA spec0 c : sProp 𝕄) = iprop(iprop((∃ d, owns (c : Thread nD τ) sc0_0 fullShare d) ∗ (∃ d, owns (c : Thread nD τ) sc0_1 fullShare d) ∗ (∃ d, owns (c : Thread nD τ) sc0_2 fullShare d) ∗ (∃ d, owns (c : Thread nD τ) sc0_3 fullShare d) ∗ (∃ d, owns (c : Thread nD τ) sc0_4 fullShare d) ∗ (∃ d, owns (c : Thread nD τ) sc0_5 fullShare d) ∗ (∃ d, owns (c : Thread nD τ) sc0_6 fullShare d)) ∗ (∃ r, prngReg c r)) := by
  unfold Pipeline.ΦA; rw [scopedRest0_eq]; simp only [sc0_0, sc0_1, sc0_2, sc0_3, sc0_4, sc0_5, sc0_6, owns_whole]; try rfl

/-! ## What each case of the body leaves -/

/-- The run of case A at point `t`. -/
abbrev atA (c : Dev nD) (t : Fin cfg0.N) (h : t.val % 16 = 0) (x4 : Vec F S1x256x768 .fp8e4m3) (x5 : Vec F S1x256x6 .f32) (x6 : Vec F S1x768x2048 .bf16) (x7 : Vec F S1x256x1 .i32) (x12 : Vec F S256x16384 .f32) (x13 : Vec F S256x768 .bf16) (x14 : Vec F S256x128 .f32) (x15 : Vec F S256x128 .f32) (x16 : Vec F S256x128 .f32) :=
  runA (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) sc0_0 hsc0_0 sc0_1 hsc0_1 sc0_2 hsc0_2 sc0_3 hsc0_3 sc0_4 hsc0_4 sc0_5 hsc0_5 sc0_6 hsc0_6 ((hcond1 t).mpr (by omega)) ((hcond2 t).mpr (by omega)) (fun hh => absurd ((hcond3 t).mp hh) (by omega)) (fun hh => absurd ((hcond4 t).mp hh) (by omega)) (fun hh => absurd ((hcond5 t).mp hh) (by omega)) x4 x5 x6 x7 x12 x13 x14 x15 x16
def newA_12 (c : Dev nD) (t : Fin cfg0.N) (h : t.val % 16 = 0) (x4 : Vec F S1x256x768 .fp8e4m3) (x5 : Vec F S1x256x6 .f32) (x6 : Vec F S1x768x2048 .bf16) (x7 : Vec F S1x256x1 .i32) (x12 : Vec F S256x16384 .f32) (x13 : Vec F S256x768 .bf16) (x14 : Vec F S256x128 .f32) (x15 : Vec F S256x128 .f32) (x16 : Vec F S256x128 .f32) : Vec F S256x16384 .f32 :=
  sc0_0.view.read (Elt F) (sc0_0.view.writes (Elt F) (hsc0_0.unread x12) (atA c t h x4 x5 x6 x7 x12 x13 x14 x15 x16).1)
def newA_13 (c : Dev nD) (t : Fin cfg0.N) (h : t.val % 16 = 0) (x4 : Vec F S1x256x768 .fp8e4m3) (x5 : Vec F S1x256x6 .f32) (x6 : Vec F S1x768x2048 .bf16) (x7 : Vec F S1x256x1 .i32) (x12 : Vec F S256x16384 .f32) (x13 : Vec F S256x768 .bf16) (x14 : Vec F S256x128 .f32) (x15 : Vec F S256x128 .f32) (x16 : Vec F S256x128 .f32) : Vec F S256x768 .bf16 :=
  sc0_1.view.read (Elt F) (sc0_1.view.writes (Elt F) (hsc0_1.unread x13) (atA c t h x4 x5 x6 x7 x12 x13 x14 x15 x16).2.1)
def newA_14 (c : Dev nD) (t : Fin cfg0.N) (h : t.val % 16 = 0) (x4 : Vec F S1x256x768 .fp8e4m3) (x5 : Vec F S1x256x6 .f32) (x6 : Vec F S1x768x2048 .bf16) (x7 : Vec F S1x256x1 .i32) (x12 : Vec F S256x16384 .f32) (x13 : Vec F S256x768 .bf16) (x14 : Vec F S256x128 .f32) (x15 : Vec F S256x128 .f32) (x16 : Vec F S256x128 .f32) : Vec F S256x128 .f32 :=
  sc0_2.view.read (Elt F) (sc0_2.view.writes (Elt F) (hsc0_2.unread x14) (atA c t h x4 x5 x6 x7 x12 x13 x14 x15 x16).2.2.1)
def newA_15 (c : Dev nD) (t : Fin cfg0.N) (h : t.val % 16 = 0) (x4 : Vec F S1x256x768 .fp8e4m3) (x5 : Vec F S1x256x6 .f32) (x6 : Vec F S1x768x2048 .bf16) (x7 : Vec F S1x256x1 .i32) (x12 : Vec F S256x16384 .f32) (x13 : Vec F S256x768 .bf16) (x14 : Vec F S256x128 .f32) (x15 : Vec F S256x128 .f32) (x16 : Vec F S256x128 .f32) : Vec F S256x128 .f32 :=
  sc0_3.view.read (Elt F) (sc0_3.view.writes (Elt F) (hsc0_3.unread x15) (atA c t h x4 x5 x6 x7 x12 x13 x14 x15 x16).2.2.2.1)
def newA_16 (c : Dev nD) (t : Fin cfg0.N) (h : t.val % 16 = 0) (x4 : Vec F S1x256x768 .fp8e4m3) (x5 : Vec F S1x256x6 .f32) (x6 : Vec F S1x768x2048 .bf16) (x7 : Vec F S1x256x1 .i32) (x12 : Vec F S256x16384 .f32) (x13 : Vec F S256x768 .bf16) (x14 : Vec F S256x128 .f32) (x15 : Vec F S256x128 .f32) (x16 : Vec F S256x128 .f32) : Vec F S256x128 .f32 :=
  sc0_4.view.read (Elt F) (sc0_4.view.writes (Elt F) (hsc0_4.unread x16) (atA c t h x4 x5 x6 x7 x12 x13 x14 x15 x16).2.2.2.2.1)
/-- The run of case B at point `t`. -/
abbrev atB (c : Dev nD) (t : Fin cfg0.N) (h : t.val % 16 ≠ 0 ∧ t.val % 16 < 8) (x6 : Vec F S1x768x2048 .bf16) (x7 : Vec F S1x256x1 .i32) (x12 : Vec F S256x16384 .f32) (x13 : Vec F S256x768 .bf16) (x14 : Vec F S256x128 .f32) (x15 : Vec F S256x128 .f32) (x16 : Vec F S256x128 .f32) :=
  runB (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) sc0_0 hsc0_0 sc0_1 hsc0_1 sc0_2 hsc0_2 sc0_3 hsc0_3 sc0_4 hsc0_4 sc0_5 hsc0_5 sc0_6 hsc0_6 (fun hh => absurd ((hcond1 t).mp hh) (by omega)) ((hcond2 t).mpr (by omega)) (fun hh => absurd ((hcond3 t).mp hh) (by omega)) (fun hh => absurd ((hcond4 t).mp hh) (by omega)) (fun hh => absurd ((hcond5 t).mp hh) (by omega)) x6 x7 x12 x13 x14 x15 x16
def newB_12 (c : Dev nD) (t : Fin cfg0.N) (h : t.val % 16 ≠ 0 ∧ t.val % 16 < 8) (x6 : Vec F S1x768x2048 .bf16) (x7 : Vec F S1x256x1 .i32) (x12 : Vec F S256x16384 .f32) (x13 : Vec F S256x768 .bf16) (x14 : Vec F S256x128 .f32) (x15 : Vec F S256x128 .f32) (x16 : Vec F S256x128 .f32) : Vec F S256x16384 .f32 :=
  sc0_0.view.read (Elt F) (sc0_0.view.writes (Elt F) (hsc0_0.unread x12) (atB c t h x6 x7 x12 x13 x14 x15 x16).1)
def newB_14 (c : Dev nD) (t : Fin cfg0.N) (h : t.val % 16 ≠ 0 ∧ t.val % 16 < 8) (x6 : Vec F S1x768x2048 .bf16) (x7 : Vec F S1x256x1 .i32) (x12 : Vec F S256x16384 .f32) (x13 : Vec F S256x768 .bf16) (x14 : Vec F S256x128 .f32) (x15 : Vec F S256x128 .f32) (x16 : Vec F S256x128 .f32) : Vec F S256x128 .f32 :=
  sc0_2.view.read (Elt F) (sc0_2.view.writes (Elt F) (hsc0_2.unread x14) (atB c t h x6 x7 x12 x13 x14 x15 x16).2.1)
def newB_15 (c : Dev nD) (t : Fin cfg0.N) (h : t.val % 16 ≠ 0 ∧ t.val % 16 < 8) (x6 : Vec F S1x768x2048 .bf16) (x7 : Vec F S1x256x1 .i32) (x12 : Vec F S256x16384 .f32) (x13 : Vec F S256x768 .bf16) (x14 : Vec F S256x128 .f32) (x15 : Vec F S256x128 .f32) (x16 : Vec F S256x128 .f32) : Vec F S256x128 .f32 :=
  sc0_3.view.read (Elt F) (sc0_3.view.writes (Elt F) (hsc0_3.unread x15) (atB c t h x6 x7 x12 x13 x14 x15 x16).2.2.1)
def newB_16 (c : Dev nD) (t : Fin cfg0.N) (h : t.val % 16 ≠ 0 ∧ t.val % 16 < 8) (x6 : Vec F S1x768x2048 .bf16) (x7 : Vec F S1x256x1 .i32) (x12 : Vec F S256x16384 .f32) (x13 : Vec F S256x768 .bf16) (x14 : Vec F S256x128 .f32) (x15 : Vec F S256x128 .f32) (x16 : Vec F S256x128 .f32) : Vec F S256x128 .f32 :=
  sc0_4.view.read (Elt F) (sc0_4.view.writes (Elt F) (hsc0_4.unread x16) (atB c t h x6 x7 x12 x13 x14 x15 x16).2.2.2.1)
/-- The run of case C at point `t`. -/
abbrev atC (c : Dev nD) (t : Fin cfg0.N) (h : t.val % 16 = 8) (x6 : Vec F S1x768x2048 .bf16) (x7 : Vec F S1x256x1 .i32) (x8 : Vec F S1x1x256 .f32) (x10 : Vec F S1x256x16384 .fp8e5m2) (x11 : Vec F S1x1x256 .f32) (x12 : Vec F S256x16384 .f32) (x14 : Vec F S256x128 .f32) (x15 : Vec F S256x128 .f32) (x16 : Vec F S256x128 .f32) (x17 : Vec F S768x256 .f32) (x18 : Vec F S256x128 .f32) :=
  runC (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) sc0_0 hsc0_0 sc0_1 hsc0_1 sc0_2 hsc0_2 sc0_3 hsc0_3 sc0_4 hsc0_4 sc0_5 hsc0_5 sc0_6 hsc0_6 (fun hh => absurd ((hcond1 t).mp hh) (by omega)) (fun hh => absurd ((hcond2 t).mp hh) (by omega)) ((hcond3 t).mpr (by omega)) ((hcond4 t).mpr (by omega)) (fun hh => absurd ((hcond5 t).mp hh) (by omega)) x6 x7 x8 x10 x11 x12 x14 x15 x16 x17 x18
def newC_8 (c : Dev nD) (t : Fin cfg0.N) (h : t.val % 16 = 8) (x6 : Vec F S1x768x2048 .bf16) (x7 : Vec F S1x256x1 .i32) (x8 : Vec F S1x1x256 .f32) (x10 : Vec F S1x256x16384 .fp8e5m2) (x11 : Vec F S1x1x256 .f32) (x12 : Vec F S256x16384 .f32) (x14 : Vec F S256x128 .f32) (x15 : Vec F S256x128 .f32) (x16 : Vec F S256x128 .f32) (x17 : Vec F S768x256 .f32) (x18 : Vec F S256x128 .f32) : Vec F S1x1x256 .f32 :=
  (ms0_4 t).view.read (Elt F) ((ms0_4 t).view.writes (Elt F) ((hs0_4 t).unread x8) (atC c t h x6 x7 x8 x10 x11 x12 x14 x15 x16 x17 x18).1)
def newC_10 (c : Dev nD) (t : Fin cfg0.N) (h : t.val % 16 = 8) (x6 : Vec F S1x768x2048 .bf16) (x7 : Vec F S1x256x1 .i32) (x8 : Vec F S1x1x256 .f32) (x10 : Vec F S1x256x16384 .fp8e5m2) (x11 : Vec F S1x1x256 .f32) (x12 : Vec F S256x16384 .f32) (x14 : Vec F S256x128 .f32) (x15 : Vec F S256x128 .f32) (x16 : Vec F S256x128 .f32) (x17 : Vec F S768x256 .f32) (x18 : Vec F S256x128 .f32) : Vec F S1x256x16384 .fp8e5m2 :=
  (ms0_6 t).view.read (Elt F) ((ms0_6 t).view.writes (Elt F) ((hs0_6 t).unread x10) (atC c t h x6 x7 x8 x10 x11 x12 x14 x15 x16 x17 x18).2.1)
def newC_11 (c : Dev nD) (t : Fin cfg0.N) (h : t.val % 16 = 8) (x6 : Vec F S1x768x2048 .bf16) (x7 : Vec F S1x256x1 .i32) (x8 : Vec F S1x1x256 .f32) (x10 : Vec F S1x256x16384 .fp8e5m2) (x11 : Vec F S1x1x256 .f32) (x12 : Vec F S256x16384 .f32) (x14 : Vec F S256x128 .f32) (x15 : Vec F S256x128 .f32) (x16 : Vec F S256x128 .f32) (x17 : Vec F S768x256 .f32) (x18 : Vec F S256x128 .f32) : Vec F S1x1x256 .f32 :=
  (ms0_7 t).view.read (Elt F) ((ms0_7 t).view.writes (Elt F) ((hs0_7 t).unread x11) (atC c t h x6 x7 x8 x10 x11 x12 x14 x15 x16 x17 x18).2.2.1)
def newC_17 (c : Dev nD) (t : Fin cfg0.N) (h : t.val % 16 = 8) (x6 : Vec F S1x768x2048 .bf16) (x7 : Vec F S1x256x1 .i32) (x8 : Vec F S1x1x256 .f32) (x10 : Vec F S1x256x16384 .fp8e5m2) (x11 : Vec F S1x1x256 .f32) (x12 : Vec F S256x16384 .f32) (x14 : Vec F S256x128 .f32) (x15 : Vec F S256x128 .f32) (x16 : Vec F S256x128 .f32) (x17 : Vec F S768x256 .f32) (x18 : Vec F S256x128 .f32) : Vec F S768x256 .f32 :=
  sc0_5.view.read (Elt F) (sc0_5.view.writes (Elt F) (hsc0_5.unread x17) (atC c t h x6 x7 x8 x10 x11 x12 x14 x15 x16 x17 x18).2.2.2.1)
def newC_18 (c : Dev nD) (t : Fin cfg0.N) (h : t.val % 16 = 8) (x6 : Vec F S1x768x2048 .bf16) (x7 : Vec F S1x256x1 .i32) (x8 : Vec F S1x1x256 .f32) (x10 : Vec F S1x256x16384 .fp8e5m2) (x11 : Vec F S1x1x256 .f32) (x12 : Vec F S256x16384 .f32) (x14 : Vec F S256x128 .f32) (x15 : Vec F S256x128 .f32) (x16 : Vec F S256x128 .f32) (x17 : Vec F S768x256 .f32) (x18 : Vec F S256x128 .f32) : Vec F S256x128 .f32 :=
  sc0_6.view.read (Elt F) (sc0_6.view.writes (Elt F) (hsc0_6.unread x18) (atC c t h x6 x7 x8 x10 x11 x12 x14 x15 x16 x17 x18).2.2.2.2.1)
/-- The run of case D at point `t`. -/
abbrev atD (c : Dev nD) (t : Fin cfg0.N) (h : 8 < t.val % 16 ∧ t.val % 16 < 15) (x6 : Vec F S1x768x2048 .bf16) (x7 : Vec F S1x256x1 .i32) (x10 : Vec F S1x256x16384 .fp8e5m2) (x12 : Vec F S256x16384 .f32) (x17 : Vec F S768x256 .f32) (x18 : Vec F S256x128 .f32) :=
  runD (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) sc0_0 hsc0_0 sc0_1 hsc0_1 sc0_2 hsc0_2 sc0_3 hsc0_3 sc0_4 hsc0_4 sc0_5 hsc0_5 sc0_6 hsc0_6 (fun hh => absurd ((hcond1 t).mp hh) (by omega)) (fun hh => absurd ((hcond2 t).mp hh) (by omega)) (fun hh => absurd ((hcond3 t).mp hh) (by omega)) ((hcond4 t).mpr (by omega)) (fun hh => absurd ((hcond5 t).mp hh) (by omega)) x6 x7 x10 x12 x17 x18
def newD_10 (c : Dev nD) (t : Fin cfg0.N) (h : 8 < t.val % 16 ∧ t.val % 16 < 15) (x6 : Vec F S1x768x2048 .bf16) (x7 : Vec F S1x256x1 .i32) (x10 : Vec F S1x256x16384 .fp8e5m2) (x12 : Vec F S256x16384 .f32) (x17 : Vec F S768x256 .f32) (x18 : Vec F S256x128 .f32) : Vec F S1x256x16384 .fp8e5m2 :=
  (ms0_6 t).view.read (Elt F) ((ms0_6 t).view.writes (Elt F) ((hs0_6 t).unread x10) (atD c t h x6 x7 x10 x12 x17 x18).1)
def newD_17 (c : Dev nD) (t : Fin cfg0.N) (h : 8 < t.val % 16 ∧ t.val % 16 < 15) (x6 : Vec F S1x768x2048 .bf16) (x7 : Vec F S1x256x1 .i32) (x10 : Vec F S1x256x16384 .fp8e5m2) (x12 : Vec F S256x16384 .f32) (x17 : Vec F S768x256 .f32) (x18 : Vec F S256x128 .f32) : Vec F S768x256 .f32 :=
  sc0_5.view.read (Elt F) (sc0_5.view.writes (Elt F) (hsc0_5.unread x17) (atD c t h x6 x7 x10 x12 x17 x18).2.1)
/-- The run of case E at point `t`. -/
abbrev atE (c : Dev nD) (t : Fin cfg0.N) (h : t.val % 16 = 15) (x6 : Vec F S1x768x2048 .bf16) (x7 : Vec F S1x256x1 .i32) (x9 : Vec F S1x256x768 .bf16) (x10 : Vec F S1x256x16384 .fp8e5m2) (x12 : Vec F S256x16384 .f32) (x17 : Vec F S768x256 .f32) (x18 : Vec F S256x128 .f32) :=
  runE (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) sc0_0 hsc0_0 sc0_1 hsc0_1 sc0_2 hsc0_2 sc0_3 hsc0_3 sc0_4 hsc0_4 sc0_5 hsc0_5 sc0_6 hsc0_6 (fun hh => absurd ((hcond1 t).mp hh) (by omega)) (fun hh => absurd ((hcond2 t).mp hh) (by omega)) (fun hh => absurd ((hcond3 t).mp hh) (by omega)) ((hcond4 t).mpr (by omega)) ((hcond5 t).mpr (by omega)) x6 x7 x9 x10 x12 x17 x18
def newE_9 (c : Dev nD) (t : Fin cfg0.N) (h : t.val % 16 = 15) (x6 : Vec F S1x768x2048 .bf16) (x7 : Vec F S1x256x1 .i32) (x9 : Vec F S1x256x768 .bf16) (x10 : Vec F S1x256x16384 .fp8e5m2) (x12 : Vec F S256x16384 .f32) (x17 : Vec F S768x256 .f32) (x18 : Vec F S256x128 .f32) : Vec F S1x256x768 .bf16 :=
  (ms0_5 t).view.read (Elt F) ((ms0_5 t).view.writes (Elt F) ((hs0_5 t).unread x9) (atE c t h x6 x7 x9 x10 x12 x17 x18).1)
def newE_10 (c : Dev nD) (t : Fin cfg0.N) (h : t.val % 16 = 15) (x6 : Vec F S1x768x2048 .bf16) (x7 : Vec F S1x256x1 .i32) (x9 : Vec F S1x256x768 .bf16) (x10 : Vec F S1x256x16384 .fp8e5m2) (x12 : Vec F S256x16384 .f32) (x17 : Vec F S768x256 .f32) (x18 : Vec F S256x128 .f32) : Vec F S1x256x16384 .fp8e5m2 :=
  (ms0_6 t).view.read (Elt F) ((ms0_6 t).view.writes (Elt F) ((hs0_6 t).unread x10) (atE c t h x6 x7 x9 x10 x12 x17 x18).2.1)
def newE_17 (c : Dev nD) (t : Fin cfg0.N) (h : t.val % 16 = 15) (x6 : Vec F S1x768x2048 .bf16) (x7 : Vec F S1x256x1 .i32) (x9 : Vec F S1x256x768 .bf16) (x10 : Vec F S1x256x16384 .fp8e5m2) (x12 : Vec F S256x16384 .f32) (x17 : Vec F S768x256 .f32) (x18 : Vec F S256x128 .f32) : Vec F S768x256 .f32 :=
  sc0_5.view.read (Elt F) (sc0_5.view.writes (Elt F) (hsc0_5.unread x17) (atE c t h x6 x7 x9 x10 x12 x17 x18).2.2.1)

/-! ## The specification -/

/-- What a proof says: `Inv c n` of the seven scratch buffers before point `n`; `P4` to `P7` of the four outputs' staging
    buffers after point `n`. -/
structure Spec (F : FTy → Type) where
  Inv : Dev nD → ℕ → Vec F S256x16384 .f32 → Vec F S256x768 .bf16 → Vec F S256x128 .f32 → Vec F S256x128 .f32 → Vec F S256x128 .f32 → Vec F S768x256 .f32 → Vec F S256x128 .f32 → Prop
  P4 : Dev nD → ℕ → Vec F S1x1x256 .f32 → Prop
  P5 : Dev nD → ℕ → Vec F S1x256x768 .bf16 → Prop
  P6 : Dev nD → ℕ → Vec F S1x256x16384 .fp8e5m2 → Prop
  P7 : Dev nD → ℕ → Vec F S1x1x256 .f32 → Prop

/-- Each case of the body keeps the specification. -/
structure Steps (S : Spec F) : Prop where
  init : ∀ (c : Dev nD) (s12 : Vec F S256x16384 .f32) (s13 : Vec F S256x768 .bf16) (s14 : Vec F S256x128 .f32) (s15 : Vec F S256x128 .f32) (s16 : Vec F S256x128 .f32) (s17 : Vec F S768x256 .f32) (s18 : Vec F S256x128 .f32), S.Inv c 0 s12 s13 s14 s15 s16 s17 s18
  lo4 : ∀ c n y, n % 16 < 8 → S.P4 c n y
  lo5 : ∀ c n y, n % 16 < 15 → S.P5 c n y
  lo6 : ∀ c n y, n % 16 < 8 → S.P6 c n y
  lo7 : ∀ c n y, n % 16 < 8 → S.P7 c n y
  keep4 : ∀ c n y, 8 < n % 16 → S.P4 c (n - 1) y → S.P4 c n y
  keep7 : ∀ c n y, 8 < n % 16 → S.P7 c (n - 1) y → S.P7 c n y
  stepA : ∀ (c : Dev nD) (t : Fin cfg0.N) (h : t.val % 16 = 0)  (s12 : Vec F S256x16384 .f32) (s13 : Vec F S256x768 .bf16) (s14 : Vec F S256x128 .f32) (s15 : Vec F S256x128 .f32) (s16 : Vec F S256x128 .f32) (s17 : Vec F S768x256 .f32) (s18 : Vec F S256x128 .f32), S.Inv c t.val s12 s13 s14 s15 s16 s17 s18 → S.Inv c (t.val + 1) (newA_12 c t h (iblk m c 0 t) (iblk m c 1 t) (iblk m c 2 t) (iblk m c 3 t) s12 s13 s14 s15 s16) (newA_13 c t h (iblk m c 0 t) (iblk m c 1 t) (iblk m c 2 t) (iblk m c 3 t) s12 s13 s14 s15 s16) (newA_14 c t h (iblk m c 0 t) (iblk m c 1 t) (iblk m c 2 t) (iblk m c 3 t) s12 s13 s14 s15 s16) (newA_15 c t h (iblk m c 0 t) (iblk m c 1 t) (iblk m c 2 t) (iblk m c 3 t) s12 s13 s14 s15 s16) (newA_16 c t h (iblk m c 0 t) (iblk m c 1 t) (iblk m c 2 t) (iblk m c 3 t) s12 s13 s14 s15 s16) s17 s18
  stepB : ∀ (c : Dev nD) (t : Fin cfg0.N) (h : t.val % 16 ≠ 0 ∧ t.val % 16 < 8)  (s12 : Vec F S256x16384 .f32) (s13 : Vec F S256x768 .bf16) (s14 : Vec F S256x128 .f32) (s15 : Vec F S256x128 .f32) (s16 : Vec F S256x128 .f32) (s17 : Vec F S768x256 .f32) (s18 : Vec F S256x128 .f32), S.Inv c t.val s12 s13 s14 s15 s16 s17 s18 → S.Inv c (t.val + 1) (newB_12 c t h (iblk m c 2 t) (iblk m c 3 t) s12 s13 s14 s15 s16) s13 (newB_14 c t h (iblk m c 2 t) (iblk m c 3 t) s12 s13 s14 s15 s16) (newB_15 c t h (iblk m c 2 t) (iblk m c 3 t) s12 s13 s14 s15 s16) (newB_16 c t h (iblk m c 2 t) (iblk m c 3 t) s12 s13 s14 s15 s16) s17 s18
  stepC : ∀ (c : Dev nD) (t : Fin cfg0.N) (h : t.val % 16 = 8) (y8 : Vec F S1x1x256 .f32) (y10 : Vec F S1x256x16384 .fp8e5m2) (y11 : Vec F S1x1x256 .f32) (s12 : Vec F S256x16384 .f32) (s13 : Vec F S256x768 .bf16) (s14 : Vec F S256x128 .f32) (s15 : Vec F S256x128 .f32) (s16 : Vec F S256x128 .f32) (s17 : Vec F S768x256 .f32) (s18 : Vec F S256x128 .f32), S.Inv c t.val s12 s13 s14 s15 s16 s17 s18 → S.Inv c (t.val + 1) s12 s13 s14 s15 s16 (newC_17 c t h (iblk m c 2 t) (iblk m c 3 t) y8 y10 y11 s12 s14 s15 s16 s17 s18) (newC_18 c t h (iblk m c 2 t) (iblk m c 3 t) y8 y10 y11 s12 s14 s15 s16 s17 s18) ∧ S.P4 c t.val (newC_8 c t h (iblk m c 2 t) (iblk m c 3 t) y8 y10 y11 s12 s14 s15 s16 s17 s18) ∧ S.P6 c t.val (newC_10 c t h (iblk m c 2 t) (iblk m c 3 t) y8 y10 y11 s12 s14 s15 s16 s17 s18) ∧ S.P7 c t.val (newC_11 c t h (iblk m c 2 t) (iblk m c 3 t) y8 y10 y11 s12 s14 s15 s16 s17 s18)
  stepD : ∀ (c : Dev nD) (t : Fin cfg0.N) (h : 8 < t.val % 16 ∧ t.val % 16 < 15) (y10 : Vec F S1x256x16384 .fp8e5m2) (s12 : Vec F S256x16384 .f32) (s13 : Vec F S256x768 .bf16) (s14 : Vec F S256x128 .f32) (s15 : Vec F S256x128 .f32) (s16 : Vec F S256x128 .f32) (s17 : Vec F S768x256 .f32) (s18 : Vec F S256x128 .f32), S.Inv c t.val s12 s13 s14 s15 s16 s17 s18 → S.P6 c (t.val - 1) y10 → S.Inv c (t.val + 1) s12 s13 s14 s15 s16 (newD_17 c t h (iblk m c 2 t) (iblk m c 3 t) y10 s12 s17 s18) s18 ∧ S.P6 c t.val (newD_10 c t h (iblk m c 2 t) (iblk m c 3 t) y10 s12 s17 s18)
  stepE : ∀ (c : Dev nD) (t : Fin cfg0.N) (h : t.val % 16 = 15) (y9 : Vec F S1x256x768 .bf16) (y10 : Vec F S1x256x16384 .fp8e5m2) (s12 : Vec F S256x16384 .f32) (s13 : Vec F S256x768 .bf16) (s14 : Vec F S256x128 .f32) (s15 : Vec F S256x128 .f32) (s16 : Vec F S256x128 .f32) (s17 : Vec F S768x256 .f32) (s18 : Vec F S256x128 .f32), S.Inv c t.val s12 s13 s14 s15 s16 s17 s18 → S.P6 c (t.val - 1) y10 → S.Inv c (t.val + 1) s12 s13 s14 s15 s16 (newE_17 c t h (iblk m c 2 t) (iblk m c 3 t) y9 y10 s12 s17 s18) s18 ∧ S.P5 c t.val (newE_9 c t h (iblk m c 2 t) (iblk m c 3 t) y9 y10 s12 s17 s18) ∧ S.P6 c t.val (newE_10 c t h (iblk m c 2 t) (iblk m c 3 t) y9 y10 s12 s17 s18)

/-- The invariant before point `n`: the scratch buffers at contents of which `Inv` holds, and the generator register. -/
def Phi (S : Spec F) (c : Dev nD) (n : ℕ) : sProp 𝕄 :=
  iprop(∃ (s12 : Vec F S256x16384 .f32), ∃ (s13 : Vec F S256x768 .bf16), ∃ (s14 : Vec F S256x128 .f32), ∃ (s15 : Vec F S256x128 .f32), ∃ (s16 : Vec F S256x128 .f32), ∃ (s17 : Vec F S768x256 .f32), ∃ (s18 : Vec F S256x128 .f32), ⌜S.Inv c n s12 s13 s14 s15 s16 s17 s18⌝ ∗ owns (c : Thread nD τ) sc0_0 fullShare s12 ∗ owns (c : Thread nD τ) sc0_1 fullShare s13 ∗ owns (c : Thread nD τ) sc0_2 fullShare s14 ∗ owns (c : Thread nD τ) sc0_3 fullShare s15 ∗ owns (c : Thread nD τ) sc0_4 fullShare s16 ∗ owns (c : Thread nD τ) sc0_5 fullShare s17 ∗ owns (c : Thread nD τ) sc0_6 fullShare s18 ∗ (∃ r, prngReg c r))

/-- The proof's data: the arrays as the region finds them, the inputs kept, the outputs as the specification says. -/
def rdat (S : Spec F) (c : Dev nD) : RDat τ (Elt F) Unit ℕ (UR sig nD τ) ℕ cfg0 c where
  A w := V m c (Pipeline.arrRef spec0 w)
  after w t := match w with
    | ⟨0, _⟩ => fun Y X => X = Y
    | ⟨1, _⟩ => fun Y X => X = Y
    | ⟨2, _⟩ => fun Y X => X = Y
    | ⟨3, _⟩ => fun Y X => X = Y
    | ⟨4, _⟩ => fun _ X => S.P4 c t.val X
    | ⟨5, _⟩ => fun _ X => S.P5 c t.val X
    | ⟨6, _⟩ => fun _ X => S.P6 c t.val X
    | ⟨7, _⟩ => fun _ X => S.P7 c t.val X
  Φ t := Phi S c t.val
  q _ := fullShare
  owed _ := 0

variable {m}

theorem finds0 {S : Spec F} {c : Dev nD} {t : Fin cfg0.N} {Y} (h : (rdat m S c).Finds 0 t Y) : Y = iblk m c 0 t := by
  obtain ⟨d, rfl⟩ := (rdat m S c).finds_in_eq_fetched 0 rfl (fun _ _ _ => rfl) (fun _ _ _ h => h) t Y h
  rfl

theorem finds1 {S : Spec F} {c : Dev nD} {t : Fin cfg0.N} {Y} (h : (rdat m S c).Finds 1 t Y) : Y = iblk m c 1 t := by
  obtain ⟨d, rfl⟩ := (rdat m S c).finds_in_eq_fetched 1 rfl (fun _ _ _ => rfl) (fun _ _ _ h => h) t Y h
  rfl

theorem finds2 {S : Spec F} {c : Dev nD} {t : Fin cfg0.N} {Y} (h : (rdat m S c).Finds 2 t Y) : Y = iblk m c 2 t := by
  obtain ⟨d, rfl⟩ := (rdat m S c).finds_in_eq_fetched 2 rfl (fun _ _ _ => rfl) (fun _ _ _ h => h) t Y h
  rfl

theorem finds3 {S : Spec F} {c : Dev nD} {t : Fin cfg0.N} {Y} (h : (rdat m S c).Finds 3 t Y) : Y = iblk m c 3 t := by
  obtain ⟨d, rfl⟩ := (rdat m S c).finds_in_eq_fetched 3 rfl (fun _ _ _ => rfl) (fun _ _ _ h => h) t Y h
  rfl

theorem finds6 {S : Spec F} {c : Dev nD} {t : Fin cfg0.N} {Y} (h : (rdat m S c).Finds 6 t Y) (ht : t.val % 16 ≠ 0) : S.P6 c (t.val - 1) Y := by
  have hf : (cfg0.win 6).fetch t = false := rfl
  rcases ((rdat m S c).finds_of_pos hf (by omega) Y).mp h with hfl | ⟨Y', _, hR⟩
  · exact absurd ((flush0_6 _).mp hfl) (by show ¬ (t.val - 1) % 16 = 15; omega)
  · exact hR

theorem finds4 {S : Spec F} {c : Dev nD} {t : Fin cfg0.N} {Y} (h : (rdat m S c).Finds 4 t Y) (ht : t.val % 16 ≠ 0) : S.P4 c (t.val - 1) Y := by
  have hf : (cfg0.win 4).fetch t = false := rfl
  rcases ((rdat m S c).finds_of_pos hf (by omega) Y).mp h with hfl | ⟨Y', _, hR⟩
  · exact absurd ((flush0_4 _).mp hfl) (by show ¬ (t.val - 1) % 16 = 15; omega)
  · exact hR

theorem finds7 {S : Spec F} {c : Dev nD} {t : Fin cfg0.N} {Y} (h : (rdat m S c).Finds 7 t Y) (ht : t.val % 16 ≠ 0) : S.P7 c (t.val - 1) Y := by
  have hf : (cfg0.win 7).fetch t = false := rfl
  rcases ((rdat m S c).finds_of_pos hf (by omega) Y).mp h with hfl | ⟨Y', _, hR⟩
  · exact absurd ((flush0_7 _).mp hfl) (by show ¬ (t.val - 1) % 16 = 15; omega)
  · exact hR

set_option maxHeartbeats 3200000 in
/-- The body at a point of case A. -/
theorem bodyA {S : Spec F} (hS : Steps m S) (c : Dev nD) (t : Fin cfg0.N) (h : t.val % 16 = 0) (y8 : Vec F S1x1x256 .f32) (y9 : Vec F S1x256x768 .bf16) (y10 : Vec F S1x256x16384 .fp8e5m2) (y11 : Vec F S1x1x256 .f32)  :
    iprop(Phi S c t.val ∗ (rdat m S c).owesAt () t.castSucc ∗ owns (c : Thread nD τ) (ms0_0 t) fullShare (iblk m c 0 t) ∗ owns (c : Thread nD τ) (ms0_1 t) fullShare (iblk m c 1 t) ∗ owns (c : Thread nD τ) (ms0_2 t) fullShare (iblk m c 2 t) ∗ owns (c : Thread nD τ) (ms0_3 t) fullShare (iblk m c 3 t) ∗ owns (c : Thread nD τ) (ms0_4 t) fullShare y8 ∗ owns (c : Thread nD τ) (ms0_5 t) fullShare y9 ∗ owns (c : Thread nD τ) (ms0_6 t) fullShare y10 ∗ owns (c : Thread nD τ) (ms0_7 t) fullShare y11)
      ⊢ wp frame (wpE (defs₀ (F := F)) Variants.none c none) Set.univ (bodyAt0 t) (fun _ => iprop(Phi S c (t.val + 1) ∗ (rdat m S c).owesAt () t.castSucc ∗ (∃ X, ⌜X = iblk m c 0 t⌝ ∗ owns (c : Thread nD τ) (ms0_0 t) fullShare X) ∗ (∃ X, ⌜X = iblk m c 1 t⌝ ∗ owns (c : Thread nD τ) (ms0_1 t) fullShare X) ∗ (∃ X, ⌜X = iblk m c 2 t⌝ ∗ owns (c : Thread nD τ) (ms0_2 t) fullShare X) ∗ (∃ X, ⌜X = iblk m c 3 t⌝ ∗ owns (c : Thread nD τ) (ms0_3 t) fullShare X) ∗ (∃ X, ⌜S.P4 c t.val X⌝ ∗ owns (c : Thread nD τ) (ms0_4 t) fullShare X) ∗ (∃ X, ⌜S.P5 c t.val X⌝ ∗ owns (c : Thread nD τ) (ms0_5 t) fullShare X) ∗ (∃ X, ⌜S.P6 c t.val X⌝ ∗ owns (c : Thread nD τ) (ms0_6 t) fullShare X) ∗ (∃ X, ⌜S.P7 c t.val X⌝ ∗ owns (c : Thread nD τ) (ms0_7 t) fullShare X))) := by
  unfold Phi bodyAt0
  iintro ⟨⟨%s12, %s13, %s14, %s15, %s16, %s17, %s18, %hI, H12, H13, H14, H15, H16, H17, H18, Hg⟩, Ho, H4, H5, H6, H7, H8, H9, H10, H11⟩
  have hI2 := hS.stepA c t h  s12 s13 s14 s15 s16 s17 s18 hI
  iapply ((atA c t h (iblk m c 0 t) (iblk m c 1 t) (iblk m c 2 t) (iblk m c 3 t) s12 s13 s14 s15 s16).2.2.2.2.2 Set.univ _)
  isplitl [H4]; · iexact H4
  isplitl [H5]; · iexact H5
  isplitl [H6]; · iexact H6
  isplitl [H7]; · iexact H7
  isplitl [H12]; · iexact H12
  isplitl [H13]; · iexact H13
  isplitl [H14]; · iexact H14
  isplitl [H15]; · iexact H15
  isplitl [H16]; · iexact H16
  iintro ⟨K4, K5, K6, K7, K12, K13, K14, K15, K16⟩
  isplitl [K12 K13 K14 K15 K16 H17 H18 Hg]
  · iexists (newA_12 c t h (iblk m c 0 t) (iblk m c 1 t) (iblk m c 2 t) (iblk m c 3 t) s12 s13 s14 s15 s16), (newA_13 c t h (iblk m c 0 t) (iblk m c 1 t) (iblk m c 2 t) (iblk m c 3 t) s12 s13 s14 s15 s16), (newA_14 c t h (iblk m c 0 t) (iblk m c 1 t) (iblk m c 2 t) (iblk m c 3 t) s12 s13 s14 s15 s16), (newA_15 c t h (iblk m c 0 t) (iblk m c 1 t) (iblk m c 2 t) (iblk m c 3 t) s12 s13 s14 s15 s16), (newA_16 c t h (iblk m c 0 t) (iblk m c 1 t) (iblk m c 2 t) (iblk m c 3 t) s12 s13 s14 s15 s16), s17, s18
    isplitr; · ipureintro; exact hI2
    isplitl [K12]
    · unfold owns; iexists _; isplitr; · ipureintro; exact rfl
      iexact K12
    isplitl [K13]
    · unfold owns; iexists _; isplitr; · ipureintro; exact rfl
      iexact K13
    isplitl [K14]
    · unfold owns; iexists _; isplitr; · ipureintro; exact rfl
      iexact K14
    isplitl [K15]
    · unfold owns; iexists _; isplitr; · ipureintro; exact rfl
      iexact K15
    isplitl [K16]
    · unfold owns; iexists _; isplitr; · ipureintro; exact rfl
      iexact K16
    isplitl [H17]
    · iexact H17
    isplitl [H18]
    · iexact H18
    iexact Hg
  isplitl [Ho]; · iexact Ho
  isplitl [K4]
  · iexists (iblk m c 0 t); isplitr; · ipureintro; exact rfl
    iexact K4
  isplitl [K5]
  · iexists (iblk m c 1 t); isplitr; · ipureintro; exact rfl
    iexact K5
  isplitl [K6]
  · iexists (iblk m c 2 t); isplitr; · ipureintro; exact rfl
    iexact K6
  isplitl [K7]
  · iexists (iblk m c 3 t); isplitr; · ipureintro; exact rfl
    iexact K7
  isplitl [H8]
  · iexists y8
    isplitr
    · ipureintro; exact hS.lo4 c t.val y8 (by omega)
    iexact H8
  isplitl [H9]
  · iexists y9
    isplitr
    · ipureintro; exact hS.lo5 c t.val y9 (by omega)
    iexact H9
  isplitl [H10]
  · iexists y10
    isplitr
    · ipureintro; exact hS.lo6 c t.val y10 (by omega)
    iexact H10
  iexists y11
  isplitr
  · ipureintro; exact hS.lo7 c t.val y11 (by omega)
  iexact H11

set_option maxHeartbeats 3200000 in
/-- The body at a point of case B. -/
theorem bodyB {S : Spec F} (hS : Steps m S) (c : Dev nD) (t : Fin cfg0.N) (h : t.val % 16 ≠ 0 ∧ t.val % 16 < 8) (y8 : Vec F S1x1x256 .f32) (y9 : Vec F S1x256x768 .bf16) (y10 : Vec F S1x256x16384 .fp8e5m2) (y11 : Vec F S1x1x256 .f32)  :
    iprop(Phi S c t.val ∗ (rdat m S c).owesAt () t.castSucc ∗ owns (c : Thread nD τ) (ms0_0 t) fullShare (iblk m c 0 t) ∗ owns (c : Thread nD τ) (ms0_1 t) fullShare (iblk m c 1 t) ∗ owns (c : Thread nD τ) (ms0_2 t) fullShare (iblk m c 2 t) ∗ owns (c : Thread nD τ) (ms0_3 t) fullShare (iblk m c 3 t) ∗ owns (c : Thread nD τ) (ms0_4 t) fullShare y8 ∗ owns (c : Thread nD τ) (ms0_5 t) fullShare y9 ∗ owns (c : Thread nD τ) (ms0_6 t) fullShare y10 ∗ owns (c : Thread nD τ) (ms0_7 t) fullShare y11)
      ⊢ wp frame (wpE (defs₀ (F := F)) Variants.none c none) Set.univ (bodyAt0 t) (fun _ => iprop(Phi S c (t.val + 1) ∗ (rdat m S c).owesAt () t.castSucc ∗ (∃ X, ⌜X = iblk m c 0 t⌝ ∗ owns (c : Thread nD τ) (ms0_0 t) fullShare X) ∗ (∃ X, ⌜X = iblk m c 1 t⌝ ∗ owns (c : Thread nD τ) (ms0_1 t) fullShare X) ∗ (∃ X, ⌜X = iblk m c 2 t⌝ ∗ owns (c : Thread nD τ) (ms0_2 t) fullShare X) ∗ (∃ X, ⌜X = iblk m c 3 t⌝ ∗ owns (c : Thread nD τ) (ms0_3 t) fullShare X) ∗ (∃ X, ⌜S.P4 c t.val X⌝ ∗ owns (c : Thread nD τ) (ms0_4 t) fullShare X) ∗ (∃ X, ⌜S.P5 c t.val X⌝ ∗ owns (c : Thread nD τ) (ms0_5 t) fullShare X) ∗ (∃ X, ⌜S.P6 c t.val X⌝ ∗ owns (c : Thread nD τ) (ms0_6 t) fullShare X) ∗ (∃ X, ⌜S.P7 c t.val X⌝ ∗ owns (c : Thread nD τ) (ms0_7 t) fullShare X))) := by
  unfold Phi bodyAt0
  iintro ⟨⟨%s12, %s13, %s14, %s15, %s16, %s17, %s18, %hI, H12, H13, H14, H15, H16, H17, H18, Hg⟩, Ho, H4, H5, H6, H7, H8, H9, H10, H11⟩
  have hI2 := hS.stepB c t h  s12 s13 s14 s15 s16 s17 s18 hI
  iapply ((atB c t h (iblk m c 2 t) (iblk m c 3 t) s12 s13 s14 s15 s16).2.2.2.2 Set.univ _)
  isplitl [H6]; · iexact H6
  isplitl [H7]; · iexact H7
  isplitl [H12]; · iexact H12
  isplitl [H13]; · iexact H13
  isplitl [H14]; · iexact H14
  isplitl [H15]; · iexact H15
  isplitl [H16]; · iexact H16
  iintro ⟨K6, K7, K12, K13, K14, K15, K16⟩
  isplitl [K12 K13 K14 K15 K16 H17 H18 Hg]
  · iexists (newB_12 c t h (iblk m c 2 t) (iblk m c 3 t) s12 s13 s14 s15 s16), s13, (newB_14 c t h (iblk m c 2 t) (iblk m c 3 t) s12 s13 s14 s15 s16), (newB_15 c t h (iblk m c 2 t) (iblk m c 3 t) s12 s13 s14 s15 s16), (newB_16 c t h (iblk m c 2 t) (iblk m c 3 t) s12 s13 s14 s15 s16), s17, s18
    isplitr; · ipureintro; exact hI2
    isplitl [K12]
    · unfold owns; iexists _; isplitr; · ipureintro; exact rfl
      iexact K12
    isplitl [K13]
    · iexact K13
    isplitl [K14]
    · unfold owns; iexists _; isplitr; · ipureintro; exact rfl
      iexact K14
    isplitl [K15]
    · unfold owns; iexists _; isplitr; · ipureintro; exact rfl
      iexact K15
    isplitl [K16]
    · unfold owns; iexists _; isplitr; · ipureintro; exact rfl
      iexact K16
    isplitl [H17]
    · iexact H17
    isplitl [H18]
    · iexact H18
    iexact Hg
  isplitl [Ho]; · iexact Ho
  isplitl [H4]
  · iexists (iblk m c 0 t); isplitr; · ipureintro; exact rfl
    iexact H4
  isplitl [H5]
  · iexists (iblk m c 1 t); isplitr; · ipureintro; exact rfl
    iexact H5
  isplitl [K6]
  · iexists (iblk m c 2 t); isplitr; · ipureintro; exact rfl
    iexact K6
  isplitl [K7]
  · iexists (iblk m c 3 t); isplitr; · ipureintro; exact rfl
    iexact K7
  isplitl [H8]
  · iexists y8
    isplitr
    · ipureintro; exact hS.lo4 c t.val y8 (by omega)
    iexact H8
  isplitl [H9]
  · iexists y9
    isplitr
    · ipureintro; exact hS.lo5 c t.val y9 (by omega)
    iexact H9
  isplitl [H10]
  · iexists y10
    isplitr
    · ipureintro; exact hS.lo6 c t.val y10 (by omega)
    iexact H10
  iexists y11
  isplitr
  · ipureintro; exact hS.lo7 c t.val y11 (by omega)
  iexact H11

set_option maxHeartbeats 3200000 in
/-- The body at a point of case C. -/
theorem bodyC {S : Spec F} (hS : Steps m S) (c : Dev nD) (t : Fin cfg0.N) (h : t.val % 16 = 8) (y8 : Vec F S1x1x256 .f32) (y9 : Vec F S1x256x768 .bf16) (y10 : Vec F S1x256x16384 .fp8e5m2) (y11 : Vec F S1x1x256 .f32)  :
    iprop(Phi S c t.val ∗ (rdat m S c).owesAt () t.castSucc ∗ owns (c : Thread nD τ) (ms0_0 t) fullShare (iblk m c 0 t) ∗ owns (c : Thread nD τ) (ms0_1 t) fullShare (iblk m c 1 t) ∗ owns (c : Thread nD τ) (ms0_2 t) fullShare (iblk m c 2 t) ∗ owns (c : Thread nD τ) (ms0_3 t) fullShare (iblk m c 3 t) ∗ owns (c : Thread nD τ) (ms0_4 t) fullShare y8 ∗ owns (c : Thread nD τ) (ms0_5 t) fullShare y9 ∗ owns (c : Thread nD τ) (ms0_6 t) fullShare y10 ∗ owns (c : Thread nD τ) (ms0_7 t) fullShare y11)
      ⊢ wp frame (wpE (defs₀ (F := F)) Variants.none c none) Set.univ (bodyAt0 t) (fun _ => iprop(Phi S c (t.val + 1) ∗ (rdat m S c).owesAt () t.castSucc ∗ (∃ X, ⌜X = iblk m c 0 t⌝ ∗ owns (c : Thread nD τ) (ms0_0 t) fullShare X) ∗ (∃ X, ⌜X = iblk m c 1 t⌝ ∗ owns (c : Thread nD τ) (ms0_1 t) fullShare X) ∗ (∃ X, ⌜X = iblk m c 2 t⌝ ∗ owns (c : Thread nD τ) (ms0_2 t) fullShare X) ∗ (∃ X, ⌜X = iblk m c 3 t⌝ ∗ owns (c : Thread nD τ) (ms0_3 t) fullShare X) ∗ (∃ X, ⌜S.P4 c t.val X⌝ ∗ owns (c : Thread nD τ) (ms0_4 t) fullShare X) ∗ (∃ X, ⌜S.P5 c t.val X⌝ ∗ owns (c : Thread nD τ) (ms0_5 t) fullShare X) ∗ (∃ X, ⌜S.P6 c t.val X⌝ ∗ owns (c : Thread nD τ) (ms0_6 t) fullShare X) ∗ (∃ X, ⌜S.P7 c t.val X⌝ ∗ owns (c : Thread nD τ) (ms0_7 t) fullShare X))) := by
  unfold Phi bodyAt0
  iintro ⟨⟨%s12, %s13, %s14, %s15, %s16, %s17, %s18, %hI, H12, H13, H14, H15, H16, H17, H18, Hg⟩, Ho, H4, H5, H6, H7, H8, H9, H10, H11⟩
  have hall := hS.stepC c t h y8 y10 y11 s12 s13 s14 s15 s16 s17 s18 hI
  obtain ⟨hI2, hP4, hP6, hP7⟩ := hall
  iapply ((atC c t h (iblk m c 2 t) (iblk m c 3 t) y8 y10 y11 s12 s14 s15 s16 s17 s18).2.2.2.2.2 Set.univ _)
  isplitl [H6]; · iexact H6
  isplitl [H7]; · iexact H7
  isplitl [H8]; · iexact H8
  isplitl [H10]; · iexact H10
  isplitl [H11]; · iexact H11
  isplitl [H12]; · iexact H12
  isplitl [H14]; · iexact H14
  isplitl [H15]; · iexact H15
  isplitl [H16]; · iexact H16
  isplitl [H17]; · iexact H17
  isplitl [H18]; · iexact H18
  iintro ⟨K6, K7, K8, K10, K11, K12, K14, K15, K16, K17, K18⟩
  isplitl [K12 H13 K14 K15 K16 K17 K18 Hg]
  · iexists s12, s13, s14, s15, s16, (newC_17 c t h (iblk m c 2 t) (iblk m c 3 t) y8 y10 y11 s12 s14 s15 s16 s17 s18), (newC_18 c t h (iblk m c 2 t) (iblk m c 3 t) y8 y10 y11 s12 s14 s15 s16 s17 s18)
    isplitr; · ipureintro; exact hI2
    isplitl [K12]
    · iexact K12
    isplitl [H13]
    · iexact H13
    isplitl [K14]
    · iexact K14
    isplitl [K15]
    · iexact K15
    isplitl [K16]
    · iexact K16
    isplitl [K17]
    · unfold owns; iexists _; isplitr; · ipureintro; exact rfl
      iexact K17
    isplitl [K18]
    · unfold owns; iexists _; isplitr; · ipureintro; exact rfl
      iexact K18
    iexact Hg
  isplitl [Ho]; · iexact Ho
  isplitl [H4]
  · iexists (iblk m c 0 t); isplitr; · ipureintro; exact rfl
    iexact H4
  isplitl [H5]
  · iexists (iblk m c 1 t); isplitr; · ipureintro; exact rfl
    iexact H5
  isplitl [K6]
  · iexists (iblk m c 2 t); isplitr; · ipureintro; exact rfl
    iexact K6
  isplitl [K7]
  · iexists (iblk m c 3 t); isplitr; · ipureintro; exact rfl
    iexact K7
  isplitl [K8]
  · iexists (newC_8 c t h (iblk m c 2 t) (iblk m c 3 t) y8 y10 y11 s12 s14 s15 s16 s17 s18)
    isplitr
    · ipureintro; exact hP4
    unfold owns; iexists _; isplitr; · ipureintro; exact rfl
    iexact K8
  isplitl [H9]
  · iexists y9
    isplitr
    · ipureintro; exact hS.lo5 c t.val y9 (by omega)
    iexact H9
  isplitl [K10]
  · iexists (newC_10 c t h (iblk m c 2 t) (iblk m c 3 t) y8 y10 y11 s12 s14 s15 s16 s17 s18)
    isplitr
    · ipureintro; exact hP6
    unfold owns; iexists _; isplitr; · ipureintro; exact rfl
    iexact K10
  iexists (newC_11 c t h (iblk m c 2 t) (iblk m c 3 t) y8 y10 y11 s12 s14 s15 s16 s17 s18)
  isplitr
  · ipureintro; exact hP7
  unfold owns; iexists _; isplitr; · ipureintro; exact rfl
  iexact K11

set_option maxHeartbeats 3200000 in
/-- The body at a point of case D. -/
theorem bodyD {S : Spec F} (hS : Steps m S) (c : Dev nD) (t : Fin cfg0.N) (h : 8 < t.val % 16 ∧ t.val % 16 < 15) (y8 : Vec F S1x1x256 .f32) (y9 : Vec F S1x256x768 .bf16) (y10 : Vec F S1x256x16384 .fp8e5m2) (y11 : Vec F S1x1x256 .f32) (h6 : S.P6 c (t.val - 1) y10) (h4 : S.P4 c (t.val - 1) y8) (h7 : S.P7 c (t.val - 1) y11) :
    iprop(Phi S c t.val ∗ (rdat m S c).owesAt () t.castSucc ∗ owns (c : Thread nD τ) (ms0_0 t) fullShare (iblk m c 0 t) ∗ owns (c : Thread nD τ) (ms0_1 t) fullShare (iblk m c 1 t) ∗ owns (c : Thread nD τ) (ms0_2 t) fullShare (iblk m c 2 t) ∗ owns (c : Thread nD τ) (ms0_3 t) fullShare (iblk m c 3 t) ∗ owns (c : Thread nD τ) (ms0_4 t) fullShare y8 ∗ owns (c : Thread nD τ) (ms0_5 t) fullShare y9 ∗ owns (c : Thread nD τ) (ms0_6 t) fullShare y10 ∗ owns (c : Thread nD τ) (ms0_7 t) fullShare y11)
      ⊢ wp frame (wpE (defs₀ (F := F)) Variants.none c none) Set.univ (bodyAt0 t) (fun _ => iprop(Phi S c (t.val + 1) ∗ (rdat m S c).owesAt () t.castSucc ∗ (∃ X, ⌜X = iblk m c 0 t⌝ ∗ owns (c : Thread nD τ) (ms0_0 t) fullShare X) ∗ (∃ X, ⌜X = iblk m c 1 t⌝ ∗ owns (c : Thread nD τ) (ms0_1 t) fullShare X) ∗ (∃ X, ⌜X = iblk m c 2 t⌝ ∗ owns (c : Thread nD τ) (ms0_2 t) fullShare X) ∗ (∃ X, ⌜X = iblk m c 3 t⌝ ∗ owns (c : Thread nD τ) (ms0_3 t) fullShare X) ∗ (∃ X, ⌜S.P4 c t.val X⌝ ∗ owns (c : Thread nD τ) (ms0_4 t) fullShare X) ∗ (∃ X, ⌜S.P5 c t.val X⌝ ∗ owns (c : Thread nD τ) (ms0_5 t) fullShare X) ∗ (∃ X, ⌜S.P6 c t.val X⌝ ∗ owns (c : Thread nD τ) (ms0_6 t) fullShare X) ∗ (∃ X, ⌜S.P7 c t.val X⌝ ∗ owns (c : Thread nD τ) (ms0_7 t) fullShare X))) := by
  unfold Phi bodyAt0
  iintro ⟨⟨%s12, %s13, %s14, %s15, %s16, %s17, %s18, %hI, H12, H13, H14, H15, H16, H17, H18, Hg⟩, Ho, H4, H5, H6, H7, H8, H9, H10, H11⟩
  have hall := hS.stepD c t h y10 s12 s13 s14 s15 s16 s17 s18 hI h6
  obtain ⟨hI2, hP6⟩ := hall
  iapply ((atD c t h (iblk m c 2 t) (iblk m c 3 t) y10 s12 s17 s18).2.2 Set.univ _)
  isplitl [H6]; · iexact H6
  isplitl [H7]; · iexact H7
  isplitl [H10]; · iexact H10
  isplitl [H12]; · iexact H12
  isplitl [H17]; · iexact H17
  isplitl [H18]; · iexact H18
  iintro ⟨K6, K7, K10, K12, K17, K18⟩
  isplitl [K12 H13 H14 H15 H16 K17 K18 Hg]
  · iexists s12, s13, s14, s15, s16, (newD_17 c t h (iblk m c 2 t) (iblk m c 3 t) y10 s12 s17 s18), s18
    isplitr; · ipureintro; exact hI2
    isplitl [K12]
    · iexact K12
    isplitl [H13]
    · iexact H13
    isplitl [H14]
    · iexact H14
    isplitl [H15]
    · iexact H15
    isplitl [H16]
    · iexact H16
    isplitl [K17]
    · unfold owns; iexists _; isplitr; · ipureintro; exact rfl
      iexact K17
    isplitl [K18]
    · iexact K18
    iexact Hg
  isplitl [Ho]; · iexact Ho
  isplitl [H4]
  · iexists (iblk m c 0 t); isplitr; · ipureintro; exact rfl
    iexact H4
  isplitl [H5]
  · iexists (iblk m c 1 t); isplitr; · ipureintro; exact rfl
    iexact H5
  isplitl [K6]
  · iexists (iblk m c 2 t); isplitr; · ipureintro; exact rfl
    iexact K6
  isplitl [K7]
  · iexists (iblk m c 3 t); isplitr; · ipureintro; exact rfl
    iexact K7
  isplitl [H8]
  · iexists y8
    isplitr
    · ipureintro; exact hS.keep4 c t.val y8 (by omega) h4
    iexact H8
  isplitl [H9]
  · iexists y9
    isplitr
    · ipureintro; exact hS.lo5 c t.val y9 (by omega)
    iexact H9
  isplitl [K10]
  · iexists (newD_10 c t h (iblk m c 2 t) (iblk m c 3 t) y10 s12 s17 s18)
    isplitr
    · ipureintro; exact hP6
    unfold owns; iexists _; isplitr; · ipureintro; exact rfl
    iexact K10
  iexists y11
  isplitr
  · ipureintro; exact hS.keep7 c t.val y11 (by omega) h7
  iexact H11

set_option maxHeartbeats 3200000 in
/-- The body at a point of case E. -/
theorem bodyE {S : Spec F} (hS : Steps m S) (c : Dev nD) (t : Fin cfg0.N) (h : t.val % 16 = 15) (y8 : Vec F S1x1x256 .f32) (y9 : Vec F S1x256x768 .bf16) (y10 : Vec F S1x256x16384 .fp8e5m2) (y11 : Vec F S1x1x256 .f32) (h6 : S.P6 c (t.val - 1) y10) (h4 : S.P4 c (t.val - 1) y8) (h7 : S.P7 c (t.val - 1) y11) :
    iprop(Phi S c t.val ∗ (rdat m S c).owesAt () t.castSucc ∗ owns (c : Thread nD τ) (ms0_0 t) fullShare (iblk m c 0 t) ∗ owns (c : Thread nD τ) (ms0_1 t) fullShare (iblk m c 1 t) ∗ owns (c : Thread nD τ) (ms0_2 t) fullShare (iblk m c 2 t) ∗ owns (c : Thread nD τ) (ms0_3 t) fullShare (iblk m c 3 t) ∗ owns (c : Thread nD τ) (ms0_4 t) fullShare y8 ∗ owns (c : Thread nD τ) (ms0_5 t) fullShare y9 ∗ owns (c : Thread nD τ) (ms0_6 t) fullShare y10 ∗ owns (c : Thread nD τ) (ms0_7 t) fullShare y11)
      ⊢ wp frame (wpE (defs₀ (F := F)) Variants.none c none) Set.univ (bodyAt0 t) (fun _ => iprop(Phi S c (t.val + 1) ∗ (rdat m S c).owesAt () t.castSucc ∗ (∃ X, ⌜X = iblk m c 0 t⌝ ∗ owns (c : Thread nD τ) (ms0_0 t) fullShare X) ∗ (∃ X, ⌜X = iblk m c 1 t⌝ ∗ owns (c : Thread nD τ) (ms0_1 t) fullShare X) ∗ (∃ X, ⌜X = iblk m c 2 t⌝ ∗ owns (c : Thread nD τ) (ms0_2 t) fullShare X) ∗ (∃ X, ⌜X = iblk m c 3 t⌝ ∗ owns (c : Thread nD τ) (ms0_3 t) fullShare X) ∗ (∃ X, ⌜S.P4 c t.val X⌝ ∗ owns (c : Thread nD τ) (ms0_4 t) fullShare X) ∗ (∃ X, ⌜S.P5 c t.val X⌝ ∗ owns (c : Thread nD τ) (ms0_5 t) fullShare X) ∗ (∃ X, ⌜S.P6 c t.val X⌝ ∗ owns (c : Thread nD τ) (ms0_6 t) fullShare X) ∗ (∃ X, ⌜S.P7 c t.val X⌝ ∗ owns (c : Thread nD τ) (ms0_7 t) fullShare X))) := by
  unfold Phi bodyAt0
  iintro ⟨⟨%s12, %s13, %s14, %s15, %s16, %s17, %s18, %hI, H12, H13, H14, H15, H16, H17, H18, Hg⟩, Ho, H4, H5, H6, H7, H8, H9, H10, H11⟩
  have hall := hS.stepE c t h y9 y10 s12 s13 s14 s15 s16 s17 s18 hI h6
  obtain ⟨hI2, hP5, hP6⟩ := hall
  iapply ((atE c t h (iblk m c 2 t) (iblk m c 3 t) y9 y10 s12 s17 s18).2.2.2 Set.univ _)
  isplitl [H6]; · iexact H6
  isplitl [H7]; · iexact H7
  isplitl [H9]; · iexact H9
  isplitl [H10]; · iexact H10
  isplitl [H12]; · iexact H12
  isplitl [H17]; · iexact H17
  isplitl [H18]; · iexact H18
  iintro ⟨K6, K7, K9, K10, K12, K17, K18⟩
  isplitl [K12 H13 H14 H15 H16 K17 K18 Hg]
  · iexists s12, s13, s14, s15, s16, (newE_17 c t h (iblk m c 2 t) (iblk m c 3 t) y9 y10 s12 s17 s18), s18
    isplitr; · ipureintro; exact hI2
    isplitl [K12]
    · iexact K12
    isplitl [H13]
    · iexact H13
    isplitl [H14]
    · iexact H14
    isplitl [H15]
    · iexact H15
    isplitl [H16]
    · iexact H16
    isplitl [K17]
    · unfold owns; iexists _; isplitr; · ipureintro; exact rfl
      iexact K17
    isplitl [K18]
    · iexact K18
    iexact Hg
  isplitl [Ho]; · iexact Ho
  isplitl [H4]
  · iexists (iblk m c 0 t); isplitr; · ipureintro; exact rfl
    iexact H4
  isplitl [H5]
  · iexists (iblk m c 1 t); isplitr; · ipureintro; exact rfl
    iexact H5
  isplitl [K6]
  · iexists (iblk m c 2 t); isplitr; · ipureintro; exact rfl
    iexact K6
  isplitl [K7]
  · iexists (iblk m c 3 t); isplitr; · ipureintro; exact rfl
    iexact K7
  isplitl [H8]
  · iexists y8
    isplitr
    · ipureintro; exact hS.keep4 c t.val y8 (by omega) h4
    iexact H8
  isplitl [K9]
  · iexists (newE_9 c t h (iblk m c 2 t) (iblk m c 3 t) y9 y10 s12 s17 s18)
    isplitr
    · ipureintro; exact hP5
    unfold owns; iexists _; isplitr; · ipureintro; exact rfl
    iexact K9
  isplitl [K10]
  · iexists (newE_10 c t h (iblk m c 2 t) (iblk m c 3 t) y9 y10 s12 s17 s18)
    isplitr
    · ipureintro; exact hP6
    unfold owns; iexists _; isplitr; · ipureintro; exact rfl
    iexact K10
  iexists y11
  isplitr
  · ipureintro; exact hS.keep7 c t.val y11 (by omega) h7
  iexact H11

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

set_option maxHeartbeats 3200000 in
/-- The body at any point. -/
theorem body_all {S : Spec F} (hS : Steps m S) (c : Dev nD) (t : Fin cfg0.N) (Y : ∀ w, (cfg0.win w).block.Idx → Elt F (cfg0.win w).elt)
    (hY : ∀ w, (rdat m S c).Finds w t (Y w)) :
    iprop(Phi S c t.val ∗ (rdat m S c).owesAt () t.castSucc ∗ owns (c : Thread nD τ) (ms0_0 t) fullShare (Y 0) ∗ owns (c : Thread nD τ) (ms0_1 t) fullShare (Y 1) ∗ owns (c : Thread nD τ) (ms0_2 t) fullShare (Y 2) ∗ owns (c : Thread nD τ) (ms0_3 t) fullShare (Y 3) ∗ owns (c : Thread nD τ) (ms0_4 t) fullShare (Y 4) ∗ owns (c : Thread nD τ) (ms0_5 t) fullShare (Y 5) ∗ owns (c : Thread nD τ) (ms0_6 t) fullShare (Y 6) ∗ owns (c : Thread nD τ) (ms0_7 t) fullShare (Y 7))
      ⊢ wp frame (wpE (defs₀ (F := F)) Variants.none c none) Set.univ (bodyAt0 t) (fun _ => iprop(Phi S c (t.val + 1) ∗ (rdat m S c).owesAt () t.castSucc ∗ (∃ X, ⌜X = Y 0⌝ ∗ owns (c : Thread nD τ) (ms0_0 t) fullShare X) ∗ (∃ X, ⌜X = Y 1⌝ ∗ owns (c : Thread nD τ) (ms0_1 t) fullShare X) ∗ (∃ X, ⌜X = Y 2⌝ ∗ owns (c : Thread nD τ) (ms0_2 t) fullShare X) ∗ (∃ X, ⌜X = Y 3⌝ ∗ owns (c : Thread nD τ) (ms0_3 t) fullShare X) ∗ (∃ X, ⌜S.P4 c t.val X⌝ ∗ owns (c : Thread nD τ) (ms0_4 t) fullShare X) ∗ (∃ X, ⌜S.P5 c t.val X⌝ ∗ owns (c : Thread nD τ) (ms0_5 t) fullShare X) ∗ (∃ X, ⌜S.P6 c t.val X⌝ ∗ owns (c : Thread nD τ) (ms0_6 t) fullShare X) ∗ (∃ X, ⌜S.P7 c t.val X⌝ ∗ owns (c : Thread nD τ) (ms0_7 t) fullShare X))) := by
  rw [finds0 (hY 0), finds1 (hY 1), finds2 (hY 2), finds3 (hY 3)]
  by_cases hA : t.val % 16 = 0
  · exact bodyA hS c t hA (Y 4) (Y 5) (Y 6) (Y 7)
  by_cases hB : t.val % 16 < 8
  · exact bodyB hS c t ⟨hA, hB⟩ (Y 4) (Y 5) (Y 6) (Y 7)
  by_cases hC : t.val % 16 = 8
  · exact bodyC hS c t hC (Y 4) (Y 5) (Y 6) (Y 7)
  by_cases hE : t.val % 16 = 15
  · exact bodyE hS c t hE (Y 4) (Y 5) (Y 6) (Y 7) (finds6 (hY 6) hA) (finds4 (hY 4) hA) (finds7 (hY 7) hA)
  · exact bodyD hS c t ⟨by omega, by omega⟩ (Y 4) (Y 5) (Y 6) (Y 7) (finds6 (hY 6) hA) (finds4 (hY 4) hA) (finds7 (hY 7) hA)

set_option maxHeartbeats 3200000 in
/-- The library's body obligation, at every point. -/
theorem body_obligation {S : Spec F} (hS : Steps m S) (c : Dev nD) : (rdat m S c).BodyObligation (defs₀ (F := F)) Variants.none () Set.univ := fun t Y hY => by
  rw [bigSep_W0, bigSep_W0, defs₀_row]
  exact triple_restated (body_all hS c t Y hY) rfl .rfl fun _ => .rfl

theorem hin {S : Spec F} (hS : Steps m S) (c : Dev nD) : Pipeline.ΦA spec0 c ⊢ (rdat m S c).Φ 0 := by
  show _ ⊢ Phi S c 0
  rw [PhiA0_eq]; unfold Phi
  iintro ⟨⟨⟨%s12, H12⟩, ⟨%s13, H13⟩, ⟨%s14, H14⟩, ⟨%s15, H15⟩, ⟨%s16, H16⟩, ⟨%s17, H17⟩, ⟨%s18, H18⟩⟩, Hg⟩
  iexists s12, s13, s14, s15, s16, s17, s18
  isplitr; · ipureintro; exact hS.init c s12 s13 s14 s15 s16 s17 s18
  isplitl [H12]; · iexact H12
  isplitl [H13]; · iexact H13
  isplitl [H14]; · iexact H14
  isplitl [H15]; · iexact H15
  isplitl [H16]; · iexact H16
  isplitl [H17]; · iexact H17
  isplitl [H18]; · iexact H18
  iexact Hg

theorem hout (S : Spec F) (c : Dev nD) : (rdat m S c).Φ (Fin.last cfg0.N) ⊢ Pipeline.ΦA spec0 c := by
  show Phi S c _ ⊢ _
  rw [PhiA0_eq]; unfold Phi
  iintro ⟨%s12, %s13, %s14, %s15, %s16, %s17, %s18, %hI, H12, H13, H14, H15, H16, H17, H18, Hg⟩
  isplitr [Hg]
  · isplitl [H12]; · iexists s12; iexact H12
    isplitl [H13]; · iexists s13; iexact H13
    isplitl [H14]; · iexists s14; iexact H14
    isplitl [H15]; · iexists s15; iexact H15
    isplitl [H16]; · iexists s16; iexact H16
    isplitl [H17]; · iexists s17; iexact H17
    iexists s18; iexact H18
  iexact Hg

set_option backward.isDefEq.respectTransparency.types false in
/-- The run: every execution terminates, the arrays end at what the specification says, every counter at zero. -/
theorem run_main {S : Spec F} (hS : Steps m S) : θ_run defs (onTc (τ := τ) (main (F := F))) (s₀ m ρ) (fun r => (Pipeline.RDat.FramePost cfg0 (rdat m S) (V m)) r ∧ r.2.sem = fun _ => 0) :=
  Pipeline.RDat.θ_run_frame_track (Q' := _) cfgs (0 : Fin 1) launch0 defs₀ Variants.none (rdat m S) m ρ main
    (hbody := body_obligation hS) (hshare := fun c => (rdat m S c).share_full fun _ => rfl)
    (howed := fun _ _ => rfl) (V := V m) (hmain := hmain m Variants.none) (hA := fun _ _ => rfl) (hin := hin hS) (hout := hout S)

/-- The argument arrays end unchanged. -/
theorem args_unchanged {S : Spec F} {r} (h : Pipeline.RDat.FramePost cfg0 (rdat m S) (V m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  ⟨((h c).2 main_arg0 (Pipeline.mem_restRefs_of main_arg0 (by decide) (by decide))).trans (V_main_arg0 m c),
    (h.arr_in c 1 rfl).trans (V_main_arg1 m c), (h.arr_in c 2 rfl).trans (V_main_arg2 m c), (h.arr_in c 3 rfl).trans (V_main_arg3 m c)⟩

variable (m)

/-- THE FRAME, at any values: the run terminates, the argument arrays end unchanged, every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨fun c => args_unchanged h.1 c, h.2⟩)
    (run_main (m := m) ρ (S := ⟨fun _ _ _ _ _ _ _ _ _ => True, fun _ _ _ => True, fun _ _ _ => True, fun _ _ _ => True, fun _ _ _ => True⟩)
      (by constructor <;> intros <;> (try exact trivial) <;> (repeat' constructor)))

end Cert.LossDq.Hand

end
-- ==== Proof.LossCondsI.lean ====
/- The loss kernel's branch conditions, by the position of the point in the grid. -/
module

public import proofs.«01_k».proof.Proof.Gen.LossDqIdeal
public import proofs.«01_k».proof.Proof.Gen.LossDqIdeal.Launch
public import proofs.«01_k».proof.Proof.Gen.LossDqIdeal.Skeleton
public import proofs.«01_k».proof.Proof.Gen.LossDqIdeal.Points
public import Idealize.ShloMosaic.Lib.Pipeline.Value
public import Idealize.ShloMosaic.Lib.Pipeline.FrameBody
public import Idealize.ShloMosaic.Lib.Ring
public import Idealize.ShloMosaic.Lib.Tactic
public import Idealize.ShloMosaic.Lib.WordCmp

@[expose] public section

namespace Cert.LossDqIdeal.Hand

open Cert.LossDqIdeal Cert.LossDqIdeal.Gen
open Idealize.ShloMosaic Idealize.ShloMosaic.TcCoe Idealize.ShloMosaic.Tactic Idealize.SL.Sem

/-- The condition of the body's first branch: the first chunk of the first sweep. -/
abbrev cond0_1 (i : grid0.Coords) : Prop :=
  Scalar.cmpi .ne (Scalar.extui (Scalar.andi (Scalar.cmpi .eq (BitVec.ofNat 32 (i 2).val) 0#32) (Scalar.cmpi .eq (BitVec.ofNat 32 (i 3).val) 0#32))) 0#32 = 1#1

/-- Branch 1 is taken exactly where `t.val % 16 = 0`. -/
theorem hcond1 : ∀ t : Fin cfg0.N, cond0_1 (grid0.coords t) ↔ t.val % 16 = 0 :=
  (by decide +kernel : ∀ t : Fin grid0.N, cond0_1 (grid0.coords t) ↔ t.val % 16 = 0)

/-- Branch 2 is taken exactly where `t.val % 16 < 8`. -/
theorem hcond2 : ∀ t : Fin cfg0.N, k0_cond2 (grid0.coords t) = 1#1 ↔ t.val % 16 < 8 :=
  (by decide +kernel : ∀ t : Fin grid0.N, k0_cond2 (grid0.coords t) = 1#1 ↔ t.val % 16 < 8)

/-- Branch 3 is taken exactly where `t.val % 16 = 8`. -/
theorem hcond3 : ∀ t : Fin cfg0.N, k0_cond3 (grid0.coords t) = 1#1 ↔ t.val % 16 = 8 :=
  (by decide +kernel : ∀ t : Fin grid0.N, k0_cond3 (grid0.coords t) = 1#1 ↔ t.val % 16 = 8)

/-- Branch 4 is taken exactly where `8 ≤ t.val % 16`. -/
theorem hcond4 : ∀ t : Fin cfg0.N, k0_cond4 (grid0.coords t) = 1#1 ↔ 8 ≤ t.val % 16 :=
  (by decide +kernel : ∀ t : Fin grid0.N, k0_cond4 (grid0.coords t) = 1#1 ↔ 8 ≤ t.val % 16)

/-- Branch 5 is taken exactly where `t.val % 16 = 15`. -/
theorem hcond5 : ∀ t : Fin cfg0.N, k0_cond5 (grid0.coords t) = 1#1 ↔ t.val % 16 = 15 :=
  (by decide +kernel : ∀ t : Fin grid0.N, k0_cond5 (grid0.coords t) = 1#1 ↔ t.val % 16 = 15)

end Cert.LossDqIdeal.Hand

end
-- ==== Proof.LossRunAI.lean ====
/- The body of the loss kernel run at a point of the grid, case A: the first chunk of the first sweep: the queries are dequantised and the running maxima, sums and picks reset. -/
module

public import proofs.«01_k».proof.Proof.LossCondsI

@[expose] public section

set_option maxRecDepth 65536

noncomputable section

namespace Cert.LossDqIdeal.Hand

open Cert.LossDqIdeal Cert.LossDqIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

set_option maxHeartbeats 0 in
/-- The body at a point of case A (the first chunk of the first sweep: the queries are dequantised and the running maxima, sums and picks reset): from the buffers it touches, each at some contents, it runs to the
    same buffers, those it only reads unchanged and each it stores into with the pieces the run finds written over
    what it held. -/
def runA (c : Dev nD) (i : grid0.Coords) (arg4 : Memref sig .tc .vmem S1x256x768 .fp8e4m3) (harg4 : arg4.IsWhole) (arg5 : Memref sig .tc .vmem S1x256x6 .f32) (harg5 : arg5.IsWhole) (arg6 : Memref sig .tc .vmem S1x768x2048 .bf16) (harg6 : arg6.IsWhole) (arg7 : Memref sig .tc .vmem S1x256x1 .i32) (harg7 : arg7.IsWhole) (arg8 : Memref sig .tc .vmem S1x1x256 .f32) (harg8 : arg8.IsWhole) (arg9 : Memref sig .tc .vmem S1x256x768 .bf16) (harg9 : arg9.IsWhole) (arg10 : Memref sig .tc .vmem S1x256x16384 .fp8e5m2) (harg10 : arg10.IsWhole) (arg11 : Memref sig .tc .vmem S1x1x256 .f32) (harg11 : arg11.IsWhole) (arg12 : Memref sig .tc .vmem S256x16384 .f32) (harg12 : arg12.IsWhole) (arg13 : Memref sig .tc .vmem S256x768 .bf16) (harg13 : arg13.IsWhole) (arg14 : Memref sig .tc .vmem S256x128 .f32) (harg14 : arg14.IsWhole) (arg15 : Memref sig .tc .vmem S256x128 .f32) (harg15 : arg15.IsWhole) (arg16 : Memref sig .tc .vmem S256x128 .f32) (harg16 : arg16.IsWhole) (arg17 : Memref sig .tc .vmem S768x256 .f32) (harg17 : arg17.IsWhole) (arg18 : Memref sig .tc .vmem S256x128 .f32) (harg18 : arg18.IsWhole) (hc1 : cond0_1 i) (hc2 : k0_cond2 i = 1#1) (hc3 : ¬(k0_cond3 i = 1#1)) (hc4 : ¬(k0_cond4 i = 1#1)) (hc5 : ¬(k0_cond5 i = 1#1))
    (x4 : Vec F S1x256x768 .fp8e4m3) (x5 : Vec F S1x256x6 .f32) (x6 : Vec F S1x768x2048 .bf16) (x7 : Vec F S1x256x1 .i32) (x12 : Vec F S256x16384 .f32) (x13 : Vec F S256x768 .bf16) (x14 : Vec F S256x128 .f32) (x15 : Vec F S256x128 .f32) (x16 : Vec F S256x128 .f32) :
    Σ' (L12 : List (View.Piece (Elt F) S256x16384 .f32)), Σ' (L13 : List (View.Piece (Elt F) S256x768 .bf16)), Σ' (L14 : List (View.Piece (Elt F) S256x128 .f32)), Σ' (L15 : List (View.Piece (Elt F) S256x128 .f32)), { L16 : List (View.Piece (Elt F) S256x128 .f32) //
      ∀ (E : Set ℕ) (K : PUnit → sProp 𝕄),
        iprop(owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16 ∗ (iprop(owns (c : Thread nD τ) arg4 fullShare x4 ∗ owns (c : Thread nD τ) arg5 fullShare x5 ∗ owns (c : Thread nD τ) arg6 fullShare x6 ∗ owns (c : Thread nD τ) arg7 fullShare x7 ∗ (arg12.view.loc (c : Thread nD τ) ↦[arg12.view.set]{fullShare} arg12.view.writes (Elt F) (harg12.unread x12) L12) ∗ (arg13.view.loc (c : Thread nD τ) ↦[arg13.view.set]{fullShare} arg13.view.writes (Elt F) (harg13.unread x13) L13) ∗ (arg14.view.loc (c : Thread nD τ) ↦[arg14.view.set]{fullShare} arg14.view.writes (Elt F) (harg14.unread x14) L14) ∗ (arg15.view.loc (c : Thread nD τ) ↦[arg15.view.set]{fullShare} arg15.view.writes (Elt F) (harg15.unread x15) L15) ∗ (arg16.view.loc (c : Thread nD τ) ↦[arg16.view.set]{fullShare} arg16.view.writes (Elt F) (harg16.unread x16) L16)) -∗ K ⟨⟩))
          ⊢ wp frame (wpE (defs₀ (F := F)) Variants.none c none) E (cc0_loss_dq i arg4 harg4 arg5 harg5 arg6 harg6 arg7 harg7 arg8 harg8 arg9 harg9 arg10 harg10 arg11 harg11 arg12 harg12 arg13 harg13 arg14 harg14 arg15 harg15 arg16 harg16 arg17 harg17 arg18 harg18) K } := by
  refine ⟨?_, ?_, ?_, ?_, ?_, fun E K => ?run⟩
  case run =>
    simp only [cc0_loss_dq_eq_skeleton]; unfold cc0_loss_dq_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton]
    unfold owns
    iintro ⟨⟨%f4, %hf4, H4⟩, ⟨%f5, %hf5, H5⟩, ⟨%f6, %hf6, H6⟩, ⟨%f7, %hf7, H7⟩, ⟨%f12, %hf12, H12⟩, ⟨%f13, %hf13, H13⟩, ⟨%f14, %hf14, H14⟩, ⟨%f15, %hf15, H15⟩, ⟨%f16, %hf16, H16⟩, Hk⟩
    obtain rfl := harg4.eq_unread hf4; obtain rfl := harg5.eq_unread hf5; obtain rfl := harg6.eq_unread hf6; obtain rfl := harg7.eq_unread hf7; obtain rfl := harg12.eq_unread hf12; obtain rfl := harg13.eq_unread hf13; obtain rfl := harg14.eq_unread hf14; obtain rfl := harg15.eq_unread hf15; obtain rfl := harg16.eq_unread hf16
    sl_exec (disch := first | sl_exact hc1 | sl_exact hc2 | sl_exact hc3 | sl_exact hc4 | sl_exact hc5)
    sl_step
    iapply Hk
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H12]
    · iexact H12
    isplitl [H13]
    · iexact H13
    isplitl [H14]
    · iexact H14
    isplitl [H15]
    · iexact H15
    iexact H16

end Cert.LossDqIdeal.Hand

end
-- ==== Proof.LossRunBI.lean ====
/- The body of the loss kernel run at a point of the grid, case B: a later chunk of the first sweep. -/
module

public import proofs.«01_k».proof.Proof.LossCondsI

@[expose] public section

set_option maxRecDepth 65536

noncomputable section

namespace Cert.LossDqIdeal.Hand

open Cert.LossDqIdeal Cert.LossDqIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

set_option maxHeartbeats 0 in
/-- The body at a point of case B (a later chunk of the first sweep): from the buffers it touches, each at some contents, it runs to the
    same buffers, those it only reads unchanged and each it stores into with the pieces the run finds written over
    what it held. -/
def runB (c : Dev nD) (i : grid0.Coords) (arg4 : Memref sig .tc .vmem S1x256x768 .fp8e4m3) (harg4 : arg4.IsWhole) (arg5 : Memref sig .tc .vmem S1x256x6 .f32) (harg5 : arg5.IsWhole) (arg6 : Memref sig .tc .vmem S1x768x2048 .bf16) (harg6 : arg6.IsWhole) (arg7 : Memref sig .tc .vmem S1x256x1 .i32) (harg7 : arg7.IsWhole) (arg8 : Memref sig .tc .vmem S1x1x256 .f32) (harg8 : arg8.IsWhole) (arg9 : Memref sig .tc .vmem S1x256x768 .bf16) (harg9 : arg9.IsWhole) (arg10 : Memref sig .tc .vmem S1x256x16384 .fp8e5m2) (harg10 : arg10.IsWhole) (arg11 : Memref sig .tc .vmem S1x1x256 .f32) (harg11 : arg11.IsWhole) (arg12 : Memref sig .tc .vmem S256x16384 .f32) (harg12 : arg12.IsWhole) (arg13 : Memref sig .tc .vmem S256x768 .bf16) (harg13 : arg13.IsWhole) (arg14 : Memref sig .tc .vmem S256x128 .f32) (harg14 : arg14.IsWhole) (arg15 : Memref sig .tc .vmem S256x128 .f32) (harg15 : arg15.IsWhole) (arg16 : Memref sig .tc .vmem S256x128 .f32) (harg16 : arg16.IsWhole) (arg17 : Memref sig .tc .vmem S768x256 .f32) (harg17 : arg17.IsWhole) (arg18 : Memref sig .tc .vmem S256x128 .f32) (harg18 : arg18.IsWhole) (hc1 : ¬(cond0_1 i)) (hc2 : k0_cond2 i = 1#1) (hc3 : ¬(k0_cond3 i = 1#1)) (hc4 : ¬(k0_cond4 i = 1#1)) (hc5 : ¬(k0_cond5 i = 1#1))
    (x6 : Vec F S1x768x2048 .bf16) (x7 : Vec F S1x256x1 .i32) (x12 : Vec F S256x16384 .f32) (x13 : Vec F S256x768 .bf16) (x14 : Vec F S256x128 .f32) (x15 : Vec F S256x128 .f32) (x16 : Vec F S256x128 .f32) :
    Σ' (L12 : List (View.Piece (Elt F) S256x16384 .f32)), Σ' (L14 : List (View.Piece (Elt F) S256x128 .f32)), Σ' (L15 : List (View.Piece (Elt F) S256x128 .f32)), { L16 : List (View.Piece (Elt F) S256x128 .f32) //
      ∀ (E : Set ℕ) (K : PUnit → sProp 𝕄),
        iprop(owns (c : Thread nD τ) arg6 fullShare x6 ∗ owns (c : Thread nD τ) arg7 fullShare x7 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16 ∗ (iprop(owns (c : Thread nD τ) arg6 fullShare x6 ∗ owns (c : Thread nD τ) arg7 fullShare x7 ∗ (arg12.view.loc (c : Thread nD τ) ↦[arg12.view.set]{fullShare} arg12.view.writes (Elt F) (harg12.unread x12) L12) ∗ owns (c : Thread nD τ) arg13 fullShare x13 ∗ (arg14.view.loc (c : Thread nD τ) ↦[arg14.view.set]{fullShare} arg14.view.writes (Elt F) (harg14.unread x14) L14) ∗ (arg15.view.loc (c : Thread nD τ) ↦[arg15.view.set]{fullShare} arg15.view.writes (Elt F) (harg15.unread x15) L15) ∗ (arg16.view.loc (c : Thread nD τ) ↦[arg16.view.set]{fullShare} arg16.view.writes (Elt F) (harg16.unread x16) L16)) -∗ K ⟨⟩))
          ⊢ wp frame (wpE (defs₀ (F := F)) Variants.none c none) E (cc0_loss_dq i arg4 harg4 arg5 harg5 arg6 harg6 arg7 harg7 arg8 harg8 arg9 harg9 arg10 harg10 arg11 harg11 arg12 harg12 arg13 harg13 arg14 harg14 arg15 harg15 arg16 harg16 arg17 harg17 arg18 harg18) K } := by
  refine ⟨?_, ?_, ?_, ?_, fun E K => ?run⟩
  case run =>
    simp only [cc0_loss_dq_eq_skeleton]; unfold cc0_loss_dq_skel
    simp only [k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton]
    unfold owns
    iintro ⟨⟨%f6, %hf6, H6⟩, ⟨%f7, %hf7, H7⟩, ⟨%f12, %hf12, H12⟩, ⟨%f13, %hf13, H13⟩, ⟨%f14, %hf14, H14⟩, ⟨%f15, %hf15, H15⟩, ⟨%f16, %hf16, H16⟩, Hk⟩
    obtain rfl := harg6.eq_unread hf6; obtain rfl := harg7.eq_unread hf7; obtain rfl := harg12.eq_unread hf12; obtain rfl := harg13.eq_unread hf13; obtain rfl := harg14.eq_unread hf14; obtain rfl := harg15.eq_unread hf15; obtain rfl := harg16.eq_unread hf16
    sl_exec (disch := first | sl_exact hc1 | sl_exact hc2 | sl_exact hc3 | sl_exact hc4 | sl_exact hc5)
    sl_step
    iapply Hk
    isplitl [H6]
    · iexists _; isplitr; · ipureintro; exact harg6.read_unread _
      iexact H6
    isplitl [H7]
    · iexists _; isplitr; · ipureintro; exact harg7.read_unread _
      iexact H7
    isplitl [H12]
    · iexact H12
    isplitl [H13]
    · iexists _; isplitr; · ipureintro; exact harg13.read_unread _
      iexact H13
    isplitl [H14]
    · iexact H14
    isplitl [H15]
    · iexact H15
    iexact H16

end Cert.LossDqIdeal.Hand

end
-- ==== Proof.LossRunCI.lean ====
/- The body of the loss kernel run at a point of the grid, case C: the first chunk of the second sweep: the row scalars are made. -/
module

public import proofs.«01_k».proof.Proof.LossCondsI

@[expose] public section

set_option maxRecDepth 65536

noncomputable section

namespace Cert.LossDqIdeal.Hand

open Cert.LossDqIdeal Cert.LossDqIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

set_option maxHeartbeats 0 in
/-- The body at a point of case C (the first chunk of the second sweep: the row scalars are made): from the buffers it touches, each at some contents, it runs to the
    same buffers, those it only reads unchanged and each it stores into with the pieces the run finds written over
    what it held. -/
def runC (c : Dev nD) (i : grid0.Coords) (arg4 : Memref sig .tc .vmem S1x256x768 .fp8e4m3) (harg4 : arg4.IsWhole) (arg5 : Memref sig .tc .vmem S1x256x6 .f32) (harg5 : arg5.IsWhole) (arg6 : Memref sig .tc .vmem S1x768x2048 .bf16) (harg6 : arg6.IsWhole) (arg7 : Memref sig .tc .vmem S1x256x1 .i32) (harg7 : arg7.IsWhole) (arg8 : Memref sig .tc .vmem S1x1x256 .f32) (harg8 : arg8.IsWhole) (arg9 : Memref sig .tc .vmem S1x256x768 .bf16) (harg9 : arg9.IsWhole) (arg10 : Memref sig .tc .vmem S1x256x16384 .fp8e5m2) (harg10 : arg10.IsWhole) (arg11 : Memref sig .tc .vmem S1x1x256 .f32) (harg11 : arg11.IsWhole) (arg12 : Memref sig .tc .vmem S256x16384 .f32) (harg12 : arg12.IsWhole) (arg13 : Memref sig .tc .vmem S256x768 .bf16) (harg13 : arg13.IsWhole) (arg14 : Memref sig .tc .vmem S256x128 .f32) (harg14 : arg14.IsWhole) (arg15 : Memref sig .tc .vmem S256x128 .f32) (harg15 : arg15.IsWhole) (arg16 : Memref sig .tc .vmem S256x128 .f32) (harg16 : arg16.IsWhole) (arg17 : Memref sig .tc .vmem S768x256 .f32) (harg17 : arg17.IsWhole) (arg18 : Memref sig .tc .vmem S256x128 .f32) (harg18 : arg18.IsWhole) (hc1 : ¬(cond0_1 i)) (hc2 : ¬(k0_cond2 i = 1#1)) (hc3 : k0_cond3 i = 1#1) (hc4 : k0_cond4 i = 1#1) (hc5 : ¬(k0_cond5 i = 1#1))
    (x6 : Vec F S1x768x2048 .bf16) (x7 : Vec F S1x256x1 .i32) (x8 : Vec F S1x1x256 .f32) (x10 : Vec F S1x256x16384 .fp8e5m2) (x11 : Vec F S1x1x256 .f32) (x12 : Vec F S256x16384 .f32) (x14 : Vec F S256x128 .f32) (x15 : Vec F S256x128 .f32) (x16 : Vec F S256x128 .f32) (x17 : Vec F S768x256 .f32) (x18 : Vec F S256x128 .f32) :
    Σ' (L8 : List (View.Piece (Elt F) S1x1x256 .f32)), Σ' (L10 : List (View.Piece (Elt F) S1x256x16384 .fp8e5m2)), Σ' (L11 : List (View.Piece (Elt F) S1x1x256 .f32)), Σ' (L17 : List (View.Piece (Elt F) S768x256 .f32)), { L18 : List (View.Piece (Elt F) S256x128 .f32) //
      ∀ (E : Set ℕ) (K : PUnit → sProp 𝕄),
        iprop(owns (c : Thread nD τ) arg6 fullShare x6 ∗ owns (c : Thread nD τ) arg7 fullShare x7 ∗ owns (c : Thread nD τ) arg8 fullShare x8 ∗ owns (c : Thread nD τ) arg10 fullShare x10 ∗ owns (c : Thread nD τ) arg11 fullShare x11 ∗ owns (c : Thread nD τ) arg12 fullShare x12 ∗ owns (c : Thread nD τ) arg14 fullShare x14 ∗ owns (c : Thread nD τ) arg15 fullShare x15 ∗ owns (c : Thread nD τ) arg16 fullShare x16 ∗ owns (c : Thread nD τ) arg17 fullShare x17 ∗ owns (c : Thread nD τ) arg18 fullShare x18 ∗ (iprop(owns (c : Thread nD τ) arg6 fullShare x6 ∗ owns (c : Thread nD τ) arg7 fullShare x7 ∗ (arg8.view.loc (c : Thread nD τ) ↦[arg8.view.set]{fullShare} arg8.view.writes (Elt F) (harg8.unread x8) L8) ∗ (arg10.view.loc (c : Thread nD τ) ↦[arg10.view.set]{fullShare} arg10.view.writes (Elt F) (harg10.unread x10) L10) ∗ (arg11.view.loc (c : Thread nD τ) ↦[arg11.view.set]{fullShare} arg11.view.writes (Elt F) (harg11.unread x11) L11) ∗ owns (c : Thread nD τ) arg12 fullShare x12 ∗ owns (c : Thread nD τ) arg14 fullShare x14 ∗ owns (c : Thread nD τ) arg15 fullShare x15 ∗ owns (c : Thread nD τ) arg16 fullShare x16 ∗ (arg17.view.loc (c : Thread nD τ) ↦[arg17.view.set]{fullShare} arg17.view.writes (Elt F) (harg17.unread x17) L17) ∗ (arg18.view.loc (c : Thread nD τ) ↦[arg18.view.set]{fullShare} arg18.view.writes (Elt F) (harg18.unread x18) L18)) -∗ K ⟨⟩))
          ⊢ wp frame (wpE (defs₀ (F := F)) Variants.none c none) E (cc0_loss_dq i arg4 harg4 arg5 harg5 arg6 harg6 arg7 harg7 arg8 harg8 arg9 harg9 arg10 harg10 arg11 harg11 arg12 harg12 arg13 harg13 arg14 harg14 arg15 harg15 arg16 harg16 arg17 harg17 arg18 harg18) K } := by
  refine ⟨?_, ?_, ?_, ?_, ?_, fun E K => ?run⟩
  case run =>
    simp only [cc0_loss_dq_eq_skeleton]; unfold cc0_loss_dq_skel
    simp only [k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton]
    unfold owns
    iintro ⟨⟨%f6, %hf6, H6⟩, ⟨%f7, %hf7, H7⟩, ⟨%f8, %hf8, H8⟩, ⟨%f10, %hf10, H10⟩, ⟨%f11, %hf11, H11⟩, ⟨%f12, %hf12, H12⟩, ⟨%f14, %hf14, H14⟩, ⟨%f15, %hf15, H15⟩, ⟨%f16, %hf16, H16⟩, ⟨%f17, %hf17, H17⟩, ⟨%f18, %hf18, H18⟩, Hk⟩
    obtain rfl := harg6.eq_unread hf6; obtain rfl := harg7.eq_unread hf7; obtain rfl := harg8.eq_unread hf8; obtain rfl := harg10.eq_unread hf10; obtain rfl := harg11.eq_unread hf11; obtain rfl := harg12.eq_unread hf12; obtain rfl := harg14.eq_unread hf14; obtain rfl := harg15.eq_unread hf15; obtain rfl := harg16.eq_unread hf16; obtain rfl := harg17.eq_unread hf17; obtain rfl := harg18.eq_unread hf18
    sl_exec (disch := first | sl_exact hc1 | sl_exact hc2 | sl_exact hc3 | sl_exact hc4 | sl_exact hc5)
    sl_step
    iapply Hk
    isplitl [H6]
    · iexists _; isplitr; · ipureintro; exact harg6.read_unread _
      iexact H6
    isplitl [H7]
    · iexists _; isplitr; · ipureintro; exact harg7.read_unread _
      iexact H7
    isplitl [H8]
    · iexact H8
    isplitl [H10]
    · iexact H10
    isplitl [H11]
    · iexact H11
    isplitl [H12]
    · iexists _; isplitr; · ipureintro; exact harg12.read_unread _
      iexact H12
    isplitl [H14]
    · iexists _; isplitr; · ipureintro; exact harg14.read_unread _
      iexact H14
    isplitl [H15]
    · iexists _; isplitr; · ipureintro; exact harg15.read_unread _
      iexact H15
    isplitl [H16]
    · iexists _; isplitr; · ipureintro; exact harg16.read_unread _
      iexact H16
    isplitl [H17]
    · iexact H17
    iexact H18

end Cert.LossDqIdeal.Hand

end
-- ==== Proof.LossRunDI.lean ====
/- The body of the loss kernel run at a point of the grid, case D: a middle chunk of the second sweep. -/
module

public import proofs.«01_k».proof.Proof.LossCondsI

@[expose] public section

set_option maxRecDepth 65536

noncomputable section

namespace Cert.LossDqIdeal.Hand

open Cert.LossDqIdeal Cert.LossDqIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

set_option maxHeartbeats 0 in
/-- The body at a point of case D (a middle chunk of the second sweep): from the buffers it touches, each at some contents, it runs to the
    same buffers, those it only reads unchanged and each it stores into with the pieces the run finds written over
    what it held. -/
def runD (c : Dev nD) (i : grid0.Coords) (arg4 : Memref sig .tc .vmem S1x256x768 .fp8e4m3) (harg4 : arg4.IsWhole) (arg5 : Memref sig .tc .vmem S1x256x6 .f32) (harg5 : arg5.IsWhole) (arg6 : Memref sig .tc .vmem S1x768x2048 .bf16) (harg6 : arg6.IsWhole) (arg7 : Memref sig .tc .vmem S1x256x1 .i32) (harg7 : arg7.IsWhole) (arg8 : Memref sig .tc .vmem S1x1x256 .f32) (harg8 : arg8.IsWhole) (arg9 : Memref sig .tc .vmem S1x256x768 .bf16) (harg9 : arg9.IsWhole) (arg10 : Memref sig .tc .vmem S1x256x16384 .fp8e5m2) (harg10 : arg10.IsWhole) (arg11 : Memref sig .tc .vmem S1x1x256 .f32) (harg11 : arg11.IsWhole) (arg12 : Memref sig .tc .vmem S256x16384 .f32) (harg12 : arg12.IsWhole) (arg13 : Memref sig .tc .vmem S256x768 .bf16) (harg13 : arg13.IsWhole) (arg14 : Memref sig .tc .vmem S256x128 .f32) (harg14 : arg14.IsWhole) (arg15 : Memref sig .tc .vmem S256x128 .f32) (harg15 : arg15.IsWhole) (arg16 : Memref sig .tc .vmem S256x128 .f32) (harg16 : arg16.IsWhole) (arg17 : Memref sig .tc .vmem S768x256 .f32) (harg17 : arg17.IsWhole) (arg18 : Memref sig .tc .vmem S256x128 .f32) (harg18 : arg18.IsWhole) (hc1 : ¬(cond0_1 i)) (hc2 : ¬(k0_cond2 i = 1#1)) (hc3 : ¬(k0_cond3 i = 1#1)) (hc4 : k0_cond4 i = 1#1) (hc5 : ¬(k0_cond5 i = 1#1))
    (x6 : Vec F S1x768x2048 .bf16) (x7 : Vec F S1x256x1 .i32) (x10 : Vec F S1x256x16384 .fp8e5m2) (x12 : Vec F S256x16384 .f32) (x17 : Vec F S768x256 .f32) (x18 : Vec F S256x128 .f32) :
    Σ' (L10 : List (View.Piece (Elt F) S1x256x16384 .fp8e5m2)), { L17 : List (View.Piece (Elt F) S768x256 .f32) //
      ∀ (E : Set ℕ) (K : PUnit → sProp 𝕄),
        iprop(owns (c : Thread nD τ) arg6 fullShare x6 ∗ owns (c : Thread nD τ) arg7 fullShare x7 ∗ owns (c : Thread nD τ) arg10 fullShare x10 ∗ owns (c : Thread nD τ) arg12 fullShare x12 ∗ owns (c : Thread nD τ) arg17 fullShare x17 ∗ owns (c : Thread nD τ) arg18 fullShare x18 ∗ (iprop(owns (c : Thread nD τ) arg6 fullShare x6 ∗ owns (c : Thread nD τ) arg7 fullShare x7 ∗ (arg10.view.loc (c : Thread nD τ) ↦[arg10.view.set]{fullShare} arg10.view.writes (Elt F) (harg10.unread x10) L10) ∗ owns (c : Thread nD τ) arg12 fullShare x12 ∗ (arg17.view.loc (c : Thread nD τ) ↦[arg17.view.set]{fullShare} arg17.view.writes (Elt F) (harg17.unread x17) L17) ∗ owns (c : Thread nD τ) arg18 fullShare x18) -∗ K ⟨⟩))
          ⊢ wp frame (wpE (defs₀ (F := F)) Variants.none c none) E (cc0_loss_dq i arg4 harg4 arg5 harg5 arg6 harg6 arg7 harg7 arg8 harg8 arg9 harg9 arg10 harg10 arg11 harg11 arg12 harg12 arg13 harg13 arg14 harg14 arg15 harg15 arg16 harg16 arg17 harg17 arg18 harg18) K } := by
  refine ⟨?_, ?_, fun E K => ?run⟩
  case run =>
    simp only [cc0_loss_dq_eq_skeleton]; unfold cc0_loss_dq_skel
    simp only [k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton]
    unfold owns
    iintro ⟨⟨%f6, %hf6, H6⟩, ⟨%f7, %hf7, H7⟩, ⟨%f10, %hf10, H10⟩, ⟨%f12, %hf12, H12⟩, ⟨%f17, %hf17, H17⟩, ⟨%f18, %hf18, H18⟩, Hk⟩
    obtain rfl := harg6.eq_unread hf6; obtain rfl := harg7.eq_unread hf7; obtain rfl := harg10.eq_unread hf10; obtain rfl := harg12.eq_unread hf12; obtain rfl := harg17.eq_unread hf17; obtain rfl := harg18.eq_unread hf18
    sl_exec (disch := first | sl_exact hc1 | sl_exact hc2 | sl_exact hc3 | sl_exact hc4 | sl_exact hc5)
    sl_step
    iapply Hk
    isplitl [H6]
    · iexists _; isplitr; · ipureintro; exact harg6.read_unread _
      iexact H6
    isplitl [H7]
    · iexists _; isplitr; · ipureintro; exact harg7.read_unread _
      iexact H7
    isplitl [H10]
    · iexact H10
    isplitl [H12]
    · iexists _; isplitr; · ipureintro; exact harg12.read_unread _
      iexact H12
    isplitl [H17]
    · iexact H17
    iexists _; isplitr; · ipureintro; exact harg18.read_unread _
    iexact H18

end Cert.LossDqIdeal.Hand

end
-- ==== Proof.LossRunEI.lean ====
/- The body of the loss kernel run at a point of the grid, case E: the last chunk of the second sweep: the gradient is written. -/
module

public import proofs.«01_k».proof.Proof.LossCondsI

@[expose] public section

set_option maxRecDepth 65536

noncomputable section

namespace Cert.LossDqIdeal.Hand

open Cert.LossDqIdeal Cert.LossDqIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

set_option maxHeartbeats 0 in
/-- The body at a point of case E (the last chunk of the second sweep: the gradient is written): from the buffers it touches, each at some contents, it runs to the
    same buffers, those it only reads unchanged and each it stores into with the pieces the run finds written over
    what it held. -/
def runE (c : Dev nD) (i : grid0.Coords) (arg4 : Memref sig .tc .vmem S1x256x768 .fp8e4m3) (harg4 : arg4.IsWhole) (arg5 : Memref sig .tc .vmem S1x256x6 .f32) (harg5 : arg5.IsWhole) (arg6 : Memref sig .tc .vmem S1x768x2048 .bf16) (harg6 : arg6.IsWhole) (arg7 : Memref sig .tc .vmem S1x256x1 .i32) (harg7 : arg7.IsWhole) (arg8 : Memref sig .tc .vmem S1x1x256 .f32) (harg8 : arg8.IsWhole) (arg9 : Memref sig .tc .vmem S1x256x768 .bf16) (harg9 : arg9.IsWhole) (arg10 : Memref sig .tc .vmem S1x256x16384 .fp8e5m2) (harg10 : arg10.IsWhole) (arg11 : Memref sig .tc .vmem S1x1x256 .f32) (harg11 : arg11.IsWhole) (arg12 : Memref sig .tc .vmem S256x16384 .f32) (harg12 : arg12.IsWhole) (arg13 : Memref sig .tc .vmem S256x768 .bf16) (harg13 : arg13.IsWhole) (arg14 : Memref sig .tc .vmem S256x128 .f32) (harg14 : arg14.IsWhole) (arg15 : Memref sig .tc .vmem S256x128 .f32) (harg15 : arg15.IsWhole) (arg16 : Memref sig .tc .vmem S256x128 .f32) (harg16 : arg16.IsWhole) (arg17 : Memref sig .tc .vmem S768x256 .f32) (harg17 : arg17.IsWhole) (arg18 : Memref sig .tc .vmem S256x128 .f32) (harg18 : arg18.IsWhole) (hc1 : ¬(cond0_1 i)) (hc2 : ¬(k0_cond2 i = 1#1)) (hc3 : ¬(k0_cond3 i = 1#1)) (hc4 : k0_cond4 i = 1#1) (hc5 : k0_cond5 i = 1#1)
    (x6 : Vec F S1x768x2048 .bf16) (x7 : Vec F S1x256x1 .i32) (x9 : Vec F S1x256x768 .bf16) (x10 : Vec F S1x256x16384 .fp8e5m2) (x12 : Vec F S256x16384 .f32) (x17 : Vec F S768x256 .f32) (x18 : Vec F S256x128 .f32) :
    Σ' (L9 : List (View.Piece (Elt F) S1x256x768 .bf16)), Σ' (L10 : List (View.Piece (Elt F) S1x256x16384 .fp8e5m2)), { L17 : List (View.Piece (Elt F) S768x256 .f32) //
      ∀ (E : Set ℕ) (K : PUnit → sProp 𝕄),
        iprop(owns (c : Thread nD τ) arg6 fullShare x6 ∗ owns (c : Thread nD τ) arg7 fullShare x7 ∗ owns (c : Thread nD τ) arg9 fullShare x9 ∗ owns (c : Thread nD τ) arg10 fullShare x10 ∗ owns (c : Thread nD τ) arg12 fullShare x12 ∗ owns (c : Thread nD τ) arg17 fullShare x17 ∗ owns (c : Thread nD τ) arg18 fullShare x18 ∗ (iprop(owns (c : Thread nD τ) arg6 fullShare x6 ∗ owns (c : Thread nD τ) arg7 fullShare x7 ∗ (arg9.view.loc (c : Thread nD τ) ↦[arg9.view.set]{fullShare} arg9.view.writes (Elt F) (harg9.unread x9) L9) ∗ (arg10.view.loc (c : Thread nD τ) ↦[arg10.view.set]{fullShare} arg10.view.writes (Elt F) (harg10.unread x10) L10) ∗ owns (c : Thread nD τ) arg12 fullShare x12 ∗ (arg17.view.loc (c : Thread nD τ) ↦[arg17.view.set]{fullShare} arg17.view.writes (Elt F) (harg17.unread x17) L17) ∗ owns (c : Thread nD τ) arg18 fullShare x18) -∗ K ⟨⟩))
          ⊢ wp frame (wpE (defs₀ (F := F)) Variants.none c none) E (cc0_loss_dq i arg4 harg4 arg5 harg5 arg6 harg6 arg7 harg7 arg8 harg8 arg9 harg9 arg10 harg10 arg11 harg11 arg12 harg12 arg13 harg13 arg14 harg14 arg15 harg15 arg16 harg16 arg17 harg17 arg18 harg18) K } := by
  refine ⟨?_, ?_, ?_, fun E K => ?run⟩
  case run =>
    simp only [cc0_loss_dq_eq_skeleton]; unfold cc0_loss_dq_skel
    simp only [k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton]
    unfold owns
    iintro ⟨⟨%f6, %hf6, H6⟩, ⟨%f7, %hf7, H7⟩, ⟨%f9, %hf9, H9⟩, ⟨%f10, %hf10, H10⟩, ⟨%f12, %hf12, H12⟩, ⟨%f17, %hf17, H17⟩, ⟨%f18, %hf18, H18⟩, Hk⟩
    obtain rfl := harg6.eq_unread hf6; obtain rfl := harg7.eq_unread hf7; obtain rfl := harg9.eq_unread hf9; obtain rfl := harg10.eq_unread hf10; obtain rfl := harg12.eq_unread hf12; obtain rfl := harg17.eq_unread hf17; obtain rfl := harg18.eq_unread hf18
    sl_exec (disch := first | sl_exact hc1 | sl_exact hc2 | sl_exact hc3 | sl_exact hc4 | sl_exact hc5)
    sl_step
    iapply Hk
    isplitl [H6]
    · iexists _; isplitr; · ipureintro; exact harg6.read_unread _
      iexact H6
    isplitl [H7]
    · iexists _; isplitr; · ipureintro; exact harg7.read_unread _
      iexact H7
    isplitl [H9]
    · iexact H9
    isplitl [H10]
    · iexact H10
    isplitl [H12]
    · iexists _; isplitr; · ipureintro; exact harg12.read_unread _
      iexact H12
    isplitl [H17]
    · iexact H17
    iexists _; isplitr; · ipureintro; exact harg18.read_unread _
    iexact H18

end Cert.LossDqIdeal.Hand

end
-- ==== Proof.LossFrameI.lean ====
/- The loss kernel's pipeline over its whole grid. What each of the five cases of the body leaves in the buffers it stores
   into is named (`newκ_k`); `Spec` is what a proof says of the scratch buffers before a point and of the output buffers
   after one, `Steps` that each case of the body keeps it; from `Steps` follow the body's obligation at every point and the
   run. With the empty `Spec` the run is the frame. -/
module

public import proofs.«01_k».proof.Proof.LossRunAI
public import proofs.«01_k».proof.Proof.LossRunBI
public import proofs.«01_k».proof.Proof.LossRunCI
public import proofs.«01_k».proof.Proof.LossRunDI
public import proofs.«01_k».proof.Proof.LossRunEI
public import Idealize.ShloMosaic.Lib.Claim
public import Idealize.ShloMosaic.Lib.Pipeline.FrameBody

@[expose] public section

set_option maxRecDepth 65536

noncomputable section

namespace Cert.LossDqIdeal.Hand

open Cert.LossDqIdeal Cert.LossDqIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Cfg Window cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## @main up to the region -/

/-- Core `c`'s TensorCore buffers when the region is entered: after the host operations `hostOps0` (Launch.lean). -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
/-- @main up to the region, at the certificate's variants `𝒱₀`: the host operations then the region
    (`Pipeline.hmain_prefix`: `StableHlo.wp_seq` over the unscoped buffers, off `main_chain`). -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

abbrev ms0_0 (t : Fin cfg0.N) : Memref sig .tc .vmem S1x256x768 .fp8e4m3 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x256x6 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x768x2048 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x256x1 .i32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x1x256 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x256x768 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x256x16384 .fp8e5m2 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x1x256 .f32 := win0_7.stage (cfg0.slots t 7)
abbrev hs0_7 (t : Fin cfg0.N) : (ms0_7 t).IsWhole := hstage0_7 ((cfg0.slots t 7).cast nbuf0_7)
abbrev sc0_0 : Memref sig .tc .vmem S256x16384 .f32 := Memref.whole cc0_scratch0
abbrev hsc0_0 : sc0_0.IsWhole := Memref.isWhole_whole _
abbrev sc0_1 : Memref sig .tc .vmem S256x768 .bf16 := Memref.whole cc0_scratch1
abbrev hsc0_1 : sc0_1.IsWhole := Memref.isWhole_whole _
abbrev sc0_2 : Memref sig .tc .vmem S256x128 .f32 := Memref.whole cc0_scratch2
abbrev hsc0_2 : sc0_2.IsWhole := Memref.isWhole_whole _
abbrev sc0_3 : Memref sig .tc .vmem S256x128 .f32 := Memref.whole cc0_scratch3
abbrev hsc0_3 : sc0_3.IsWhole := Memref.isWhole_whole _
abbrev sc0_4 : Memref sig .tc .vmem S256x128 .f32 := Memref.whole cc0_scratch4
abbrev hsc0_4 : sc0_4.IsWhole := Memref.isWhole_whole _
abbrev sc0_5 : Memref sig .tc .vmem S768x256 .f32 := Memref.whole cc0_scratch5
abbrev hsc0_5 : sc0_5.IsWhole := Memref.isWhole_whole _
abbrev sc0_6 : Memref sig .tc .vmem S256x128 .f32 := Memref.whole cc0_scratch6
abbrev hsc0_6 : sc0_6.IsWhole := Memref.isWhole_whole _

/-- The launch's invariant, the scratch buffers as memrefs owned at some contents. -/
theorem PhiA0_eq (c : Dev nD) :
    (Pipeline.ΦA spec0 c : sProp 𝕄) = iprop(iprop((∃ d, owns (c : Thread nD τ) sc0_0 fullShare d) ∗ (∃ d, owns (c : Thread nD τ) sc0_1 fullShare d) ∗ (∃ d, owns (c : Thread nD τ) sc0_2 fullShare d) ∗ (∃ d, owns (c : Thread nD τ) sc0_3 fullShare d) ∗ (∃ d, owns (c : Thread nD τ) sc0_4 fullShare d) ∗ (∃ d, owns (c : Thread nD τ) sc0_5 fullShare d) ∗ (∃ d, owns (c : Thread nD τ) sc0_6 fullShare d)) ∗ (∃ r, prngReg c r)) := by
  unfold Pipeline.ΦA; rw [scopedRest0_eq]; simp only [sc0_0, sc0_1, sc0_2, sc0_3, sc0_4, sc0_5, sc0_6, owns_whole]; try rfl

/-! ## What each case of the body leaves -/

/-- The run of case A at point `t`. -/
abbrev atA (c : Dev nD) (t : Fin cfg0.N) (h : t.val % 16 = 0) (x4 : Vec F S1x256x768 .fp8e4m3) (x5 : Vec F S1x256x6 .f32) (x6 : Vec F S1x768x2048 .bf16) (x7 : Vec F S1x256x1 .i32) (x12 : Vec F S256x16384 .f32) (x13 : Vec F S256x768 .bf16) (x14 : Vec F S256x128 .f32) (x15 : Vec F S256x128 .f32) (x16 : Vec F S256x128 .f32) :=
  runA (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) sc0_0 hsc0_0 sc0_1 hsc0_1 sc0_2 hsc0_2 sc0_3 hsc0_3 sc0_4 hsc0_4 sc0_5 hsc0_5 sc0_6 hsc0_6 ((hcond1 t).mpr (by omega)) ((hcond2 t).mpr (by omega)) (fun hh => absurd ((hcond3 t).mp hh) (by omega)) (fun hh => absurd ((hcond4 t).mp hh) (by omega)) (fun hh => absurd ((hcond5 t).mp hh) (by omega)) x4 x5 x6 x7 x12 x13 x14 x15 x16
def newA_12 (c : Dev nD) (t : Fin cfg0.N) (h : t.val % 16 = 0) (x4 : Vec F S1x256x768 .fp8e4m3) (x5 : Vec F S1x256x6 .f32) (x6 : Vec F S1x768x2048 .bf16) (x7 : Vec F S1x256x1 .i32) (x12 : Vec F S256x16384 .f32) (x13 : Vec F S256x768 .bf16) (x14 : Vec F S256x128 .f32) (x15 : Vec F S256x128 .f32) (x16 : Vec F S256x128 .f32) : Vec F S256x16384 .f32 :=
  sc0_0.view.read (Elt F) (sc0_0.view.writes (Elt F) (hsc0_0.unread x12) (atA c t h x4 x5 x6 x7 x12 x13 x14 x15 x16).1)
def newA_13 (c : Dev nD) (t : Fin cfg0.N) (h : t.val % 16 = 0) (x4 : Vec F S1x256x768 .fp8e4m3) (x5 : Vec F S1x256x6 .f32) (x6 : Vec F S1x768x2048 .bf16) (x7 : Vec F S1x256x1 .i32) (x12 : Vec F S256x16384 .f32) (x13 : Vec F S256x768 .bf16) (x14 : Vec F S256x128 .f32) (x15 : Vec F S256x128 .f32) (x16 : Vec F S256x128 .f32) : Vec F S256x768 .bf16 :=
  sc0_1.view.read (Elt F) (sc0_1.view.writes (Elt F) (hsc0_1.unread x13) (atA c t h x4 x5 x6 x7 x12 x13 x14 x15 x16).2.1)
def newA_14 (c : Dev nD) (t : Fin cfg0.N) (h : t.val % 16 = 0) (x4 : Vec F S1x256x768 .fp8e4m3) (x5 : Vec F S1x256x6 .f32) (x6 : Vec F S1x768x2048 .bf16) (x7 : Vec F S1x256x1 .i32) (x12 : Vec F S256x16384 .f32) (x13 : Vec F S256x768 .bf16) (x14 : Vec F S256x128 .f32) (x15 : Vec F S256x128 .f32) (x16 : Vec F S256x128 .f32) : Vec F S256x128 .f32 :=
  sc0_2.view.read (Elt F) (sc0_2.view.writes (Elt F) (hsc0_2.unread x14) (atA c t h x4 x5 x6 x7 x12 x13 x14 x15 x16).2.2.1)
def newA_15 (c : Dev nD) (t : Fin cfg0.N) (h : t.val % 16 = 0) (x4 : Vec F S1x256x768 .fp8e4m3) (x5 : Vec F S1x256x6 .f32) (x6 : Vec F S1x768x2048 .bf16) (x7 : Vec F S1x256x1 .i32) (x12 : Vec F S256x16384 .f32) (x13 : Vec F S256x768 .bf16) (x14 : Vec F S256x128 .f32) (x15 : Vec F S256x128 .f32) (x16 : Vec F S256x128 .f32) : Vec F S256x128 .f32 :=
  sc0_3.view.read (Elt F) (sc0_3.view.writes (Elt F) (hsc0_3.unread x15) (atA c t h x4 x5 x6 x7 x12 x13 x14 x15 x16).2.2.2.1)
def newA_16 (c : Dev nD) (t : Fin cfg0.N) (h : t.val % 16 = 0) (x4 : Vec F S1x256x768 .fp8e4m3) (x5 : Vec F S1x256x6 .f32) (x6 : Vec F S1x768x2048 .bf16) (x7 : Vec F S1x256x1 .i32) (x12 : Vec F S256x16384 .f32) (x13 : Vec F S256x768 .bf16) (x14 : Vec F S256x128 .f32) (x15 : Vec F S256x128 .f32) (x16 : Vec F S256x128 .f32) : Vec F S256x128 .f32 :=
  sc0_4.view.read (Elt F) (sc0_4.view.writes (Elt F) (hsc0_4.unread x16) (atA c t h x4 x5 x6 x7 x12 x13 x14 x15 x16).2.2.2.2.1)
/-- The run of case B at point `t`. -/
abbrev atB (c : Dev nD) (t : Fin cfg0.N) (h : t.val % 16 ≠ 0 ∧ t.val % 16 < 8) (x6 : Vec F S1x768x2048 .bf16) (x7 : Vec F S1x256x1 .i32) (x12 : Vec F S256x16384 .f32) (x13 : Vec F S256x768 .bf16) (x14 : Vec F S256x128 .f32) (x15 : Vec F S256x128 .f32) (x16 : Vec F S256x128 .f32) :=
  runB (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) sc0_0 hsc0_0 sc0_1 hsc0_1 sc0_2 hsc0_2 sc0_3 hsc0_3 sc0_4 hsc0_4 sc0_5 hsc0_5 sc0_6 hsc0_6 (fun hh => absurd ((hcond1 t).mp hh) (by omega)) ((hcond2 t).mpr (by omega)) (fun hh => absurd ((hcond3 t).mp hh) (by omega)) (fun hh => absurd ((hcond4 t).mp hh) (by omega)) (fun hh => absurd ((hcond5 t).mp hh) (by omega)) x6 x7 x12 x13 x14 x15 x16
def newB_12 (c : Dev nD) (t : Fin cfg0.N) (h : t.val % 16 ≠ 0 ∧ t.val % 16 < 8) (x6 : Vec F S1x768x2048 .bf16) (x7 : Vec F S1x256x1 .i32) (x12 : Vec F S256x16384 .f32) (x13 : Vec F S256x768 .bf16) (x14 : Vec F S256x128 .f32) (x15 : Vec F S256x128 .f32) (x16 : Vec F S256x128 .f32) : Vec F S256x16384 .f32 :=
  sc0_0.view.read (Elt F) (sc0_0.view.writes (Elt F) (hsc0_0.unread x12) (atB c t h x6 x7 x12 x13 x14 x15 x16).1)
def newB_14 (c : Dev nD) (t : Fin cfg0.N) (h : t.val % 16 ≠ 0 ∧ t.val % 16 < 8) (x6 : Vec F S1x768x2048 .bf16) (x7 : Vec F S1x256x1 .i32) (x12 : Vec F S256x16384 .f32) (x13 : Vec F S256x768 .bf16) (x14 : Vec F S256x128 .f32) (x15 : Vec F S256x128 .f32) (x16 : Vec F S256x128 .f32) : Vec F S256x128 .f32 :=
  sc0_2.view.read (Elt F) (sc0_2.view.writes (Elt F) (hsc0_2.unread x14) (atB c t h x6 x7 x12 x13 x14 x15 x16).2.1)
def newB_15 (c : Dev nD) (t : Fin cfg0.N) (h : t.val % 16 ≠ 0 ∧ t.val % 16 < 8) (x6 : Vec F S1x768x2048 .bf16) (x7 : Vec F S1x256x1 .i32) (x12 : Vec F S256x16384 .f32) (x13 : Vec F S256x768 .bf16) (x14 : Vec F S256x128 .f32) (x15 : Vec F S256x128 .f32) (x16 : Vec F S256x128 .f32) : Vec F S256x128 .f32 :=
  sc0_3.view.read (Elt F) (sc0_3.view.writes (Elt F) (hsc0_3.unread x15) (atB c t h x6 x7 x12 x13 x14 x15 x16).2.2.1)
def newB_16 (c : Dev nD) (t : Fin cfg0.N) (h : t.val % 16 ≠ 0 ∧ t.val % 16 < 8) (x6 : Vec F S1x768x2048 .bf16) (x7 : Vec F S1x256x1 .i32) (x12 : Vec F S256x16384 .f32) (x13 : Vec F S256x768 .bf16) (x14 : Vec F S256x128 .f32) (x15 : Vec F S256x128 .f32) (x16 : Vec F S256x128 .f32) : Vec F S256x128 .f32 :=
  sc0_4.view.read (Elt F) (sc0_4.view.writes (Elt F) (hsc0_4.unread x16) (atB c t h x6 x7 x12 x13 x14 x15 x16).2.2.2.1)
/-- The run of case C at point `t`. -/
abbrev atC (c : Dev nD) (t : Fin cfg0.N) (h : t.val % 16 = 8) (x6 : Vec F S1x768x2048 .bf16) (x7 : Vec F S1x256x1 .i32) (x8 : Vec F S1x1x256 .f32) (x10 : Vec F S1x256x16384 .fp8e5m2) (x11 : Vec F S1x1x256 .f32) (x12 : Vec F S256x16384 .f32) (x14 : Vec F S256x128 .f32) (x15 : Vec F S256x128 .f32) (x16 : Vec F S256x128 .f32) (x17 : Vec F S768x256 .f32) (x18 : Vec F S256x128 .f32) :=
  runC (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) sc0_0 hsc0_0 sc0_1 hsc0_1 sc0_2 hsc0_2 sc0_3 hsc0_3 sc0_4 hsc0_4 sc0_5 hsc0_5 sc0_6 hsc0_6 (fun hh => absurd ((hcond1 t).mp hh) (by omega)) (fun hh => absurd ((hcond2 t).mp hh) (by omega)) ((hcond3 t).mpr (by omega)) ((hcond4 t).mpr (by omega)) (fun hh => absurd ((hcond5 t).mp hh) (by omega)) x6 x7 x8 x10 x11 x12 x14 x15 x16 x17 x18
def newC_8 (c : Dev nD) (t : Fin cfg0.N) (h : t.val % 16 = 8) (x6 : Vec F S1x768x2048 .bf16) (x7 : Vec F S1x256x1 .i32) (x8 : Vec F S1x1x256 .f32) (x10 : Vec F S1x256x16384 .fp8e5m2) (x11 : Vec F S1x1x256 .f32) (x12 : Vec F S256x16384 .f32) (x14 : Vec F S256x128 .f32) (x15 : Vec F S256x128 .f32) (x16 : Vec F S256x128 .f32) (x17 : Vec F S768x256 .f32) (x18 : Vec F S256x128 .f32) : Vec F S1x1x256 .f32 :=
  (ms0_4 t).view.read (Elt F) ((ms0_4 t).view.writes (Elt F) ((hs0_4 t).unread x8) (atC c t h x6 x7 x8 x10 x11 x12 x14 x15 x16 x17 x18).1)
def newC_10 (c : Dev nD) (t : Fin cfg0.N) (h : t.val % 16 = 8) (x6 : Vec F S1x768x2048 .bf16) (x7 : Vec F S1x256x1 .i32) (x8 : Vec F S1x1x256 .f32) (x10 : Vec F S1x256x16384 .fp8e5m2) (x11 : Vec F S1x1x256 .f32) (x12 : Vec F S256x16384 .f32) (x14 : Vec F S256x128 .f32) (x15 : Vec F S256x128 .f32) (x16 : Vec F S256x128 .f32) (x17 : Vec F S768x256 .f32) (x18 : Vec F S256x128 .f32) : Vec F S1x256x16384 .fp8e5m2 :=
  (ms0_6 t).view.read (Elt F) ((ms0_6 t).view.writes (Elt F) ((hs0_6 t).unread x10) (atC c t h x6 x7 x8 x10 x11 x12 x14 x15 x16 x17 x18).2.1)
def newC_11 (c : Dev nD) (t : Fin cfg0.N) (h : t.val % 16 = 8) (x6 : Vec F S1x768x2048 .bf16) (x7 : Vec F S1x256x1 .i32) (x8 : Vec F S1x1x256 .f32) (x10 : Vec F S1x256x16384 .fp8e5m2) (x11 : Vec F S1x1x256 .f32) (x12 : Vec F S256x16384 .f32) (x14 : Vec F S256x128 .f32) (x15 : Vec F S256x128 .f32) (x16 : Vec F S256x128 .f32) (x17 : Vec F S768x256 .f32) (x18 : Vec F S256x128 .f32) : Vec F S1x1x256 .f32 :=
  (ms0_7 t).view.read (Elt F) ((ms0_7 t).view.writes (Elt F) ((hs0_7 t).unread x11) (atC c t h x6 x7 x8 x10 x11 x12 x14 x15 x16 x17 x18).2.2.1)
def newC_17 (c : Dev nD) (t : Fin cfg0.N) (h : t.val % 16 = 8) (x6 : Vec F S1x768x2048 .bf16) (x7 : Vec F S1x256x1 .i32) (x8 : Vec F S1x1x256 .f32) (x10 : Vec F S1x256x16384 .fp8e5m2) (x11 : Vec F S1x1x256 .f32) (x12 : Vec F S256x16384 .f32) (x14 : Vec F S256x128 .f32) (x15 : Vec F S256x128 .f32) (x16 : Vec F S256x128 .f32) (x17 : Vec F S768x256 .f32) (x18 : Vec F S256x128 .f32) : Vec F S768x256 .f32 :=
  sc0_5.view.read (Elt F) (sc0_5.view.writes (Elt F) (hsc0_5.unread x17) (atC c t h x6 x7 x8 x10 x11 x12 x14 x15 x16 x17 x18).2.2.2.1)
def newC_18 (c : Dev nD) (t : Fin cfg0.N) (h : t.val % 16 = 8) (x6 : Vec F S1x768x2048 .bf16) (x7 : Vec F S1x256x1 .i32) (x8 : Vec F S1x1x256 .f32) (x10 : Vec F S1x256x16384 .fp8e5m2) (x11 : Vec F S1x1x256 .f32) (x12 : Vec F S256x16384 .f32) (x14 : Vec F S256x128 .f32) (x15 : Vec F S256x128 .f32) (x16 : Vec F S256x128 .f32) (x17 : Vec F S768x256 .f32) (x18 : Vec F S256x128 .f32) : Vec F S256x128 .f32 :=
  sc0_6.view.read (Elt F) (sc0_6.view.writes (Elt F) (hsc0_6.unread x18) (atC c t h x6 x7 x8 x10 x11 x12 x14 x15 x16 x17 x18).2.2.2.2.1)
/-- The run of case D at point `t`. -/
abbrev atD (c : Dev nD) (t : Fin cfg0.N) (h : 8 < t.val % 16 ∧ t.val % 16 < 15) (x6 : Vec F S1x768x2048 .bf16) (x7 : Vec F S1x256x1 .i32) (x10 : Vec F S1x256x16384 .fp8e5m2) (x12 : Vec F S256x16384 .f32) (x17 : Vec F S768x256 .f32) (x18 : Vec F S256x128 .f32) :=
  runD (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) sc0_0 hsc0_0 sc0_1 hsc0_1 sc0_2 hsc0_2 sc0_3 hsc0_3 sc0_4 hsc0_4 sc0_5 hsc0_5 sc0_6 hsc0_6 (fun hh => absurd ((hcond1 t).mp hh) (by omega)) (fun hh => absurd ((hcond2 t).mp hh) (by omega)) (fun hh => absurd ((hcond3 t).mp hh) (by omega)) ((hcond4 t).mpr (by omega)) (fun hh => absurd ((hcond5 t).mp hh) (by omega)) x6 x7 x10 x12 x17 x18
def newD_10 (c : Dev nD) (t : Fin cfg0.N) (h : 8 < t.val % 16 ∧ t.val % 16 < 15) (x6 : Vec F S1x768x2048 .bf16) (x7 : Vec F S1x256x1 .i32) (x10 : Vec F S1x256x16384 .fp8e5m2) (x12 : Vec F S256x16384 .f32) (x17 : Vec F S768x256 .f32) (x18 : Vec F S256x128 .f32) : Vec F S1x256x16384 .fp8e5m2 :=
  (ms0_6 t).view.read (Elt F) ((ms0_6 t).view.writes (Elt F) ((hs0_6 t).unread x10) (atD c t h x6 x7 x10 x12 x17 x18).1)
def newD_17 (c : Dev nD) (t : Fin cfg0.N) (h : 8 < t.val % 16 ∧ t.val % 16 < 15) (x6 : Vec F S1x768x2048 .bf16) (x7 : Vec F S1x256x1 .i32) (x10 : Vec F S1x256x16384 .fp8e5m2) (x12 : Vec F S256x16384 .f32) (x17 : Vec F S768x256 .f32) (x18 : Vec F S256x128 .f32) : Vec F S768x256 .f32 :=
  sc0_5.view.read (Elt F) (sc0_5.view.writes (Elt F) (hsc0_5.unread x17) (atD c t h x6 x7 x10 x12 x17 x18).2.1)
/-- The run of case E at point `t`. -/
abbrev atE (c : Dev nD) (t : Fin cfg0.N) (h : t.val % 16 = 15) (x6 : Vec F S1x768x2048 .bf16) (x7 : Vec F S1x256x1 .i32) (x9 : Vec F S1x256x768 .bf16) (x10 : Vec F S1x256x16384 .fp8e5m2) (x12 : Vec F S256x16384 .f32) (x17 : Vec F S768x256 .f32) (x18 : Vec F S256x128 .f32) :=
  runE (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) sc0_0 hsc0_0 sc0_1 hsc0_1 sc0_2 hsc0_2 sc0_3 hsc0_3 sc0_4 hsc0_4 sc0_5 hsc0_5 sc0_6 hsc0_6 (fun hh => absurd ((hcond1 t).mp hh) (by omega)) (fun hh => absurd ((hcond2 t).mp hh) (by omega)) (fun hh => absurd ((hcond3 t).mp hh) (by omega)) ((hcond4 t).mpr (by omega)) ((hcond5 t).mpr (by omega)) x6 x7 x9 x10 x12 x17 x18
def newE_9 (c : Dev nD) (t : Fin cfg0.N) (h : t.val % 16 = 15) (x6 : Vec F S1x768x2048 .bf16) (x7 : Vec F S1x256x1 .i32) (x9 : Vec F S1x256x768 .bf16) (x10 : Vec F S1x256x16384 .fp8e5m2) (x12 : Vec F S256x16384 .f32) (x17 : Vec F S768x256 .f32) (x18 : Vec F S256x128 .f32) : Vec F S1x256x768 .bf16 :=
  (ms0_5 t).view.read (Elt F) ((ms0_5 t).view.writes (Elt F) ((hs0_5 t).unread x9) (atE c t h x6 x7 x9 x10 x12 x17 x18).1)
def newE_10 (c : Dev nD) (t : Fin cfg0.N) (h : t.val % 16 = 15) (x6 : Vec F S1x768x2048 .bf16) (x7 : Vec F S1x256x1 .i32) (x9 : Vec F S1x256x768 .bf16) (x10 : Vec F S1x256x16384 .fp8e5m2) (x12 : Vec F S256x16384 .f32) (x17 : Vec F S768x256 .f32) (x18 : Vec F S256x128 .f32) : Vec F S1x256x16384 .fp8e5m2 :=
  (ms0_6 t).view.read (Elt F) ((ms0_6 t).view.writes (Elt F) ((hs0_6 t).unread x10) (atE c t h x6 x7 x9 x10 x12 x17 x18).2.1)
def newE_17 (c : Dev nD) (t : Fin cfg0.N) (h : t.val % 16 = 15) (x6 : Vec F S1x768x2048 .bf16) (x7 : Vec F S1x256x1 .i32) (x9 : Vec F S1x256x768 .bf16) (x10 : Vec F S1x256x16384 .fp8e5m2) (x12 : Vec F S256x16384 .f32) (x17 : Vec F S768x256 .f32) (x18 : Vec F S256x128 .f32) : Vec F S768x256 .f32 :=
  sc0_5.view.read (Elt F) (sc0_5.view.writes (Elt F) (hsc0_5.unread x17) (atE c t h x6 x7 x9 x10 x12 x17 x18).2.2.1)

/-! ## The specification -/

/-- What a proof says: `Inv c n` of the seven scratch buffers before point `n`; `P4` to `P7` of the four outputs' staging
    buffers after point `n`. -/
structure Spec (F : FTy → Type) where
  Inv : Dev nD → ℕ → Vec F S256x16384 .f32 → Vec F S256x768 .bf16 → Vec F S256x128 .f32 → Vec F S256x128 .f32 → Vec F S256x128 .f32 → Vec F S768x256 .f32 → Vec F S256x128 .f32 → Prop
  P4 : Dev nD → ℕ → Vec F S1x1x256 .f32 → Prop
  P5 : Dev nD → ℕ → Vec F S1x256x768 .bf16 → Prop
  P6 : Dev nD → ℕ → Vec F S1x256x16384 .fp8e5m2 → Prop
  P7 : Dev nD → ℕ → Vec F S1x1x256 .f32 → Prop

/-- Each case of the body keeps the specification. -/
structure Steps (S : Spec F) : Prop where
  init : ∀ (c : Dev nD) (s12 : Vec F S256x16384 .f32) (s13 : Vec F S256x768 .bf16) (s14 : Vec F S256x128 .f32) (s15 : Vec F S256x128 .f32) (s16 : Vec F S256x128 .f32) (s17 : Vec F S768x256 .f32) (s18 : Vec F S256x128 .f32), S.Inv c 0 s12 s13 s14 s15 s16 s17 s18
  lo4 : ∀ c n y, n % 16 < 8 → S.P4 c n y
  lo5 : ∀ c n y, n % 16 < 15 → S.P5 c n y
  lo6 : ∀ c n y, n % 16 < 8 → S.P6 c n y
  lo7 : ∀ c n y, n % 16 < 8 → S.P7 c n y
  keep4 : ∀ c n y, 8 < n % 16 → S.P4 c (n - 1) y → S.P4 c n y
  keep7 : ∀ c n y, 8 < n % 16 → S.P7 c (n - 1) y → S.P7 c n y
  stepA : ∀ (c : Dev nD) (t : Fin cfg0.N) (h : t.val % 16 = 0)  (s12 : Vec F S256x16384 .f32) (s13 : Vec F S256x768 .bf16) (s14 : Vec F S256x128 .f32) (s15 : Vec F S256x128 .f32) (s16 : Vec F S256x128 .f32) (s17 : Vec F S768x256 .f32) (s18 : Vec F S256x128 .f32), S.Inv c t.val s12 s13 s14 s15 s16 s17 s18 → S.Inv c (t.val + 1) (newA_12 c t h (iblk m c 0 t) (iblk m c 1 t) (iblk m c 2 t) (iblk m c 3 t) s12 s13 s14 s15 s16) (newA_13 c t h (iblk m c 0 t) (iblk m c 1 t) (iblk m c 2 t) (iblk m c 3 t) s12 s13 s14 s15 s16) (newA_14 c t h (iblk m c 0 t) (iblk m c 1 t) (iblk m c 2 t) (iblk m c 3 t) s12 s13 s14 s15 s16) (newA_15 c t h (iblk m c 0 t) (iblk m c 1 t) (iblk m c 2 t) (iblk m c 3 t) s12 s13 s14 s15 s16) (newA_16 c t h (iblk m c 0 t) (iblk m c 1 t) (iblk m c 2 t) (iblk m c 3 t) s12 s13 s14 s15 s16) s17 s18
  stepB : ∀ (c : Dev nD) (t : Fin cfg0.N) (h : t.val % 16 ≠ 0 ∧ t.val % 16 < 8)  (s12 : Vec F S256x16384 .f32) (s13 : Vec F S256x768 .bf16) (s14 : Vec F S256x128 .f32) (s15 : Vec F S256x128 .f32) (s16 : Vec F S256x128 .f32) (s17 : Vec F S768x256 .f32) (s18 : Vec F S256x128 .f32), S.Inv c t.val s12 s13 s14 s15 s16 s17 s18 → S.Inv c (t.val + 1) (newB_12 c t h (iblk m c 2 t) (iblk m c 3 t) s12 s13 s14 s15 s16) s13 (newB_14 c t h (iblk m c 2 t) (iblk m c 3 t) s12 s13 s14 s15 s16) (newB_15 c t h (iblk m c 2 t) (iblk m c 3 t) s12 s13 s14 s15 s16) (newB_16 c t h (iblk m c 2 t) (iblk m c 3 t) s12 s13 s14 s15 s16) s17 s18
  stepC : ∀ (c : Dev nD) (t : Fin cfg0.N) (h : t.val % 16 = 8) (y8 : Vec F S1x1x256 .f32) (y10 : Vec F S1x256x16384 .fp8e5m2) (y11 : Vec F S1x1x256 .f32) (s12 : Vec F S256x16384 .f32) (s13 : Vec F S256x768 .bf16) (s14 : Vec F S256x128 .f32) (s15 : Vec F S256x128 .f32) (s16 : Vec F S256x128 .f32) (s17 : Vec F S768x256 .f32) (s18 : Vec F S256x128 .f32), S.Inv c t.val s12 s13 s14 s15 s16 s17 s18 → S.Inv c (t.val + 1) s12 s13 s14 s15 s16 (newC_17 c t h (iblk m c 2 t) (iblk m c 3 t) y8 y10 y11 s12 s14 s15 s16 s17 s18) (newC_18 c t h (iblk m c 2 t) (iblk m c 3 t) y8 y10 y11 s12 s14 s15 s16 s17 s18) ∧ S.P4 c t.val (newC_8 c t h (iblk m c 2 t) (iblk m c 3 t) y8 y10 y11 s12 s14 s15 s16 s17 s18) ∧ S.P6 c t.val (newC_10 c t h (iblk m c 2 t) (iblk m c 3 t) y8 y10 y11 s12 s14 s15 s16 s17 s18) ∧ S.P7 c t.val (newC_11 c t h (iblk m c 2 t) (iblk m c 3 t) y8 y10 y11 s12 s14 s15 s16 s17 s18)
  stepD : ∀ (c : Dev nD) (t : Fin cfg0.N) (h : 8 < t.val % 16 ∧ t.val % 16 < 15) (y10 : Vec F S1x256x16384 .fp8e5m2) (s12 : Vec F S256x16384 .f32) (s13 : Vec F S256x768 .bf16) (s14 : Vec F S256x128 .f32) (s15 : Vec F S256x128 .f32) (s16 : Vec F S256x128 .f32) (s17 : Vec F S768x256 .f32) (s18 : Vec F S256x128 .f32), S.Inv c t.val s12 s13 s14 s15 s16 s17 s18 → S.P6 c (t.val - 1) y10 → S.Inv c (t.val + 1) s12 s13 s14 s15 s16 (newD_17 c t h (iblk m c 2 t) (iblk m c 3 t) y10 s12 s17 s18) s18 ∧ S.P6 c t.val (newD_10 c t h (iblk m c 2 t) (iblk m c 3 t) y10 s12 s17 s18)
  stepE : ∀ (c : Dev nD) (t : Fin cfg0.N) (h : t.val % 16 = 15) (y9 : Vec F S1x256x768 .bf16) (y10 : Vec F S1x256x16384 .fp8e5m2) (s12 : Vec F S256x16384 .f32) (s13 : Vec F S256x768 .bf16) (s14 : Vec F S256x128 .f32) (s15 : Vec F S256x128 .f32) (s16 : Vec F S256x128 .f32) (s17 : Vec F S768x256 .f32) (s18 : Vec F S256x128 .f32), S.Inv c t.val s12 s13 s14 s15 s16 s17 s18 → S.P6 c (t.val - 1) y10 → S.Inv c (t.val + 1) s12 s13 s14 s15 s16 (newE_17 c t h (iblk m c 2 t) (iblk m c 3 t) y9 y10 s12 s17 s18) s18 ∧ S.P5 c t.val (newE_9 c t h (iblk m c 2 t) (iblk m c 3 t) y9 y10 s12 s17 s18) ∧ S.P6 c t.val (newE_10 c t h (iblk m c 2 t) (iblk m c 3 t) y9 y10 s12 s17 s18)

/-- The invariant before point `n`: the scratch buffers at contents of which `Inv` holds, and the generator register. -/
def Phi (S : Spec F) (c : Dev nD) (n : ℕ) : sProp 𝕄 :=
  iprop(∃ (s12 : Vec F S256x16384 .f32), ∃ (s13 : Vec F S256x768 .bf16), ∃ (s14 : Vec F S256x128 .f32), ∃ (s15 : Vec F S256x128 .f32), ∃ (s16 : Vec F S256x128 .f32), ∃ (s17 : Vec F S768x256 .f32), ∃ (s18 : Vec F S256x128 .f32), ⌜S.Inv c n s12 s13 s14 s15 s16 s17 s18⌝ ∗ owns (c : Thread nD τ) sc0_0 fullShare s12 ∗ owns (c : Thread nD τ) sc0_1 fullShare s13 ∗ owns (c : Thread nD τ) sc0_2 fullShare s14 ∗ owns (c : Thread nD τ) sc0_3 fullShare s15 ∗ owns (c : Thread nD τ) sc0_4 fullShare s16 ∗ owns (c : Thread nD τ) sc0_5 fullShare s17 ∗ owns (c : Thread nD τ) sc0_6 fullShare s18 ∗ (∃ r, prngReg c r))

/-- The proof's data: the arrays as the region finds them, the inputs kept, the outputs as the specification says. -/
def rdat (S : Spec F) (c : Dev nD) : RDat τ (Elt F) Unit ℕ (UR sig nD τ) ℕ cfg0 c where
  A w := V m c (Pipeline.arrRef spec0 w)
  after w t := match w with
    | ⟨0, _⟩ => fun Y X => X = Y
    | ⟨1, _⟩ => fun Y X => X = Y
    | ⟨2, _⟩ => fun Y X => X = Y
    | ⟨3, _⟩ => fun Y X => X = Y
    | ⟨4, _⟩ => fun _ X => S.P4 c t.val X
    | ⟨5, _⟩ => fun _ X => S.P5 c t.val X
    | ⟨6, _⟩ => fun _ X => S.P6 c t.val X
    | ⟨7, _⟩ => fun _ X => S.P7 c t.val X
  Φ t := Phi S c t.val
  q _ := fullShare
  owed _ := 0

variable {m}

theorem finds0 {S : Spec F} {c : Dev nD} {t : Fin cfg0.N} {Y} (h : (rdat m S c).Finds 0 t Y) : Y = iblk m c 0 t := by
  obtain ⟨d, rfl⟩ := (rdat m S c).finds_in_eq_fetched 0 rfl (fun _ _ _ => rfl) (fun _ _ _ h => h) t Y h
  rfl

theorem finds1 {S : Spec F} {c : Dev nD} {t : Fin cfg0.N} {Y} (h : (rdat m S c).Finds 1 t Y) : Y = iblk m c 1 t := by
  obtain ⟨d, rfl⟩ := (rdat m S c).finds_in_eq_fetched 1 rfl (fun _ _ _ => rfl) (fun _ _ _ h => h) t Y h
  rfl

theorem finds2 {S : Spec F} {c : Dev nD} {t : Fin cfg0.N} {Y} (h : (rdat m S c).Finds 2 t Y) : Y = iblk m c 2 t := by
  obtain ⟨d, rfl⟩ := (rdat m S c).finds_in_eq_fetched 2 rfl (fun _ _ _ => rfl) (fun _ _ _ h => h) t Y h
  rfl

theorem finds3 {S : Spec F} {c : Dev nD} {t : Fin cfg0.N} {Y} (h : (rdat m S c).Finds 3 t Y) : Y = iblk m c 3 t := by
  obtain ⟨d, rfl⟩ := (rdat m S c).finds_in_eq_fetched 3 rfl (fun _ _ _ => rfl) (fun _ _ _ h => h) t Y h
  rfl

theorem finds6 {S : Spec F} {c : Dev nD} {t : Fin cfg0.N} {Y} (h : (rdat m S c).Finds 6 t Y) (ht : t.val % 16 ≠ 0) : S.P6 c (t.val - 1) Y := by
  have hf : (cfg0.win 6).fetch t = false := rfl
  rcases ((rdat m S c).finds_of_pos hf (by omega) Y).mp h with hfl | ⟨Y', _, hR⟩
  · exact absurd ((flush0_6 _).mp hfl) (by show ¬ (t.val - 1) % 16 = 15; omega)
  · exact hR

theorem finds4 {S : Spec F} {c : Dev nD} {t : Fin cfg0.N} {Y} (h : (rdat m S c).Finds 4 t Y) (ht : t.val % 16 ≠ 0) : S.P4 c (t.val - 1) Y := by
  have hf : (cfg0.win 4).fetch t = false := rfl
  rcases ((rdat m S c).finds_of_pos hf (by omega) Y).mp h with hfl | ⟨Y', _, hR⟩
  · exact absurd ((flush0_4 _).mp hfl) (by show ¬ (t.val - 1) % 16 = 15; omega)
  · exact hR

theorem finds7 {S : Spec F} {c : Dev nD} {t : Fin cfg0.N} {Y} (h : (rdat m S c).Finds 7 t Y) (ht : t.val % 16 ≠ 0) : S.P7 c (t.val - 1) Y := by
  have hf : (cfg0.win 7).fetch t = false := rfl
  rcases ((rdat m S c).finds_of_pos hf (by omega) Y).mp h with hfl | ⟨Y', _, hR⟩
  · exact absurd ((flush0_7 _).mp hfl) (by show ¬ (t.val - 1) % 16 = 15; omega)
  · exact hR

set_option maxHeartbeats 3200000 in
/-- The body at a point of case A. -/
theorem bodyA {S : Spec F} (hS : Steps m S) (c : Dev nD) (t : Fin cfg0.N) (h : t.val % 16 = 0) (y8 : Vec F S1x1x256 .f32) (y9 : Vec F S1x256x768 .bf16) (y10 : Vec F S1x256x16384 .fp8e5m2) (y11 : Vec F S1x1x256 .f32)  :
    iprop(Phi S c t.val ∗ (rdat m S c).owesAt () t.castSucc ∗ owns (c : Thread nD τ) (ms0_0 t) fullShare (iblk m c 0 t) ∗ owns (c : Thread nD τ) (ms0_1 t) fullShare (iblk m c 1 t) ∗ owns (c : Thread nD τ) (ms0_2 t) fullShare (iblk m c 2 t) ∗ owns (c : Thread nD τ) (ms0_3 t) fullShare (iblk m c 3 t) ∗ owns (c : Thread nD τ) (ms0_4 t) fullShare y8 ∗ owns (c : Thread nD τ) (ms0_5 t) fullShare y9 ∗ owns (c : Thread nD τ) (ms0_6 t) fullShare y10 ∗ owns (c : Thread nD τ) (ms0_7 t) fullShare y11)
      ⊢ wp frame (wpE (defs₀ (F := F)) Variants.none c none) Set.univ (bodyAt0 t) (fun _ => iprop(Phi S c (t.val + 1) ∗ (rdat m S c).owesAt () t.castSucc ∗ (∃ X, ⌜X = iblk m c 0 t⌝ ∗ owns (c : Thread nD τ) (ms0_0 t) fullShare X) ∗ (∃ X, ⌜X = iblk m c 1 t⌝ ∗ owns (c : Thread nD τ) (ms0_1 t) fullShare X) ∗ (∃ X, ⌜X = iblk m c 2 t⌝ ∗ owns (c : Thread nD τ) (ms0_2 t) fullShare X) ∗ (∃ X, ⌜X = iblk m c 3 t⌝ ∗ owns (c : Thread nD τ) (ms0_3 t) fullShare X) ∗ (∃ X, ⌜S.P4 c t.val X⌝ ∗ owns (c : Thread nD τ) (ms0_4 t) fullShare X) ∗ (∃ X, ⌜S.P5 c t.val X⌝ ∗ owns (c : Thread nD τ) (ms0_5 t) fullShare X) ∗ (∃ X, ⌜S.P6 c t.val X⌝ ∗ owns (c : Thread nD τ) (ms0_6 t) fullShare X) ∗ (∃ X, ⌜S.P7 c t.val X⌝ ∗ owns (c : Thread nD τ) (ms0_7 t) fullShare X))) := by
  unfold Phi bodyAt0
  iintro ⟨⟨%s12, %s13, %s14, %s15, %s16, %s17, %s18, %hI, H12, H13, H14, H15, H16, H17, H18, Hg⟩, Ho, H4, H5, H6, H7, H8, H9, H10, H11⟩
  have hI2 := hS.stepA c t h  s12 s13 s14 s15 s16 s17 s18 hI
  iapply ((atA c t h (iblk m c 0 t) (iblk m c 1 t) (iblk m c 2 t) (iblk m c 3 t) s12 s13 s14 s15 s16).2.2.2.2.2 Set.univ _)
  isplitl [H4]; · iexact H4
  isplitl [H5]; · iexact H5
  isplitl [H6]; · iexact H6
  isplitl [H7]; · iexact H7
  isplitl [H12]; · iexact H12
  isplitl [H13]; · iexact H13
  isplitl [H14]; · iexact H14
  isplitl [H15]; · iexact H15
  isplitl [H16]; · iexact H16
  iintro ⟨K4, K5, K6, K7, K12, K13, K14, K15, K16⟩
  isplitl [K12 K13 K14 K15 K16 H17 H18 Hg]
  · iexists (newA_12 c t h (iblk m c 0 t) (iblk m c 1 t) (iblk m c 2 t) (iblk m c 3 t) s12 s13 s14 s15 s16), (newA_13 c t h (iblk m c 0 t) (iblk m c 1 t) (iblk m c 2 t) (iblk m c 3 t) s12 s13 s14 s15 s16), (newA_14 c t h (iblk m c 0 t) (iblk m c 1 t) (iblk m c 2 t) (iblk m c 3 t) s12 s13 s14 s15 s16), (newA_15 c t h (iblk m c 0 t) (iblk m c 1 t) (iblk m c 2 t) (iblk m c 3 t) s12 s13 s14 s15 s16), (newA_16 c t h (iblk m c 0 t) (iblk m c 1 t) (iblk m c 2 t) (iblk m c 3 t) s12 s13 s14 s15 s16), s17, s18
    isplitr; · ipureintro; exact hI2
    isplitl [K12]
    · unfold owns; iexists _; isplitr; · ipureintro; exact rfl
      iexact K12
    isplitl [K13]
    · unfold owns; iexists _; isplitr; · ipureintro; exact rfl
      iexact K13
    isplitl [K14]
    · unfold owns; iexists _; isplitr; · ipureintro; exact rfl
      iexact K14
    isplitl [K15]
    · unfold owns; iexists _; isplitr; · ipureintro; exact rfl
      iexact K15
    isplitl [K16]
    · unfold owns; iexists _; isplitr; · ipureintro; exact rfl
      iexact K16
    isplitl [H17]
    · iexact H17
    isplitl [H18]
    · iexact H18
    iexact Hg
  isplitl [Ho]; · iexact Ho
  isplitl [K4]
  · iexists (iblk m c 0 t); isplitr; · ipureintro; exact rfl
    iexact K4
  isplitl [K5]
  · iexists (iblk m c 1 t); isplitr; · ipureintro; exact rfl
    iexact K5
  isplitl [K6]
  · iexists (iblk m c 2 t); isplitr; · ipureintro; exact rfl
    iexact K6
  isplitl [K7]
  · iexists (iblk m c 3 t); isplitr; · ipureintro; exact rfl
    iexact K7
  isplitl [H8]
  · iexists y8
    isplitr
    · ipureintro; exact hS.lo4 c t.val y8 (by omega)
    iexact H8
  isplitl [H9]
  · iexists y9
    isplitr
    · ipureintro; exact hS.lo5 c t.val y9 (by omega)
    iexact H9
  isplitl [H10]
  · iexists y10
    isplitr
    · ipureintro; exact hS.lo6 c t.val y10 (by omega)
    iexact H10
  iexists y11
  isplitr
  · ipureintro; exact hS.lo7 c t.val y11 (by omega)
  iexact H11

set_option maxHeartbeats 3200000 in
/-- The body at a point of case B. -/
theorem bodyB {S : Spec F} (hS : Steps m S) (c : Dev nD) (t : Fin cfg0.N) (h : t.val % 16 ≠ 0 ∧ t.val % 16 < 8) (y8 : Vec F S1x1x256 .f32) (y9 : Vec F S1x256x768 .bf16) (y10 : Vec F S1x256x16384 .fp8e5m2) (y11 : Vec F S1x1x256 .f32)  :
    iprop(Phi S c t.val ∗ (rdat m S c).owesAt () t.castSucc ∗ owns (c : Thread nD τ) (ms0_0 t) fullShare (iblk m c 0 t) ∗ owns (c : Thread nD τ) (ms0_1 t) fullShare (iblk m c 1 t) ∗ owns (c : Thread nD τ) (ms0_2 t) fullShare (iblk m c 2 t) ∗ owns (c : Thread nD τ) (ms0_3 t) fullShare (iblk m c 3 t) ∗ owns (c : Thread nD τ) (ms0_4 t) fullShare y8 ∗ owns (c : Thread nD τ) (ms0_5 t) fullShare y9 ∗ owns (c : Thread nD τ) (ms0_6 t) fullShare y10 ∗ owns (c : Thread nD τ) (ms0_7 t) fullShare y11)
      ⊢ wp frame (wpE (defs₀ (F := F)) Variants.none c none) Set.univ (bodyAt0 t) (fun _ => iprop(Phi S c (t.val + 1) ∗ (rdat m S c).owesAt () t.castSucc ∗ (∃ X, ⌜X = iblk m c 0 t⌝ ∗ owns (c : Thread nD τ) (ms0_0 t) fullShare X) ∗ (∃ X, ⌜X = iblk m c 1 t⌝ ∗ owns (c : Thread nD τ) (ms0_1 t) fullShare X) ∗ (∃ X, ⌜X = iblk m c 2 t⌝ ∗ owns (c : Thread nD τ) (ms0_2 t) fullShare X) ∗ (∃ X, ⌜X = iblk m c 3 t⌝ ∗ owns (c : Thread nD τ) (ms0_3 t) fullShare X) ∗ (∃ X, ⌜S.P4 c t.val X⌝ ∗ owns (c : Thread nD τ) (ms0_4 t) fullShare X) ∗ (∃ X, ⌜S.P5 c t.val X⌝ ∗ owns (c : Thread nD τ) (ms0_5 t) fullShare X) ∗ (∃ X, ⌜S.P6 c t.val X⌝ ∗ owns (c : Thread nD τ) (ms0_6 t) fullShare X) ∗ (∃ X, ⌜S.P7 c t.val X⌝ ∗ owns (c : Thread nD τ) (ms0_7 t) fullShare X))) := by
  unfold Phi bodyAt0
  iintro ⟨⟨%s12, %s13, %s14, %s15, %s16, %s17, %s18, %hI, H12, H13, H14, H15, H16, H17, H18, Hg⟩, Ho, H4, H5, H6, H7, H8, H9, H10, H11⟩
  have hI2 := hS.stepB c t h  s12 s13 s14 s15 s16 s17 s18 hI
  iapply ((atB c t h (iblk m c 2 t) (iblk m c 3 t) s12 s13 s14 s15 s16).2.2.2.2 Set.univ _)
  isplitl [H6]; · iexact H6
  isplitl [H7]; · iexact H7
  isplitl [H12]; · iexact H12
  isplitl [H13]; · iexact H13
  isplitl [H14]; · iexact H14
  isplitl [H15]; · iexact H15
  isplitl [H16]; · iexact H16
  iintro ⟨K6, K7, K12, K13, K14, K15, K16⟩
  isplitl [K12 K13 K14 K15 K16 H17 H18 Hg]
  · iexists (newB_12 c t h (iblk m c 2 t) (iblk m c 3 t) s12 s13 s14 s15 s16), s13, (newB_14 c t h (iblk m c 2 t) (iblk m c 3 t) s12 s13 s14 s15 s16), (newB_15 c t h (iblk m c 2 t) (iblk m c 3 t) s12 s13 s14 s15 s16), (newB_16 c t h (iblk m c 2 t) (iblk m c 3 t) s12 s13 s14 s15 s16), s17, s18
    isplitr; · ipureintro; exact hI2
    isplitl [K12]
    · unfold owns; iexists _; isplitr; · ipureintro; exact rfl
      iexact K12
    isplitl [K13]
    · iexact K13
    isplitl [K14]
    · unfold owns; iexists _; isplitr; · ipureintro; exact rfl
      iexact K14
    isplitl [K15]
    · unfold owns; iexists _; isplitr; · ipureintro; exact rfl
      iexact K15
    isplitl [K16]
    · unfold owns; iexists _; isplitr; · ipureintro; exact rfl
      iexact K16
    isplitl [H17]
    · iexact H17
    isplitl [H18]
    · iexact H18
    iexact Hg
  isplitl [Ho]; · iexact Ho
  isplitl [H4]
  · iexists (iblk m c 0 t); isplitr; · ipureintro; exact rfl
    iexact H4
  isplitl [H5]
  · iexists (iblk m c 1 t); isplitr; · ipureintro; exact rfl
    iexact H5
  isplitl [K6]
  · iexists (iblk m c 2 t); isplitr; · ipureintro; exact rfl
    iexact K6
  isplitl [K7]
  · iexists (iblk m c 3 t); isplitr; · ipureintro; exact rfl
    iexact K7
  isplitl [H8]
  · iexists y8
    isplitr
    · ipureintro; exact hS.lo4 c t.val y8 (by omega)
    iexact H8
  isplitl [H9]
  · iexists y9
    isplitr
    · ipureintro; exact hS.lo5 c t.val y9 (by omega)
    iexact H9
  isplitl [H10]
  · iexists y10
    isplitr
    · ipureintro; exact hS.lo6 c t.val y10 (by omega)
    iexact H10
  iexists y11
  isplitr
  · ipureintro; exact hS.lo7 c t.val y11 (by omega)
  iexact H11

set_option maxHeartbeats 3200000 in
/-- The body at a point of case C. -/
theorem bodyC {S : Spec F} (hS : Steps m S) (c : Dev nD) (t : Fin cfg0.N) (h : t.val % 16 = 8) (y8 : Vec F S1x1x256 .f32) (y9 : Vec F S1x256x768 .bf16) (y10 : Vec F S1x256x16384 .fp8e5m2) (y11 : Vec F S1x1x256 .f32)  :
    iprop(Phi S c t.val ∗ (rdat m S c).owesAt () t.castSucc ∗ owns (c : Thread nD τ) (ms0_0 t) fullShare (iblk m c 0 t) ∗ owns (c : Thread nD τ) (ms0_1 t) fullShare (iblk m c 1 t) ∗ owns (c : Thread nD τ) (ms0_2 t) fullShare (iblk m c 2 t) ∗ owns (c : Thread nD τ) (ms0_3 t) fullShare (iblk m c 3 t) ∗ owns (c : Thread nD τ) (ms0_4 t) fullShare y8 ∗ owns (c : Thread nD τ) (ms0_5 t) fullShare y9 ∗ owns (c : Thread nD τ) (ms0_6 t) fullShare y10 ∗ owns (c : Thread nD τ) (ms0_7 t) fullShare y11)
      ⊢ wp frame (wpE (defs₀ (F := F)) Variants.none c none) Set.univ (bodyAt0 t) (fun _ => iprop(Phi S c (t.val + 1) ∗ (rdat m S c).owesAt () t.castSucc ∗ (∃ X, ⌜X = iblk m c 0 t⌝ ∗ owns (c : Thread nD τ) (ms0_0 t) fullShare X) ∗ (∃ X, ⌜X = iblk m c 1 t⌝ ∗ owns (c : Thread nD τ) (ms0_1 t) fullShare X) ∗ (∃ X, ⌜X = iblk m c 2 t⌝ ∗ owns (c : Thread nD τ) (ms0_2 t) fullShare X) ∗ (∃ X, ⌜X = iblk m c 3 t⌝ ∗ owns (c : Thread nD τ) (ms0_3 t) fullShare X) ∗ (∃ X, ⌜S.P4 c t.val X⌝ ∗ owns (c : Thread nD τ) (ms0_4 t) fullShare X) ∗ (∃ X, ⌜S.P5 c t.val X⌝ ∗ owns (c : Thread nD τ) (ms0_5 t) fullShare X) ∗ (∃ X, ⌜S.P6 c t.val X⌝ ∗ owns (c : Thread nD τ) (ms0_6 t) fullShare X) ∗ (∃ X, ⌜S.P7 c t.val X⌝ ∗ owns (c : Thread nD τ) (ms0_7 t) fullShare X))) := by
  unfold Phi bodyAt0
  iintro ⟨⟨%s12, %s13, %s14, %s15, %s16, %s17, %s18, %hI, H12, H13, H14, H15, H16, H17, H18, Hg⟩, Ho, H4, H5, H6, H7, H8, H9, H10, H11⟩
  have hall := hS.stepC c t h y8 y10 y11 s12 s13 s14 s15 s16 s17 s18 hI
  obtain ⟨hI2, hP4, hP6, hP7⟩ := hall
  iapply ((atC c t h (iblk m c 2 t) (iblk m c 3 t) y8 y10 y11 s12 s14 s15 s16 s17 s18).2.2.2.2.2 Set.univ _)
  isplitl [H6]; · iexact H6
  isplitl [H7]; · iexact H7
  isplitl [H8]; · iexact H8
  isplitl [H10]; · iexact H10
  isplitl [H11]; · iexact H11
  isplitl [H12]; · iexact H12
  isplitl [H14]; · iexact H14
  isplitl [H15]; · iexact H15
  isplitl [H16]; · iexact H16
  isplitl [H17]; · iexact H17
  isplitl [H18]; · iexact H18
  iintro ⟨K6, K7, K8, K10, K11, K12, K14, K15, K16, K17, K18⟩
  isplitl [K12 H13 K14 K15 K16 K17 K18 Hg]
  · iexists s12, s13, s14, s15, s16, (newC_17 c t h (iblk m c 2 t) (iblk m c 3 t) y8 y10 y11 s12 s14 s15 s16 s17 s18), (newC_18 c t h (iblk m c 2 t) (iblk m c 3 t) y8 y10 y11 s12 s14 s15 s16 s17 s18)
    isplitr; · ipureintro; exact hI2
    isplitl [K12]
    · iexact K12
    isplitl [H13]
    · iexact H13
    isplitl [K14]
    · iexact K14
    isplitl [K15]
    · iexact K15
    isplitl [K16]
    · iexact K16
    isplitl [K17]
    · unfold owns; iexists _; isplitr; · ipureintro; exact rfl
      iexact K17
    isplitl [K18]
    · unfold owns; iexists _; isplitr; · ipureintro; exact rfl
      iexact K18
    iexact Hg
  isplitl [Ho]; · iexact Ho
  isplitl [H4]
  · iexists (iblk m c 0 t); isplitr; · ipureintro; exact rfl
    iexact H4
  isplitl [H5]
  · iexists (iblk m c 1 t); isplitr; · ipureintro; exact rfl
    iexact H5
  isplitl [K6]
  · iexists (iblk m c 2 t); isplitr; · ipureintro; exact rfl
    iexact K6
  isplitl [K7]
  · iexists (iblk m c 3 t); isplitr; · ipureintro; exact rfl
    iexact K7
  isplitl [K8]
  · iexists (newC_8 c t h (iblk m c 2 t) (iblk m c 3 t) y8 y10 y11 s12 s14 s15 s16 s17 s18)
    isplitr
    · ipureintro; exact hP4
    unfold owns; iexists _; isplitr; · ipureintro; exact rfl
    iexact K8
  isplitl [H9]
  · iexists y9
    isplitr
    · ipureintro; exact hS.lo5 c t.val y9 (by omega)
    iexact H9
  isplitl [K10]
  · iexists (newC_10 c t h (iblk m c 2 t) (iblk m c 3 t) y8 y10 y11 s12 s14 s15 s16 s17 s18)
    isplitr
    · ipureintro; exact hP6
    unfold owns; iexists _; isplitr; · ipureintro; exact rfl
    iexact K10
  iexists (newC_11 c t h (iblk m c 2 t) (iblk m c 3 t) y8 y10 y11 s12 s14 s15 s16 s17 s18)
  isplitr
  · ipureintro; exact hP7
  unfold owns; iexists _; isplitr; · ipureintro; exact rfl
  iexact K11

set_option maxHeartbeats 3200000 in
/-- The body at a point of case D. -/
theorem bodyD {S : Spec F} (hS : Steps m S) (c : Dev nD) (t : Fin cfg0.N) (h : 8 < t.val % 16 ∧ t.val % 16 < 15) (y8 : Vec F S1x1x256 .f32) (y9 : Vec F S1x256x768 .bf16) (y10 : Vec F S1x256x16384 .fp8e5m2) (y11 : Vec F S1x1x256 .f32) (h6 : S.P6 c (t.val - 1) y10) (h4 : S.P4 c (t.val - 1) y8) (h7 : S.P7 c (t.val - 1) y11) :
    iprop(Phi S c t.val ∗ (rdat m S c).owesAt () t.castSucc ∗ owns (c : Thread nD τ) (ms0_0 t) fullShare (iblk m c 0 t) ∗ owns (c : Thread nD τ) (ms0_1 t) fullShare (iblk m c 1 t) ∗ owns (c : Thread nD τ) (ms0_2 t) fullShare (iblk m c 2 t) ∗ owns (c : Thread nD τ) (ms0_3 t) fullShare (iblk m c 3 t) ∗ owns (c : Thread nD τ) (ms0_4 t) fullShare y8 ∗ owns (c : Thread nD τ) (ms0_5 t) fullShare y9 ∗ owns (c : Thread nD τ) (ms0_6 t) fullShare y10 ∗ owns (c : Thread nD τ) (ms0_7 t) fullShare y11)
      ⊢ wp frame (wpE (defs₀ (F := F)) Variants.none c none) Set.univ (bodyAt0 t) (fun _ => iprop(Phi S c (t.val + 1) ∗ (rdat m S c).owesAt () t.castSucc ∗ (∃ X, ⌜X = iblk m c 0 t⌝ ∗ owns (c : Thread nD τ) (ms0_0 t) fullShare X) ∗ (∃ X, ⌜X = iblk m c 1 t⌝ ∗ owns (c : Thread nD τ) (ms0_1 t) fullShare X) ∗ (∃ X, ⌜X = iblk m c 2 t⌝ ∗ owns (c : Thread nD τ) (ms0_2 t) fullShare X) ∗ (∃ X, ⌜X = iblk m c 3 t⌝ ∗ owns (c : Thread nD τ) (ms0_3 t) fullShare X) ∗ (∃ X, ⌜S.P4 c t.val X⌝ ∗ owns (c : Thread nD τ) (ms0_4 t) fullShare X) ∗ (∃ X, ⌜S.P5 c t.val X⌝ ∗ owns (c : Thread nD τ) (ms0_5 t) fullShare X) ∗ (∃ X, ⌜S.P6 c t.val X⌝ ∗ owns (c : Thread nD τ) (ms0_6 t) fullShare X) ∗ (∃ X, ⌜S.P7 c t.val X⌝ ∗ owns (c : Thread nD τ) (ms0_7 t) fullShare X))) := by
  unfold Phi bodyAt0
  iintro ⟨⟨%s12, %s13, %s14, %s15, %s16, %s17, %s18, %hI, H12, H13, H14, H15, H16, H17, H18, Hg⟩, Ho, H4, H5, H6, H7, H8, H9, H10, H11⟩
  have hall := hS.stepD c t h y10 s12 s13 s14 s15 s16 s17 s18 hI h6
  obtain ⟨hI2, hP6⟩ := hall
  iapply ((atD c t h (iblk m c 2 t) (iblk m c 3 t) y10 s12 s17 s18).2.2 Set.univ _)
  isplitl [H6]; · iexact H6
  isplitl [H7]; · iexact H7
  isplitl [H10]; · iexact H10
  isplitl [H12]; · iexact H12
  isplitl [H17]; · iexact H17
  isplitl [H18]; · iexact H18
  iintro ⟨K6, K7, K10, K12, K17, K18⟩
  isplitl [K12 H13 H14 H15 H16 K17 K18 Hg]
  · iexists s12, s13, s14, s15, s16, (newD_17 c t h (iblk m c 2 t) (iblk m c 3 t) y10 s12 s17 s18), s18
    isplitr; · ipureintro; exact hI2
    isplitl [K12]
    · iexact K12
    isplitl [H13]
    · iexact H13
    isplitl [H14]
    · iexact H14
    isplitl [H15]
    · iexact H15
    isplitl [H16]
    · iexact H16
    isplitl [K17]
    · unfold owns; iexists _; isplitr; · ipureintro; exact rfl
      iexact K17
    isplitl [K18]
    · iexact K18
    iexact Hg
  isplitl [Ho]; · iexact Ho
  isplitl [H4]
  · iexists (iblk m c 0 t); isplitr; · ipureintro; exact rfl
    iexact H4
  isplitl [H5]
  · iexists (iblk m c 1 t); isplitr; · ipureintro; exact rfl
    iexact H5
  isplitl [K6]
  · iexists (iblk m c 2 t); isplitr; · ipureintro; exact rfl
    iexact K6
  isplitl [K7]
  · iexists (iblk m c 3 t); isplitr; · ipureintro; exact rfl
    iexact K7
  isplitl [H8]
  · iexists y8
    isplitr
    · ipureintro; exact hS.keep4 c t.val y8 (by omega) h4
    iexact H8
  isplitl [H9]
  · iexists y9
    isplitr
    · ipureintro; exact hS.lo5 c t.val y9 (by omega)
    iexact H9
  isplitl [K10]
  · iexists (newD_10 c t h (iblk m c 2 t) (iblk m c 3 t) y10 s12 s17 s18)
    isplitr
    · ipureintro; exact hP6
    unfold owns; iexists _; isplitr; · ipureintro; exact rfl
    iexact K10
  iexists y11
  isplitr
  · ipureintro; exact hS.keep7 c t.val y11 (by omega) h7
  iexact H11

set_option maxHeartbeats 3200000 in
/-- The body at a point of case E. -/
theorem bodyE {S : Spec F} (hS : Steps m S) (c : Dev nD) (t : Fin cfg0.N) (h : t.val % 16 = 15) (y8 : Vec F S1x1x256 .f32) (y9 : Vec F S1x256x768 .bf16) (y10 : Vec F S1x256x16384 .fp8e5m2) (y11 : Vec F S1x1x256 .f32) (h6 : S.P6 c (t.val - 1) y10) (h4 : S.P4 c (t.val - 1) y8) (h7 : S.P7 c (t.val - 1) y11) :
    iprop(Phi S c t.val ∗ (rdat m S c).owesAt () t.castSucc ∗ owns (c : Thread nD τ) (ms0_0 t) fullShare (iblk m c 0 t) ∗ owns (c : Thread nD τ) (ms0_1 t) fullShare (iblk m c 1 t) ∗ owns (c : Thread nD τ) (ms0_2 t) fullShare (iblk m c 2 t) ∗ owns (c : Thread nD τ) (ms0_3 t) fullShare (iblk m c 3 t) ∗ owns (c : Thread nD τ) (ms0_4 t) fullShare y8 ∗ owns (c : Thread nD τ) (ms0_5 t) fullShare y9 ∗ owns (c : Thread nD τ) (ms0_6 t) fullShare y10 ∗ owns (c : Thread nD τ) (ms0_7 t) fullShare y11)
      ⊢ wp frame (wpE (defs₀ (F := F)) Variants.none c none) Set.univ (bodyAt0 t) (fun _ => iprop(Phi S c (t.val + 1) ∗ (rdat m S c).owesAt () t.castSucc ∗ (∃ X, ⌜X = iblk m c 0 t⌝ ∗ owns (c : Thread nD τ) (ms0_0 t) fullShare X) ∗ (∃ X, ⌜X = iblk m c 1 t⌝ ∗ owns (c : Thread nD τ) (ms0_1 t) fullShare X) ∗ (∃ X, ⌜X = iblk m c 2 t⌝ ∗ owns (c : Thread nD τ) (ms0_2 t) fullShare X) ∗ (∃ X, ⌜X = iblk m c 3 t⌝ ∗ owns (c : Thread nD τ) (ms0_3 t) fullShare X) ∗ (∃ X, ⌜S.P4 c t.val X⌝ ∗ owns (c : Thread nD τ) (ms0_4 t) fullShare X) ∗ (∃ X, ⌜S.P5 c t.val X⌝ ∗ owns (c : Thread nD τ) (ms0_5 t) fullShare X) ∗ (∃ X, ⌜S.P6 c t.val X⌝ ∗ owns (c : Thread nD τ) (ms0_6 t) fullShare X) ∗ (∃ X, ⌜S.P7 c t.val X⌝ ∗ owns (c : Thread nD τ) (ms0_7 t) fullShare X))) := by
  unfold Phi bodyAt0
  iintro ⟨⟨%s12, %s13, %s14, %s15, %s16, %s17, %s18, %hI, H12, H13, H14, H15, H16, H17, H18, Hg⟩, Ho, H4, H5, H6, H7, H8, H9, H10, H11⟩
  have hall := hS.stepE c t h y9 y10 s12 s13 s14 s15 s16 s17 s18 hI h6
  obtain ⟨hI2, hP5, hP6⟩ := hall
  iapply ((atE c t h (iblk m c 2 t) (iblk m c 3 t) y9 y10 s12 s17 s18).2.2.2 Set.univ _)
  isplitl [H6]; · iexact H6
  isplitl [H7]; · iexact H7
  isplitl [H9]; · iexact H9
  isplitl [H10]; · iexact H10
  isplitl [H12]; · iexact H12
  isplitl [H17]; · iexact H17
  isplitl [H18]; · iexact H18
  iintro ⟨K6, K7, K9, K10, K12, K17, K18⟩
  isplitl [K12 H13 H14 H15 H16 K17 K18 Hg]
  · iexists s12, s13, s14, s15, s16, (newE_17 c t h (iblk m c 2 t) (iblk m c 3 t) y9 y10 s12 s17 s18), s18
    isplitr; · ipureintro; exact hI2
    isplitl [K12]
    · iexact K12
    isplitl [H13]
    · iexact H13
    isplitl [H14]
    · iexact H14
    isplitl [H15]
    · iexact H15
    isplitl [H16]
    · iexact H16
    isplitl [K17]
    · unfold owns; iexists _; isplitr; · ipureintro; exact rfl
      iexact K17
    isplitl [K18]
    · iexact K18
    iexact Hg
  isplitl [Ho]; · iexact Ho
  isplitl [H4]
  · iexists (iblk m c 0 t); isplitr; · ipureintro; exact rfl
    iexact H4
  isplitl [H5]
  · iexists (iblk m c 1 t); isplitr; · ipureintro; exact rfl
    iexact H5
  isplitl [K6]
  · iexists (iblk m c 2 t); isplitr; · ipureintro; exact rfl
    iexact K6
  isplitl [K7]
  · iexists (iblk m c 3 t); isplitr; · ipureintro; exact rfl
    iexact K7
  isplitl [H8]
  · iexists y8
    isplitr
    · ipureintro; exact hS.keep4 c t.val y8 (by omega) h4
    iexact H8
  isplitl [K9]
  · iexists (newE_9 c t h (iblk m c 2 t) (iblk m c 3 t) y9 y10 s12 s17 s18)
    isplitr
    · ipureintro; exact hP5
    unfold owns; iexists _; isplitr; · ipureintro; exact rfl
    iexact K9
  isplitl [K10]
  · iexists (newE_10 c t h (iblk m c 2 t) (iblk m c 3 t) y9 y10 s12 s17 s18)
    isplitr
    · ipureintro; exact hP6
    unfold owns; iexists _; isplitr; · ipureintro; exact rfl
    iexact K10
  iexists y11
  isplitr
  · ipureintro; exact hS.keep7 c t.val y11 (by omega) h7
  iexact H11

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

set_option maxHeartbeats 3200000 in
/-- The body at any point. -/
theorem body_all {S : Spec F} (hS : Steps m S) (c : Dev nD) (t : Fin cfg0.N) (Y : ∀ w, (cfg0.win w).block.Idx → Elt F (cfg0.win w).elt)
    (hY : ∀ w, (rdat m S c).Finds w t (Y w)) :
    iprop(Phi S c t.val ∗ (rdat m S c).owesAt () t.castSucc ∗ owns (c : Thread nD τ) (ms0_0 t) fullShare (Y 0) ∗ owns (c : Thread nD τ) (ms0_1 t) fullShare (Y 1) ∗ owns (c : Thread nD τ) (ms0_2 t) fullShare (Y 2) ∗ owns (c : Thread nD τ) (ms0_3 t) fullShare (Y 3) ∗ owns (c : Thread nD τ) (ms0_4 t) fullShare (Y 4) ∗ owns (c : Thread nD τ) (ms0_5 t) fullShare (Y 5) ∗ owns (c : Thread nD τ) (ms0_6 t) fullShare (Y 6) ∗ owns (c : Thread nD τ) (ms0_7 t) fullShare (Y 7))
      ⊢ wp frame (wpE (defs₀ (F := F)) Variants.none c none) Set.univ (bodyAt0 t) (fun _ => iprop(Phi S c (t.val + 1) ∗ (rdat m S c).owesAt () t.castSucc ∗ (∃ X, ⌜X = Y 0⌝ ∗ owns (c : Thread nD τ) (ms0_0 t) fullShare X) ∗ (∃ X, ⌜X = Y 1⌝ ∗ owns (c : Thread nD τ) (ms0_1 t) fullShare X) ∗ (∃ X, ⌜X = Y 2⌝ ∗ owns (c : Thread nD τ) (ms0_2 t) fullShare X) ∗ (∃ X, ⌜X = Y 3⌝ ∗ owns (c : Thread nD τ) (ms0_3 t) fullShare X) ∗ (∃ X, ⌜S.P4 c t.val X⌝ ∗ owns (c : Thread nD τ) (ms0_4 t) fullShare X) ∗ (∃ X, ⌜S.P5 c t.val X⌝ ∗ owns (c : Thread nD τ) (ms0_5 t) fullShare X) ∗ (∃ X, ⌜S.P6 c t.val X⌝ ∗ owns (c : Thread nD τ) (ms0_6 t) fullShare X) ∗ (∃ X, ⌜S.P7 c t.val X⌝ ∗ owns (c : Thread nD τ) (ms0_7 t) fullShare X))) := by
  rw [finds0 (hY 0), finds1 (hY 1), finds2 (hY 2), finds3 (hY 3)]
  by_cases hA : t.val % 16 = 0
  · exact bodyA hS c t hA (Y 4) (Y 5) (Y 6) (Y 7)
  by_cases hB : t.val % 16 < 8
  · exact bodyB hS c t ⟨hA, hB⟩ (Y 4) (Y 5) (Y 6) (Y 7)
  by_cases hC : t.val % 16 = 8
  · exact bodyC hS c t hC (Y 4) (Y 5) (Y 6) (Y 7)
  by_cases hE : t.val % 16 = 15
  · exact bodyE hS c t hE (Y 4) (Y 5) (Y 6) (Y 7) (finds6 (hY 6) hA) (finds4 (hY 4) hA) (finds7 (hY 7) hA)
  · exact bodyD hS c t ⟨by omega, by omega⟩ (Y 4) (Y 5) (Y 6) (Y 7) (finds6 (hY 6) hA) (finds4 (hY 4) hA) (finds7 (hY 7) hA)

set_option maxHeartbeats 3200000 in
/-- The library's body obligation, at every point. -/
theorem body_obligation {S : Spec F} (hS : Steps m S) (c : Dev nD) : (rdat m S c).BodyObligation (defs₀ (F := F)) Variants.none () Set.univ := fun t Y hY => by
  rw [bigSep_W0, bigSep_W0, defs₀_row]
  exact triple_restated (body_all hS c t Y hY) rfl .rfl fun _ => .rfl

theorem hin {S : Spec F} (hS : Steps m S) (c : Dev nD) : Pipeline.ΦA spec0 c ⊢ (rdat m S c).Φ 0 := by
  show _ ⊢ Phi S c 0
  rw [PhiA0_eq]; unfold Phi
  iintro ⟨⟨⟨%s12, H12⟩, ⟨%s13, H13⟩, ⟨%s14, H14⟩, ⟨%s15, H15⟩, ⟨%s16, H16⟩, ⟨%s17, H17⟩, ⟨%s18, H18⟩⟩, Hg⟩
  iexists s12, s13, s14, s15, s16, s17, s18
  isplitr; · ipureintro; exact hS.init c s12 s13 s14 s15 s16 s17 s18
  isplitl [H12]; · iexact H12
  isplitl [H13]; · iexact H13
  isplitl [H14]; · iexact H14
  isplitl [H15]; · iexact H15
  isplitl [H16]; · iexact H16
  isplitl [H17]; · iexact H17
  isplitl [H18]; · iexact H18
  iexact Hg

theorem hout (S : Spec F) (c : Dev nD) : (rdat m S c).Φ (Fin.last cfg0.N) ⊢ Pipeline.ΦA spec0 c := by
  show Phi S c _ ⊢ _
  rw [PhiA0_eq]; unfold Phi
  iintro ⟨%s12, %s13, %s14, %s15, %s16, %s17, %s18, %hI, H12, H13, H14, H15, H16, H17, H18, Hg⟩
  isplitr [Hg]
  · isplitl [H12]; · iexists s12; iexact H12
    isplitl [H13]; · iexists s13; iexact H13
    isplitl [H14]; · iexists s14; iexact H14
    isplitl [H15]; · iexists s15; iexact H15
    isplitl [H16]; · iexists s16; iexact H16
    isplitl [H17]; · iexists s17; iexact H17
    iexists s18; iexact H18
  iexact Hg

set_option backward.isDefEq.respectTransparency.types false in
/-- The run: every execution terminates, the arrays end at what the specification says, every counter at zero. -/
theorem run_main {S : Spec F} (hS : Steps m S) : θ_run defs (onTc (τ := τ) (main (F := F))) (s₀ m ρ) (fun r => (Pipeline.RDat.FramePost cfg0 (rdat m S) (V m)) r ∧ r.2.sem = fun _ => 0) :=
  Pipeline.RDat.θ_run_frame_track (Q' := _) cfgs (0 : Fin 1) launch0 defs₀ Variants.none (rdat m S) m ρ main
    (hbody := body_obligation hS) (hshare := fun c => (rdat m S c).share_full fun _ => rfl)
    (howed := fun _ _ => rfl) (V := V m) (hmain := hmain m Variants.none) (hA := fun _ _ => rfl) (hin := hin hS) (hout := hout S)

/-- The argument arrays end unchanged. -/
theorem args_unchanged {S : Spec F} {r} (h : Pipeline.RDat.FramePost cfg0 (rdat m S) (V m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  ⟨((h c).2 main_arg0 (Pipeline.mem_restRefs_of main_arg0 (by decide) (by decide))).trans (V_main_arg0 m c),
    (h.arr_in c 1 rfl).trans (V_main_arg1 m c), (h.arr_in c 2 rfl).trans (V_main_arg2 m c), (h.arr_in c 3 rfl).trans (V_main_arg3 m c)⟩

variable (m)

/-- THE FRAME, at any values: the run terminates, the argument arrays end unchanged, every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨fun c => args_unchanged h.1 c, h.2⟩)
    (run_main (m := m) ρ (S := ⟨fun _ _ _ _ _ _ _ _ _ => True, fun _ _ _ => True, fun _ _ _ => True, fun _ _ _ => True, fun _ _ _ => True⟩)
      (by constructor <;> intros <;> (try exact trivial) <;> (repeat' constructor)))

end Cert.LossDqIdeal.Hand

end
-- ==== Proof.LossTile.lean ====
/- Reading the parts of the loss kernel's buffers that its body writes and reads by columns. -/
module

public import proofs.«01_k».proof.Proof.LossFrameI
public import Idealize.ShloMosaic.Lib.Pointwise
public import Idealize.ShloMosaic.Lib.WritesUnit
public import Idealize.ShloMosaic.Lib.VecWindow
public import Idealize.ShloMosaic.Lib.Pipeline.ValueKit.Tiles

@[expose] public section

noncomputable section

namespace Cert.LossDqIdeal.Hand

open Cert.LossDqIdeal Cert.LossDqIdeal.Gen Idealize.ShloMosaic Idealize.ShloMosaic.TcCoe Idealize.SL.Sem

theorem hz2 : (![0, 0] : Fin 2 → ℕ) = fun _ => 0 := by decide
theorem hz3 : (![0, 0, 0] : Fin 3 → ℕ) = fun _ => 0 := by decide

/-- Columns `n` to `n + 127` of a chunk. -/
def tile {α : Type} (X : S256x2048.Idx → α) (n : ℕ) : S256x128.Idx → α :=
  fun i => X (ix2 (i 0) ⟨(n + (i 1).val) % 2048, Nat.mod_lt _ (by omega)⟩)

theorem tile_apply {α : Type} (X : S256x2048.Idx → α) (n : ℕ) (r : Fin 256) (l : Fin 128) :
    tile X n (ix2 r l) = X (ix2 r ⟨(n + l.val) % 2048, Nat.mod_lt _ (by omega)⟩) := rfl

/-- A tile read back after the chunk holding it was stored. -/
theorem tile_readCov_of {sp : Space} (vw : View sig .tc sp S256x16384 .f32) (c n : ℕ) (hn : n + 128 ≤ 2048) (hc : c < 8) (off off' : Fin 2 → ℕ)
    (h : off = ![0, 2048 * c]) (h' : off' = ![0, 2048 * c + n]) (inb inb') (X : Vec Ideal S256x2048 .f32) :
    vw.readCov (Val := Elt Ideal) [⟨Rect.unit (s := S256x16384) off S256x2048.size inb, X⟩]
      (Rect.unit (s := S256x16384) off' S256x128.size inb').toLoadRect = tile X n := by
  subst h h'
  funext i
  obtain ⟨r, l, rfl⟩ : ∃ (r : Fin 256) (l : Fin 128), i = ix2 r l := ⟨i 0, i 1, eq_ix2 i⟩
  have hl : l.val < 128 := l.2
  have hl' : n + l.val < 2048 := by omega
  have hcl : 2048 * c + n + l.val < 16384 := by omega
  unfold View.readCov
  rw [View.readAt_eq_ld, View.ld_apply]
  refine Eq.trans (View.read_writes_cons_unit_of_mem vw _ inb X [] _ (ix2 r ⟨n + l.val, hl'⟩ : S256x2048.Idx) rfl ?_) ?_
  · intro a
    refine (Rect.idx_unit_val _ _ _ _ a).trans ?_
    match a with
    | ⟨0, _⟩ => rfl
    | ⟨1, _⟩ => exact Nat.add_assoc _ _ _
  · rw [tile_apply]
    exact congrArg (fun k => X (ix2 r k)) (Fin.ext (Nat.mod_eq_of_lt hl').symm)

theorem tile_readCov (t : Fin cfg0.N) (w : BitVec 32) (hw : ∃ r : Fin 16, w = BitVec.ofNat 32 (128 * r.val)) (inb inb')
    (X : Vec Ideal S256x2048 .f32) :
    (View.whole cc0_scratch0).readCov (Val := Elt Ideal) [⟨Rect.unit (s := S256x16384) (k0_off1 (grid0.coords t)) ![256, 2048] inb, X⟩]
      (Rect.unit (s := S256x16384) (k0_off2 (grid0.coords t) w) ![256, 128] inb').toLoadRect = tile X w.toNat := by
  obtain ⟨r, rfl⟩ := hw
  have hr := r.2
  rw [BitVec.toNat_ofNat, Nat.mod_eq_of_lt (by omega)]
  exact tile_readCov_of _ _ _ (by omega) (grid0.coords t 3).2 _ _ (k0_off1_eq _) (k0_off2_eq _ r) _ _ _

/-- The chunk of point `t`. -/
abbrev ck (t : Fin cfg0.N) : ℕ := (grid0.coords t 3).val

/-- The positive's column is met at lane `l` of a tile. -/
theorem hit_select {α : Type} (t : Fin cfg0.N) (w : BitVec 32) (hw : w.toNat ≤ 1920) (l : Fin 128) (p : BitVec 32) (hp : p.toNat < 16384)
    (a b : α) :
    Scalar.select (IntOp.cmpi CmpIPredicate.eq (IntOp.addi (BitVec.ofNat 32 l.val) w)
      (IntOp.subi p (Scalar.muli (BitVec.ofNat 32 (grid0.coords t 3).val) 2048#32))) a b
      = if 2048 * ck t + w.toNat + l.val = p.toNat then a else b := by
  have hl : l.val < 128 := l.2
  have hc : (grid0.coords t 3).val < 8 := (grid0.coords t 3).2
  have key : (IntOp.addi (BitVec.ofNat 32 l.val) w = IntOp.subi p (Scalar.muli (BitVec.ofNat 32 (grid0.coords t 3).val) 2048#32))
      ↔ 2048 * ck t + w.toNat + l.val = p.toNat := by
    show BitVec.ofNat 32 l.val + w = p - BitVec.ofNat 32 (grid0.coords t 3).val * 2048#32 ↔ _
    rw [← BitVec.toNat_inj, BitVec.toNat_add, BitVec.toNat_sub, BitVec.toNat_mul, BitVec.toNat_ofNat, BitVec.toNat_ofNat,
      BitVec.toNat_ofNat]
    unfold ck
    omega
  by_cases h : 2048 * ck t + w.toNat + l.val = p.toNat
  · rw [if_pos h, key.2 h]; unfold IntOp.cmpi Scalar.select; simp
  · rw [if_neg h]
    have h' := mt key.1 h
    unfold IntOp.cmpi Scalar.select; simp only [beq_eq_false_iff_ne.2 h']; rfl

theorem masked_eq : (Named.named κ "masked" 4284592614#32 : Ideal .f32) = (⊥ : EReal) :=
  IdealRules.named_const.ideal_named_scalar _ _ _ _ rfl

end Cert.LossDqIdeal.Hand
-- ==== Proof.LossMath.lean ====
/- The mathematics of one row of the loss kernel, over plain sequences of reals: the running maximum and the running sum of
   exponentials of one lane, and how the lanes combine to the row's softmax. -/
module

public import Idealize.ShloMosaic.Lib.Pointwise
public import Idealize.ShloMosaic.Lib.IdealHost

@[expose] public section

noncomputable section

open scoped BigOperators

namespace Cert.LossMath

open Idealize.ShloMosaic

/-! ### Extended reals -/

/-- The binary exponential at a real. -/
theorem exp2_real (r : ℝ) : Ideal.exp2 (r : EReal) = ((Real.exp (r * Real.log 2) : ℝ) : EReal) := by
  rw [Ideal.exp2_coe]; congr 1
  show (2 : ℝ) ^ r = _
  rw [Real.rpow_def_of_pos two_pos, mul_comm]

theorem log2_pos : (0 : ℝ) < Real.log 2 := Real.log_pos one_lt_two

/-- A sum of reals, as extended reals. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem coe_max (a b : ℝ) : max (a : EReal) (b : EReal) = ((max a b : ℝ) : EReal) :=
  ((EReal.coe_strictMono.monotone).map_max (a := a) (b := b)).symm

theorem coe_abs (a : ℝ) : max (a : EReal) (-(a : EReal)) = ((|a| : ℝ) : EReal) := by
  rw [← EReal.coe_neg, coe_max]; rfl

/-- The logits' scale over `log 2`. -/
def c20 : EReal := ((20 * (Real.log 2)⁻¹ : ℝ) : EReal)

/-- `exp (20 (x - m))`, taken as the kernel takes it: through base 2. -/
def E (x m : EReal) : EReal := Ideal.exp2 ((x - m) * c20)

theorem E_coe (x m : ℝ) : E x m = ((Real.exp (20 * (x - m)) : ℝ) : EReal) := by
  unfold E c20
  rw [← EReal.coe_sub, ← EReal.coe_mul, exp2_real]
  congr 2
  have := log2_pos.ne'
  field_simp

theorem E_bot (m : EReal) : E ⊥ m = 0 := by
  unfold E c20
  rw [EReal.bot_sub, EReal.bot_mul_coe_of_pos (by have := log2_pos; positivity)]
  rfl

/-! ### One lane -/

/-- The score at lane `l` of tile `v`, the positive's left out. -/
def g (s : ℕ → ℝ) (p l v : ℕ) : EReal := if 128 * v + l = p then ⊥ else ((s (128 * v + l) : ℝ) : EReal)

/-- The lane's running maximum after `n` tiles. -/
def laneM (s : ℕ → ℝ) (p l n : ℕ) : EReal := (Finset.range n).sup (g s p l)

/-- The lane's running sum after `n` tiles. -/
def laneZ (s : ℕ → ℝ) (p l n : ℕ) : EReal := ∑ v ∈ Finset.range n, E (g s p l v) (laneM s p l n)

/-- The lane's share of the positive's score after `n` tiles. -/
def laneP (s : ℕ → ℝ) (p l n : ℕ) : EReal := if p < 128 * n ∧ p % 128 = l then ((s p : ℝ) : EReal) else 0

/-- A term of the lane's sum relative to the real `m`. -/
def eg (s : ℕ → ℝ) (p l v : ℕ) (m : ℝ) : ℝ := if 128 * v + l = p then 0 else Real.exp (20 * (s (128 * v + l) - m))

variable (s : ℕ → ℝ) (p l : ℕ)

theorem g_lt_top (v : ℕ) : g s p l v < ⊤ := by
  unfold g; split
  · exact bot_lt_top
  · exact EReal.coe_lt_top _

theorem E_g (v : ℕ) (m : ℝ) : E (g s p l v) m = ((eg s p l v m : ℝ) : EReal) := by
  unfold g eg; split
  · rw [E_bot]; rfl
  · rw [E_coe]

theorem laneM_zero : laneM s p l 0 = ⊥ := rfl
theorem laneZ_zero : laneZ s p l 0 = 0 := rfl
theorem laneP_zero : laneP s p l 0 = 0 := if_neg (by omega)

theorem laneM_succ (n : ℕ) : laneM s p l (n + 1) = max (laneM s p l n) (g s p l n) := by
  unfold laneM
  rw [Finset.range_add_one, Finset.sup_insert, max_comm]

theorem laneM_lt_top (n : ℕ) : laneM s p l n < ⊤ :=
  (Finset.sup_lt_iff bot_lt_top).2 fun v _ => g_lt_top s p l v

theorem laneM_real {n : ℕ} (hn : 2 ≤ n) : ∃ μ : ℝ, laneM s p l n = μ := by
  have hb : ⊥ < laneM s p l n := by
    by_cases h : 128 * 0 + l = p
    · have h1 : g s p l 1 ≤ laneM s p l n := Finset.le_sup (Finset.mem_range.2 (by omega))
      refine lt_of_lt_of_le ?_ h1
      unfold g; rw [if_neg (by omega)]; exact EReal.bot_lt_coe _
    · have h1 : g s p l 0 ≤ laneM s p l n := Finset.le_sup (Finset.mem_range.2 (by omega))
      refine lt_of_lt_of_le ?_ h1
      unfold g; rw [if_neg h]; exact EReal.bot_lt_coe _
  exact ⟨_, (EReal.coe_toReal (laneM_lt_top s p l n).ne hb.ne').symm⟩

/-- Rescaling the running sum to a later maximum. -/
theorem laneZ_rescale (n : ℕ) (M : ℝ) :
    laneZ s p l n * E (laneM s p l n) M = ∑ v ∈ Finset.range n, E (g s p l v) M := by
  rcases eq_or_ne (laneM s p l n) ⊥ with h | h
  · have hg : ∀ v ∈ Finset.range n, g s p l v = ⊥ := fun v hv => by
      have : g s p l v ≤ laneM s p l n := Finset.le_sup hv
      rw [h] at this; exact le_bot_iff.1 this
    rw [h, E_bot, mul_zero, Finset.sum_eq_zero]
    intro v hv; rw [hg v hv, E_bot]
  · obtain ⟨μ, hμ⟩ : ∃ μ : ℝ, laneM s p l n = μ := ⟨_, (EReal.coe_toReal (laneM_lt_top s p l n).ne h).symm⟩
    unfold laneZ
    rw [hμ, E_coe]
    simp only [E_g]
    rw [← coe_sum, ← coe_sum, ← EReal.coe_mul, Finset.sum_mul]
    congr 1
    refine Finset.sum_congr rfl fun v _ => ?_
    unfold eg; split
    · rw [zero_mul]
    · rw [← Real.exp_add]; congr 1; ring

/-- Sixteen more tiles: the sum, as the kernel adds it. -/
theorem laneZ_step (n : ℕ) (f : ℕ → EReal) (hf : ∀ v < 16, f v = E (g s p l (n + v)) (laneM s p l (n + 16))) :
    laneZ s p l n * E (laneM s p l n) (laneM s p l (n + 16)) + f 0 + f 1 + f 2 + f 3 + f 4 + f 5 + f 6 + f 7 + f 8 + f 9
      + f 10 + f 11 + f 12 + f 13 + f 14 + f 15 = laneZ s p l (n + 16) := by
  obtain ⟨M, hM⟩ := laneM_real s p l (n := n + 16) (by omega)
  have hz : laneZ s p l (n + 16) = ∑ v ∈ Finset.range (n + 16), E (g s p l v) (laneM s p l (n + 16)) := rfl
  rw [hz]
  simp only [Finset.sum_range_succ, hf 0 (by omega), hf 1 (by omega), hf 2 (by omega), hf 3 (by omega), hf 4 (by omega),
    hf 5 (by omega), hf 6 (by omega), hf 7 (by omega), hf 8 (by omega), hf 9 (by omega), hf 10 (by omega),
    hf 11 (by omega), hf 12 (by omega), hf 13 (by omega), hf 14 (by omega), hf 15 (by omega), add_zero]
  rw [hM, laneZ_rescale]

/-- Sixteen more tiles: the maximum, as the kernel takes it. -/
theorem laneM_step (n : ℕ) (f : ℕ → EReal) (hf : ∀ v < 16, f v = g s p l (n + v)) :
    max (max (max (max (max (max (max (max (max (max (max (max (max (max (max (max (laneM s p l n) (f 0)) (f 1)) (f 2))
      (f 3)) (f 4)) (f 5)) (f 6)) (f 7)) (f 8)) (f 9)) (f 10)) (f 11)) (f 12)) (f 13)) (f 14)) (f 15)
      = laneM s p l (n + 16) := by
  simp only [hf 0 (by omega), hf 1 (by omega), hf 2 (by omega), hf 3 (by omega), hf 4 (by omega),
    hf 5 (by omega), hf 6 (by omega), hf 7 (by omega), hf 8 (by omega), hf 9 (by omega), hf 10 (by omega),
    hf 11 (by omega), hf 12 (by omega), hf 13 (by omega), hf 14 (by omega), hf 15 (by omega), add_zero, ← add_assoc,
    ← laneM_succ]

/-- One more tile of the positive's score. -/
theorem laneP_succ (hl : l < 128) (n : ℕ) :
    (if 128 * n + l = p then ((s (128 * n + l) : ℝ) : EReal) else laneP s p l n) = laneP s p l (n + 1) := by
  unfold laneP
  by_cases h : 128 * n + l = p
  · rw [if_pos h, if_pos (by omega), h]
  · rw [if_neg h]
    by_cases h2 : p < 128 * n ∧ p % 128 = l
    · rw [if_pos h2, if_pos (by omega)]
    · rw [if_neg h2, if_neg (by omega)]

/-! ### The row -/

/-- The columns by lane and tile. -/
theorem sum_lanes (F : ℕ → ℝ) :
    ∑ l : Fin 128, ∑ v ∈ Finset.range 128, F (128 * v + l.1) = ∑ k ∈ Finset.range 16384, F k := by
  have h : ∀ n, ∑ k ∈ Finset.range (128 * n), F k = ∑ v ∈ Finset.range n, ∑ l ∈ Finset.range 128, F (128 * v + l) := by
    intro n
    induction n with
    | zero => simp
    | succ n ih => rw [Finset.sum_range_succ, ← ih, Nat.mul_succ, Finset.sum_range_add]
  rw [show 16384 = 128 * 128 from rfl, h, Finset.sum_comm' (s := Finset.range 128) (t := fun _ => Finset.range 128)
    (t' := Finset.range 128) (s' := fun _ => Finset.range 128) (by intros; tauto)]
  exact (Finset.sum_range fun l => ∑ v ∈ Finset.range 128, F (128 * v + l)).symm

theorem ne16 : (Finset.range 16384).Nonempty := ⟨0, by simp⟩

/-- The row's greatest score. -/
def top : ℝ := (Finset.range 16384).sup' ne16 s

theorem le_top {k : ℕ} (hk : k < 16384) : s k ≤ top s := Finset.le_sup' s (Finset.mem_range.2 hk)

theorem top_mem : ∃ k < 16384, top s = s k := by
  obtain ⟨k, hk, h⟩ := Finset.exists_mem_eq_sup' ne16 s
  exact ⟨k, Finset.mem_range.1 hk, h⟩

/-- The row's sum of exponentials. -/
def Zs : ℝ := ∑ k ∈ Finset.range 16384, Real.exp (20 * s k - 20 * top s)

theorem Zs_pos : 0 < Zs s := Finset.sum_pos (fun _ _ => Real.exp_pos _) ne16

/-- The log probability of column `k`. -/
def lp (k : ℕ) : ℝ := 20 * s k - 20 * top s - Real.log (Zs s)

/-- The gradient with respect to logit `k`. -/
def d (k : ℕ) : ℝ := Real.exp (lp s k) - if k = p then 1 else 0

/-- The greatest magnitude of the row's gradient. -/
def amax : ℝ := (Finset.range 16384).sup' ne16 fun k => |d s p k|

theorem le_amax {k : ℕ} (hk : k < 16384) : |d s p k| ≤ amax s p :=
  Finset.le_sup' (fun k => |d s p k|) (Finset.mem_range.2 hk)

theorem amax_mem : ∃ k < 16384, amax s p = |d s p k| := by
  obtain ⟨k, hk, h⟩ := Finset.exists_mem_eq_sup' ne16 fun k => |d s p k|
  exact ⟨k, Finset.mem_range.1 hk, h⟩

theorem amax_nonneg : 0 ≤ amax s p := (abs_nonneg _).trans (le_amax s p (k := 0) (by omega))

theorem lp_nonpos {k : ℕ} (hk : k < 16384) : lp s k ≤ 0 := by
  have h : Real.exp (20 * s k - 20 * top s) ≤ Zs s :=
    Finset.single_le_sum (f := fun k => Real.exp (20 * s k - 20 * top s)) (fun _ _ => (Real.exp_pos _).le)
      (Finset.mem_range.2 hk)
  have := Real.log_le_log (Real.exp_pos _) h
  rw [Real.log_exp] at this
  unfold lp; linarith

theorem amax_le_one : amax s p ≤ 1 := by
  obtain ⟨k, hk, h⟩ := amax_mem s p
  rw [h]; unfold d
  have h1 := Real.exp_pos (lp s k)
  have h2 : Real.exp (lp s k) ≤ 1 := Real.exp_le_one_iff.2 (lp_nonpos s hk)
  split <;> rw [abs_le] <;> constructor <;> linarith

theorem lane_real (l : ℕ) : ∃ μ : ℝ, laneM s p l 128 = μ := laneM_real s p l (by omega)

/-- The greatest score but the positive's, from the lanes. -/
theorem neg_max : ∃ σ : ℝ, (Finset.univ.sup fun l : Fin 128 => laneM s p l.1 128) = σ
    ∧ (∀ k < 16384, k ≠ p → s k ≤ σ) ∧ ∃ k < 16384, k ≠ p ∧ σ = s k := by
  have hle : ∀ k < 16384, k ≠ p → ((s k : ℝ) : EReal) ≤ Finset.univ.sup fun l : Fin 128 => laneM s p l.1 128 := by
    intro k hk hkp
    have h1 : g s p (k % 128) (k / 128) ≤ laneM s p (k % 128) 128 := Finset.le_sup (Finset.mem_range.2 (by omega))
    have h2 : g s p (k % 128) (k / 128) = ((s k : ℝ) : EReal) := by
      unfold g; rw [Nat.div_add_mod, if_neg hkp]
    rw [h2] at h1
    exact h1.trans (Finset.le_sup (f := fun l : Fin 128 => laneM s p l.1 128)
      (Finset.mem_univ (⟨k % 128, Nat.mod_lt _ (by omega)⟩ : Fin 128)))
  obtain ⟨l, -, hl⟩ := Finset.exists_mem_eq_sup (Finset.univ : Finset (Fin 128)) ⟨0, Finset.mem_univ _⟩
    fun l : Fin 128 => laneM s p l.1 128
  obtain ⟨v, hv, hg⟩ := Finset.exists_mem_eq_sup (Finset.range 128) ⟨0, by simp⟩ (g s p l.1)
  have hv' := Finset.mem_range.1 hv
  have hl' := l.2
  have hval : (Finset.univ.sup fun l : Fin 128 => laneM s p l.1 128) = g s p l.1 v := by rw [hl]; exact hg
  have hne : 128 * v + l.1 ≠ p := by
    intro h
    have h0 : g s p l.1 v = ⊥ := by unfold g; rw [if_pos h]
    rw [h0] at hval
    have hx : ∃ k < 16384, k ≠ p := by
      by_cases h : p = 0
      · exact ⟨1, by omega, by omega⟩
      · exact ⟨0, by omega, by omega⟩
    obtain ⟨k, hk, hkp⟩ := hx
    have := hle k hk hkp
    rw [hval] at this
    exact absurd (le_bot_iff.1 this) (EReal.coe_ne_bot _)
  have hval' : (Finset.univ.sup fun l : Fin 128 => laneM s p l.1 128) = ((s (128 * v + l.1) : ℝ) : EReal) := by
    rw [hval]; unfold g; rw [if_neg hne]
  refine ⟨s (128 * v + l.1), hval', fun k hk hkp => ?_, 128 * v + l.1, by omega, hne, rfl⟩
  have := hle k hk hkp
  rw [hval'] at this
  exact EReal.coe_le_coe_iff.1 this

theorem pos_sum (hp : p < 16384) : (∑ l : Fin 128, laneP s p l.1 128) = ((s p : ℝ) : EReal) := by
  rw [Finset.sum_eq_single (⟨p % 128, Nat.mod_lt _ (by omega)⟩ : Fin 128)]
  · unfold laneP; rw [if_pos ⟨by omega, rfl⟩]
  · intro l _ hl
    unfold laneP; rw [if_neg]
    rintro ⟨-, h⟩; exact hl (Fin.ext h.symm)
  · intro h; exact absurd (Finset.mem_univ _) h

/-- The greatest score, from the lanes. -/
theorem max_top (hp : p < 16384) {σ : ℝ} (h1 : ∀ k < 16384, k ≠ p → s k ≤ σ) (h2 : ∃ k < 16384, k ≠ p ∧ σ = s k) :
    max σ (s p) = top s := by
  apply le_antisymm
  · obtain ⟨k, hk, -, h⟩ := h2
    rw [h]; exact max_le (le_top s hk) (le_top s hp)
  · obtain ⟨k, hk, h⟩ := top_mem s
    rw [h]
    by_cases hkp : k = p
    · rw [hkp]; exact le_max_right _ _
    · exact (h1 k hk hkp).trans (le_max_left _ _)

/-- The greatest magnitude of the gradient, from the greatest score but the positive's. -/
theorem max_amax (hp : p < 16384) {σ : ℝ} (h1 : ∀ k < 16384, k ≠ p → s k ≤ σ) (h2 : ∃ k < 16384, k ≠ p ∧ σ = s k) :
    max |Real.exp (lp s p) - 1| (Real.exp (20 * σ - 20 * top s - Real.log (Zs s))) = amax s p := by
  have hd : ∀ k, k ≠ p → |d s p k| = Real.exp (lp s k) := fun k hk => by
    unfold d; rw [if_neg hk, sub_zero, abs_of_pos (Real.exp_pos _)]
  have hdp : |d s p p| = |Real.exp (lp s p) - 1| := by unfold d; rw [if_pos rfl]
  apply le_antisymm
  · obtain ⟨k, hk, hkp, h⟩ := h2
    refine max_le ?_ ?_
    · rw [← hdp]; exact le_amax s p hp
    · rw [h]; refine le_trans (le_of_eq ?_) (le_amax s p hk); rw [hd k hkp]; rfl
  · obtain ⟨k, hk, h⟩ := amax_mem s p
    rw [h]
    by_cases hkp : k = p
    · rw [hkp, hdp]; exact le_max_left _ _
    · rw [hd k hkp]; refine le_trans ?_ (le_max_right _ _)
      apply Real.exp_le_exp.2; unfold lp
      have := h1 k hk hkp; linarith

/-- The sum of exponentials, from the lanes. -/
theorem lanes_Z (hp : p < 16384) :
    (∑ l : Fin 128, laneZ s p l.1 128 * Ideal.exp2 (laneM s p l.1 128 * c20
        - ((20 * top s : ℝ) : EReal) * (((Real.log 2)⁻¹ : ℝ) : EReal)))
      + Ideal.exp (((20 * s p - 20 * top s : ℝ)) : EReal) = ((Zs s : ℝ) : EReal) := by
  have hl : ∀ l : Fin 128, laneZ s p l.1 128 * Ideal.exp2 (laneM s p l.1 128 * c20
        - ((20 * top s : ℝ) : EReal) * (((Real.log 2)⁻¹ : ℝ) : EReal))
      = ((∑ v ∈ Finset.range 128, (fun k => if k = p then 0 else Real.exp (20 * s k - 20 * top s)) (128 * v + l.1) : ℝ) : EReal) := by
    intro l
    obtain ⟨μ, hμ⟩ := lane_real s p l.1
    unfold laneZ c20
    rw [hμ]
    simp only [E_g]
    rw [← coe_sum, ← EReal.coe_mul, ← EReal.coe_mul, ← EReal.coe_sub, exp2_real, ← EReal.coe_mul, Finset.sum_mul]
    congr 1
    refine Finset.sum_congr rfl fun v _ => ?_
    unfold eg
    show _ = if _ then _ else _
    split
    · rw [zero_mul]
    · rw [← Real.exp_add]; congr 1
      have := log2_pos.ne'
      field_simp; ring
  rw [Finset.sum_congr rfl fun l _ => hl l, ← coe_sum,
    sum_lanes (fun k => if k = p then 0 else Real.exp (20 * s k - 20 * top s)), Ideal.exp_coe, ← EReal.coe_add]
  refine congrArg _ ?_
  unfold Zs
  have h : ∀ k ∈ Finset.range 16384, Real.exp (20 * s k - 20 * top s)
      = (if k = p then 0 else Real.exp (20 * s k - 20 * top s)) + if k = p then Real.exp (20 * s p - 20 * top s) else 0 := by
    intro k _; split
    · next h => rw [h, zero_add]
    · rw [add_zero]
  rw [Finset.sum_congr rfl h, Finset.sum_add_distrib, Finset.sum_ite_eq', if_pos (Finset.mem_range.2 hp)]

end Cert.LossMath
-- ==== Proof.LossRow.lean ====
/- The mathematics of one row of the loss kernel, continued: the exponent of the row's scale found by bisection on the
   exponent field, the reference's softmax over the row, the codes. -/
module

public import proofs.«01_k».proof.Proof.LossMath

@[expose] public section

noncomputable section

open scoped BigOperators

namespace Cert.LossMath

open Idealize.ShloMosaic

/-! ### Constants -/

/-- The reciprocal of the greatest code, as the format has it. -/
def cst : ℝ := (2 ^ 23 + 1198373) * (2 : ℝ) ^ (-39 : ℤ)

theorem cst_eq : Ideal.ofBits .f32 0x37924925#32 = ((cst : ℝ) : EReal) := by
  unfold cst
  simp [Ideal.ofBits, Ideal.ieee, -EReal.coe_mul]; norm_num

theorem cst_pos : 0 < cst := by unfold cst; positivity
theorem cst_lt : cst < (2 : ℝ) ^ (-15 : ℤ) := by unfold cst; norm_num

theorem twenty_eq : Ideal.ofBits .f32 0x41A00000#32 = ((20 : ℝ) : EReal) := by
  simp [Ideal.ofBits, Ideal.ieee, -EReal.coe_mul]; norm_num

theorem m126_eq : Ideal.ofBits .f32 0xC2FC0000#32 = ((-126 : ℝ) : EReal) := by
  simp [Ideal.ofBits, Ideal.ieee, -EReal.coe_mul]; norm_num

theorem ninf_eq : Ideal.ofBits .f32 0xFF800000#32 = ⊥ := by
  simp [Ideal.ofBits, Ideal.ieee]

/-! ### The exponent -/

/-- The value of the word whose exponent field is `f` and whose other bits are zero. -/
def V (f : ℕ) : EReal := if f = 0 then 0 else if 255 ≤ f then ⊤ else (((2 : ℝ) ^ ((f : ℤ) - 127) : ℝ) : EReal)

theorem ieee_field {n : ℕ} (b : BitVec n) (f : ℕ) (hf : f < 256) (h1 : (b.extractLsb' (8 + 23) 1 == 1#1) = false)
    (h2 : (b.extractLsb' 23 8).toNat = f) (h3 : (b.extractLsb' 0 23).toNat = 0) : Ideal.ieee 8 23 b = V f := by
  unfold Ideal.ieee V
  simp only [h1, h2, h3]
  by_cases h0 : f = 0
  · subst h0; norm_num
  · by_cases h255 : f = 255
    · subst h255; norm_num
    · have e1 : ¬ f = 2 ^ 8 - 1 := by omega
      have e2 : ¬ 255 ≤ f := by omega
      simp only [e1, e2, h0, ↓reduceIte]
      refine congrArg _ ?_
      have : ((f : ℤ) - (2 ^ (8 - 1) - 1) - ((23 : ℕ) : ℤ)) = ((f : ℤ) - 127) - 23 := by norm_num
      rw [this, zpow_sub₀ (by norm_num : (2 : ℝ) ≠ 0)]
      norm_num
      ring

theorem word (f : ℕ) (hf : f < 256) : Ideal.ofBits .f32 (IntOp.shli .vector (BitVec.ofNat 32 f) 23#32) = V f := by
  have key : ∀ f : Fin 256,
      (((IntOp.shli .vector (BitVec.ofNat 32 f.1) 23#32).extractLsb' (8 + 23) 1 == 1#1) = false)
      ∧ ((IntOp.shli .vector (BitVec.ofNat 32 f.1) 23#32).extractLsb' 23 8).toNat = f.1
      ∧ ((IntOp.shli .vector (BitVec.ofNat 32 f.1) 23#32).extractLsb' 0 23).toNat = 0 := by decide +kernel
  obtain ⟨h1, h2, h3⟩ := key ⟨f, hf⟩
  exact ieee_field _ f hf h1 h2 h3

/-- One step of the bisection: the exponent field keeps `bit` unless the value is below the word it would make. -/
def bis (x : EReal) (w bit : BitVec 32) : BitVec 32 :=
  if x < Ideal.ofBits .f32 (IntOp.shli .vector (IntOp.addi w bit) 23#32) then w else IntOp.addi w bit

theorem bis_step (x : EReal) (w : BitVec 32) (f B : ℕ) (hB : 0 < B) (hf : f + 2 * B ≤ 256) (hw : w = BitVec.ofNat 32 f)
    (h1 : V f ≤ x) (h2 : x < V (f + 2 * B)) :
    ∃ f', bis x w (BitVec.ofNat 32 B) = BitVec.ofNat 32 f' ∧ f' + B ≤ 256 ∧ V f' ≤ x ∧ x < V (f' + B) := by
  have ha : IntOp.addi w (BitVec.ofNat 32 B) = BitVec.ofNat 32 (f + B) := by
    rw [hw, BitVec.ofNat_add]; rfl
  unfold bis
  rw [ha, word _ (by omega)]
  split
  · next h => exact ⟨f, hw, by omega, h1, h⟩
  · next h => exact ⟨f + B, rfl, by omega, not_lt.1 h, by rw [add_assoc, ← two_mul]; exact h2⟩

/-- The exponent field found bit by bit. -/
def bisAll (x : EReal) : BitVec 32 :=
  bis x (bis x (bis x (bis x (bis x (bis x (bis x (bis x 0#32 128#32) 64#32) 32#32) 16#32) 8#32) 4#32) 2#32) 1#32

theorem bisAll_spec (x : EReal) (h0 : 0 ≤ x) (ht : x < ⊤) :
    ∃ f, bisAll x = BitVec.ofNat 32 f ∧ f ≤ 255 ∧ V f ≤ x ∧ x < V (f + 1) := by
  obtain ⟨f1, e1, b1, l1, u1⟩ := bis_step x 0#32 0 128 (by omega) (by omega) rfl (by simpa [V] using h0) (by simpa [V] using ht)
  obtain ⟨f2, e2, b2, l2, u2⟩ := bis_step x _ f1 64 (by omega) (by omega) e1 l1 u1
  obtain ⟨f3, e3, b3, l3, u3⟩ := bis_step x _ f2 32 (by omega) (by omega) e2 l2 u2
  obtain ⟨f4, e4, b4, l4, u4⟩ := bis_step x _ f3 16 (by omega) (by omega) e3 l3 u3
  obtain ⟨f5, e5, b5, l5, u5⟩ := bis_step x _ f4 8 (by omega) (by omega) e4 l4 u4
  obtain ⟨f6, e6, b6, l6, u6⟩ := bis_step x _ f5 4 (by omega) (by omega) e5 l5 u5
  obtain ⟨f7, e7, b7, l7, u7⟩ := bis_step x _ f6 2 (by omega) (by omega) e6 l6 u6
  obtain ⟨f8, e8, b8, l8, u8⟩ := bis_step x _ f7 1 (by omega) (by omega) e7 l7 u7
  exact ⟨f8, e8, by omega, l8, u8⟩

variable (s : ℕ → ℝ) (p : ℕ)

/-- The exponent of the row's scale. -/
def ex : ℤ := if amax s p = 0 then 0 else max (⌊Real.log (amax s p * cst) * (Real.log 2)⁻¹⌋ + 1) (-126)

/-- The row's scale and its reciprocal. -/
def scale : ℝ := (2 : ℝ) ^ ex s p
def inv : ℝ := (2 : ℝ) ^ (-ex s p)

theorem log_zpow (n : ℤ) : Real.log ((2 : ℝ) ^ n) * (Real.log 2)⁻¹ = n := by
  rw [Real.log_zpow, mul_assoc, mul_inv_cancel₀ log2_pos.ne', mul_one]

/-- The exponent from the exponent field. -/
theorem ex_field (h : amax s p ≠ 0) :
    ∃ f, bisAll ((amax s p * cst : ℝ) : EReal) = BitVec.ofNat 32 f ∧ f ≤ 111 ∧ ex s p = (f : ℤ) - 126 := by
  have hpos : 0 < amax s p := lt_of_le_of_ne (amax_nonneg s p) (Ne.symm h)
  have hx : 0 < amax s p * cst := mul_pos hpos cst_pos
  have hlt : amax s p * cst < (2 : ℝ) ^ (-15 : ℤ) := by
    refine lt_of_le_of_lt ?_ cst_lt
    have := mul_le_mul_of_nonneg_right (amax_le_one s p) cst_pos.le
    rwa [one_mul] at this
  obtain ⟨f, e, b, l, u⟩ := bisAll_spec _ (EReal.coe_nonneg.2 hx.le) (EReal.coe_lt_top _)
  have two : (1 : ℝ) < 2 := one_lt_two
  have hi : 0 < (Real.log 2)⁻¹ := inv_pos.2 log2_pos
  have hf : f ≤ 111 := by
    by_contra hc
    have : V f ≥ (((2 : ℝ) ^ (-15 : ℤ) : ℝ) : EReal) := by
      unfold V; rw [if_neg (by omega)]
      split
      · exact _root_.le_top
      · exact EReal.coe_le_coe_iff.2 (zpow_le_zpow_right₀ two.le (by omega))
    exact absurd (this.trans l) (not_le.2 (EReal.coe_lt_coe_iff.2 hlt))
  have hu : amax s p * cst < (2 : ℝ) ^ ((f : ℤ) - 126) := by
    unfold V at u
    rw [if_neg (by omega), if_neg (by omega)] at u
    have := EReal.coe_lt_coe_iff.1 u
    rwa [show ((f + 1 : ℕ) : ℤ) - 127 = (f : ℤ) - 126 by push_cast; ring] at this
  have hul : Real.log (amax s p * cst) * (Real.log 2)⁻¹ < (((f : ℤ) - 126 : ℤ) : ℝ) := by
    rw [← log_zpow]
    exact mul_lt_mul_of_pos_right (Real.log_lt_log hx hu) hi
  have hfl : ⌊Real.log (amax s p * cst) * (Real.log 2)⁻¹⌋ < (f : ℤ) - 126 := Int.floor_lt.2 hul
  refine ⟨f, e, hf, ?_⟩
  unfold ex
  rw [if_neg h]
  by_cases h0 : f = 0
  · subst h0; rw [max_eq_right (by omega)]; rfl
  · have hl : (2 : ℝ) ^ ((f : ℤ) - 127) ≤ amax s p * cst := by
      unfold V at l
      rw [if_neg h0, if_neg (by omega)] at l
      exact EReal.coe_le_coe_iff.1 l
    have hll : (((f : ℤ) - 127 : ℤ) : ℝ) ≤ Real.log (amax s p * cst) * (Real.log 2)⁻¹ := by
      rw [← log_zpow]
      exact mul_le_mul_of_nonneg_right (Real.log_le_log (by positivity) hl) hi.le
    have := Int.le_floor.2 hll
    rw [max_eq_left (by omega)]; omega

/-- The exponent, as the kernel's word. -/
def eW : BitVec 32 := if ((amax s p * cst : ℝ) : EReal) = 0 then 0#32 else IntOp.subi (bisAll ((amax s p * cst : ℝ) : EReal)) 126#32

theorem amax_zero_iff : ((amax s p * cst : ℝ) : EReal) = 0 ↔ amax s p = 0 := by
  rw [EReal.coe_eq_zero, mul_eq_zero, or_iff_left cst_pos.ne']

theorem eW_words : ∃ a b : ℕ, IntOp.addi (eW s p) 127#32 = BitVec.ofNat 32 a
    ∧ IntOp.addi (IntOp.subi 0#32 (eW s p)) 127#32 = BitVec.ofNat 32 b
    ∧ 1 ≤ a ∧ a ≤ 254 ∧ 1 ≤ b ∧ b ≤ 254 ∧ (a : ℤ) - 127 = ex s p ∧ (b : ℤ) - 127 = -ex s p := by
  unfold eW
  by_cases h : amax s p = 0
  · rw [if_pos ((amax_zero_iff s p).2 h)]
    refine ⟨127, 127, rfl, rfl, by omega, by omega, by omega, by omega, ?_, ?_⟩ <;> unfold ex <;> rw [if_pos h] <;> rfl
  · rw [if_neg (mt (amax_zero_iff s p).1 h)]
    obtain ⟨f, e, hf, hx⟩ := ex_field s p h
    rw [e]
    have k1 : ∀ f : Fin 256, IntOp.addi (IntOp.subi (BitVec.ofNat 32 f.1) 126#32) 127#32 = BitVec.ofNat 32 (f.1 + 1) := by
      decide +kernel
    have k2 : ∀ f : Fin 253, IntOp.addi (IntOp.subi 0#32 (IntOp.subi (BitVec.ofNat 32 f.1) 126#32)) 127#32
        = BitVec.ofNat 32 (253 - f.1) := by decide +kernel
    exact ⟨f + 1, 253 - f, k1 ⟨f, by omega⟩, k2 ⟨f, by omega⟩, by omega, by omega, by omega, by omega, by push_cast; omega,
      by omega⟩

theorem V_mid {a : ℕ} (h1 : 1 ≤ a) (h2 : a ≤ 254) : V a = (((2 : ℝ) ^ ((a : ℤ) - 127) : ℝ) : EReal) := by
  unfold V; rw [if_neg (by omega), if_neg (by omega)]

theorem word_scale : Ideal.ofBits .f32 (IntOp.shli .vector (IntOp.addi (eW s p) 127#32) 23#32) = ((scale s p : ℝ) : EReal) := by
  obtain ⟨a, b, ha, hb, a1, a2, b1, b2, ea, eb⟩ := eW_words s p
  rw [ha, word _ (by omega), V_mid a1 a2, ea]; rfl

theorem word_inv : Ideal.ofBits .f32 (IntOp.shli .vector (IntOp.addi (IntOp.subi 0#32 (eW s p)) 127#32) 23#32)
    = ((inv s p : ℝ) : EReal) := by
  obtain ⟨a, b, ha, hb, a1, a2, b1, b2, ea, eb⟩ := eW_words s p
  rw [hb, word _ (by omega), V_mid b1 b2, eb]; rfl

/-! ### The reference's row -/

theorem fold_max {ι : Type*} (t : Finset ι) (f : ι → EReal) :
    Finset.fold max ⊥ f t = t.sup f := rfl

theorem ref_top : Finset.fold max ⊥ (fun k : Fin 16384 => ((s k.1 : ℝ) : EReal) * ((20 : ℝ) : EReal)) Finset.univ
    = ((20 * top s : ℝ) : EReal) := by
  rw [fold_max]
  apply le_antisymm
  · refine Finset.sup_le fun k _ => ?_
    rw [← EReal.coe_mul]
    exact EReal.coe_le_coe_iff.2 (by have := le_top s k.2; linarith)
  · obtain ⟨k, hk, h⟩ := top_mem s
    refine le_trans (le_of_eq ?_) (Finset.le_sup (Finset.mem_univ (⟨k, hk⟩ : Fin 16384)))
    rw [← EReal.coe_mul, h, mul_comm]

theorem ref_shift (k : ℕ) : ((s k : ℝ) : EReal) * ((20 : ℝ) : EReal) - ((20 * top s : ℝ) : EReal)
    = ((20 * s k - 20 * top s : ℝ) : EReal) := by
  rw [← EReal.coe_mul, ← EReal.coe_sub, mul_comm]

theorem ref_Z : (∑ k : Fin 16384, Ideal.exp (((20 * s k.1 - 20 * top s : ℝ)) : EReal)) = ((Zs s : ℝ) : EReal) := by
  simp only [Ideal.exp_coe]
  rw [← coe_sum]; refine congrArg _ ?_
  exact (Finset.sum_range fun k => Real.exp (20 * s k - 20 * top s)).symm

theorem log_Z : Ideal.log ((Zs s : ℝ) : EReal) = ((Real.log (Zs s) : ℝ) : EReal) := by
  rw [Ideal.log_coe, if_neg (not_le.2 (Zs_pos s))]

theorem ref_lp (k : ℕ) : ((20 * s k - 20 * top s : ℝ) : EReal) - ((Real.log (Zs s) : ℝ) : EReal) = ((lp s k : ℝ) : EReal) := by
  rw [← EReal.coe_sub]; rfl

theorem ref_amax : Finset.fold max ⊥ (fun k : Fin 16384 => max ((d s p k.1 : ℝ) : EReal) (-((d s p k.1 : ℝ) : EReal)))
    Finset.univ = ((amax s p : ℝ) : EReal) := by
  rw [fold_max]
  simp only [coe_abs]
  apply le_antisymm
  · exact Finset.sup_le fun k _ => EReal.coe_le_coe_iff.2 (le_amax s p k.2)
  · obtain ⟨k, hk, h⟩ := amax_mem s p
    rw [h]
    exact Finset.le_sup (f := fun k : Fin 16384 => ((|d s p k.1| : ℝ) : EReal)) (Finset.mem_univ (⟨k, hk⟩ : Fin 16384))

/-- The reference's exponent. -/
theorem ref_ex : (if ((amax s p : ℝ) : EReal) = 0 then (0 : EReal) else
      max (Ideal.liftRound Int.floor (Ideal.log (((amax s p : ℝ) : EReal) * ((cst : ℝ) : EReal))
        * (((Real.log 2)⁻¹ : ℝ) : EReal)) + 1) ((-126 : ℝ) : EReal)) = (((ex s p : ℤ) : ℝ) : EReal) := by
  unfold ex
  by_cases h : amax s p = 0
  · rw [if_pos (by exact_mod_cast h), if_pos h]; simp
  · have hx : 0 < amax s p * cst := mul_pos (lt_of_le_of_ne (amax_nonneg s p) (Ne.symm h)) cst_pos
    rw [if_neg (by exact_mod_cast h), if_neg h, ← EReal.coe_mul, Ideal.log_coe, if_neg (not_le.2 hx), ← EReal.coe_mul,
      Ideal.liftRound_coe, ← EReal.coe_one, ← EReal.coe_add, coe_max]
    congr 1; push_cast; rfl

theorem ref_scale : Ideal.exp2 (((ex s p : ℤ) : ℝ) : EReal) = ((scale s p : ℝ) : EReal) := by
  rw [Ideal.exp2_coe]; congr 1
  exact Real.rpow_intCast 2 (ex s p)

theorem ref_inv : Ideal.exp2 (0 - (((ex s p : ℤ) : ℝ) : EReal)) = ((inv s p : ℝ) : EReal) := by
  rw [← EReal.coe_zero, ← EReal.coe_sub, Ideal.exp2_coe]; congr 1
  rw [zero_sub, ← Int.cast_neg]
  exact Real.rpow_intCast 2 (-ex s p)

/-! ### The codes -/

/-- The row's bound in base 2, what the kernel subtracts from a scaled score. -/
def rowB : EReal := (((20 * top s + Real.log (Zs s)) * (Real.log 2)⁻¹ : ℝ) : EReal)

/-- The gradient over the scale. -/
def w (k : ℕ) : ℝ := d s p k * inv s p

/-- The code of column `k`. -/
def code (k : ℕ) : EReal :=
  min (Ideal.ofBits .f32 0x47600000#32) (max (Ideal.ofBits .f32 0xC7600000#32) ((w s p k : ℝ) : EReal))

theorem code_neg (k : ℕ) (hk : k ≠ p) :
    Ideal.exp2 (((s k : ℝ) : EReal) * c20 - rowB s) * ((inv s p : ℝ) : EReal) = ((w s p k : ℝ) : EReal) := by
  unfold c20 rowB w d
  rw [← EReal.coe_mul, ← EReal.coe_sub, exp2_real, ← EReal.coe_mul, if_neg hk, sub_zero]
  congr 3
  unfold lp
  have := log2_pos.ne'
  field_simp; ring

theorem code_pos : ((Real.exp (lp s p) - 1 : ℝ) : EReal) * ((inv s p : ℝ) : EReal) = ((w s p p : ℝ) : EReal) := by
  unfold w d; rw [if_pos rfl, EReal.coe_mul]

end Cert.LossMath
-- ==== Proof.LossChunk.lean ====
/- What a chunk of scores does to a lane's running maximum, sum and positive. -/
module

public import proofs.«01_k».proof.Proof.LossTile
public import proofs.«01_k».proof.Proof.LossRow

@[expose] public section

set_option maxRecDepth 16384
set_option maxHeartbeats 1000000

noncomputable section

namespace Cert.LossMath

open Idealize.ShloMosaic

/-- Sixteen tiles passed over by a lane's share of the positive's score. -/
theorem laneP_step (s : ℕ → ℝ) (p l : ℕ) (hl : l < 128) (n : ℕ) (f : ℕ → EReal → EReal)
    (hf : ∀ v < 16, ∀ x, f v x = if 128 * (n + v) + l = p then ((s (128 * (n + v) + l) : ℝ) : EReal) else x) :
    f 15 (f 14 (f 13 (f 12 (f 11 (f 10 (f 9 (f 8 (f 7 (f 6 (f 5 (f 4 (f 3 (f 2 (f 1 (f 0 (laneP s p l n))))))))))))))))
      = laneP s p l (n + 16) := by
  rw [hf 0 (by omega), Nat.add_zero, laneP_succ s p l hl, hf 1 (by omega), laneP_succ s p l hl, hf 2 (by omega), laneP_succ s p l hl, hf 3 (by omega), laneP_succ s p l hl, hf 4 (by omega), laneP_succ s p l hl, hf 5 (by omega), laneP_succ s p l hl, hf 6 (by omega), laneP_succ s p l hl, hf 7 (by omega), laneP_succ s p l hl, hf 8 (by omega), laneP_succ s p l hl, hf 9 (by omega), laneP_succ s p l hl, hf 10 (by omega), laneP_succ s p l hl, hf 11 (by omega), laneP_succ s p l hl, hf 12 (by omega), laneP_succ s p l hl, hf 13 (by omega), laneP_succ s p l hl, hf 14 (by omega), laneP_succ s p l hl, hf 15 (by omega), laneP_succ s p l hl]

end Cert.LossMath

namespace Cert.LossDqIdeal.Hand

open Cert.LossDqIdeal Cert.LossDqIdeal.Gen Cert.LossMath Idealize.ShloMosaic Idealize.ShloMosaic.TcCoe Idealize.SL.Sem

/-- The lane numbers. -/
def io : IVec S256x128 32 := iota Kind.tc S256x128 32 [1] iota_S256x128_d1_w32

/-- The running maximum after fourteen of a chunk's tiles. -/
def mN (base : BitVec 32) (x7 : Vec Ideal S1x256x1 .i32) (m : Vec Ideal S256x128 .f32) (T : ℕ → Vec Ideal S256x128 .f32) :
    FVec Ideal S256x128 .f32 :=
  k0_pay39 io (k0_pay17 base x7) (k0_pay33 io (k0_pay17 base x7) (k0_pay27 io (k0_pay17 base x7)
    (k0_pay21 io base x7 m (T 0) (T 128)) (T 256) (T 384) (T 512) (T 640)) (T 768) (T 896) (T 1024) (T 1152))
    (T 1280) (T 1408) (T 1536) (T 1664)

/-- The running maximum after a chunk. -/
def mC (base : BitVec 32) (x7 : Vec Ideal S1x256x1 .i32) (m : Vec Ideal S256x128 .f32) (T : ℕ → Vec Ideal S256x128 .f32) :
    FVec Ideal S256x128 .f32 :=
  k0_pay43 io (k0_pay17 base x7) (mN base x7 m T) (T 1792) (T 1920)

/-- The running sum after a chunk, `M` the running maximum after it. -/
def zC (base : BitVec 32) (x7 : Vec Ideal S1x256x1 .i32) (m M z : Vec Ideal S256x128 .f32) (T : ℕ → Vec Ideal S256x128 .f32) :
    FVec Ideal S256x128 .f32 :=
  k0_pay55 io (k0_pay17 base x7) M (k0_pay52 io (k0_pay17 base x7) M (k0_pay49 io (k0_pay17 base x7) M (k0_pay46 io (k0_pay17 base x7) M (k0_pay45 io (k0_pay17 base x7) M (k0_pay44 io (k0_pay17 base x7) m (mN base x7 m T) (T 1792) (T 1920) z (T 0)) (T 128) (T 256) (T 384)) (T 512) (512#32) (T 640) (T 768)) (T 896) (k0_pay47 io) (k0_pay48 (k0_pay17 base x7)) (T 1024) (T 1152)) (T 1280) (k0_pay50 io (k0_pay17 base x7)) k0_pay51 (T 1408) (T 1536)) (k0_pay53 io (k0_pay17 base x7) M (T 1664)) (Named.named κ "log2e_over_tau" 1105646794#32) (T 1792) (T 1920)

/-- The positive's score after a chunk. -/
def pC (base : BitVec 32) (x7 : Vec Ideal S1x256x1 .i32) (x16 : Vec Ideal S256x128 .f32) (T : ℕ → Vec Ideal S256x128 .f32) :
    FVec Ideal S256x128 .f32 :=
  k0_pay42 io (k0_pay17 base x7) (k0_pay38 io (k0_pay17 base x7) (k0_pay32 io (k0_pay17 base x7)
    (k0_pay26 io (k0_pay17 base x7) (k0_pay20 io base x7 x16 (T 0) (T 128)) (T 256) (T 384) (T 512) (T 640))
    (T 768) (T 896) (T 1024) (T 1152)) (T 1280) (T 1408) (T 1536) (T 1664)) (T 1792) (T 1920)

section
variable (t : Fin cfg0.N) (x7 : Vec Ideal S1x256x1 .i32) (m M z : Vec Ideal S256x128 .f32) (T : ℕ → Vec Ideal S256x128 .f32)
  (r : Fin 256) (l : Fin 128) (hp : (x7 (ix3 0 r 0)).toNat < 16384) (s : ℕ → ℝ)
  (hT : ∀ v < 16, T (128 * v) (ix2 r l) = ((s (2048 * ck t + 128 * v + l.val) : ℝ) : EReal))

include hT in
theorem hg (v : ℕ) (hv : v < 16) :
    (if 2048 * ck t + 128 * v + l.val = (x7 (ix3 0 r 0)).toNat then (⊥ : EReal) else T (128 * v) (ix2 r l))
      = g s (x7 (ix3 0 r 0)).toNat l.val (16 * ck t + v) := by
  have e : 128 * (16 * ck t + v) + l.val = 2048 * ck t + 128 * v + l.val := by omega
  unfold g
  rw [e, hT v hv]

include hp hT in
theorem mC_apply (hm : m (ix2 r l) = laneM s (x7 (ix3 0 r 0)).toNat l.val (16 * ck t)) :
    mC (Scalar.muli (BitVec.ofNat 32 ↑(grid0.coords t 3)) 2048#32) x7 m T (ix2 r l)
      = laneM s (x7 (ix3 0 r 0)).toNat l.val (16 * ck t + 16) := by
  unfold mC mN io
  pointwise [k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56]
  simp (maxSteps := 1000000) (discharger := first | decide | assumption) only [hit_select, masked_eq]
  simp only [BitVec.toNat_ofNat, Nat.reduceMod, Nat.reducePow]
  rw [hm]
  exact laneM_step s _ _ _ (fun v => if 2048 * ck t + 128 * v + l.val = (x7 (ix3 0 r 0)).toNat then (⊥ : EReal) else T (128 * v) (ix2 r l)) (hg t x7 T r l s hT)

include hp hT in
theorem zC_apply (hm : m (ix2 r l) = laneM s (x7 (ix3 0 r 0)).toNat l.val (16 * ck t))
    (hM : M (ix2 r l) = laneM s (x7 (ix3 0 r 0)).toNat l.val (16 * ck t + 16))
    (hMC : M = mC (Scalar.muli (BitVec.ofNat 32 ↑(grid0.coords t 3)) 2048#32) x7 m T)
    (hz : z (ix2 r l) = laneZ s (x7 (ix3 0 r 0)).toNat l.val (16 * ck t)) :
    zC (Scalar.muli (BitVec.ofNat 32 ↑(grid0.coords t 3)) 2048#32) x7 m M z T (ix2 r l)
      = laneZ s (x7 (ix3 0 r 0)).toNat l.val (16 * ck t + 16) := by
  have hN := hM
  rw [hMC] at hN
  unfold mC at hN
  unfold zC
  clear hMC
  generalize mN (Scalar.muli (BitVec.ofNat 32 ↑(grid0.coords t 3)) 2048#32) x7 m T = N at hN ⊢
  revert hN
  unfold io
  pointwise [k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56]
  intro hN
  simp only [masked_eq] at hN ⊢
  simp (discharger := decide) only [hit_select t _ _ l _ hp] at hN ⊢
  simp only [BitVec.toNat_ofNat, Nat.reduceMod, Nat.reducePow] at hN ⊢
  rw [hN, hM, hz, hm]
  exact laneZ_step s _ _ _ (fun v => E ((fun v => if 2048 * ck t + 128 * v + l.val = (x7 (ix3 0 r 0)).toNat then (⊥ : EReal) else T (128 * v) (ix2 r l)) v) (laneM s (x7 (ix3 0 r 0)).toNat l.val (16 * ck t + 16)))
    (fun v hv => congrArg (fun a => E a _) (hg t x7 T r l s hT v hv))

include hp hT in
theorem pC_apply (hm : m (ix2 r l) = laneP s (x7 (ix3 0 r 0)).toNat l.val (16 * ck t)) :
    pC (Scalar.muli (BitVec.ofNat 32 ↑(grid0.coords t 3)) 2048#32) x7 m T (ix2 r l)
      = laneP s (x7 (ix3 0 r 0)).toNat l.val (16 * ck t + 16) := by
  unfold pC io
  pointwise [k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56]
  rw [hit_select t 1920#32 (by decide) l _ hp, hit_select t 1792#32 (by decide) l _ hp, hit_select t 1664#32 (by decide) l _ hp, hit_select t 1536#32 (by decide) l _ hp, hit_select t 1408#32 (by decide) l _ hp, hit_select t 1280#32 (by decide) l _ hp, hit_select t 1152#32 (by decide) l _ hp, hit_select t 1024#32 (by decide) l _ hp, hit_select t 896#32 (by decide) l _ hp, hit_select t 768#32 (by decide) l _ hp, hit_select t 640#32 (by decide) l _ hp, hit_select t 512#32 (by decide) l _ hp, hit_select t 384#32 (by decide) l _ hp, hit_select t 256#32 (by decide) l _ hp, hit_select t 128#32 (by decide) l _ hp, hit_select t 0#32 (by decide) l _ hp]
  simp only [BitVec.toNat_ofNat, Nat.reduceMod, Nat.reducePow]
  rw [hm]
  refine laneP_step s _ _ l.2 _ (fun v x => if 2048 * ck t + 128 * v + l.val = (x7 (ix3 0 r 0)).toNat then T (128 * v) (ix2 r l) else x) ?_
  intro v hv x
  have e : 128 * (16 * ck t + v) + l.val = 2048 * ck t + 128 * v + l.val := by omega
  rw [e]
  show (if _ then _ else _) = _
  rw [hT v hv]

end

end Cert.LossDqIdeal.Hand
-- ==== Proof.LossQh.lean ====
/- The dequantised queries, as the first pass stores them. -/
module

public import proofs.«01_k».proof.Proof.LossTile

@[expose] public section

set_option maxRecDepth 16384
set_option maxHeartbeats 1000000

noncomputable section

namespace Cert.LossDqIdeal.Hand

open Cert.LossDqIdeal Cert.LossDqIdeal.Gen Idealize.ShloMosaic Idealize.ShloMosaic.TcCoe Idealize.SL.Sem

/-- Codes times their block's scale. -/
def qhV (x4 : Vec Ideal S1x256x768 .fp8e4m3) (x5 : Vec Ideal S1x256x6 .f32) : Vec Ideal S256x768 .bf16 :=
  fun i => EReal.mul (x4 (ix3 0 (i 0) (i 1))) (x5 (ix3 0 (i 0) ⟨(i 1).val / 128, by have h : (i 1).val < 768 := (i 1).2; omega⟩))

theorem qp0 (a : Vec Ideal S1x256x128 .fp8e4m3) (b : Vec Ideal S1x256x1 .f32) (r : Fin 256) (l : Fin 128) :
    k0_pay10 (F := Ideal) a b (ix2 r l) = EReal.mul (a (ix3 0 r l)) (b (ix3 0 r 0)) := by
  pointwise [k0_pay10]
  rfl

theorem qp1 (a : Vec Ideal S1x256x128 .fp8e4m3) (b : Vec Ideal S1x256x1 .f32) (r : Fin 256) (l : Fin 128) :
    k0_pay11 (F := Ideal) a b (ix2 r l) = EReal.mul (a (ix3 0 r l)) (b (ix3 0 r 0)) := by
  pointwise [k0_pay11]
  rfl

theorem qp2 (a : Vec Ideal S1x256x128 .fp8e4m3) (b : Vec Ideal S1x256x1 .f32) (r : Fin 256) (l : Fin 128) :
    k0_pay12 (F := Ideal) a b (ix2 r l) = EReal.mul (a (ix3 0 r l)) (b (ix3 0 r 0)) := by
  pointwise [k0_pay12]
  rfl

theorem qp3 (a : Vec Ideal S1x256x128 .fp8e4m3) (b : Vec Ideal S1x256x1 .f32) (r : Fin 256) (l : Fin 128) :
    k0_pay13 (F := Ideal) a b (ix2 r l) = EReal.mul (a (ix3 0 r l)) (b (ix3 0 r 0)) := by
  pointwise [k0_pay13]
  rfl

theorem qp4 (a : Vec Ideal S1x256x128 .fp8e4m3) (b : Vec Ideal S1x256x1 .f32) (r : Fin 256) (l : Fin 128) :
    k0_pay14 (F := Ideal) a b (ix2 r l) = EReal.mul (a (ix3 0 r l)) (b (ix3 0 r 0)) := by
  pointwise [k0_pay14]
  rfl

theorem qp5 (a : Vec Ideal S1x256x128 .fp8e4m3) (b : Vec Ideal S1x256x1 .f32) (r : Fin 256) (l : Fin 128) :
    k0_pay15 (F := Ideal) a b (ix2 r l) = EReal.mul (a (ix3 0 r l)) (b (ix3 0 r 0)) := by
  pointwise [k0_pay15]
  rfl

/-- The six stores of the dequantised queries hold them. -/
theorem read_qh (f : (View.whole cc0_scratch1).ty.Contents (Elt Ideal)) (x4 : Vec Ideal S1x256x768 .fp8e4m3) (x5 : Vec Ideal S1x256x6 .f32) :
    (View.whole cc0_scratch1).read (Elt Ideal) ((View.whole cc0_scratch1).writes (Elt Ideal) f
      [⟨Rect.unit (s := S256x768) ![0, 640] ![256, 128] inb_S256x768_S256x128_0_640, k0_pay15 (View.ld x4 (Rect.unit (s := S1x256x768) ![0, 0, 640] ![1, 256, 128] inb_S1x256x768_S1x256x128_0_0_640)) (View.ld x5 (Rect.unit (s := S1x256x6) ![0, 0, 5] ![1, 256, 1] inb_S1x256x6_S1x256x1_0_0_5))⟩,
      ⟨Rect.unit (s := S256x768) ![0, 512] ![256, 128] inb_S256x768_S256x128_0_512, k0_pay14 (View.ld x4 (Rect.unit (s := S1x256x768) ![0, 0, 512] ![1, 256, 128] inb_S1x256x768_S1x256x128_0_0_512)) (View.ld x5 (Rect.unit (s := S1x256x6) ![0, 0, 4] ![1, 256, 1] inb_S1x256x6_S1x256x1_0_0_4))⟩,
      ⟨Rect.unit (s := S256x768) ![0, 384] ![256, 128] inb_S256x768_S256x128_0_384, k0_pay13 (View.ld x4 (Rect.unit (s := S1x256x768) ![0, 0, 384] ![1, 256, 128] inb_S1x256x768_S1x256x128_0_0_384)) (View.ld x5 (Rect.unit (s := S1x256x6) ![0, 0, 3] ![1, 256, 1] inb_S1x256x6_S1x256x1_0_0_3))⟩,
      ⟨Rect.unit (s := S256x768) ![0, 256] ![256, 128] inb_S256x768_S256x128_0_256, k0_pay12 (View.ld x4 (Rect.unit (s := S1x256x768) ![0, 0, 256] ![1, 256, 128] inb_S1x256x768_S1x256x128_0_0_256)) (View.ld x5 (Rect.unit (s := S1x256x6) ![0, 0, 2] ![1, 256, 1] inb_S1x256x6_S1x256x1_0_0_2))⟩,
      ⟨Rect.unit (s := S256x768) ![0, 128] ![256, 128] inb_S256x768_S256x128_0_128, k0_pay11 (View.ld x4 (Rect.unit (s := S1x256x768) ![0, 0, 128] ![1, 256, 128] inb_S1x256x768_S1x256x128_0_0_128)) (View.ld x5 (Rect.unit (s := S1x256x6) ![0, 0, 1] ![1, 256, 1] inb_S1x256x6_S1x256x1_0_0_1))⟩,
      ⟨Rect.unit (s := S256x768) ![0, 0] ![256, 128] inb_S256x768_S256x128_0_0, k0_pay10 (View.ld x4 (Rect.unit (s := S1x256x768) ![0, 0, 0] ![1, 256, 128] inb_S1x256x768_S1x256x128_0_0_0)) (View.ld x5 (Rect.unit (s := S1x256x6) ![0, 0, 0] ![1, 256, 1] inb_S1x256x6_S1x256x1_0_0_0))⟩]) = qhV x4 x5 := by
  funext i
  obtain ⟨r, k, rfl⟩ : ∃ (r : Fin 256) (k : Fin 768), i = ix2 r k := ⟨i 0, i 1, eq_ix2 i⟩
  have hk : k.val < 768 := k.2
  have hc : k.val < 128 ∨ 128 ≤ k.val ∧ k.val < 256 ∨ 256 ≤ k.val ∧ k.val < 384 ∨ 384 ≤ k.val ∧ k.val < 512
    ∨ 512 ≤ k.val ∧ k.val < 640 ∨ 640 ≤ k.val ∧ k.val < 768 := by omega
  rcases hc with h | h | h | h | h | h
  · refine (View.read_writes_cons_unit_of_not_mem _ f _ _ _ _ rfl 1 (Or.inl (show k.val < 640 by omega))).trans ?_
    refine (View.read_writes_cons_unit_of_not_mem _ f _ _ _ _ rfl 1 (Or.inl (show k.val < 512 by omega))).trans ?_
    refine (View.read_writes_cons_unit_of_not_mem _ f _ _ _ _ rfl 1 (Or.inl (show k.val < 384 by omega))).trans ?_
    refine (View.read_writes_cons_unit_of_not_mem _ f _ _ _ _ rfl 1 (Or.inl (show k.val < 256 by omega))).trans ?_
    refine (View.read_writes_cons_unit_of_not_mem _ f _ _ _ _ rfl 1 (Or.inl (show k.val < 128 by omega))).trans ?_
    refine (View.read_writes_cons_unit_of_mem _ f _ _ _ _ (ix2 r ⟨k.val - 0, by omega⟩ : S256x128.Idx) rfl ?_).trans ?_
    · intro a
      match a with
      | ⟨0, _⟩ => exact (Nat.zero_add _).symm
      | ⟨1, _⟩ => show k.val = 0 + (k.val - 0); omega
    · refine (qp0 _ _ _ _).trans ?_
      show EReal.mul _ _ = EReal.mul _ _
      rw [View.ld_apply, View.ld_apply]
      refine congrArg₂ EReal.mul (congrArg x4 ?_) (congrArg x5 ?_)
      · funext a; apply Fin.ext; refine (Rect.idx_unit_val _ _ _ _ a).trans ?_
        match a with
        | ⟨0, _⟩ => rfl
        | ⟨1, _⟩ => exact Nat.zero_add _
        | ⟨2, _⟩ => show 0 + (k.val - 0) = k.val; omega
      · funext a; apply Fin.ext; refine (Rect.idx_unit_val _ _ _ _ a).trans ?_
        match a with
        | ⟨0, _⟩ => rfl
        | ⟨1, _⟩ => exact Nat.zero_add _
        | ⟨2, _⟩ => show 0 + 0 = k.val / 128; omega
  · refine (View.read_writes_cons_unit_of_not_mem _ f _ _ _ _ rfl 1 (Or.inl (show k.val < 640 by omega))).trans ?_
    refine (View.read_writes_cons_unit_of_not_mem _ f _ _ _ _ rfl 1 (Or.inl (show k.val < 512 by omega))).trans ?_
    refine (View.read_writes_cons_unit_of_not_mem _ f _ _ _ _ rfl 1 (Or.inl (show k.val < 384 by omega))).trans ?_
    refine (View.read_writes_cons_unit_of_not_mem _ f _ _ _ _ rfl 1 (Or.inl (show k.val < 256 by omega))).trans ?_
    refine (View.read_writes_cons_unit_of_mem _ f _ _ _ _ (ix2 r ⟨k.val - 128, by omega⟩ : S256x128.Idx) rfl ?_).trans ?_
    · intro a
      match a with
      | ⟨0, _⟩ => exact (Nat.zero_add _).symm
      | ⟨1, _⟩ => show k.val = 128 + (k.val - 128); omega
    · refine (qp1 _ _ _ _).trans ?_
      show EReal.mul _ _ = EReal.mul _ _
      rw [View.ld_apply, View.ld_apply]
      refine congrArg₂ EReal.mul (congrArg x4 ?_) (congrArg x5 ?_)
      · funext a; apply Fin.ext; refine (Rect.idx_unit_val _ _ _ _ a).trans ?_
        match a with
        | ⟨0, _⟩ => rfl
        | ⟨1, _⟩ => exact Nat.zero_add _
        | ⟨2, _⟩ => show 128 + (k.val - 128) = k.val; omega
      · funext a; apply Fin.ext; refine (Rect.idx_unit_val _ _ _ _ a).trans ?_
        match a with
        | ⟨0, _⟩ => rfl
        | ⟨1, _⟩ => exact Nat.zero_add _
        | ⟨2, _⟩ => show 1 + 0 = k.val / 128; omega
  · refine (View.read_writes_cons_unit_of_not_mem _ f _ _ _ _ rfl 1 (Or.inl (show k.val < 640 by omega))).trans ?_
    refine (View.read_writes_cons_unit_of_not_mem _ f _ _ _ _ rfl 1 (Or.inl (show k.val < 512 by omega))).trans ?_
    refine (View.read_writes_cons_unit_of_not_mem _ f _ _ _ _ rfl 1 (Or.inl (show k.val < 384 by omega))).trans ?_
    refine (View.read_writes_cons_unit_of_mem _ f _ _ _ _ (ix2 r ⟨k.val - 256, by omega⟩ : S256x128.Idx) rfl ?_).trans ?_
    · intro a
      match a with
      | ⟨0, _⟩ => exact (Nat.zero_add _).symm
      | ⟨1, _⟩ => show k.val = 256 + (k.val - 256); omega
    · refine (qp2 _ _ _ _).trans ?_
      show EReal.mul _ _ = EReal.mul _ _
      rw [View.ld_apply, View.ld_apply]
      refine congrArg₂ EReal.mul (congrArg x4 ?_) (congrArg x5 ?_)
      · funext a; apply Fin.ext; refine (Rect.idx_unit_val _ _ _ _ a).trans ?_
        match a with
        | ⟨0, _⟩ => rfl
        | ⟨1, _⟩ => exact Nat.zero_add _
        | ⟨2, _⟩ => show 256 + (k.val - 256) = k.val; omega
      · funext a; apply Fin.ext; refine (Rect.idx_unit_val _ _ _ _ a).trans ?_
        match a with
        | ⟨0, _⟩ => rfl
        | ⟨1, _⟩ => exact Nat.zero_add _
        | ⟨2, _⟩ => show 2 + 0 = k.val / 128; omega
  · refine (View.read_writes_cons_unit_of_not_mem _ f _ _ _ _ rfl 1 (Or.inl (show k.val < 640 by omega))).trans ?_
    refine (View.read_writes_cons_unit_of_not_mem _ f _ _ _ _ rfl 1 (Or.inl (show k.val < 512 by omega))).trans ?_
    refine (View.read_writes_cons_unit_of_mem _ f _ _ _ _ (ix2 r ⟨k.val - 384, by omega⟩ : S256x128.Idx) rfl ?_).trans ?_
    · intro a
      match a with
      | ⟨0, _⟩ => exact (Nat.zero_add _).symm
      | ⟨1, _⟩ => show k.val = 384 + (k.val - 384); omega
    · refine (qp3 _ _ _ _).trans ?_
      show EReal.mul _ _ = EReal.mul _ _
      rw [View.ld_apply, View.ld_apply]
      refine congrArg₂ EReal.mul (congrArg x4 ?_) (congrArg x5 ?_)
      · funext a; apply Fin.ext; refine (Rect.idx_unit_val _ _ _ _ a).trans ?_
        match a with
        | ⟨0, _⟩ => rfl
        | ⟨1, _⟩ => exact Nat.zero_add _
        | ⟨2, _⟩ => show 384 + (k.val - 384) = k.val; omega
      · funext a; apply Fin.ext; refine (Rect.idx_unit_val _ _ _ _ a).trans ?_
        match a with
        | ⟨0, _⟩ => rfl
        | ⟨1, _⟩ => exact Nat.zero_add _
        | ⟨2, _⟩ => show 3 + 0 = k.val / 128; omega
  · refine (View.read_writes_cons_unit_of_not_mem _ f _ _ _ _ rfl 1 (Or.inl (show k.val < 640 by omega))).trans ?_
    refine (View.read_writes_cons_unit_of_mem _ f _ _ _ _ (ix2 r ⟨k.val - 512, by omega⟩ : S256x128.Idx) rfl ?_).trans ?_
    · intro a
      match a with
      | ⟨0, _⟩ => exact (Nat.zero_add _).symm
      | ⟨1, _⟩ => show k.val = 512 + (k.val - 512); omega
    · refine (qp4 _ _ _ _).trans ?_
      show EReal.mul _ _ = EReal.mul _ _
      rw [View.ld_apply, View.ld_apply]
      refine congrArg₂ EReal.mul (congrArg x4 ?_) (congrArg x5 ?_)
      · funext a; apply Fin.ext; refine (Rect.idx_unit_val _ _ _ _ a).trans ?_
        match a with
        | ⟨0, _⟩ => rfl
        | ⟨1, _⟩ => exact Nat.zero_add _
        | ⟨2, _⟩ => show 512 + (k.val - 512) = k.val; omega
      · funext a; apply Fin.ext; refine (Rect.idx_unit_val _ _ _ _ a).trans ?_
        match a with
        | ⟨0, _⟩ => rfl
        | ⟨1, _⟩ => exact Nat.zero_add _
        | ⟨2, _⟩ => show 4 + 0 = k.val / 128; omega
  · refine (View.read_writes_cons_unit_of_mem _ f _ _ _ _ (ix2 r ⟨k.val - 640, by omega⟩ : S256x128.Idx) rfl ?_).trans ?_
    · intro a
      match a with
      | ⟨0, _⟩ => exact (Nat.zero_add _).symm
      | ⟨1, _⟩ => show k.val = 640 + (k.val - 640); omega
    · refine (qp5 _ _ _ _).trans ?_
      show EReal.mul _ _ = EReal.mul _ _
      rw [View.ld_apply, View.ld_apply]
      refine congrArg₂ EReal.mul (congrArg x4 ?_) (congrArg x5 ?_)
      · funext a; apply Fin.ext; refine (Rect.idx_unit_val _ _ _ _ a).trans ?_
        match a with
        | ⟨0, _⟩ => rfl
        | ⟨1, _⟩ => exact Nat.zero_add _
        | ⟨2, _⟩ => show 640 + (k.val - 640) = k.val; omega
      · funext a; apply Fin.ext; refine (Rect.idx_unit_val _ _ _ _ a).trans ?_
        match a with
        | ⟨0, _⟩ => rfl
        | ⟨1, _⟩ => exact Nat.zero_add _
        | ⟨2, _⟩ => show 5 + 0 = k.val / 128; omega

theorem readCov_qh (inb) (x4 : Vec Ideal S1x256x768 .fp8e4m3) (x5 : Vec Ideal S1x256x6 .f32) :
    (View.whole cc0_scratch1).readCov (Val := Elt Ideal)
      [⟨Rect.unit (s := S256x768) ![0, 640] ![256, 128] inb_S256x768_S256x128_0_640, k0_pay15 (View.ld x4 (Rect.unit (s := S1x256x768) ![0, 0, 640] ![1, 256, 128] inb_S1x256x768_S1x256x128_0_0_640)) (View.ld x5 (Rect.unit (s := S1x256x6) ![0, 0, 5] ![1, 256, 1] inb_S1x256x6_S1x256x1_0_0_5))⟩,
      ⟨Rect.unit (s := S256x768) ![0, 512] ![256, 128] inb_S256x768_S256x128_0_512, k0_pay14 (View.ld x4 (Rect.unit (s := S1x256x768) ![0, 0, 512] ![1, 256, 128] inb_S1x256x768_S1x256x128_0_0_512)) (View.ld x5 (Rect.unit (s := S1x256x6) ![0, 0, 4] ![1, 256, 1] inb_S1x256x6_S1x256x1_0_0_4))⟩,
      ⟨Rect.unit (s := S256x768) ![0, 384] ![256, 128] inb_S256x768_S256x128_0_384, k0_pay13 (View.ld x4 (Rect.unit (s := S1x256x768) ![0, 0, 384] ![1, 256, 128] inb_S1x256x768_S1x256x128_0_0_384)) (View.ld x5 (Rect.unit (s := S1x256x6) ![0, 0, 3] ![1, 256, 1] inb_S1x256x6_S1x256x1_0_0_3))⟩,
      ⟨Rect.unit (s := S256x768) ![0, 256] ![256, 128] inb_S256x768_S256x128_0_256, k0_pay12 (View.ld x4 (Rect.unit (s := S1x256x768) ![0, 0, 256] ![1, 256, 128] inb_S1x256x768_S1x256x128_0_0_256)) (View.ld x5 (Rect.unit (s := S1x256x6) ![0, 0, 2] ![1, 256, 1] inb_S1x256x6_S1x256x1_0_0_2))⟩,
      ⟨Rect.unit (s := S256x768) ![0, 128] ![256, 128] inb_S256x768_S256x128_0_128, k0_pay11 (View.ld x4 (Rect.unit (s := S1x256x768) ![0, 0, 128] ![1, 256, 128] inb_S1x256x768_S1x256x128_0_0_128)) (View.ld x5 (Rect.unit (s := S1x256x6) ![0, 0, 1] ![1, 256, 1] inb_S1x256x6_S1x256x1_0_0_1))⟩,
      ⟨Rect.unit (s := S256x768) ![0, 0] ![256, 128] inb_S256x768_S256x128_0_0, k0_pay10 (View.ld x4 (Rect.unit (s := S1x256x768) ![0, 0, 0] ![1, 256, 128] inb_S1x256x768_S1x256x128_0_0_0)) (View.ld x5 (Rect.unit (s := S1x256x6) ![0, 0, 0] ![1, 256, 1] inb_S1x256x6_S1x256x1_0_0_0))⟩] (Rect.unit (s := S256x768) ![0, 0] ![256, 768] inb).toLoadRect = qhV x4 x5 := by
  unfold View.readCov
  exact (View.readAt_full _ _ _).trans (read_qh _ x4 x5)

end Cert.LossDqIdeal.Hand
-- ==== Proof.LossAB.lean ====
/- The first pass's steps, in the terms of a chunk's step. -/
module

public import proofs.«01_k».proof.Proof.LossChunk
public import proofs.«01_k».proof.Proof.LossQh

@[expose] public section

set_option maxRecDepth 16384
set_option maxHeartbeats 1000000

noncomputable section

namespace Cert.LossDqIdeal.Hand

open Cert.LossDqIdeal Cert.LossDqIdeal.Gen Cert.LossMath Idealize.ShloMosaic Idealize.ShloMosaic.TcCoe Idealize.SL.Sem

/-- The number of a chunk's first column. -/
abbrev base (t : Fin cfg0.N) : BitVec 32 := Scalar.muli (BitVec.ofNat 32 ↑(grid0.coords t 3)) 2048#32

/-- The tiles of a chunk's scores. -/
abbrev tl (x13 : Vec Ideal S256x768 .bf16) (x6 : Vec Ideal S1x768x2048 .bf16) : ℕ → Vec Ideal S256x128 .f32 :=
  tile (k0_pay16 x13 x6)

theorem pay54_eq (v : FVec Ideal S256x128 .f32) : k0_pay54 v = v := by
  funext i; obtain ⟨r, l, rfl⟩ : ∃ (r : Fin 256) (l : Fin 128), i = ix2 r l := ⟨i 0, i 1, eq_ix2 i⟩
  pointwise [k0_pay54]

theorem pay56_eq (v : Vec Ideal S256x128 .f32) : k0_pay56 (F := Ideal) v = v := by
  funext i; obtain ⟨r, l, rfl⟩ : ∃ (r : Fin 256) (l : Fin 128), i = ix2 r l := ⟨i 0, i 1, eq_ix2 i⟩
  pointwise [k0_pay56]

theorem newB_14_eq (c t h x6 x7 x12 x13 x14 x15 x16) :
    newB_14 (F := Ideal) c t h x6 x7 x12 x13 x14 x15 x16 = mC (base t) x7 x14 (tl x13 x6) := by
  unfold newB_14 atB runB; dsimp only; sl_unfold_run_names
  rw [View.read_writes_full]
  simp only [tile_readCov t 0#32 ⟨0, rfl⟩, tile_readCov t 128#32 ⟨1, rfl⟩, tile_readCov t 256#32 ⟨2, rfl⟩, tile_readCov t 384#32 ⟨3, rfl⟩, tile_readCov t 512#32 ⟨4, rfl⟩, tile_readCov t 640#32 ⟨5, rfl⟩, tile_readCov t 768#32 ⟨6, rfl⟩, tile_readCov t 896#32 ⟨7, rfl⟩, tile_readCov t 1024#32 ⟨8, rfl⟩, tile_readCov t 1152#32 ⟨9, rfl⟩, tile_readCov t 1280#32 ⟨10, rfl⟩, tile_readCov t 1408#32 ⟨11, rfl⟩, tile_readCov t 1536#32 ⟨12, rfl⟩, tile_readCov t 1664#32 ⟨13, rfl⟩, tile_readCov t 1792#32 ⟨14, rfl⟩, tile_readCov t 1920#32 ⟨15, rfl⟩]
  simp only [View.readAt_eq_ld, hsc0_0.read_unread, hsc0_1.read_unread, hsc0_2.read_unread, hsc0_3.read_unread, hsc0_4.read_unread, (hs0_0 t).read_unread, (hs0_1 t).read_unread, (hs0_2 t).read_unread, (hs0_3 t).read_unread, View.ld_unit_zero (S := S256x768) hz2, View.ld_unit_zero (S := S256x128) hz2, View.ld_unit_zero (S := S1x768x2048) hz3, View.ld_unit_zero (S := S1x256x1) hz3]
  simp only [pay54_eq, pay56_eq, BitVec.toNat_ofNat, Nat.reduceMod, Nat.reducePow]
  rfl

theorem newB_15_eq (c t h x6 x7 x12 x13 x14 x15 x16) :
    newB_15 (F := Ideal) c t h x6 x7 x12 x13 x14 x15 x16 = zC (base t) x7 x14 (mC (base t) x7 x14 (tl x13 x6)) x15 (tl x13 x6) := by
  unfold newB_15 atB runB; dsimp only; sl_unfold_run_names
  rw [View.read_writes_full]
  simp only [tile_readCov t 0#32 ⟨0, rfl⟩, tile_readCov t 128#32 ⟨1, rfl⟩, tile_readCov t 256#32 ⟨2, rfl⟩, tile_readCov t 384#32 ⟨3, rfl⟩, tile_readCov t 512#32 ⟨4, rfl⟩, tile_readCov t 640#32 ⟨5, rfl⟩, tile_readCov t 768#32 ⟨6, rfl⟩, tile_readCov t 896#32 ⟨7, rfl⟩, tile_readCov t 1024#32 ⟨8, rfl⟩, tile_readCov t 1152#32 ⟨9, rfl⟩, tile_readCov t 1280#32 ⟨10, rfl⟩, tile_readCov t 1408#32 ⟨11, rfl⟩, tile_readCov t 1536#32 ⟨12, rfl⟩, tile_readCov t 1664#32 ⟨13, rfl⟩, tile_readCov t 1792#32 ⟨14, rfl⟩, tile_readCov t 1920#32 ⟨15, rfl⟩]
  simp only [View.readAt_eq_ld, hsc0_0.read_unread, hsc0_1.read_unread, hsc0_2.read_unread, hsc0_3.read_unread, hsc0_4.read_unread, (hs0_0 t).read_unread, (hs0_1 t).read_unread, (hs0_2 t).read_unread, (hs0_3 t).read_unread, View.ld_unit_zero (S := S256x768) hz2, View.ld_unit_zero (S := S256x128) hz2, View.ld_unit_zero (S := S1x768x2048) hz3, View.ld_unit_zero (S := S1x256x1) hz3]
  simp only [pay54_eq, pay56_eq, BitVec.toNat_ofNat, Nat.reduceMod, Nat.reducePow]
  rfl

theorem newB_16_eq (c t h x6 x7 x12 x13 x14 x15 x16) :
    newB_16 (F := Ideal) c t h x6 x7 x12 x13 x14 x15 x16 = pC (base t) x7 x16 (tl x13 x6) := by
  unfold newB_16 atB runB; dsimp only; sl_unfold_run_names
  rw [View.read_writes_full]
  simp only [tile_readCov t 0#32 ⟨0, rfl⟩, tile_readCov t 128#32 ⟨1, rfl⟩, tile_readCov t 256#32 ⟨2, rfl⟩, tile_readCov t 384#32 ⟨3, rfl⟩, tile_readCov t 512#32 ⟨4, rfl⟩, tile_readCov t 640#32 ⟨5, rfl⟩, tile_readCov t 768#32 ⟨6, rfl⟩, tile_readCov t 896#32 ⟨7, rfl⟩, tile_readCov t 1024#32 ⟨8, rfl⟩, tile_readCov t 1152#32 ⟨9, rfl⟩, tile_readCov t 1280#32 ⟨10, rfl⟩, tile_readCov t 1408#32 ⟨11, rfl⟩, tile_readCov t 1536#32 ⟨12, rfl⟩, tile_readCov t 1664#32 ⟨13, rfl⟩, tile_readCov t 1792#32 ⟨14, rfl⟩, tile_readCov t 1920#32 ⟨15, rfl⟩]
  simp only [View.readAt_eq_ld, hsc0_0.read_unread, hsc0_1.read_unread, hsc0_2.read_unread, hsc0_3.read_unread, hsc0_4.read_unread, (hs0_0 t).read_unread, (hs0_1 t).read_unread, (hs0_2 t).read_unread, (hs0_3 t).read_unread, View.ld_unit_zero (S := S256x768) hz2, View.ld_unit_zero (S := S256x128) hz2, View.ld_unit_zero (S := S1x768x2048) hz3, View.ld_unit_zero (S := S1x256x1) hz3]
  simp only [pay54_eq, pay56_eq, BitVec.toNat_ofNat, Nat.reduceMod, Nat.reducePow]
  rfl

/-- The scores' buffer after a chunk is stored. -/
def put (t : Fin cfg0.N) (X : Vec Ideal S256x2048 .f32) (x12 : Vec Ideal S256x16384 .f32) : Vec Ideal S256x16384 .f32 :=
  fun i => if 2048 * ck t ≤ (i 1).val ∧ (i 1).val < 2048 * ck t + 2048
    then X (ix2 (i 0) ⟨((i 1).val - 2048 * ck t) % 2048, Nat.mod_lt _ (by omega)⟩) else x12 i

theorem read_put (t : Fin cfg0.N) (inb) (X : Vec Ideal S256x2048 .f32) (x12 : Vec Ideal S256x16384 .f32) :
    (View.whole cc0_scratch0).read (Elt Ideal) ((View.whole cc0_scratch0).writes (Elt Ideal) (hsc0_0.unread x12)
      [⟨Rect.unit (s := S256x16384) (k0_off1 (grid0.coords t)) ![256, 2048] inb, X⟩]) = put t X x12 := by
  funext i
  obtain ⟨r, k, rfl⟩ : ∃ (r : Fin 256) (k : Fin 16384), i = ix2 r k := ⟨i 0, i 1, eq_ix2 i⟩
  have hc : ck t < 8 := (grid0.coords t 3).2
  show _ = if 2048 * ck t ≤ k.val ∧ k.val < 2048 * ck t + 2048
    then X (ix2 r ⟨(k.val - 2048 * ck t) % 2048, Nat.mod_lt _ (by omega)⟩) else x12 (ix2 r k)
  by_cases h : 2048 * ck t ≤ k.val ∧ k.val < 2048 * ck t + 2048
  · rw [if_pos h]
    refine (View.read_writes_cons_unit_of_mem _ _ _ _ _ _ (ix2 r ⟨k.val - 2048 * ck t, by omega⟩ : S256x2048.Idx) (k0_off1_eq _) ?_).trans ?_
    · intro a
      match a with
      | ⟨0, _⟩ => exact (Nat.zero_add _).symm
      | ⟨1, _⟩ => show k.val = 2048 * ck t + (k.val - 2048 * ck t); omega
    · exact congrArg (fun z => X (ix2 r z)) (Fin.ext (Nat.mod_eq_of_lt (show k.val - 2048 * ck t < 2048 by omega)).symm)
  · rw [if_neg h]
    refine (View.read_writes_cons_unit_of_not_mem _ _ _ _ _ _ (k0_off1_eq _) 1 ?_).trans ?_
    · show k.val < 2048 * ck t ∨ 2048 * ck t + 2048 ≤ k.val
      omega
    · show View.read (Elt Ideal) (View.whole cc0_scratch0) (hsc0_0.unread x12) (ix2 r k) = _
      rw [hsc0_0.read_unread]

theorem readCov_lane2 (inb inb') (w : Vec Ideal S256x128 .f32) :
    (View.whole cc0_scratch2).readCov (Val := Elt Ideal) [⟨Rect.unit (s := S256x128) ![0, 0] ![256, 128] inb, w⟩]
      (Rect.unit (s := S256x128) ![0, 0] ![256, 128] inb').toLoadRect = w :=
  View.readCov_full (View.whole cc0_scratch2) inb' inb w []

theorem readCov_lane3 (inb inb') (w : Vec Ideal S256x128 .f32) :
    (View.whole cc0_scratch3).readCov (Val := Elt Ideal) [⟨Rect.unit (s := S256x128) ![0, 0] ![256, 128] inb, w⟩]
      (Rect.unit (s := S256x128) ![0, 0] ![256, 128] inb').toLoadRect = w :=
  View.readCov_full (View.whole cc0_scratch3) inb' inb w []

theorem readCov_lane4 (inb inb') (w : Vec Ideal S256x128 .f32) :
    (View.whole cc0_scratch4).readCov (Val := Elt Ideal) [⟨Rect.unit (s := S256x128) ![0, 0] ![256, 128] inb, w⟩]
      (Rect.unit (s := S256x128) ![0, 0] ![256, 128] inb').toLoadRect = w :=
  View.readCov_full (View.whole cc0_scratch4) inb' inb w []

theorem newB_12_eq (c t h x6 x7 x12 x13 x14 x15 x16) :
    newB_12 (F := Ideal) c t h x6 x7 x12 x13 x14 x15 x16 = put t (k0_pay16 x13 x6) x12 := by
  unfold newB_12 atB runB; dsimp only; sl_unfold_run_names
  simp only [View.readAt_eq_ld, hsc0_0.read_unread, hsc0_1.read_unread, hsc0_2.read_unread, hsc0_3.read_unread, hsc0_4.read_unread, (hs0_0 t).read_unread, (hs0_1 t).read_unread, (hs0_2 t).read_unread, (hs0_3 t).read_unread, View.ld_unit_zero (S := S256x768) hz2, View.ld_unit_zero (S := S256x128) hz2, View.ld_unit_zero (S := S1x768x2048) hz3, View.ld_unit_zero (S := S1x256x1) hz3]

  exact read_put t _ _ _

theorem newA_12_eq (c t h x4 x5 x6 x7 x12 x13 x14 x15 x16) :
    newA_12 (F := Ideal) c t h x4 x5 x6 x7 x12 x13 x14 x15 x16 = put t (k0_pay16 (qhV x4 x5) x6) x12 := by
  unfold newA_12 atA runA; dsimp only; sl_unfold_run_names
  simp only [View.readAt_eq_ld, hsc0_0.read_unread, hsc0_1.read_unread, hsc0_2.read_unread, hsc0_3.read_unread, hsc0_4.read_unread, (hs0_0 t).read_unread, (hs0_1 t).read_unread, (hs0_2 t).read_unread, (hs0_3 t).read_unread, View.ld_unit_zero (S := S256x768) hz2, View.ld_unit_zero (S := S256x128) hz2, View.ld_unit_zero (S := S1x768x2048) hz3, View.ld_unit_zero (S := S1x256x1) hz3]
  rw [readCov_qh]
  exact read_put t _ _ _

theorem newA_13_eq (c t h x4 x5 x6 x7 x12 x13 x14 x15 x16) : newA_13 (F := Ideal) c t h x4 x5 x6 x7 x12 x13 x14 x15 x16 = qhV x4 x5 := by
  unfold newA_13 atA runA; dsimp only; sl_unfold_run_names
  simp only [View.readAt_eq_ld, hsc0_0.read_unread, hsc0_1.read_unread, hsc0_2.read_unread, hsc0_3.read_unread, hsc0_4.read_unread, (hs0_0 t).read_unread, (hs0_1 t).read_unread, (hs0_2 t).read_unread, (hs0_3 t).read_unread, View.ld_unit_zero (S := S256x768) hz2, View.ld_unit_zero (S := S256x128) hz2, View.ld_unit_zero (S := S1x768x2048) hz3, View.ld_unit_zero (S := S1x256x1) hz3]
  exact read_qh _ _ _

theorem pay1_apply (r : Fin 256) (l : Fin 128) : k0_pay1 (F := Ideal) (ix2 r l) = (⊥ : EReal) := by
  pointwise [k0_pay1]
  exact masked_eq

theorem pay2_apply (r : Fin 256) (l : Fin 128) : k0_pay2 (F := Ideal) (ix2 r l) = (0 : EReal) := by
  pointwise [k0_pay2]

theorem pay3_apply (r : Fin 256) (l : Fin 128) : k0_pay3 (F := Ideal) (ix2 r l) = (0 : EReal) := by
  pointwise [k0_pay3]

theorem newA_14_eq (c t h x4 x5 x6 x7 x12 x13 x14 x15 x16) :
    newA_14 (F := Ideal) c t h x4 x5 x6 x7 x12 x13 x14 x15 x16 = mC (base t) x7 (k0_pay1 (F := Ideal)) (tl (qhV x4 x5) x6) := by
  unfold newA_14 atA runA; dsimp only; sl_unfold_run_names
  rw [View.read_writes_full]
  simp only [tile_readCov t 0#32 ⟨0, rfl⟩, tile_readCov t 128#32 ⟨1, rfl⟩, tile_readCov t 256#32 ⟨2, rfl⟩, tile_readCov t 384#32 ⟨3, rfl⟩, tile_readCov t 512#32 ⟨4, rfl⟩, tile_readCov t 640#32 ⟨5, rfl⟩, tile_readCov t 768#32 ⟨6, rfl⟩, tile_readCov t 896#32 ⟨7, rfl⟩, tile_readCov t 1024#32 ⟨8, rfl⟩, tile_readCov t 1152#32 ⟨9, rfl⟩, tile_readCov t 1280#32 ⟨10, rfl⟩, tile_readCov t 1408#32 ⟨11, rfl⟩, tile_readCov t 1536#32 ⟨12, rfl⟩, tile_readCov t 1664#32 ⟨13, rfl⟩, tile_readCov t 1792#32 ⟨14, rfl⟩, tile_readCov t 1920#32 ⟨15, rfl⟩]
  simp only [View.readAt_eq_ld, hsc0_0.read_unread, hsc0_1.read_unread, hsc0_2.read_unread, hsc0_3.read_unread, hsc0_4.read_unread, (hs0_0 t).read_unread, (hs0_1 t).read_unread, (hs0_2 t).read_unread, (hs0_3 t).read_unread, View.ld_unit_zero (S := S256x768) hz2, View.ld_unit_zero (S := S256x128) hz2, View.ld_unit_zero (S := S1x768x2048) hz3, View.ld_unit_zero (S := S1x256x1) hz3]
  rw [readCov_qh]
  rw [readCov_lane2]
  simp only [pay54_eq, pay56_eq, BitVec.toNat_ofNat, Nat.reduceMod, Nat.reducePow]
  rfl

theorem newA_15_eq (c t h x4 x5 x6 x7 x12 x13 x14 x15 x16) :
    newA_15 (F := Ideal) c t h x4 x5 x6 x7 x12 x13 x14 x15 x16 = zC (base t) x7 (k0_pay1 (F := Ideal)) (mC (base t) x7 (k0_pay1 (F := Ideal)) (tl (qhV x4 x5) x6)) (k0_pay2 (F := Ideal)) (tl (qhV x4 x5) x6) := by
  unfold newA_15 atA runA; dsimp only; sl_unfold_run_names
  rw [View.read_writes_full]
  simp only [tile_readCov t 0#32 ⟨0, rfl⟩, tile_readCov t 128#32 ⟨1, rfl⟩, tile_readCov t 256#32 ⟨2, rfl⟩, tile_readCov t 384#32 ⟨3, rfl⟩, tile_readCov t 512#32 ⟨4, rfl⟩, tile_readCov t 640#32 ⟨5, rfl⟩, tile_readCov t 768#32 ⟨6, rfl⟩, tile_readCov t 896#32 ⟨7, rfl⟩, tile_readCov t 1024#32 ⟨8, rfl⟩, tile_readCov t 1152#32 ⟨9, rfl⟩, tile_readCov t 1280#32 ⟨10, rfl⟩, tile_readCov t 1408#32 ⟨11, rfl⟩, tile_readCov t 1536#32 ⟨12, rfl⟩, tile_readCov t 1664#32 ⟨13, rfl⟩, tile_readCov t 1792#32 ⟨14, rfl⟩, tile_readCov t 1920#32 ⟨15, rfl⟩]
  simp only [View.readAt_eq_ld, hsc0_0.read_unread, hsc0_1.read_unread, hsc0_2.read_unread, hsc0_3.read_unread, hsc0_4.read_unread, (hs0_0 t).read_unread, (hs0_1 t).read_unread, (hs0_2 t).read_unread, (hs0_3 t).read_unread, View.ld_unit_zero (S := S256x768) hz2, View.ld_unit_zero (S := S256x128) hz2, View.ld_unit_zero (S := S1x768x2048) hz3, View.ld_unit_zero (S := S1x256x1) hz3]
  rw [readCov_qh]
  rw [readCov_lane2, readCov_lane3]
  simp only [pay54_eq, pay56_eq, BitVec.toNat_ofNat, Nat.reduceMod, Nat.reducePow]
  rfl

theorem newA_16_eq (c t h x4 x5 x6 x7 x12 x13 x14 x15 x16) :
    newA_16 (F := Ideal) c t h x4 x5 x6 x7 x12 x13 x14 x15 x16 = pC (base t) x7 (k0_pay3 (F := Ideal)) (tl (qhV x4 x5) x6) := by
  unfold newA_16 atA runA; dsimp only; sl_unfold_run_names
  rw [View.read_writes_full]
  simp only [tile_readCov t 0#32 ⟨0, rfl⟩, tile_readCov t 128#32 ⟨1, rfl⟩, tile_readCov t 256#32 ⟨2, rfl⟩, tile_readCov t 384#32 ⟨3, rfl⟩, tile_readCov t 512#32 ⟨4, rfl⟩, tile_readCov t 640#32 ⟨5, rfl⟩, tile_readCov t 768#32 ⟨6, rfl⟩, tile_readCov t 896#32 ⟨7, rfl⟩, tile_readCov t 1024#32 ⟨8, rfl⟩, tile_readCov t 1152#32 ⟨9, rfl⟩, tile_readCov t 1280#32 ⟨10, rfl⟩, tile_readCov t 1408#32 ⟨11, rfl⟩, tile_readCov t 1536#32 ⟨12, rfl⟩, tile_readCov t 1664#32 ⟨13, rfl⟩, tile_readCov t 1792#32 ⟨14, rfl⟩, tile_readCov t 1920#32 ⟨15, rfl⟩]
  simp only [View.readAt_eq_ld, hsc0_0.read_unread, hsc0_1.read_unread, hsc0_2.read_unread, hsc0_3.read_unread, hsc0_4.read_unread, (hs0_0 t).read_unread, (hs0_1 t).read_unread, (hs0_2 t).read_unread, (hs0_3 t).read_unread, View.ld_unit_zero (S := S256x768) hz2, View.ld_unit_zero (S := S256x128) hz2, View.ld_unit_zero (S := S1x768x2048) hz3, View.ld_unit_zero (S := S1x256x1) hz3]
  rw [readCov_qh]
  rw [readCov_lane4]
  simp only [pay54_eq, pay56_eq, BitVec.toNat_ofNat, Nat.reduceMod, Nat.reducePow]
  rfl

end Cert.LossDqIdeal.Hand
-- ==== Proof.LossCodes.lean ====
/- The codes of a chunk's logit gradients. -/
module

public import proofs.«01_k».proof.Proof.LossAB

@[expose] public section

set_option maxRecDepth 16384
set_option maxHeartbeats 1000000

noncomputable section

namespace Cert.LossDqIdeal.Hand

open Cert.LossDqIdeal Cert.LossDqIdeal.Gen Cert.LossMath Idealize.ShloMosaic Idealize.ShloMosaic.TcCoe Idealize.SL.Sem

/-- The code of column `k`, from the row's four numbers and the score. -/
def cd (p : ℕ) (B I W x : EReal) (k : ℕ) : EReal :=
  min (Ideal.ofBits .f32 0x47600000#32) (max (Ideal.ofBits .f32 0xC7600000#32) (if k = p then W else Ideal.exp2 (x * c20 - B) * I))

theorem l20_eq : (Named.named κ "log2e_over_tau" 1105646794#32 : Ideal .f32) = c20 :=
  IdealRules.named_const.ideal_named_scalar _ _ _ _ rfl

theorem sel_cd (t : Fin cfg0.N) (w : BitVec 32) (hw : w.toNat ≤ 1920) (l : Fin 128) (p : BitVec 32) (hp : p.toNat < 16384) (B I W x : EReal) :
    min (Ideal.ofBits .f32 1197473792#32) (max (Ideal.ofBits .f32 3344957440#32)
      (Scalar.select (IntOp.cmpi CmpIPredicate.eq (IntOp.addi (BitVec.ofNat 32 l.val) w) (IntOp.subi p (base t))) W
        (Ideal.exp2 (x * (Named.named κ "log2e_over_tau" 1105646794#32 : Ideal .f32) - B) * I)))
      = cd p.toNat B I W x (2048 * ck t + w.toNat + l.val) := by
  rw [hit_select t w hw l p hp, l20_eq]
  rfl

/-- Tile `n` of a chunk of the stored scores. -/
def tf (x12 : Vec Ideal S256x16384 .f32) (t : Fin cfg0.N) (n : ℕ) : Vec Ideal S256x128 .f32 :=
  fun i => x12 (ix2 (i 0) ⟨(2048 * ck t + n + (i 1).val) % 16384, Nat.mod_lt _ (by omega)⟩)

theorem ld_tile (x12 : Vec Ideal S256x16384 .f32) (t : Fin cfg0.N) (n : ℕ) (hn : ∃ v : Fin 16, n = 128 * v.val) (inb) :
    View.ld x12 (Rect.unit (s := S256x16384) (k0_off3 (grid0.coords t) (BitVec.ofNat 32 n)) ![256, 128] inb) = tf x12 t n := by
  obtain ⟨v, rfl⟩ := hn
  have hv := v.2
  have hc : ck t < 8 := (grid0.coords t 3).2
  funext i
  obtain ⟨r, l, rfl⟩ : ∃ (r : Fin 256) (l : Fin 128), i = ix2 r l := ⟨i 0, i 1, eq_ix2 i⟩
  have hl := l.2
  show x12 _ = x12 _
  congr 1
  funext a; apply Fin.ext; refine (Rect.idx_unit_val _ _ _ _ a).trans ?_
  refine (congrArg (· + _) (congrFun (k0_off3_eq (grid0.coords t) v) a)).trans ?_
  match a with
  | ⟨0, _⟩ => exact Nat.zero_add _
  | ⟨1, _⟩ => show 2048 * ck t + 128 * v.val + l.val = (2048 * ck t + 128 * v.val + l.val) % 16384; omega

/-- A column of the row's numbers. -/
def cl (x18 : Vec Ideal S256x128 .f32) (j : Fin 128) : Vec Ideal S256x1 .f32 := fun i => x18 (ix2 (i 0) j)

theorem ld_col0 (x18 : Vec Ideal S256x128 .f32) (inb) :
    View.ld x18 (Rect.unit (s := S256x128) ![0, 0] ![256, 1] inb) = cl x18 0 := by
  funext i
  show x18 _ = x18 _
  congr 1
  funext a; apply Fin.ext; refine (Rect.idx_unit_val _ _ _ _ a).trans ?_
  match a with
  | ⟨0, _⟩ => exact Nat.zero_add _
  | ⟨1, _⟩ => have h : (i 1).val < 1 := (i 1).2
              show 0 + (i 1).val = 0; omega

theorem ld_col1 (x18 : Vec Ideal S256x128 .f32) (inb) :
    View.ld x18 (Rect.unit (s := S256x128) ![0, 1] ![256, 1] inb) = cl x18 1 := by
  funext i
  show x18 _ = x18 _
  congr 1
  funext a; apply Fin.ext; refine (Rect.idx_unit_val _ _ _ _ a).trans ?_
  match a with
  | ⟨0, _⟩ => exact Nat.zero_add _
  | ⟨1, _⟩ => have h : (i 1).val < 1 := (i 1).2
              show 1 + (i 1).val = 1; omega

theorem ld_col2 (x18 : Vec Ideal S256x128 .f32) (inb) :
    View.ld x18 (Rect.unit (s := S256x128) ![0, 2] ![256, 1] inb) = cl x18 2 := by
  funext i
  show x18 _ = x18 _
  congr 1
  funext a; apply Fin.ext; refine (Rect.idx_unit_val _ _ _ _ a).trans ?_
  match a with
  | ⟨0, _⟩ => exact Nat.zero_add _
  | ⟨1, _⟩ => have h : (i 1).val < 1 := (i 1).2
              show 2 + (i 1).val = 2; omega

theorem ld_col3 (x18 : Vec Ideal S256x128 .f32) (inb) :
    View.ld x18 (Rect.unit (s := S256x128) ![0, 3] ![256, 1] inb) = cl x18 3 := by
  funext i
  show x18 _ = x18 _
  congr 1
  funext a; apply Fin.ext; refine (Rect.idx_unit_val _ _ _ _ a).trans ?_
  match a with
  | ⟨0, _⟩ => exact Nat.zero_add _
  | ⟨1, _⟩ => have h : (i 1).val < 1 := (i 1).2
              show 3 + (i 1).val = 3; omega

theorem cd_0 (t : Fin cfg0.N) (x7 : Vec Ideal S1x256x1 .i32) (B I W : Vec Ideal S256x1 .f32) (T : Vec Ideal S256x128 .f32) (r : Fin 256) (l : Fin 128)
    (hp : (x7 (ix3 0 r 0)).toNat < 16384) :
    k0_pay78 (F := Ideal) io (base t) x7 B I W T (ix3 0 r l)
      = cd (x7 (ix3 0 r 0)).toNat (B (ix2 r 0)) (I (ix2 r 0)) (W (ix2 r 0)) (T (ix2 r l)) (2048 * ck t + 0 + l.val) := by
  unfold io
  pointwise [k0_pay7, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103]
  exact sel_cd t 0#32 (by decide) l _ hp _ _ _ _

theorem cd_1 (t : Fin cfg0.N) (x7 : Vec Ideal S1x256x1 .i32) (B I W : Vec Ideal S256x1 .f32) (T : Vec Ideal S256x128 .f32) (r : Fin 256) (l : Fin 128)
    (hp : (x7 (ix3 0 r 0)).toNat < 16384) :
    k0_pay80 (F := Ideal) io (k0_pay77 (F := Ideal) (base t) x7) B I W T k0_pay79 (ix3 0 r l)
      = cd (x7 (ix3 0 r 0)).toNat (B (ix2 r 0)) (I (ix2 r 0)) (W (ix2 r 0)) (T (ix2 r l)) (2048 * ck t + 128 + l.val) := by
  unfold io
  pointwise [k0_pay7, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103]
  exact sel_cd t 128#32 (by decide) l _ hp _ _ _ _

theorem cd_2 (t : Fin cfg0.N) (x7 : Vec Ideal S1x256x1 .i32) (B I W : Vec Ideal S256x1 .f32) (T : Vec Ideal S256x128 .f32) (r : Fin 256) (l : Fin 128)
    (hp : (x7 (ix3 0 r 0)).toNat < 16384) :
    k0_pay82 (F := Ideal) (k0_pay81 io (k0_pay77 (F := Ideal) (base t) x7) B I W T) (ix3 0 r l)
      = cd (x7 (ix3 0 r 0)).toNat (B (ix2 r 0)) (I (ix2 r 0)) (W (ix2 r 0)) (T (ix2 r l)) (2048 * ck t + 256 + l.val) := by
  unfold io
  pointwise [k0_pay7, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103]
  exact sel_cd t 256#32 (by decide) l _ hp _ _ _ _

theorem cd_3 (t : Fin cfg0.N) (x7 : Vec Ideal S1x256x1 .i32) (B I W : Vec Ideal S256x1 .f32) (T : Vec Ideal S256x128 .f32) (r : Fin 256) (l : Fin 128)
    (hp : (x7 (ix3 0 r 0)).toNat < 16384) :
    k0_pay83 (F := Ideal) io (k0_pay77 (F := Ideal) (base t) x7) B I W T (ix3 0 r l)
      = cd (x7 (ix3 0 r 0)).toNat (B (ix2 r 0)) (I (ix2 r 0)) (W (ix2 r 0)) (T (ix2 r l)) (2048 * ck t + 384 + l.val) := by
  unfold io
  pointwise [k0_pay7, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103]
  exact sel_cd t 384#32 (by decide) l _ hp _ _ _ _

theorem cd_4 (t : Fin cfg0.N) (x7 : Vec Ideal S1x256x1 .i32) (B I W : Vec Ideal S256x1 .f32) (T : Vec Ideal S256x128 .f32) (r : Fin 256) (l : Fin 128)
    (hp : (x7 (ix3 0 r 0)).toNat < 16384) :
    k0_pay86 (F := Ideal) I W (k0_pay84 io (k0_pay77 (F := Ideal) (base t) x7)) (k0_pay85 B T) (ix3 0 r l)
      = cd (x7 (ix3 0 r 0)).toNat (B (ix2 r 0)) (I (ix2 r 0)) (W (ix2 r 0)) (T (ix2 r l)) (2048 * ck t + 512 + l.val) := by
  unfold io
  pointwise [k0_pay7, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103]
  exact sel_cd t 512#32 (by decide) l _ hp _ _ _ _

theorem cd_5 (t : Fin cfg0.N) (x7 : Vec Ideal S1x256x1 .i32) (B I W : Vec Ideal S256x1 .f32) (T : Vec Ideal S256x128 .f32) (r : Fin 256) (l : Fin 128)
    (hp : (x7 (ix3 0 r 0)).toNat < 16384) :
    k0_pay87 (F := Ideal) io (k0_pay77 (F := Ideal) (base t) x7) B I W T (ix3 0 r l)
      = cd (x7 (ix3 0 r 0)).toNat (B (ix2 r 0)) (I (ix2 r 0)) (W (ix2 r 0)) (T (ix2 r l)) (2048 * ck t + 640 + l.val) := by
  unfold io
  pointwise [k0_pay7, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103]
  exact sel_cd t 640#32 (by decide) l _ hp _ _ _ _

theorem cd_6 (t : Fin cfg0.N) (x7 : Vec Ideal S1x256x1 .i32) (B I W : Vec Ideal S256x1 .f32) (T : Vec Ideal S256x128 .f32) (r : Fin 256) (l : Fin 128)
    (hp : (x7 (ix3 0 r 0)).toNat < 16384) :
    k0_pay88 (F := Ideal) io (k0_pay77 (F := Ideal) (base t) x7) B I W T (ix3 0 r l)
      = cd (x7 (ix3 0 r 0)).toNat (B (ix2 r 0)) (I (ix2 r 0)) (W (ix2 r 0)) (T (ix2 r l)) (2048 * ck t + 768 + l.val) := by
  unfold io
  pointwise [k0_pay7, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103]
  exact sel_cd t 768#32 (by decide) l _ hp _ _ _ _

theorem cd_7 (t : Fin cfg0.N) (x7 : Vec Ideal S1x256x1 .i32) (B I W : Vec Ideal S256x1 .f32) (T : Vec Ideal S256x128 .f32) (r : Fin 256) (l : Fin 128)
    (hp : (x7 (ix3 0 r 0)).toNat < 16384) :
    k0_pay90 (F := Ideal) (FloatOps.ofBits FTy.f32 1197473792#32) (k0_pay89 io (k0_pay77 (F := Ideal) (base t) x7) B I W T) (ix3 0 r l)
      = cd (x7 (ix3 0 r 0)).toNat (B (ix2 r 0)) (I (ix2 r 0)) (W (ix2 r 0)) (T (ix2 r l)) (2048 * ck t + 896 + l.val) := by
  unfold io
  pointwise [k0_pay7, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103]
  exact sel_cd t 896#32 (by decide) l _ hp _ _ _ _

theorem cd_8 (t : Fin cfg0.N) (x7 : Vec Ideal S1x256x1 .i32) (B I W : Vec Ideal S256x1 .f32) (T : Vec Ideal S256x128 .f32) (r : Fin 256) (l : Fin 128)
    (hp : (x7 (ix3 0 r 0)).toNat < 16384) :
    k0_pay91 (F := Ideal) io (k0_pay77 (F := Ideal) (base t) x7) B I W T (ix3 0 r l)
      = cd (x7 (ix3 0 r 0)).toNat (B (ix2 r 0)) (I (ix2 r 0)) (W (ix2 r 0)) (T (ix2 r l)) (2048 * ck t + 1024 + l.val) := by
  unfold io
  pointwise [k0_pay7, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103]
  exact sel_cd t 1024#32 (by decide) l _ hp _ _ _ _

theorem cd_9 (t : Fin cfg0.N) (x7 : Vec Ideal S1x256x1 .i32) (B I W : Vec Ideal S256x1 .f32) (T : Vec Ideal S256x128 .f32) (r : Fin 256) (l : Fin 128)
    (hp : (x7 (ix3 0 r 0)).toNat < 16384) :
    k0_pay93 (F := Ideal) B I W T (k0_pay92 io (k0_pay77 (F := Ideal) (base t) x7)) (Named.named κ "log2e_over_tau" 1105646794#32) (ix3 0 r l)
      = cd (x7 (ix3 0 r 0)).toNat (B (ix2 r 0)) (I (ix2 r 0)) (W (ix2 r 0)) (T (ix2 r l)) (2048 * ck t + 1152 + l.val) := by
  unfold io
  pointwise [k0_pay7, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103]
  exact sel_cd t 1152#32 (by decide) l _ hp _ _ _ _

theorem cd_10 (t : Fin cfg0.N) (x7 : Vec Ideal S1x256x1 .i32) (B I W : Vec Ideal S256x1 .f32) (T : Vec Ideal S256x128 .f32) (r : Fin 256) (l : Fin 128)
    (hp : (x7 (ix3 0 r 0)).toNat < 16384) :
    k0_pay95 (F := Ideal) (k0_pay94 io (k0_pay77 (F := Ideal) (base t) x7) B I W T) (ix3 0 r l)
      = cd (x7 (ix3 0 r 0)).toNat (B (ix2 r 0)) (I (ix2 r 0)) (W (ix2 r 0)) (T (ix2 r l)) (2048 * ck t + 1280 + l.val) := by
  unfold io
  pointwise [k0_pay7, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103]
  exact sel_cd t 1280#32 (by decide) l _ hp _ _ _ _

theorem cd_11 (t : Fin cfg0.N) (x7 : Vec Ideal S1x256x1 .i32) (B I W : Vec Ideal S256x1 .f32) (T : Vec Ideal S256x128 .f32) (r : Fin 256) (l : Fin 128)
    (hp : (x7 (ix3 0 r 0)).toNat < 16384) :
    k0_pay96 (F := Ideal) io (k0_pay77 (F := Ideal) (base t) x7) B I W T (ix3 0 r l)
      = cd (x7 (ix3 0 r 0)).toNat (B (ix2 r 0)) (I (ix2 r 0)) (W (ix2 r 0)) (T (ix2 r l)) (2048 * ck t + 1408 + l.val) := by
  unfold io
  pointwise [k0_pay7, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103]
  exact sel_cd t 1408#32 (by decide) l _ hp _ _ _ _

theorem cd_12 (t : Fin cfg0.N) (x7 : Vec Ideal S1x256x1 .i32) (B I W : Vec Ideal S256x1 .f32) (T : Vec Ideal S256x128 .f32) (r : Fin 256) (l : Fin 128)
    (hp : (x7 (ix3 0 r 0)).toNat < 16384) :
    k0_pay100 (F := Ideal) (k0_pay97 io (k0_pay77 (F := Ideal) (base t) x7)) (k0_pay98 B I T) (k0_pay99 W) (ix3 0 r l)
      = cd (x7 (ix3 0 r 0)).toNat (B (ix2 r 0)) (I (ix2 r 0)) (W (ix2 r 0)) (T (ix2 r l)) (2048 * ck t + 1536 + l.val) := by
  unfold io
  pointwise [k0_pay7, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103]
  exact sel_cd t 1536#32 (by decide) l _ hp _ _ _ _

theorem cd_13 (t : Fin cfg0.N) (x7 : Vec Ideal S1x256x1 .i32) (B I W : Vec Ideal S256x1 .f32) (T : Vec Ideal S256x128 .f32) (r : Fin 256) (l : Fin 128)
    (hp : (x7 (ix3 0 r 0)).toNat < 16384) :
    k0_pay101 (F := Ideal) io (k0_pay77 (F := Ideal) (base t) x7) B I W T (ix3 0 r l)
      = cd (x7 (ix3 0 r 0)).toNat (B (ix2 r 0)) (I (ix2 r 0)) (W (ix2 r 0)) (T (ix2 r l)) (2048 * ck t + 1664 + l.val) := by
  unfold io
  pointwise [k0_pay7, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103]
  exact sel_cd t 1664#32 (by decide) l _ hp _ _ _ _

theorem cd_14 (t : Fin cfg0.N) (x7 : Vec Ideal S1x256x1 .i32) (B I W : Vec Ideal S256x1 .f32) (T : Vec Ideal S256x128 .f32) (r : Fin 256) (l : Fin 128)
    (hp : (x7 (ix3 0 r 0)).toNat < 16384) :
    k0_pay102 (F := Ideal) io (k0_pay77 (F := Ideal) (base t) x7) B I W T 1792#32 (ix3 0 r l)
      = cd (x7 (ix3 0 r 0)).toNat (B (ix2 r 0)) (I (ix2 r 0)) (W (ix2 r 0)) (T (ix2 r l)) (2048 * ck t + 1792 + l.val) := by
  unfold io
  pointwise [k0_pay7, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103]
  exact sel_cd t 1792#32 (by decide) l _ hp _ _ _ _

theorem cd_15 (t : Fin cfg0.N) (x7 : Vec Ideal S1x256x1 .i32) (B I W : Vec Ideal S256x1 .f32) (T : Vec Ideal S256x128 .f32) (r : Fin 256) (l : Fin 128)
    (hp : (x7 (ix3 0 r 0)).toNat < 16384) :
    k0_pay7 (F := Ideal) (k0_pay103 io (k0_pay77 (F := Ideal) (base t) x7) B I W T) (ix3 0 r l)
      = cd (x7 (ix3 0 r 0)).toNat (B (ix2 r 0)) (I (ix2 r 0)) (W (ix2 r 0)) (T (ix2 r l)) (2048 * ck t + 1920 + l.val) := by
  unfold io
  pointwise [k0_pay7, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103]
  exact sel_cd t 1920#32 (by decide) l _ hp _ _ _ _

theorem cdk (x12 : Vec Ideal S256x16384 .f32) (t : Fin cfg0.N) (p : ℕ) (B I W : EReal) (r : Fin 256) (k : Fin 16384) (n : ℕ)
    (h : 2048 * ck t + n ≤ k.val) (h' : k.val - (2048 * ck t + n) < 128) :
    cd p B I W (tf x12 t n (ix2 r ⟨k.val - (2048 * ck t + n), h'⟩)) (2048 * ck t + n + (k.val - (2048 * ck t + n)))
      = cd p B I W (x12 (ix2 r k)) k.val := by
  have e : 2048 * ck t + n + (k.val - (2048 * ck t + n)) = k.val := by omega
  have e2 : tf x12 t n (ix2 r ⟨k.val - (2048 * ck t + n), h'⟩) = x12 (ix2 r k) := by
    show x12 (ix2 r _) = _
    refine congrArg (fun z => x12 (ix2 r z)) (Fin.ext ?_)
    show (2048 * ck t + n + (k.val - (2048 * ck t + n))) % 16384 = k.val
    rw [e, Nat.mod_eq_of_lt k.2]
  rw [e, e2]

/-- The sixteen stores of a chunk's codes hold them. -/
theorem read_in (t : Fin cfg0.N) (f : (ms0_6 t).view.ty.Contents (Elt Ideal)) (x7 : Vec Ideal S1x256x1 .i32) (B I W : Vec Ideal S256x1 .f32) (x12 : Vec Ideal S256x16384 .f32) (inb : ∀ v : Fin 16, ∀ a, k0_off4 (grid0.coords t) (BitVec.ofNat 32 (128 * v.val)) a + ![1, 256, 128] a ≤ S1x256x16384.size a)
    (r : Fin 256) (k : Fin 16384) (hp : (x7 (ix3 0 r 0)).toNat < 16384) (h : 2048 * ck t ≤ k.val ∧ k.val < 2048 * ck t + 2048) :
    (ms0_6 t).view.read (Elt Ideal) ((ms0_6 t).view.writes (Elt Ideal) f
      [⟨Rect.unit (s := S1x256x16384) (k0_off4 (grid0.coords t) 1920#32) ![1, 256, 128] (inb 15), k0_pay7 (F := Ideal) (k0_pay103 io (k0_pay77 (F := Ideal) (base t) x7) B I W (tf x12 t 1920))⟩,
      ⟨Rect.unit (s := S1x256x16384) (k0_off4 (grid0.coords t) 1792#32) ![1, 256, 128] (inb 14), k0_pay102 (F := Ideal) io (k0_pay77 (F := Ideal) (base t) x7) B I W (tf x12 t 1792) 1792#32⟩,
      ⟨Rect.unit (s := S1x256x16384) (k0_off4 (grid0.coords t) 1664#32) ![1, 256, 128] (inb 13), k0_pay101 (F := Ideal) io (k0_pay77 (F := Ideal) (base t) x7) B I W (tf x12 t 1664)⟩,
      ⟨Rect.unit (s := S1x256x16384) (k0_off4 (grid0.coords t) 1536#32) ![1, 256, 128] (inb 12), k0_pay100 (F := Ideal) (k0_pay97 io (k0_pay77 (F := Ideal) (base t) x7)) (k0_pay98 B I (tf x12 t 1536)) (k0_pay99 W)⟩,
      ⟨Rect.unit (s := S1x256x16384) (k0_off4 (grid0.coords t) 1408#32) ![1, 256, 128] (inb 11), k0_pay96 (F := Ideal) io (k0_pay77 (F := Ideal) (base t) x7) B I W (tf x12 t 1408)⟩,
      ⟨Rect.unit (s := S1x256x16384) (k0_off4 (grid0.coords t) 1280#32) ![1, 256, 128] (inb 10), k0_pay95 (F := Ideal) (k0_pay94 io (k0_pay77 (F := Ideal) (base t) x7) B I W (tf x12 t 1280))⟩,
      ⟨Rect.unit (s := S1x256x16384) (k0_off4 (grid0.coords t) 1152#32) ![1, 256, 128] (inb 9), k0_pay93 (F := Ideal) B I W (tf x12 t 1152) (k0_pay92 io (k0_pay77 (F := Ideal) (base t) x7)) (Named.named κ "log2e_over_tau" 1105646794#32)⟩,
      ⟨Rect.unit (s := S1x256x16384) (k0_off4 (grid0.coords t) 1024#32) ![1, 256, 128] (inb 8), k0_pay91 (F := Ideal) io (k0_pay77 (F := Ideal) (base t) x7) B I W (tf x12 t 1024)⟩,
      ⟨Rect.unit (s := S1x256x16384) (k0_off4 (grid0.coords t) 896#32) ![1, 256, 128] (inb 7), k0_pay90 (F := Ideal) (FloatOps.ofBits FTy.f32 1197473792#32) (k0_pay89 io (k0_pay77 (F := Ideal) (base t) x7) B I W (tf x12 t 896))⟩,
      ⟨Rect.unit (s := S1x256x16384) (k0_off4 (grid0.coords t) 768#32) ![1, 256, 128] (inb 6), k0_pay88 (F := Ideal) io (k0_pay77 (F := Ideal) (base t) x7) B I W (tf x12 t 768)⟩,
      ⟨Rect.unit (s := S1x256x16384) (k0_off4 (grid0.coords t) 640#32) ![1, 256, 128] (inb 5), k0_pay87 (F := Ideal) io (k0_pay77 (F := Ideal) (base t) x7) B I W (tf x12 t 640)⟩,
      ⟨Rect.unit (s := S1x256x16384) (k0_off4 (grid0.coords t) 512#32) ![1, 256, 128] (inb 4), k0_pay86 (F := Ideal) I W (k0_pay84 io (k0_pay77 (F := Ideal) (base t) x7)) (k0_pay85 B (tf x12 t 512))⟩,
      ⟨Rect.unit (s := S1x256x16384) (k0_off4 (grid0.coords t) 384#32) ![1, 256, 128] (inb 3), k0_pay83 (F := Ideal) io (k0_pay77 (F := Ideal) (base t) x7) B I W (tf x12 t 384)⟩,
      ⟨Rect.unit (s := S1x256x16384) (k0_off4 (grid0.coords t) 256#32) ![1, 256, 128] (inb 2), k0_pay82 (F := Ideal) (k0_pay81 io (k0_pay77 (F := Ideal) (base t) x7) B I W (tf x12 t 256))⟩,
      ⟨Rect.unit (s := S1x256x16384) (k0_off4 (grid0.coords t) 128#32) ![1, 256, 128] (inb 1), k0_pay80 (F := Ideal) io (k0_pay77 (F := Ideal) (base t) x7) B I W (tf x12 t 128) k0_pay79⟩,
      ⟨Rect.unit (s := S1x256x16384) (k0_off4 (grid0.coords t) 0#32) ![1, 256, 128] (inb 0), k0_pay78 (F := Ideal) io (base t) x7 B I W (tf x12 t 0)⟩]) (ix3 0 r k)
      = cd (x7 (ix3 0 r 0)).toNat (B (ix2 r 0)) (I (ix2 r 0)) (W (ix2 r 0)) (x12 (ix2 r k)) k.val := by
  have hc : 2048 * ck t + 0 ≤ k.val ∧ k.val < 2048 * ck t + 128 ∨ 2048 * ck t + 128 ≤ k.val ∧ k.val < 2048 * ck t + 256 ∨ 2048 * ck t + 256 ≤ k.val ∧ k.val < 2048 * ck t + 384 ∨ 2048 * ck t + 384 ≤ k.val ∧ k.val < 2048 * ck t + 512 ∨ 2048 * ck t + 512 ≤ k.val ∧ k.val < 2048 * ck t + 640 ∨ 2048 * ck t + 640 ≤ k.val ∧ k.val < 2048 * ck t + 768 ∨ 2048 * ck t + 768 ≤ k.val ∧ k.val < 2048 * ck t + 896 ∨ 2048 * ck t + 896 ≤ k.val ∧ k.val < 2048 * ck t + 1024 ∨ 2048 * ck t + 1024 ≤ k.val ∧ k.val < 2048 * ck t + 1152 ∨ 2048 * ck t + 1152 ≤ k.val ∧ k.val < 2048 * ck t + 1280 ∨ 2048 * ck t + 1280 ≤ k.val ∧ k.val < 2048 * ck t + 1408 ∨ 2048 * ck t + 1408 ≤ k.val ∧ k.val < 2048 * ck t + 1536 ∨ 2048 * ck t + 1536 ≤ k.val ∧ k.val < 2048 * ck t + 1664 ∨ 2048 * ck t + 1664 ≤ k.val ∧ k.val < 2048 * ck t + 1792 ∨ 2048 * ck t + 1792 ≤ k.val ∧ k.val < 2048 * ck t + 1920 ∨ 2048 * ck t + 1920 ≤ k.val ∧ k.val < 2048 * ck t + 2048 := by omega
  rcases hc with h | h | h | h | h | h | h | h | h | h | h | h | h | h | h | h
  · refine (View.read_writes_cons_unit_of_not_mem _ f _ _ _ _ (k0_off4_eq _ 15) 2 (Or.inl (show k.val < 2048 * ck t + 1920 by omega))).trans ?_
    refine (View.read_writes_cons_unit_of_not_mem _ f _ _ _ _ (k0_off4_eq _ 14) 2 (Or.inl (show k.val < 2048 * ck t + 1792 by omega))).trans ?_
    refine (View.read_writes_cons_unit_of_not_mem _ f _ _ _ _ (k0_off4_eq _ 13) 2 (Or.inl (show k.val < 2048 * ck t + 1664 by omega))).trans ?_
    refine (View.read_writes_cons_unit_of_not_mem _ f _ _ _ _ (k0_off4_eq _ 12) 2 (Or.inl (show k.val < 2048 * ck t + 1536 by omega))).trans ?_
    refine (View.read_writes_cons_unit_of_not_mem _ f _ _ _ _ (k0_off4_eq _ 11) 2 (Or.inl (show k.val < 2048 * ck t + 1408 by omega))).trans ?_
    refine (View.read_writes_cons_unit_of_not_mem _ f _ _ _ _ (k0_off4_eq _ 10) 2 (Or.inl (show k.val < 2048 * ck t + 1280 by omega))).trans ?_
    refine (View.read_writes_cons_unit_of_not_mem _ f _ _ _ _ (k0_off4_eq _ 9) 2 (Or.inl (show k.val < 2048 * ck t + 1152 by omega))).trans ?_
    refine (View.read_writes_cons_unit_of_not_mem _ f _ _ _ _ (k0_off4_eq _ 8) 2 (Or.inl (show k.val < 2048 * ck t + 1024 by omega))).trans ?_
    refine (View.read_writes_cons_unit_of_not_mem _ f _ _ _ _ (k0_off4_eq _ 7) 2 (Or.inl (show k.val < 2048 * ck t + 896 by omega))).trans ?_
    refine (View.read_writes_cons_unit_of_not_mem _ f _ _ _ _ (k0_off4_eq _ 6) 2 (Or.inl (show k.val < 2048 * ck t + 768 by omega))).trans ?_
    refine (View.read_writes_cons_unit_of_not_mem _ f _ _ _ _ (k0_off4_eq _ 5) 2 (Or.inl (show k.val < 2048 * ck t + 640 by omega))).trans ?_
    refine (View.read_writes_cons_unit_of_not_mem _ f _ _ _ _ (k0_off4_eq _ 4) 2 (Or.inl (show k.val < 2048 * ck t + 512 by omega))).trans ?_
    refine (View.read_writes_cons_unit_of_not_mem _ f _ _ _ _ (k0_off4_eq _ 3) 2 (Or.inl (show k.val < 2048 * ck t + 384 by omega))).trans ?_
    refine (View.read_writes_cons_unit_of_not_mem _ f _ _ _ _ (k0_off4_eq _ 2) 2 (Or.inl (show k.val < 2048 * ck t + 256 by omega))).trans ?_
    refine (View.read_writes_cons_unit_of_not_mem _ f _ _ _ _ (k0_off4_eq _ 1) 2 (Or.inl (show k.val < 2048 * ck t + 128 by omega))).trans ?_
    refine (View.read_writes_cons_unit_of_mem _ f _ _ _ _ (ix3 0 r ⟨k.val - (2048 * ck t + 0), by omega⟩ : S1x256x128.Idx) (k0_off4_eq _ 0) ?_).trans ?_
    · intro a
      match a with
      | ⟨0, _⟩ => rfl
      | ⟨1, _⟩ => exact (Nat.zero_add _).symm
      | ⟨2, _⟩ => show k.val = 2048 * ck t + 0 + (k.val - (2048 * ck t + 0)); omega
    · refine (cd_0 t x7 B I W _ r _ hp).trans ?_
      exact cdk x12 t _ _ _ _ r k 0 (by omega) (by omega)
  · refine (View.read_writes_cons_unit_of_not_mem _ f _ _ _ _ (k0_off4_eq _ 15) 2 (Or.inl (show k.val < 2048 * ck t + 1920 by omega))).trans ?_
    refine (View.read_writes_cons_unit_of_not_mem _ f _ _ _ _ (k0_off4_eq _ 14) 2 (Or.inl (show k.val < 2048 * ck t + 1792 by omega))).trans ?_
    refine (View.read_writes_cons_unit_of_not_mem _ f _ _ _ _ (k0_off4_eq _ 13) 2 (Or.inl (show k.val < 2048 * ck t + 1664 by omega))).trans ?_
    refine (View.read_writes_cons_unit_of_not_mem _ f _ _ _ _ (k0_off4_eq _ 12) 2 (Or.inl (show k.val < 2048 * ck t + 1536 by omega))).trans ?_
    refine (View.read_writes_cons_unit_of_not_mem _ f _ _ _ _ (k0_off4_eq _ 11) 2 (Or.inl (show k.val < 2048 * ck t + 1408 by omega))).trans ?_
    refine (View.read_writes_cons_unit_of_not_mem _ f _ _ _ _ (k0_off4_eq _ 10) 2 (Or.inl (show k.val < 2048 * ck t + 1280 by omega))).trans ?_
    refine (View.read_writes_cons_unit_of_not_mem _ f _ _ _ _ (k0_off4_eq _ 9) 2 (Or.inl (show k.val < 2048 * ck t + 1152 by omega))).trans ?_
    refine (View.read_writes_cons_unit_of_not_mem _ f _ _ _ _ (k0_off4_eq _ 8) 2 (Or.inl (show k.val < 2048 * ck t + 1024 by omega))).trans ?_
    refine (View.read_writes_cons_unit_of_not_mem _ f _ _ _ _ (k0_off4_eq _ 7) 2 (Or.inl (show k.val < 2048 * ck t + 896 by omega))).trans ?_
    refine (View.read_writes_cons_unit_of_not_mem _ f _ _ _ _ (k0_off4_eq _ 6) 2 (Or.inl (show k.val < 2048 * ck t + 768 by omega))).trans ?_
    refine (View.read_writes_cons_unit_of_not_mem _ f _ _ _ _ (k0_off4_eq _ 5) 2 (Or.inl (show k.val < 2048 * ck t + 640 by omega))).trans ?_
    refine (View.read_writes_cons_unit_of_not_mem _ f _ _ _ _ (k0_off4_eq _ 4) 2 (Or.inl (show k.val < 2048 * ck t + 512 by omega))).trans ?_
    refine (View.read_writes_cons_unit_of_not_mem _ f _ _ _ _ (k0_off4_eq _ 3) 2 (Or.inl (show k.val < 2048 * ck t + 384 by omega))).trans ?_
    refine (View.read_writes_cons_unit_of_not_mem _ f _ _ _ _ (k0_off4_eq _ 2) 2 (Or.inl (show k.val < 2048 * ck t + 256 by omega))).trans ?_
    refine (View.read_writes_cons_unit_of_mem _ f _ _ _ _ (ix3 0 r ⟨k.val - (2048 * ck t + 128), by omega⟩ : S1x256x128.Idx) (k0_off4_eq _ 1) ?_).trans ?_
    · intro a
      match a with
      | ⟨0, _⟩ => rfl
      | ⟨1, _⟩ => exact (Nat.zero_add _).symm
      | ⟨2, _⟩ => show k.val = 2048 * ck t + 128 + (k.val - (2048 * ck t + 128)); omega
    · refine (cd_1 t x7 B I W _ r _ hp).trans ?_
      exact cdk x12 t _ _ _ _ r k 128 (by omega) (by omega)
  · refine (View.read_writes_cons_unit_of_not_mem _ f _ _ _ _ (k0_off4_eq _ 15) 2 (Or.inl (show k.val < 2048 * ck t + 1920 by omega))).trans ?_
    refine (View.read_writes_cons_unit_of_not_mem _ f _ _ _ _ (k0_off4_eq _ 14) 2 (Or.inl (show k.val < 2048 * ck t + 1792 by omega))).trans ?_
    refine (View.read_writes_cons_unit_of_not_mem _ f _ _ _ _ (k0_off4_eq _ 13) 2 (Or.inl (show k.val < 2048 * ck t + 1664 by omega))).trans ?_
    refine (View.read_writes_cons_unit_of_not_mem _ f _ _ _ _ (k0_off4_eq _ 12) 2 (Or.inl (show k.val < 2048 * ck t + 1536 by omega))).trans ?_
    refine (View.read_writes_cons_unit_of_not_mem _ f _ _ _ _ (k0_off4_eq _ 11) 2 (Or.inl (show k.val < 2048 * ck t + 1408 by omega))).trans ?_
    refine (View.read_writes_cons_unit_of_not_mem _ f _ _ _ _ (k0_off4_eq _ 10) 2 (Or.inl (show k.val < 2048 * ck t + 1280 by omega))).trans ?_
    refine (View.read_writes_cons_unit_of_not_mem _ f _ _ _ _ (k0_off4_eq _ 9) 2 (Or.inl (show k.val < 2048 * ck t + 1152 by omega))).trans ?_
    refine (View.read_writes_cons_unit_of_not_mem _ f _ _ _ _ (k0_off4_eq _ 8) 2 (Or.inl (show k.val < 2048 * ck t + 1024 by omega))).trans ?_
    refine (View.read_writes_cons_unit_of_not_mem _ f _ _ _ _ (k0_off4_eq _ 7) 2 (Or.inl (show k.val < 2048 * ck t + 896 by omega))).trans ?_
    refine (View.read_writes_cons_unit_of_not_mem _ f _ _ _ _ (k0_off4_eq _ 6) 2 (Or.inl (show k.val < 2048 * ck t + 768 by omega))).trans ?_
    refine (View.read_writes_cons_unit_of_not_mem _ f _ _ _ _ (k0_off4_eq _ 5) 2 (Or.inl (show k.val < 2048 * ck t + 640 by omega))).trans ?_
    refine (View.read_writes_cons_unit_of_not_mem _ f _ _ _ _ (k0_off4_eq _ 4) 2 (Or.inl (show k.val < 2048 * ck t + 512 by omega))).trans ?_
    refine (View.read_writes_cons_unit_of_not_mem _ f _ _ _ _ (k0_off4_eq _ 3) 2 (Or.inl (show k.val < 2048 * ck t + 384 by omega))).trans ?_
    refine (View.read_writes_cons_unit_of_mem _ f _ _ _ _ (ix3 0 r ⟨k.val - (2048 * ck t + 256), by omega⟩ : S1x256x128.Idx) (k0_off4_eq _ 2) ?_).trans ?_
    · intro a
      match a with
      | ⟨0, _⟩ => rfl
      | ⟨1, _⟩ => exact (Nat.zero_add _).symm
      | ⟨2, _⟩ => show k.val = 2048 * ck t + 256 + (k.val - (2048 * ck t + 256)); omega
    · refine (cd_2 t x7 B I W _ r _ hp).trans ?_
      exact cdk x12 t _ _ _ _ r k 256 (by omega) (by omega)
  · refine (View.read_writes_cons_unit_of_not_mem _ f _ _ _ _ (k0_off4_eq _ 15) 2 (Or.inl (show k.val < 2048 * ck t + 1920 by omega))).trans ?_
    refine (View.read_writes_cons_unit_of_not_mem _ f _ _ _ _ (k0_off4_eq _ 14) 2 (Or.inl (show k.val < 2048 * ck t + 1792 by omega))).trans ?_
    refine (View.read_writes_cons_unit_of_not_mem _ f _ _ _ _ (k0_off4_eq _ 13) 2 (Or.inl (show k.val < 2048 * ck t + 1664 by omega))).trans ?_
    refine (View.read_writes_cons_unit_of_not_mem _ f _ _ _ _ (k0_off4_eq _ 12) 2 (Or.inl (show k.val < 2048 * ck t + 1536 by omega))).trans ?_
    refine (View.read_writes_cons_unit_of_not_mem _ f _ _ _ _ (k0_off4_eq _ 11) 2 (Or.inl (show k.val < 2048 * ck t + 1408 by omega))).trans ?_
    refine (View.read_writes_cons_unit_of_not_mem _ f _ _ _ _ (k0_off4_eq _ 10) 2 (Or.inl (show k.val < 2048 * ck t + 1280 by omega))).trans ?_
    refine (View.read_writes_cons_unit_of_not_mem _ f _ _ _ _ (k0_off4_eq _ 9) 2 (Or.inl (show k.val < 2048 * ck t + 1152 by omega))).trans ?_
    refine (View.read_writes_cons_unit_of_not_mem _ f _ _ _ _ (k0_off4_eq _ 8) 2 (Or.inl (show k.val < 2048 * ck t + 1024 by omega))).trans ?_
    refine (View.read_writes_cons_unit_of_not_mem _ f _ _ _ _ (k0_off4_eq _ 7) 2 (Or.inl (show k.val < 2048 * ck t + 896 by omega))).trans ?_
    refine (View.read_writes_cons_unit_of_not_mem _ f _ _ _ _ (k0_off4_eq _ 6) 2 (Or.inl (show k.val < 2048 * ck t + 768 by omega))).trans ?_
    refine (View.read_writes_cons_unit_of_not_mem _ f _ _ _ _ (k0_off4_eq _ 5) 2 (Or.inl (show k.val < 2048 * ck t + 640 by omega))).trans ?_
    refine (View.read_writes_cons_unit_of_not_mem _ f _ _ _ _ (k0_off4_eq _ 4) 2 (Or.inl (show k.val < 2048 * ck t + 512 by omega))).trans ?_
    refine (View.read_writes_cons_unit_of_mem _ f _ _ _ _ (ix3 0 r ⟨k.val - (2048 * ck t + 384), by omega⟩ : S1x256x128.Idx) (k0_off4_eq _ 3) ?_).trans ?_
    · intro a
      match a with
      | ⟨0, _⟩ => rfl
      | ⟨1, _⟩ => exact (Nat.zero_add _).symm
      | ⟨2, _⟩ => show k.val = 2048 * ck t + 384 + (k.val - (2048 * ck t + 384)); omega
    · refine (cd_3 t x7 B I W _ r _ hp).trans ?_
      exact cdk x12 t _ _ _ _ r k 384 (by omega) (by omega)
  · refine (View.read_writes_cons_unit_of_not_mem _ f _ _ _ _ (k0_off4_eq _ 15) 2 (Or.inl (show k.val < 2048 * ck t + 1920 by omega))).trans ?_
    refine (View.read_writes_cons_unit_of_not_mem _ f _ _ _ _ (k0_off4_eq _ 14) 2 (Or.inl (show k.val < 2048 * ck t + 1792 by omega))).trans ?_
    refine (View.read_writes_cons_unit_of_not_mem _ f _ _ _ _ (k0_off4_eq _ 13) 2 (Or.inl (show k.val < 2048 * ck t + 1664 by omega))).trans ?_
    refine (View.read_writes_cons_unit_of_not_mem _ f _ _ _ _ (k0_off4_eq _ 12) 2 (Or.inl (show k.val < 2048 * ck t + 1536 by omega))).trans ?_
    refine (View.read_writes_cons_unit_of_not_mem _ f _ _ _ _ (k0_off4_eq _ 11) 2 (Or.inl (show k.val < 2048 * ck t + 1408 by omega))).trans ?_
    refine (View.read_writes_cons_unit_of_not_mem _ f _ _ _ _ (k0_off4_eq _ 10) 2 (Or.inl (show k.val < 2048 * ck t + 1280 by omega))).trans ?_
    refine (View.read_writes_cons_unit_of_not_mem _ f _ _ _ _ (k0_off4_eq _ 9) 2 (Or.inl (show k.val < 2048 * ck t + 1152 by omega))).trans ?_
    refine (View.read_writes_cons_unit_of_not_mem _ f _ _ _ _ (k0_off4_eq _ 8) 2 (Or.inl (show k.val < 2048 * ck t + 1024 by omega))).trans ?_
    refine (View.read_writes_cons_unit_of_not_mem _ f _ _ _ _ (k0_off4_eq _ 7) 2 (Or.inl (show k.val < 2048 * ck t + 896 by omega))).trans ?_
    refine (View.read_writes_cons_unit_of_not_mem _ f _ _ _ _ (k0_off4_eq _ 6) 2 (Or.inl (show k.val < 2048 * ck t + 768 by omega))).trans ?_
    refine (View.read_writes_cons_unit_of_not_mem _ f _ _ _ _ (k0_off4_eq _ 5) 2 (Or.inl (show k.val < 2048 * ck t + 640 by omega))).trans ?_
    refine (View.read_writes_cons_unit_of_mem _ f _ _ _ _ (ix3 0 r ⟨k.val - (2048 * ck t + 512), by omega⟩ : S1x256x128.Idx) (k0_off4_eq _ 4) ?_).trans ?_
    · intro a
      match a with
      | ⟨0, _⟩ => rfl
      | ⟨1, _⟩ => exact (Nat.zero_add _).symm
      | ⟨2, _⟩ => show k.val = 2048 * ck t + 512 + (k.val - (2048 * ck t + 512)); omega
    · refine (cd_4 t x7 B I W _ r _ hp).trans ?_
      exact cdk x12 t _ _ _ _ r k 512 (by omega) (by omega)
  · refine (View.read_writes_cons_unit_of_not_mem _ f _ _ _ _ (k0_off4_eq _ 15) 2 (Or.inl (show k.val < 2048 * ck t + 1920 by omega))).trans ?_
    refine (View.read_writes_cons_unit_of_not_mem _ f _ _ _ _ (k0_off4_eq _ 14) 2 (Or.inl (show k.val < 2048 * ck t + 1792 by omega))).trans ?_
    refine (View.read_writes_cons_unit_of_not_mem _ f _ _ _ _ (k0_off4_eq _ 13) 2 (Or.inl (show k.val < 2048 * ck t + 1664 by omega))).trans ?_
    refine (View.read_writes_cons_unit_of_not_mem _ f _ _ _ _ (k0_off4_eq _ 12) 2 (Or.inl (show k.val < 2048 * ck t + 1536 by omega))).trans ?_
    refine (View.read_writes_cons_unit_of_not_mem _ f _ _ _ _ (k0_off4_eq _ 11) 2 (Or.inl (show k.val < 2048 * ck t + 1408 by omega))).trans ?_
    refine (View.read_writes_cons_unit_of_not_mem _ f _ _ _ _ (k0_off4_eq _ 10) 2 (Or.inl (show k.val < 2048 * ck t + 1280 by omega))).trans ?_
    refine (View.read_writes_cons_unit_of_not_mem _ f _ _ _ _ (k0_off4_eq _ 9) 2 (Or.inl (show k.val < 2048 * ck t + 1152 by omega))).trans ?_
    refine (View.read_writes_cons_unit_of_not_mem _ f _ _ _ _ (k0_off4_eq _ 8) 2 (Or.inl (show k.val < 2048 * ck t + 1024 by omega))).trans ?_
    refine (View.read_writes_cons_unit_of_not_mem _ f _ _ _ _ (k0_off4_eq _ 7) 2 (Or.inl (show k.val < 2048 * ck t + 896 by omega))).trans ?_
    refine (View.read_writes_cons_unit_of_not_mem _ f _ _ _ _ (k0_off4_eq _ 6) 2 (Or.inl (show k.val < 2048 * ck t + 768 by omega))).trans ?_
    refine (View.read_writes_cons_unit_of_mem _ f _ _ _ _ (ix3 0 r ⟨k.val - (2048 * ck t + 640), by omega⟩ : S1x256x128.Idx) (k0_off4_eq _ 5) ?_).trans ?_
    · intro a
      match a with
      | ⟨0, _⟩ => rfl
      | ⟨1, _⟩ => exact (Nat.zero_add _).symm
      | ⟨2, _⟩ => show k.val = 2048 * ck t + 640 + (k.val - (2048 * ck t + 640)); omega
    · refine (cd_5 t x7 B I W _ r _ hp).trans ?_
      exact cdk x12 t _ _ _ _ r k 640 (by omega) (by omega)
  · refine (View.read_writes_cons_unit_of_not_mem _ f _ _ _ _ (k0_off4_eq _ 15) 2 (Or.inl (show k.val < 2048 * ck t + 1920 by omega))).trans ?_
    refine (View.read_writes_cons_unit_of_not_mem _ f _ _ _ _ (k0_off4_eq _ 14) 2 (Or.inl (show k.val < 2048 * ck t + 1792 by omega))).trans ?_
    refine (View.read_writes_cons_unit_of_not_mem _ f _ _ _ _ (k0_off4_eq _ 13) 2 (Or.inl (show k.val < 2048 * ck t + 1664 by omega))).trans ?_
    refine (View.read_writes_cons_unit_of_not_mem _ f _ _ _ _ (k0_off4_eq _ 12) 2 (Or.inl (show k.val < 2048 * ck t + 1536 by omega))).trans ?_
    refine (View.read_writes_cons_unit_of_not_mem _ f _ _ _ _ (k0_off4_eq _ 11) 2 (Or.inl (show k.val < 2048 * ck t + 1408 by omega))).trans ?_
    refine (View.read_writes_cons_unit_of_not_mem _ f _ _ _ _ (k0_off4_eq _ 10) 2 (Or.inl (show k.val < 2048 * ck t + 1280 by omega))).trans ?_
    refine (View.read_writes_cons_unit_of_not_mem _ f _ _ _ _ (k0_off4_eq _ 9) 2 (Or.inl (show k.val < 2048 * ck t + 1152 by omega))).trans ?_
    refine (View.read_writes_cons_unit_of_not_mem _ f _ _ _ _ (k0_off4_eq _ 8) 2 (Or.inl (show k.val < 2048 * ck t + 1024 by omega))).trans ?_
    refine (View.read_writes_cons_unit_of_not_mem _ f _ _ _ _ (k0_off4_eq _ 7) 2 (Or.inl (show k.val < 2048 * ck t + 896 by omega))).trans ?_
    refine (View.read_writes_cons_unit_of_mem _ f _ _ _ _ (ix3 0 r ⟨k.val - (2048 * ck t + 768), by omega⟩ : S1x256x128.Idx) (k0_off4_eq _ 6) ?_).trans ?_
    · intro a
      match a with
      | ⟨0, _⟩ => rfl
      | ⟨1, _⟩ => exact (Nat.zero_add _).symm
      | ⟨2, _⟩ => show k.val = 2048 * ck t + 768 + (k.val - (2048 * ck t + 768)); omega
    · refine (cd_6 t x7 B I W _ r _ hp).trans ?_
      exact cdk x12 t _ _ _ _ r k 768 (by omega) (by omega)
  · refine (View.read_writes_cons_unit_of_not_mem _ f _ _ _ _ (k0_off4_eq _ 15) 2 (Or.inl (show k.val < 2048 * ck t + 1920 by omega))).trans ?_
    refine (View.read_writes_cons_unit_of_not_mem _ f _ _ _ _ (k0_off4_eq _ 14) 2 (Or.inl (show k.val < 2048 * ck t + 1792 by omega))).trans ?_
    refine (View.read_writes_cons_unit_of_not_mem _ f _ _ _ _ (k0_off4_eq _ 13) 2 (Or.inl (show k.val < 2048 * ck t + 1664 by omega))).trans ?_
    refine (View.read_writes_cons_unit_of_not_mem _ f _ _ _ _ (k0_off4_eq _ 12) 2 (Or.inl (show k.val < 2048 * ck t + 1536 by omega))).trans ?_
    refine (View.read_writes_cons_unit_of_not_mem _ f _ _ _ _ (k0_off4_eq _ 11) 2 (Or.inl (show k.val < 2048 * ck t + 1408 by omega))).trans ?_
    refine (View.read_writes_cons_unit_of_not_mem _ f _ _ _ _ (k0_off4_eq _ 10) 2 (Or.inl (show k.val < 2048 * ck t + 1280 by omega))).trans ?_
    refine (View.read_writes_cons_unit_of_not_mem _ f _ _ _ _ (k0_off4_eq _ 9) 2 (Or.inl (show k.val < 2048 * ck t + 1152 by omega))).trans ?_
    refine (View.read_writes_cons_unit_of_not_mem _ f _ _ _ _ (k0_off4_eq _ 8) 2 (Or.inl (show k.val < 2048 * ck t + 1024 by omega))).trans ?_
    refine (View.read_writes_cons_unit_of_mem _ f _ _ _ _ (ix3 0 r ⟨k.val - (2048 * ck t + 896), by omega⟩ : S1x256x128.Idx) (k0_off4_eq _ 7) ?_).trans ?_
    · intro a
      match a with
      | ⟨0, _⟩ => rfl
      | ⟨1, _⟩ => exact (Nat.zero_add _).symm
      | ⟨2, _⟩ => show k.val = 2048 * ck t + 896 + (k.val - (2048 * ck t + 896)); omega
    · refine (cd_7 t x7 B I W _ r _ hp).trans ?_
      exact cdk x12 t _ _ _ _ r k 896 (by omega) (by omega)
  · refine (View.read_writes_cons_unit_of_not_mem _ f _ _ _ _ (k0_off4_eq _ 15) 2 (Or.inl (show k.val < 2048 * ck t + 1920 by omega))).trans ?_
    refine (View.read_writes_cons_unit_of_not_mem _ f _ _ _ _ (k0_off4_eq _ 14) 2 (Or.inl (show k.val < 2048 * ck t + 1792 by omega))).trans ?_
    refine (View.read_writes_cons_unit_of_not_mem _ f _ _ _ _ (k0_off4_eq _ 13) 2 (Or.inl (show k.val < 2048 * ck t + 1664 by omega))).trans ?_
    refine (View.read_writes_cons_unit_of_not_mem _ f _ _ _ _ (k0_off4_eq _ 12) 2 (Or.inl (show k.val < 2048 * ck t + 1536 by omega))).trans ?_
    refine (View.read_writes_cons_unit_of_not_mem _ f _ _ _ _ (k0_off4_eq _ 11) 2 (Or.inl (show k.val < 2048 * ck t + 1408 by omega))).trans ?_
    refine (View.read_writes_cons_unit_of_not_mem _ f _ _ _ _ (k0_off4_eq _ 10) 2 (Or.inl (show k.val < 2048 * ck t + 1280 by omega))).trans ?_
    refine (View.read_writes_cons_unit_of_not_mem _ f _ _ _ _ (k0_off4_eq _ 9) 2 (Or.inl (show k.val < 2048 * ck t + 1152 by omega))).trans ?_
    refine (View.read_writes_cons_unit_of_mem _ f _ _ _ _ (ix3 0 r ⟨k.val - (2048 * ck t + 1024), by omega⟩ : S1x256x128.Idx) (k0_off4_eq _ 8) ?_).trans ?_
    · intro a
      match a with
      | ⟨0, _⟩ => rfl
      | ⟨1, _⟩ => exact (Nat.zero_add _).symm
      | ⟨2, _⟩ => show k.val = 2048 * ck t + 1024 + (k.val - (2048 * ck t + 1024)); omega
    · refine (cd_8 t x7 B I W _ r _ hp).trans ?_
      exact cdk x12 t _ _ _ _ r k 1024 (by omega) (by omega)
  · refine (View.read_writes_cons_unit_of_not_mem _ f _ _ _ _ (k0_off4_eq _ 15) 2 (Or.inl (show k.val < 2048 * ck t + 1920 by omega))).trans ?_
    refine (View.read_writes_cons_unit_of_not_mem _ f _ _ _ _ (k0_off4_eq _ 14) 2 (Or.inl (show k.val < 2048 * ck t + 1792 by omega))).trans ?_
    refine (View.read_writes_cons_unit_of_not_mem _ f _ _ _ _ (k0_off4_eq _ 13) 2 (Or.inl (show k.val < 2048 * ck t + 1664 by omega))).trans ?_
    refine (View.read_writes_cons_unit_of_not_mem _ f _ _ _ _ (k0_off4_eq _ 12) 2 (Or.inl (show k.val < 2048 * ck t + 1536 by omega))).trans ?_
    refine (View.read_writes_cons_unit_of_not_mem _ f _ _ _ _ (k0_off4_eq _ 11) 2 (Or.inl (show k.val < 2048 * ck t + 1408 by omega))).trans ?_
    refine (View.read_writes_cons_unit_of_not_mem _ f _ _ _ _ (k0_off4_eq _ 10) 2 (Or.inl (show k.val < 2048 * ck t + 1280 by omega))).trans ?_
    refine (View.read_writes_cons_unit_of_mem _ f _ _ _ _ (ix3 0 r ⟨k.val - (2048 * ck t + 1152), by omega⟩ : S1x256x128.Idx) (k0_off4_eq _ 9) ?_).trans ?_
    · intro a
      match a with
      | ⟨0, _⟩ => rfl
      | ⟨1, _⟩ => exact (Nat.zero_add _).symm
      | ⟨2, _⟩ => show k.val = 2048 * ck t + 1152 + (k.val - (2048 * ck t + 1152)); omega
    · refine (cd_9 t x7 B I W _ r _ hp).trans ?_
      exact cdk x12 t _ _ _ _ r k 1152 (by omega) (by omega)
  · refine (View.read_writes_cons_unit_of_not_mem _ f _ _ _ _ (k0_off4_eq _ 15) 2 (Or.inl (show k.val < 2048 * ck t + 1920 by omega))).trans ?_
    refine (View.read_writes_cons_unit_of_not_mem _ f _ _ _ _ (k0_off4_eq _ 14) 2 (Or.inl (show k.val < 2048 * ck t + 1792 by omega))).trans ?_
    refine (View.read_writes_cons_unit_of_not_mem _ f _ _ _ _ (k0_off4_eq _ 13) 2 (Or.inl (show k.val < 2048 * ck t + 1664 by omega))).trans ?_
    refine (View.read_writes_cons_unit_of_not_mem _ f _ _ _ _ (k0_off4_eq _ 12) 2 (Or.inl (show k.val < 2048 * ck t + 1536 by omega))).trans ?_
    refine (View.read_writes_cons_unit_of_not_mem _ f _ _ _ _ (k0_off4_eq _ 11) 2 (Or.inl (show k.val < 2048 * ck t + 1408 by omega))).trans ?_
    refine (View.read_writes_cons_unit_of_mem _ f _ _ _ _ (ix3 0 r ⟨k.val - (2048 * ck t + 1280), by omega⟩ : S1x256x128.Idx) (k0_off4_eq _ 10) ?_).trans ?_
    · intro a
      match a with
      | ⟨0, _⟩ => rfl
      | ⟨1, _⟩ => exact (Nat.zero_add _).symm
      | ⟨2, _⟩ => show k.val = 2048 * ck t + 1280 + (k.val - (2048 * ck t + 1280)); omega
    · refine (cd_10 t x7 B I W _ r _ hp).trans ?_
      exact cdk x12 t _ _ _ _ r k 1280 (by omega) (by omega)
  · refine (View.read_writes_cons_unit_of_not_mem _ f _ _ _ _ (k0_off4_eq _ 15) 2 (Or.inl (show k.val < 2048 * ck t + 1920 by omega))).trans ?_
    refine (View.read_writes_cons_unit_of_not_mem _ f _ _ _ _ (k0_off4_eq _ 14) 2 (Or.inl (show k.val < 2048 * ck t + 1792 by omega))).trans ?_
    refine (View.read_writes_cons_unit_of_not_mem _ f _ _ _ _ (k0_off4_eq _ 13) 2 (Or.inl (show k.val < 2048 * ck t + 1664 by omega))).trans ?_
    refine (View.read_writes_cons_unit_of_not_mem _ f _ _ _ _ (k0_off4_eq _ 12) 2 (Or.inl (show k.val < 2048 * ck t + 1536 by omega))).trans ?_
    refine (View.read_writes_cons_unit_of_mem _ f _ _ _ _ (ix3 0 r ⟨k.val - (2048 * ck t + 1408), by omega⟩ : S1x256x128.Idx) (k0_off4_eq _ 11) ?_).trans ?_
    · intro a
      match a with
      | ⟨0, _⟩ => rfl
      | ⟨1, _⟩ => exact (Nat.zero_add _).symm
      | ⟨2, _⟩ => show k.val = 2048 * ck t + 1408 + (k.val - (2048 * ck t + 1408)); omega
    · refine (cd_11 t x7 B I W _ r _ hp).trans ?_
      exact cdk x12 t _ _ _ _ r k 1408 (by omega) (by omega)
  · refine (View.read_writes_cons_unit_of_not_mem _ f _ _ _ _ (k0_off4_eq _ 15) 2 (Or.inl (show k.val < 2048 * ck t + 1920 by omega))).trans ?_
    refine (View.read_writes_cons_unit_of_not_mem _ f _ _ _ _ (k0_off4_eq _ 14) 2 (Or.inl (show k.val < 2048 * ck t + 1792 by omega))).trans ?_
    refine (View.read_writes_cons_unit_of_not_mem _ f _ _ _ _ (k0_off4_eq _ 13) 2 (Or.inl (show k.val < 2048 * ck t + 1664 by omega))).trans ?_
    refine (View.read_writes_cons_unit_of_mem _ f _ _ _ _ (ix3 0 r ⟨k.val - (2048 * ck t + 1536), by omega⟩ : S1x256x128.Idx) (k0_off4_eq _ 12) ?_).trans ?_
    · intro a
      match a with
      | ⟨0, _⟩ => rfl
      | ⟨1, _⟩ => exact (Nat.zero_add _).symm
      | ⟨2, _⟩ => show k.val = 2048 * ck t + 1536 + (k.val - (2048 * ck t + 1536)); omega
    · refine (cd_12 t x7 B I W _ r _ hp).trans ?_
      exact cdk x12 t _ _ _ _ r k 1536 (by omega) (by omega)
  · refine (View.read_writes_cons_unit_of_not_mem _ f _ _ _ _ (k0_off4_eq _ 15) 2 (Or.inl (show k.val < 2048 * ck t + 1920 by omega))).trans ?_
    refine (View.read_writes_cons_unit_of_not_mem _ f _ _ _ _ (k0_off4_eq _ 14) 2 (Or.inl (show k.val < 2048 * ck t + 1792 by omega))).trans ?_
    refine (View.read_writes_cons_unit_of_mem _ f _ _ _ _ (ix3 0 r ⟨k.val - (2048 * ck t + 1664), by omega⟩ : S1x256x128.Idx) (k0_off4_eq _ 13) ?_).trans ?_
    · intro a
      match a with
      | ⟨0, _⟩ => rfl
      | ⟨1, _⟩ => exact (Nat.zero_add _).symm
      | ⟨2, _⟩ => show k.val = 2048 * ck t + 1664 + (k.val - (2048 * ck t + 1664)); omega
    · refine (cd_13 t x7 B I W _ r _ hp).trans ?_
      exact cdk x12 t _ _ _ _ r k 1664 (by omega) (by omega)
  · refine (View.read_writes_cons_unit_of_not_mem _ f _ _ _ _ (k0_off4_eq _ 15) 2 (Or.inl (show k.val < 2048 * ck t + 1920 by omega))).trans ?_
    refine (View.read_writes_cons_unit_of_mem _ f _ _ _ _ (ix3 0 r ⟨k.val - (2048 * ck t + 1792), by omega⟩ : S1x256x128.Idx) (k0_off4_eq _ 14) ?_).trans ?_
    · intro a
      match a with
      | ⟨0, _⟩ => rfl
      | ⟨1, _⟩ => exact (Nat.zero_add _).symm
      | ⟨2, _⟩ => show k.val = 2048 * ck t + 1792 + (k.val - (2048 * ck t + 1792)); omega
    · refine (cd_14 t x7 B I W _ r _ hp).trans ?_
      exact cdk x12 t _ _ _ _ r k 1792 (by omega) (by omega)
  · refine (View.read_writes_cons_unit_of_mem _ f _ _ _ _ (ix3 0 r ⟨k.val - (2048 * ck t + 1920), by omega⟩ : S1x256x128.Idx) (k0_off4_eq _ 15) ?_).trans ?_
    · intro a
      match a with
      | ⟨0, _⟩ => rfl
      | ⟨1, _⟩ => exact (Nat.zero_add _).symm
      | ⟨2, _⟩ => show k.val = 2048 * ck t + 1920 + (k.val - (2048 * ck t + 1920)); omega
    · refine (cd_15 t x7 B I W _ r _ hp).trans ?_
      exact cdk x12 t _ _ _ _ r k 1920 (by omega) (by omega)

theorem read_out (t : Fin cfg0.N) (f : (ms0_6 t).view.ty.Contents (Elt Ideal)) (x7 : Vec Ideal S1x256x1 .i32) (B I W : Vec Ideal S256x1 .f32) (x12 : Vec Ideal S256x16384 .f32) (inb : ∀ v : Fin 16, ∀ a, k0_off4 (grid0.coords t) (BitVec.ofNat 32 (128 * v.val)) a + ![1, 256, 128] a ≤ S1x256x16384.size a)
    (r : Fin 256) (k : Fin 16384) (h : ¬ (2048 * ck t ≤ k.val ∧ k.val < 2048 * ck t + 2048)) :
    (ms0_6 t).view.read (Elt Ideal) ((ms0_6 t).view.writes (Elt Ideal) f
      [⟨Rect.unit (s := S1x256x16384) (k0_off4 (grid0.coords t) 1920#32) ![1, 256, 128] (inb 15), k0_pay7 (F := Ideal) (k0_pay103 io (k0_pay77 (F := Ideal) (base t) x7) B I W (tf x12 t 1920))⟩,
      ⟨Rect.unit (s := S1x256x16384) (k0_off4 (grid0.coords t) 1792#32) ![1, 256, 128] (inb 14), k0_pay102 (F := Ideal) io (k0_pay77 (F := Ideal) (base t) x7) B I W (tf x12 t 1792) 1792#32⟩,
      ⟨Rect.unit (s := S1x256x16384) (k0_off4 (grid0.coords t) 1664#32) ![1, 256, 128] (inb 13), k0_pay101 (F := Ideal) io (k0_pay77 (F := Ideal) (base t) x7) B I W (tf x12 t 1664)⟩,
      ⟨Rect.unit (s := S1x256x16384) (k0_off4 (grid0.coords t) 1536#32) ![1, 256, 128] (inb 12), k0_pay100 (F := Ideal) (k0_pay97 io (k0_pay77 (F := Ideal) (base t) x7)) (k0_pay98 B I (tf x12 t 1536)) (k0_pay99 W)⟩,
      ⟨Rect.unit (s := S1x256x16384) (k0_off4 (grid0.coords t) 1408#32) ![1, 256, 128] (inb 11), k0_pay96 (F := Ideal) io (k0_pay77 (F := Ideal) (base t) x7) B I W (tf x12 t 1408)⟩,
      ⟨Rect.unit (s := S1x256x16384) (k0_off4 (grid0.coords t) 1280#32) ![1, 256, 128] (inb 10), k0_pay95 (F := Ideal) (k0_pay94 io (k0_pay77 (F := Ideal) (base t) x7) B I W (tf x12 t 1280))⟩,
      ⟨Rect.unit (s := S1x256x16384) (k0_off4 (grid0.coords t) 1152#32) ![1, 256, 128] (inb 9), k0_pay93 (F := Ideal) B I W (tf x12 t 1152) (k0_pay92 io (k0_pay77 (F := Ideal) (base t) x7)) (Named.named κ "log2e_over_tau" 1105646794#32)⟩,
      ⟨Rect.unit (s := S1x256x16384) (k0_off4 (grid0.coords t) 1024#32) ![1, 256, 128] (inb 8), k0_pay91 (F := Ideal) io (k0_pay77 (F := Ideal) (base t) x7) B I W (tf x12 t 1024)⟩,
      ⟨Rect.unit (s := S1x256x16384) (k0_off4 (grid0.coords t) 896#32) ![1, 256, 128] (inb 7), k0_pay90 (F := Ideal) (FloatOps.ofBits FTy.f32 1197473792#32) (k0_pay89 io (k0_pay77 (F := Ideal) (base t) x7) B I W (tf x12 t 896))⟩,
      ⟨Rect.unit (s := S1x256x16384) (k0_off4 (grid0.coords t) 768#32) ![1, 256, 128] (inb 6), k0_pay88 (F := Ideal) io (k0_pay77 (F := Ideal) (base t) x7) B I W (tf x12 t 768)⟩,
      ⟨Rect.unit (s := S1x256x16384) (k0_off4 (grid0.coords t) 640#32) ![1, 256, 128] (inb 5), k0_pay87 (F := Ideal) io (k0_pay77 (F := Ideal) (base t) x7) B I W (tf x12 t 640)⟩,
      ⟨Rect.unit (s := S1x256x16384) (k0_off4 (grid0.coords t) 512#32) ![1, 256, 128] (inb 4), k0_pay86 (F := Ideal) I W (k0_pay84 io (k0_pay77 (F := Ideal) (base t) x7)) (k0_pay85 B (tf x12 t 512))⟩,
      ⟨Rect.unit (s := S1x256x16384) (k0_off4 (grid0.coords t) 384#32) ![1, 256, 128] (inb 3), k0_pay83 (F := Ideal) io (k0_pay77 (F := Ideal) (base t) x7) B I W (tf x12 t 384)⟩,
      ⟨Rect.unit (s := S1x256x16384) (k0_off4 (grid0.coords t) 256#32) ![1, 256, 128] (inb 2), k0_pay82 (F := Ideal) (k0_pay81 io (k0_pay77 (F := Ideal) (base t) x7) B I W (tf x12 t 256))⟩,
      ⟨Rect.unit (s := S1x256x16384) (k0_off4 (grid0.coords t) 128#32) ![1, 256, 128] (inb 1), k0_pay80 (F := Ideal) io (k0_pay77 (F := Ideal) (base t) x7) B I W (tf x12 t 128) k0_pay79⟩,
      ⟨Rect.unit (s := S1x256x16384) (k0_off4 (grid0.coords t) 0#32) ![1, 256, 128] (inb 0), k0_pay78 (F := Ideal) io (base t) x7 B I W (tf x12 t 0)⟩]) (ix3 0 r k) = (ms0_6 t).view.read (Elt Ideal) f (ix3 0 r k) := by
  refine (View.read_writes_cons_unit_of_not_mem _ f _ _ _ _ (k0_off4_eq _ 15) 2 (show k.val < 2048 * ck t + 1920 ∨ 2048 * ck t + 1920 + 128 ≤ k.val by omega)).trans ?_
  refine (View.read_writes_cons_unit_of_not_mem _ f _ _ _ _ (k0_off4_eq _ 14) 2 (show k.val < 2048 * ck t + 1792 ∨ 2048 * ck t + 1792 + 128 ≤ k.val by omega)).trans ?_
  refine (View.read_writes_cons_unit_of_not_mem _ f _ _ _ _ (k0_off4_eq _ 13) 2 (show k.val < 2048 * ck t + 1664 ∨ 2048 * ck t + 1664 + 128 ≤ k.val by omega)).trans ?_
  refine (View.read_writes_cons_unit_of_not_mem _ f _ _ _ _ (k0_off4_eq _ 12) 2 (show k.val < 2048 * ck t + 1536 ∨ 2048 * ck t + 1536 + 128 ≤ k.val by omega)).trans ?_
  refine (View.read_writes_cons_unit_of_not_mem _ f _ _ _ _ (k0_off4_eq _ 11) 2 (show k.val < 2048 * ck t + 1408 ∨ 2048 * ck t + 1408 + 128 ≤ k.val by omega)).trans ?_
  refine (View.read_writes_cons_unit_of_not_mem _ f _ _ _ _ (k0_off4_eq _ 10) 2 (show k.val < 2048 * ck t + 1280 ∨ 2048 * ck t + 1280 + 128 ≤ k.val by omega)).trans ?_
  refine (View.read_writes_cons_unit_of_not_mem _ f _ _ _ _ (k0_off4_eq _ 9) 2 (show k.val < 2048 * ck t + 1152 ∨ 2048 * ck t + 1152 + 128 ≤ k.val by omega)).trans ?_
  refine (View.read_writes_cons_unit_of_not_mem _ f _ _ _ _ (k0_off4_eq _ 8) 2 (show k.val < 2048 * ck t + 1024 ∨ 2048 * ck t + 1024 + 128 ≤ k.val by omega)).trans ?_
  refine (View.read_writes_cons_unit_of_not_mem _ f _ _ _ _ (k0_off4_eq _ 7) 2 (show k.val < 2048 * ck t + 896 ∨ 2048 * ck t + 896 + 128 ≤ k.val by omega)).trans ?_
  refine (View.read_writes_cons_unit_of_not_mem _ f _ _ _ _ (k0_off4_eq _ 6) 2 (show k.val < 2048 * ck t + 768 ∨ 2048 * ck t + 768 + 128 ≤ k.val by omega)).trans ?_
  refine (View.read_writes_cons_unit_of_not_mem _ f _ _ _ _ (k0_off4_eq _ 5) 2 (show k.val < 2048 * ck t + 640 ∨ 2048 * ck t + 640 + 128 ≤ k.val by omega)).trans ?_
  refine (View.read_writes_cons_unit_of_not_mem _ f _ _ _ _ (k0_off4_eq _ 4) 2 (show k.val < 2048 * ck t + 512 ∨ 2048 * ck t + 512 + 128 ≤ k.val by omega)).trans ?_
  refine (View.read_writes_cons_unit_of_not_mem _ f _ _ _ _ (k0_off4_eq _ 3) 2 (show k.val < 2048 * ck t + 384 ∨ 2048 * ck t + 384 + 128 ≤ k.val by omega)).trans ?_
  refine (View.read_writes_cons_unit_of_not_mem _ f _ _ _ _ (k0_off4_eq _ 2) 2 (show k.val < 2048 * ck t + 256 ∨ 2048 * ck t + 256 + 128 ≤ k.val by omega)).trans ?_
  refine (View.read_writes_cons_unit_of_not_mem _ f _ _ _ _ (k0_off4_eq _ 1) 2 (show k.val < 2048 * ck t + 128 ∨ 2048 * ck t + 128 + 128 ≤ k.val by omega)).trans ?_
  refine (View.read_writes_cons_unit_of_not_mem _ f _ _ _ _ (k0_off4_eq _ 0) 2 (show k.val < 2048 * ck t + 0 ∨ 2048 * ck t + 0 + 128 ≤ k.val by omega)).trans ?_
  rfl

/-- A chunk's codes. -/
def ccV (t : Fin cfg0.N) (x7 : Vec Ideal S1x256x1 .i32) (B I W : Vec Ideal S256x1 .f32) (x12 : Vec Ideal S256x16384 .f32) : Vec Ideal S1x256x2048 .fp8e5m2 :=
  fun i => cd (x7 (ix3 0 (i 1) 0)).toNat (B (ix2 (i 1) 0)) (I (ix2 (i 1) 0)) (W (ix2 (i 1) 0))
    (x12 (ix2 (i 1) ⟨(2048 * ck t + (i 2).val) % 16384, Nat.mod_lt _ (by omega)⟩)) (2048 * ck t + (i 2).val)

/-- The codes' buffer after a chunk of them is stored. -/
def putC (t : Fin cfg0.N) (x7 : Vec Ideal S1x256x1 .i32) (B I W : Vec Ideal S256x1 .f32) (x12 : Vec Ideal S256x16384 .f32) (y : Vec Ideal S1x256x16384 .fp8e5m2) :
    Vec Ideal S1x256x16384 .fp8e5m2 :=
  fun i => if 2048 * ck t ≤ (i 2).val ∧ (i 2).val < 2048 * ck t + 2048
    then cd (x7 (ix3 0 (i 1) 0)).toNat (B (ix2 (i 1) 0)) (I (ix2 (i 1) 0)) (W (ix2 (i 1) 0)) (x12 (ix2 (i 1) (i 2))) (i 2).val else y i

theorem read_codes (t : Fin cfg0.N) (y : Vec Ideal S1x256x16384 .fp8e5m2) (x7 : Vec Ideal S1x256x1 .i32) (B I W : Vec Ideal S256x1 .f32) (x12 : Vec Ideal S256x16384 .f32) (inb : ∀ v : Fin 16, ∀ a, k0_off4 (grid0.coords t) (BitVec.ofNat 32 (128 * v.val)) a + ![1, 256, 128] a ≤ S1x256x16384.size a)
    (hp : ∀ r : Fin 256, (x7 (ix3 0 r 0)).toNat < 16384) :
    (ms0_6 t).view.read (Elt Ideal) ((ms0_6 t).view.writes (Elt Ideal) ((hs0_6 t).unread y)
      [⟨Rect.unit (s := S1x256x16384) (k0_off4 (grid0.coords t) 1920#32) ![1, 256, 128] (inb 15), k0_pay7 (F := Ideal) (k0_pay103 io (k0_pay77 (F := Ideal) (base t) x7) B I W (tf x12 t 1920))⟩,
      ⟨Rect.unit (s := S1x256x16384) (k0_off4 (grid0.coords t) 1792#32) ![1, 256, 128] (inb 14), k0_pay102 (F := Ideal) io (k0_pay77 (F := Ideal) (base t) x7) B I W (tf x12 t 1792) 1792#32⟩,
      ⟨Rect.unit (s := S1x256x16384) (k0_off4 (grid0.coords t) 1664#32) ![1, 256, 128] (inb 13), k0_pay101 (F := Ideal) io (k0_pay77 (F := Ideal) (base t) x7) B I W (tf x12 t 1664)⟩,
      ⟨Rect.unit (s := S1x256x16384) (k0_off4 (grid0.coords t) 1536#32) ![1, 256, 128] (inb 12), k0_pay100 (F := Ideal) (k0_pay97 io (k0_pay77 (F := Ideal) (base t) x7)) (k0_pay98 B I (tf x12 t 1536)) (k0_pay99 W)⟩,
      ⟨Rect.unit (s := S1x256x16384) (k0_off4 (grid0.coords t) 1408#32) ![1, 256, 128] (inb 11), k0_pay96 (F := Ideal) io (k0_pay77 (F := Ideal) (base t) x7) B I W (tf x12 t 1408)⟩,
      ⟨Rect.unit (s := S1x256x16384) (k0_off4 (grid0.coords t) 1280#32) ![1, 256, 128] (inb 10), k0_pay95 (F := Ideal) (k0_pay94 io (k0_pay77 (F := Ideal) (base t) x7) B I W (tf x12 t 1280))⟩,
      ⟨Rect.unit (s := S1x256x16384) (k0_off4 (grid0.coords t) 1152#32) ![1, 256, 128] (inb 9), k0_pay93 (F := Ideal) B I W (tf x12 t 1152) (k0_pay92 io (k0_pay77 (F := Ideal) (base t) x7)) (Named.named κ "log2e_over_tau" 1105646794#32)⟩,
      ⟨Rect.unit (s := S1x256x16384) (k0_off4 (grid0.coords t) 1024#32) ![1, 256, 128] (inb 8), k0_pay91 (F := Ideal) io (k0_pay77 (F := Ideal) (base t) x7) B I W (tf x12 t 1024)⟩,
      ⟨Rect.unit (s := S1x256x16384) (k0_off4 (grid0.coords t) 896#32) ![1, 256, 128] (inb 7), k0_pay90 (F := Ideal) (FloatOps.ofBits FTy.f32 1197473792#32) (k0_pay89 io (k0_pay77 (F := Ideal) (base t) x7) B I W (tf x12 t 896))⟩,
      ⟨Rect.unit (s := S1x256x16384) (k0_off4 (grid0.coords t) 768#32) ![1, 256, 128] (inb 6), k0_pay88 (F := Ideal) io (k0_pay77 (F := Ideal) (base t) x7) B I W (tf x12 t 768)⟩,
      ⟨Rect.unit (s := S1x256x16384) (k0_off4 (grid0.coords t) 640#32) ![1, 256, 128] (inb 5), k0_pay87 (F := Ideal) io (k0_pay77 (F := Ideal) (base t) x7) B I W (tf x12 t 640)⟩,
      ⟨Rect.unit (s := S1x256x16384) (k0_off4 (grid0.coords t) 512#32) ![1, 256, 128] (inb 4), k0_pay86 (F := Ideal) I W (k0_pay84 io (k0_pay77 (F := Ideal) (base t) x7)) (k0_pay85 B (tf x12 t 512))⟩,
      ⟨Rect.unit (s := S1x256x16384) (k0_off4 (grid0.coords t) 384#32) ![1, 256, 128] (inb 3), k0_pay83 (F := Ideal) io (k0_pay77 (F := Ideal) (base t) x7) B I W (tf x12 t 384)⟩,
      ⟨Rect.unit (s := S1x256x16384) (k0_off4 (grid0.coords t) 256#32) ![1, 256, 128] (inb 2), k0_pay82 (F := Ideal) (k0_pay81 io (k0_pay77 (F := Ideal) (base t) x7) B I W (tf x12 t 256))⟩,
      ⟨Rect.unit (s := S1x256x16384) (k0_off4 (grid0.coords t) 128#32) ![1, 256, 128] (inb 1), k0_pay80 (F := Ideal) io (k0_pay77 (F := Ideal) (base t) x7) B I W (tf x12 t 128) k0_pay79⟩,
      ⟨Rect.unit (s := S1x256x16384) (k0_off4 (grid0.coords t) 0#32) ![1, 256, 128] (inb 0), k0_pay78 (F := Ideal) io (base t) x7 B I W (tf x12 t 0)⟩]) = putC t x7 B I W x12 y := by
  funext i
  obtain ⟨r, k, rfl⟩ : ∃ (r : Fin 256) (k : Fin 16384), i = ix3 0 r k := ⟨i 1, i 2, by
    refine (eq_ix3 i).trans ?_
    exact congrArg (fun z : Fin 1 => ix3 z (i 1) (i 2)) (Subsingleton.elim _ _)⟩
  show _ = if 2048 * ck t ≤ k.val ∧ k.val < 2048 * ck t + 2048 then _ else y (ix3 0 r k)
  by_cases h : 2048 * ck t ≤ k.val ∧ k.val < 2048 * ck t + 2048
  · rw [if_pos h]; exact read_in t _ x7 B I W x12 inb r k (hp r) h
  · rw [if_neg h, ← congrFun ((hs0_6 t).read_unread y) (ix3 0 r k)]; exact read_out t _ x7 B I W x12 inb r k h

theorem readCov_codes (t : Fin cfg0.N) (x7 : Vec Ideal S1x256x1 .i32) (B I W : Vec Ideal S256x1 .f32) (x12 : Vec Ideal S256x16384 .f32) (inb : ∀ v : Fin 16, ∀ a, k0_off4 (grid0.coords t) (BitVec.ofNat 32 (128 * v.val)) a + ![1, 256, 128] a ≤ S1x256x16384.size a) (inb')
    (hp : ∀ r : Fin 256, (x7 (ix3 0 r 0)).toNat < 16384) :
    (ms0_6 t).view.readCov (Val := Elt Ideal)
      [⟨Rect.unit (s := S1x256x16384) (k0_off4 (grid0.coords t) 1920#32) ![1, 256, 128] (inb 15), k0_pay7 (F := Ideal) (k0_pay103 io (k0_pay77 (F := Ideal) (base t) x7) B I W (tf x12 t 1920))⟩,
      ⟨Rect.unit (s := S1x256x16384) (k0_off4 (grid0.coords t) 1792#32) ![1, 256, 128] (inb 14), k0_pay102 (F := Ideal) io (k0_pay77 (F := Ideal) (base t) x7) B I W (tf x12 t 1792) 1792#32⟩,
      ⟨Rect.unit (s := S1x256x16384) (k0_off4 (grid0.coords t) 1664#32) ![1, 256, 128] (inb 13), k0_pay101 (F := Ideal) io (k0_pay77 (F := Ideal) (base t) x7) B I W (tf x12 t 1664)⟩,
      ⟨Rect.unit (s := S1x256x16384) (k0_off4 (grid0.coords t) 1536#32) ![1, 256, 128] (inb 12), k0_pay100 (F := Ideal) (k0_pay97 io (k0_pay77 (F := Ideal) (base t) x7)) (k0_pay98 B I (tf x12 t 1536)) (k0_pay99 W)⟩,
      ⟨Rect.unit (s := S1x256x16384) (k0_off4 (grid0.coords t) 1408#32) ![1, 256, 128] (inb 11), k0_pay96 (F := Ideal) io (k0_pay77 (F := Ideal) (base t) x7) B I W (tf x12 t 1408)⟩,
      ⟨Rect.unit (s := S1x256x16384) (k0_off4 (grid0.coords t) 1280#32) ![1, 256, 128] (inb 10), k0_pay95 (F := Ideal) (k0_pay94 io (k0_pay77 (F := Ideal) (base t) x7) B I W (tf x12 t 1280))⟩,
      ⟨Rect.unit (s := S1x256x16384) (k0_off4 (grid0.coords t) 1152#32) ![1, 256, 128] (inb 9), k0_pay93 (F := Ideal) B I W (tf x12 t 1152) (k0_pay92 io (k0_pay77 (F := Ideal) (base t) x7)) (Named.named κ "log2e_over_tau" 1105646794#32)⟩,
      ⟨Rect.unit (s := S1x256x16384) (k0_off4 (grid0.coords t) 1024#32) ![1, 256, 128] (inb 8), k0_pay91 (F := Ideal) io (k0_pay77 (F := Ideal) (base t) x7) B I W (tf x12 t 1024)⟩,
      ⟨Rect.unit (s := S1x256x16384) (k0_off4 (grid0.coords t) 896#32) ![1, 256, 128] (inb 7), k0_pay90 (F := Ideal) (FloatOps.ofBits FTy.f32 1197473792#32) (k0_pay89 io (k0_pay77 (F := Ideal) (base t) x7) B I W (tf x12 t 896))⟩,
      ⟨Rect.unit (s := S1x256x16384) (k0_off4 (grid0.coords t) 768#32) ![1, 256, 128] (inb 6), k0_pay88 (F := Ideal) io (k0_pay77 (F := Ideal) (base t) x7) B I W (tf x12 t 768)⟩,
      ⟨Rect.unit (s := S1x256x16384) (k0_off4 (grid0.coords t) 640#32) ![1, 256, 128] (inb 5), k0_pay87 (F := Ideal) io (k0_pay77 (F := Ideal) (base t) x7) B I W (tf x12 t 640)⟩,
      ⟨Rect.unit (s := S1x256x16384) (k0_off4 (grid0.coords t) 512#32) ![1, 256, 128] (inb 4), k0_pay86 (F := Ideal) I W (k0_pay84 io (k0_pay77 (F := Ideal) (base t) x7)) (k0_pay85 B (tf x12 t 512))⟩,
      ⟨Rect.unit (s := S1x256x16384) (k0_off4 (grid0.coords t) 384#32) ![1, 256, 128] (inb 3), k0_pay83 (F := Ideal) io (k0_pay77 (F := Ideal) (base t) x7) B I W (tf x12 t 384)⟩,
      ⟨Rect.unit (s := S1x256x16384) (k0_off4 (grid0.coords t) 256#32) ![1, 256, 128] (inb 2), k0_pay82 (F := Ideal) (k0_pay81 io (k0_pay77 (F := Ideal) (base t) x7) B I W (tf x12 t 256))⟩,
      ⟨Rect.unit (s := S1x256x16384) (k0_off4 (grid0.coords t) 128#32) ![1, 256, 128] (inb 1), k0_pay80 (F := Ideal) io (k0_pay77 (F := Ideal) (base t) x7) B I W (tf x12 t 128) k0_pay79⟩,
      ⟨Rect.unit (s := S1x256x16384) (k0_off4 (grid0.coords t) 0#32) ![1, 256, 128] (inb 0), k0_pay78 (F := Ideal) io (base t) x7 B I W (tf x12 t 0)⟩] (Rect.unit (s := S1x256x16384) (k0_off5 (grid0.coords t)) ![1, 256, 2048] inb').toLoadRect = ccV t x7 B I W x12 := by
  have hc : ck t < 8 := (grid0.coords t 3).2
  funext i
  obtain ⟨r, k, rfl⟩ : ∃ (r : Fin 256) (k : Fin 2048), i = ix3 0 r k := ⟨i 1, i 2, by
    refine (eq_ix3 i).trans ?_
    exact congrArg (fun z : Fin 1 => ix3 z (i 1) (i 2)) (Subsingleton.elim _ _)⟩
  have hk := k.2
  unfold View.readCov
  rw [View.readAt_eq_ld, View.ld_apply]
  have e : (Rect.unit (s := S1x256x16384) (k0_off5 (grid0.coords t)) ![1, 256, 2048] inb').idx (ix3 0 r k)
      = ix3 0 r (⟨2048 * ck t + k.val, by omega⟩ : Fin 16384) := by
    funext a; apply Fin.ext; refine (Rect.idx_unit_val _ _ _ _ a).trans ?_
    refine (congrArg (· + _) (congrFun (k0_off5_eq (grid0.coords t)) a)).trans ?_
    match a with
    | ⟨0, _⟩ => rfl
    | ⟨1, _⟩ => exact Nat.zero_add _
    | ⟨2, _⟩ => rfl
  refine (congrArg (View.read (Elt Ideal) (ms0_6 t).view _) e).trans ?_
  refine (read_in t _ x7 B I W x12 inb r ⟨2048 * ck t + k.val, by omega⟩ (hp r) ⟨by show 2048 * ck t ≤ 2048 * ck t + k.val; omega, by show 2048 * ck t + k.val < _; omega⟩).trans ?_
  exact congrArg (fun z => cd (x7 (ix3 0 r 0)).toNat (B (ix2 r 0)) (I (ix2 r 0)) (W (ix2 r 0)) (x12 (ix2 r z)) (2048 * ck t + k.val))
    (Fin.ext (Nat.mod_eq_of_lt (show 2048 * ck t + k.val < 16384 by omega)).symm)

end Cert.LossDqIdeal.Hand
-- ==== Proof.LossRowK.lean ====
/- A row's numbers: its log-sum-exp, the positive's gradient, the exponent and the scale. -/
module

public import proofs.«01_k».proof.Proof.LossCodes

@[expose] public section

set_option maxRecDepth 16384
set_option maxHeartbeats 1000000

noncomputable section

namespace Cert.LossDqIdeal.Hand

open Cert.LossDqIdeal Cert.LossDqIdeal.Gen Cert.LossMath Idealize.ShloMosaic Idealize.ShloMosaic.TcCoe Idealize.SL.Sem

theorem l2e_eq : (Named.named κ "log2e" 1069066811#32 : Ideal .f32) = (((Real.log 2)⁻¹ : ℝ) : EReal) :=
  IdealRules.named_const.ideal_named_scalar _ _ _ _ rfl

section
variable (a b c : Vec Ideal S256x128 .f32) (r : Fin 256) (s : ℕ → ℝ) (p : ℕ) (hp : p < 16384)
  (ha : ∀ l : Fin 128, a (ix2 r l) = laneM s p l.val 128) (hb : ∀ l : Fin 128, b (ix2 r l) = laneP s p l.val 128)
  (hc : ∀ l : Fin 128, c (ix2 r l) = laneZ s p l.val 128)

include hp hb in
theorem fB : (∑ x : Fin 128, b (ix2 r x)) = ((s p : ℝ) : EReal) := by
  refine (Finset.sum_congr rfl fun l _ => hb l).trans (pos_sum s p hp)

include ha hp in
theorem fA : ∃ σ : ℝ, Finset.fold max (Ideal.ofBits .f32 4286578688#32) (fun x : Fin 128 => a (ix2 r x)) Finset.univ = (σ : EReal)
    ∧ max (σ : EReal) ((s p : ℝ) : EReal) * Ideal.ofBits .f32 1101004800#32 = ((20 * top s : ℝ) : EReal)
    ∧ max |Real.exp (lp s p) - 1| (Real.exp (20 * σ - 20 * top s - Real.log (Zs s))) = amax s p := by
  obtain ⟨σ, h0, h1, h2⟩ := neg_max s p
  refine ⟨σ, ?_, ?_, max_amax s p hp h1 h2⟩
  · rw [ninf_eq, fold_max]
    refine Eq.trans ?_ h0
    exact Finset.sup_congr rfl fun l _ => ha l
  · rw [coe_max, max_top s p hp h1 h2, twenty_eq, ← EReal.coe_mul, mul_comm]

include hp ha hb hc in
theorem fZ : Ideal.log ((∑ x : Fin 128, c (ix2 r x) * FloatOps.exp2 (F := Ideal) (φ := .f32) (a (ix2 r x) * (Named.named κ "log2e_over_tau" 1105646794#32 : Ideal .f32)
      - ((20 * top s : ℝ) : EReal) * (Named.named κ "log2e" 1069066811#32 : Ideal .f32)))
      + Ideal.exp (((s p : ℝ) : EReal) * Ideal.ofBits .f32 1101004800#32 - ((20 * top s : ℝ) : EReal))) = ((Real.log (Zs s) : ℝ) : EReal) := by
  rw [← log_Z, ← lanes_Z s p hp, l20_eq, l2e_eq, twenty_eq, ref_shift]
  refine congrArg Ideal.log (congrArg (· + _) (Finset.sum_congr rfl fun l _ => ?_))
  rw [ha, hc]
  rfl

include hp ha hb in
theorem pay59_apply : k0_pay59 (F := Ideal) a b (ix2 r 0) = ((20 * top s : ℝ) : EReal) := by
  obtain ⟨σ, h0, h1, h2⟩ := fA a r s p hp ha
  pointwise [k0_pay57, k0_pay58, k0_pay59]
  rw [h0, fB b r s p hp hb, h1]

include hp ha hb hc in
theorem pay60_apply : k0_pay60 (F := Ideal) a b c a (ix2 r 0) = ((Real.log (Zs s) : ℝ) : EReal) := by
  obtain ⟨σ, h0, h1, h2⟩ := fA a r s p hp ha
  pointwise [k0_pay57, k0_pay58, k0_pay59, k0_pay60]
  rw [h0, fB b r s p hp hb, h1, fZ a b c r s p hp ha hb hc]

include hp ha hb hc in
theorem pay61_apply : k0_pay61 (F := Ideal) a b c a (ix2 r 0) = ((lp s p : ℝ) : EReal) := by
  obtain ⟨σ, h0, h1, h2⟩ := fA a r s p hp ha
  pointwise [k0_pay57, k0_pay58, k0_pay59, k0_pay60, k0_pay61]
  rw [h0, fB b r s p hp hb, h1, fZ a b c r s p hp ha hb hc, twenty_eq, ref_shift, ref_lp]

include hp ha hb hc in
theorem pay62_apply : k0_pay62 (F := Ideal) a b c a (ix2 r 0) = ((Real.exp (lp s p) - 1 : ℝ) : EReal) := by
  obtain ⟨σ, h0, h1, h2⟩ := fA a r s p hp ha
  pointwise [k0_pay57, k0_pay58, k0_pay59, k0_pay60, k0_pay61, k0_pay62]
  rw [h0, fB b r s p hp hb, h1, fZ a b c r s p hp ha hb hc, twenty_eq, ref_shift, ref_lp, Ideal.exp_coe, ← EReal.coe_one, ← EReal.coe_sub]

include hp ha hb hc in
theorem pay63_apply : k0_pay63 (F := Ideal) a b c a (ix2 r 0) = ((amax s p : ℝ) : EReal) := by
  obtain ⟨σ, h0, h1, h2⟩ := fA a r s p hp ha
  pointwise [k0_pay57, k0_pay58, k0_pay59, k0_pay60, k0_pay61, k0_pay62, k0_pay63]
  rw [h0, fB b r s p hp hb, h1, fZ a b c r s p hp ha hb hc, twenty_eq, ref_shift, ref_lp, Ideal.exp_coe, ← EReal.coe_one, ← EReal.coe_sub,
    ← EReal.coe_mul, ← EReal.coe_sub, ← EReal.coe_sub, Ideal.exp_coe, mul_comm σ 20]
  refine Eq.trans ?_ (congrArg (fun z : ℝ => (z : EReal)) h2)
  rw [← coe_max, ← coe_abs]
  rfl

end

/-- The bisection's first half. -/
theorem pay66_apply (v : FVec Ideal S256x1 .f32) (k : Ideal .f32) (r : Fin 256) :
    k0_pay66 v k (ix2 r 0) = bis (EReal.mul (v (ix2 r 0)) k) (bis (EReal.mul (v (ix2 r 0)) k) (bis (EReal.mul (v (ix2 r 0)) k)
      (bis (EReal.mul (v (ix2 r 0)) k) 0#32 128#32) 64#32) 32#32) 16#32 := by
  pointwise [k0_pay66, k0_pay64]
  rfl

theorem pay67_apply (v : FVec Ideal S256x1 .f32) (k : Ideal .f32) (r : Fin 256) :
    k0_pay67 v k (ix2 r 0) = IntOp.addi (k0_pay66 v k (ix2 r 0)) 8#32 := by
  pointwise [k0_pay67]

/-- The bisection's second half. -/
theorem pay69_apply (x : FVec Ideal S256x1 .f32) (z : IVec S256x1 1) (v v' : IVec S256x1 32) (r : Fin 256)
    (hv : v' (ix2 r 0) = IntOp.addi (v (ix2 r 0)) 8#32) :
    k0_pay69 x z v v' k0_pay68 (ix2 r 0) = Scalar.select (z (ix2 r 0)) 0#32 (IntOp.subi
      (bis (x (ix2 r 0)) (bis (x (ix2 r 0)) (bis (x (ix2 r 0)) (bis (x (ix2 r 0)) (v (ix2 r 0)) 8#32) 4#32) 2#32) 1#32) 126#32) := by
  pointwise [k0_pay69, k0_pay68]
  rw [hv]
  rfl

end Cert.LossDqIdeal.Hand
-- ==== Proof.LossCDE.lean ====
/- The second pass's steps, in the terms of a row's numbers and a chunk's codes. -/
module

public import proofs.«01_k».proof.Proof.LossRowK

@[expose] public section

set_option maxRecDepth 16384
set_option maxHeartbeats 1000000

noncomputable section

namespace Cert.LossDqIdeal.Hand

open Cert.LossDqIdeal Cert.LossDqIdeal.Gen Cert.LossMath Idealize.ShloMosaic Idealize.ShloMosaic.TcCoe Idealize.SL.Sem

theorem off4_inb (t : Fin cfg0.N) (v : Fin 16) (a : Fin 3) :
    k0_off4 (grid0.coords t) (BitVec.ofNat 32 (128 * v.val)) a + ![1, 256, 128] a ≤ S1x256x16384.size a := by
  rw [k0_off4_eq]
  have hc : ck t < 8 := (grid0.coords t 3).2
  have hv := v.2
  match a with
  | ⟨0, _⟩ => exact Nat.le_refl 1
  | ⟨1, _⟩ => exact Nat.le_refl 256
  | ⟨2, _⟩ => show 2048 * ck t + 128 * v.val + 128 ≤ 16384; omega

theorem readCov_acc (inb inb') (w : Vec Ideal S768x256 .f32) (L) :
    (View.whole cc0_scratch5).readCov (Val := Elt Ideal) (⟨Rect.unit (s := S768x256) ![0, 0] ![768, 256] inb, w⟩ :: L)
      (Rect.unit (s := S768x256) ![0, 0] ![768, 256] inb').toLoadRect = w :=
  View.readCov_full (View.whole cc0_scratch5) inb' inb w L

theorem newD_10_eq (c t h x6 x7 x10 x12 x17 x18) (hp : ∀ r : Fin 256, (x7 (ix3 0 r 0)).toNat < 16384) :
    newD_10 (F := Ideal) c t h x6 x7 x10 x12 x17 x18 = putC t x7 (cl x18 0) (cl x18 1) (cl x18 2) x12 x10 := by
  unfold newD_10 atD runD; dsimp only; sl_unfold_run_names
  simp only [View.readAt_eq_ld, hsc0_0.read_unread, hsc0_1.read_unread, hsc0_2.read_unread, hsc0_3.read_unread, hsc0_4.read_unread, (hs0_0 t).read_unread, (hs0_1 t).read_unread, (hs0_2 t).read_unread, (hs0_3 t).read_unread, View.ld_unit_zero (S := S256x768) hz2, View.ld_unit_zero (S := S256x128) hz2, View.ld_unit_zero (S := S1x768x2048) hz3, View.ld_unit_zero (S := S1x256x1) hz3, hsc0_5.read_unread, hsc0_6.read_unread, (hs0_4 t).read_unread, (hs0_5 t).read_unread, (hs0_6 t).read_unread, (hs0_7 t).read_unread, View.ld_unit_zero (S := S768x256) hz2]
  simp only [ld_tile x12 t 0 ⟨0, rfl⟩, ld_tile x12 t 128 ⟨1, rfl⟩, ld_tile x12 t 256 ⟨2, rfl⟩, ld_tile x12 t 384 ⟨3, rfl⟩, ld_tile x12 t 512 ⟨4, rfl⟩, ld_tile x12 t 640 ⟨5, rfl⟩, ld_tile x12 t 768 ⟨6, rfl⟩, ld_tile x12 t 896 ⟨7, rfl⟩, ld_tile x12 t 1024 ⟨8, rfl⟩, ld_tile x12 t 1152 ⟨9, rfl⟩, ld_tile x12 t 1280 ⟨10, rfl⟩, ld_tile x12 t 1408 ⟨11, rfl⟩, ld_tile x12 t 1536 ⟨12, rfl⟩, ld_tile x12 t 1664 ⟨13, rfl⟩, ld_tile x12 t 1792 ⟨14, rfl⟩, ld_tile x12 t 1920 ⟨15, rfl⟩, ld_col0, ld_col1, ld_col2]
  exact read_codes t x10 x7 (cl x18 0) (cl x18 1) (cl x18 2) x12 (off4_inb t) hp

theorem newD_17_eq (c t h x6 x7 x10 x12 x17 x18) (hp : ∀ r : Fin 256, (x7 (ix3 0 r 0)).toNat < 16384) :
    newD_17 (F := Ideal) c t h x6 x7 x10 x12 x17 x18 = k0_pay8 (F := Ideal) (ccV t x7 (cl x18 0) (cl x18 1) (cl x18 2) x12) x17 x6 := by
  unfold newD_17 atD runD; dsimp only; sl_unfold_run_names
  rw [View.read_writes_full]
  simp only [View.readAt_eq_ld, hsc0_0.read_unread, hsc0_1.read_unread, hsc0_2.read_unread, hsc0_3.read_unread, hsc0_4.read_unread, (hs0_0 t).read_unread, (hs0_1 t).read_unread, (hs0_2 t).read_unread, (hs0_3 t).read_unread, View.ld_unit_zero (S := S256x768) hz2, View.ld_unit_zero (S := S256x128) hz2, View.ld_unit_zero (S := S1x768x2048) hz3, View.ld_unit_zero (S := S1x256x1) hz3, hsc0_5.read_unread, hsc0_6.read_unread, (hs0_4 t).read_unread, (hs0_5 t).read_unread, (hs0_6 t).read_unread, (hs0_7 t).read_unread, View.ld_unit_zero (S := S768x256) hz2]
  simp only [ld_tile x12 t 0 ⟨0, rfl⟩, ld_tile x12 t 128 ⟨1, rfl⟩, ld_tile x12 t 256 ⟨2, rfl⟩, ld_tile x12 t 384 ⟨3, rfl⟩, ld_tile x12 t 512 ⟨4, rfl⟩, ld_tile x12 t 640 ⟨5, rfl⟩, ld_tile x12 t 768 ⟨6, rfl⟩, ld_tile x12 t 896 ⟨7, rfl⟩, ld_tile x12 t 1024 ⟨8, rfl⟩, ld_tile x12 t 1152 ⟨9, rfl⟩, ld_tile x12 t 1280 ⟨10, rfl⟩, ld_tile x12 t 1408 ⟨11, rfl⟩, ld_tile x12 t 1536 ⟨12, rfl⟩, ld_tile x12 t 1664 ⟨13, rfl⟩, ld_tile x12 t 1792 ⟨14, rfl⟩, ld_tile x12 t 1920 ⟨15, rfl⟩, ld_col0, ld_col1, ld_col2]
  exact congrArg (fun z => k0_pay8 z x17 x6) (readCov_codes t x7 (cl x18 0) (cl x18 1) (cl x18 2) x12 (off4_inb t) _ hp)

theorem newE_10_eq (c t h x6 x7 x9 x10 x12 x17 x18) (hp : ∀ r : Fin 256, (x7 (ix3 0 r 0)).toNat < 16384) :
    newE_10 (F := Ideal) c t h x6 x7 x9 x10 x12 x17 x18 = putC t x7 (cl x18 0) (cl x18 1) (cl x18 2) x12 x10 := by
  unfold newE_10 atE runE; dsimp only; sl_unfold_run_names
  simp only [View.readAt_eq_ld, hsc0_0.read_unread, hsc0_1.read_unread, hsc0_2.read_unread, hsc0_3.read_unread, hsc0_4.read_unread, (hs0_0 t).read_unread, (hs0_1 t).read_unread, (hs0_2 t).read_unread, (hs0_3 t).read_unread, View.ld_unit_zero (S := S256x768) hz2, View.ld_unit_zero (S := S256x128) hz2, View.ld_unit_zero (S := S1x768x2048) hz3, View.ld_unit_zero (S := S1x256x1) hz3, hsc0_5.read_unread, hsc0_6.read_unread, (hs0_4 t).read_unread, (hs0_5 t).read_unread, (hs0_6 t).read_unread, (hs0_7 t).read_unread, View.ld_unit_zero (S := S768x256) hz2]
  simp only [ld_tile x12 t 0 ⟨0, rfl⟩, ld_tile x12 t 128 ⟨1, rfl⟩, ld_tile x12 t 256 ⟨2, rfl⟩, ld_tile x12 t 384 ⟨3, rfl⟩, ld_tile x12 t 512 ⟨4, rfl⟩, ld_tile x12 t 640 ⟨5, rfl⟩, ld_tile x12 t 768 ⟨6, rfl⟩, ld_tile x12 t 896 ⟨7, rfl⟩, ld_tile x12 t 1024 ⟨8, rfl⟩, ld_tile x12 t 1152 ⟨9, rfl⟩, ld_tile x12 t 1280 ⟨10, rfl⟩, ld_tile x12 t 1408 ⟨11, rfl⟩, ld_tile x12 t 1536 ⟨12, rfl⟩, ld_tile x12 t 1664 ⟨13, rfl⟩, ld_tile x12 t 1792 ⟨14, rfl⟩, ld_tile x12 t 1920 ⟨15, rfl⟩, ld_col0, ld_col1, ld_col2]
  exact read_codes t x10 x7 (cl x18 0) (cl x18 1) (cl x18 2) x12 (off4_inb t) hp

theorem newE_17_eq (c t h x6 x7 x9 x10 x12 x17 x18) (hp : ∀ r : Fin 256, (x7 (ix3 0 r 0)).toNat < 16384) :
    newE_17 (F := Ideal) c t h x6 x7 x9 x10 x12 x17 x18 = k0_pay8 (F := Ideal) (ccV t x7 (cl x18 0) (cl x18 1) (cl x18 2) x12) x17 x6 := by
  unfold newE_17 atE runE; dsimp only; sl_unfold_run_names
  rw [View.read_writes_full]
  simp only [View.readAt_eq_ld, hsc0_0.read_unread, hsc0_1.read_unread, hsc0_2.read_unread, hsc0_3.read_unread, hsc0_4.read_unread, (hs0_0 t).read_unread, (hs0_1 t).read_unread, (hs0_2 t).read_unread, (hs0_3 t).read_unread, View.ld_unit_zero (S := S256x768) hz2, View.ld_unit_zero (S := S256x128) hz2, View.ld_unit_zero (S := S1x768x2048) hz3, View.ld_unit_zero (S := S1x256x1) hz3, hsc0_5.read_unread, hsc0_6.read_unread, (hs0_4 t).read_unread, (hs0_5 t).read_unread, (hs0_6 t).read_unread, (hs0_7 t).read_unread, View.ld_unit_zero (S := S768x256) hz2]
  simp only [ld_tile x12 t 0 ⟨0, rfl⟩, ld_tile x12 t 128 ⟨1, rfl⟩, ld_tile x12 t 256 ⟨2, rfl⟩, ld_tile x12 t 384 ⟨3, rfl⟩, ld_tile x12 t 512 ⟨4, rfl⟩, ld_tile x12 t 640 ⟨5, rfl⟩, ld_tile x12 t 768 ⟨6, rfl⟩, ld_tile x12 t 896 ⟨7, rfl⟩, ld_tile x12 t 1024 ⟨8, rfl⟩, ld_tile x12 t 1152 ⟨9, rfl⟩, ld_tile x12 t 1280 ⟨10, rfl⟩, ld_tile x12 t 1408 ⟨11, rfl⟩, ld_tile x12 t 1536 ⟨12, rfl⟩, ld_tile x12 t 1664 ⟨13, rfl⟩, ld_tile x12 t 1792 ⟨14, rfl⟩, ld_tile x12 t 1920 ⟨15, rfl⟩, ld_col0, ld_col1, ld_col2]
  exact congrArg (fun z => k0_pay8 z x17 x6) (readCov_codes t x7 (cl x18 0) (cl x18 1) (cl x18 2) x12 (off4_inb t) _ hp)

theorem newE_9_eq (c t h x6 x7 x9 x10 x12 x17 x18) (hp : ∀ r : Fin 256, (x7 (ix3 0 r 0)).toNat < 16384) :
    newE_9 (F := Ideal) c t h x6 x7 x9 x10 x12 x17 x18 = k0_pay9 (F := Ideal) (newE_17 c t h x6 x7 x9 x10 x12 x17 x18) (cl x18 3) := by
  rw [newE_17_eq c t h x6 x7 x9 x10 x12 x17 x18 hp]
  unfold newE_9 atE runE; dsimp only; sl_unfold_run_names
  rw [View.read_writes_full]
  simp only [View.readAt_eq_ld, hsc0_0.read_unread, hsc0_1.read_unread, hsc0_2.read_unread, hsc0_3.read_unread, hsc0_4.read_unread, (hs0_0 t).read_unread, (hs0_1 t).read_unread, (hs0_2 t).read_unread, (hs0_3 t).read_unread, View.ld_unit_zero (S := S256x768) hz2, View.ld_unit_zero (S := S256x128) hz2, View.ld_unit_zero (S := S1x768x2048) hz3, View.ld_unit_zero (S := S1x256x1) hz3, hsc0_5.read_unread, hsc0_6.read_unread, (hs0_4 t).read_unread, (hs0_5 t).read_unread, (hs0_6 t).read_unread, (hs0_7 t).read_unread, View.ld_unit_zero (S := S768x256) hz2]
  simp only [ld_tile x12 t 0 ⟨0, rfl⟩, ld_tile x12 t 128 ⟨1, rfl⟩, ld_tile x12 t 256 ⟨2, rfl⟩, ld_tile x12 t 384 ⟨3, rfl⟩, ld_tile x12 t 512 ⟨4, rfl⟩, ld_tile x12 t 640 ⟨5, rfl⟩, ld_tile x12 t 768 ⟨6, rfl⟩, ld_tile x12 t 896 ⟨7, rfl⟩, ld_tile x12 t 1024 ⟨8, rfl⟩, ld_tile x12 t 1152 ⟨9, rfl⟩, ld_tile x12 t 1280 ⟨10, rfl⟩, ld_tile x12 t 1408 ⟨11, rfl⟩, ld_tile x12 t 1536 ⟨12, rfl⟩, ld_tile x12 t 1664 ⟨13, rfl⟩, ld_tile x12 t 1792 ⟨14, rfl⟩, ld_tile x12 t 1920 ⟨15, rfl⟩, ld_col0, ld_col1, ld_col2, ld_col3]
  rw [readCov_acc]
  exact congrArg (fun z => k0_pay9 (k0_pay8 z x17 x6) (cl x18 3)) (readCov_codes t x7 (cl x18 0) (cl x18 1) (cl x18 2) x12 (off4_inb t) _ hp)

end Cert.LossDqIdeal.Hand
-- ==== Proof.LossC.lean ====
/- The second pass's first step. -/
module

public import proofs.«01_k».proof.Proof.LossCDE

@[expose] public section

set_option maxRecDepth 16384
set_option maxHeartbeats 1000000

noncomputable section

namespace Cert.LossDqIdeal.Hand

open Cert.LossDqIdeal Cert.LossDqIdeal.Gen Cert.LossMath Idealize.ShloMosaic Idealize.ShloMosaic.TcCoe Idealize.SL.Sem

/-- The words of the rows' exponents. -/
def eK (x14 x15 x16 : Vec Ideal S256x128 .f32) : IVec S256x1 32 := k0_pay69 (F := Ideal) (k0_pay64 (k0_pay63 x14 x16 x15 x14) (FloatOps.ofBits FTy.f32 932333861#32)) (k0_pay65 (k0_pay63 x14 x16 x15 x14) (FloatOps.ofBits FTy.f32 932333861#32)) (k0_pay66 (k0_pay63 x14 x16 x15 x14) (FloatOps.ofBits FTy.f32 932333861#32)) (k0_pay67 (k0_pay63 x14 x16 x15 x14) (FloatOps.ofBits FTy.f32 932333861#32)) k0_pay68

/-- The rows' scales. -/
def sK (x14 x15 x16 : Vec Ideal S256x128 .f32) : FVec Ideal S256x1 .f32 := k0_pay70 (F := Ideal) (k0_pay64 (k0_pay63 x14 x16 x15 x14) (FloatOps.ofBits FTy.f32 932333861#32)) (k0_pay65 (k0_pay63 x14 x16 x15 x14) (FloatOps.ofBits FTy.f32 932333861#32)) (k0_pay66 (k0_pay63 x14 x16 x15 x14) (FloatOps.ofBits FTy.f32 932333861#32)) (k0_pay67 (k0_pay63 x14 x16 x15 x14) (FloatOps.ofBits FTy.f32 932333861#32)) k0_pay68

def r0K (x14 x15 x16 : Vec Ideal S256x128 .f32) : Vec Ideal S256x1 .f32 := k0_pay74 (F := Ideal) (k0_pay59 x14 x16) (k0_pay60 x14 x16 x15 x14)

def r1K (x14 x15 x16 : Vec Ideal S256x128 .f32) : Vec Ideal S256x1 .f32 := k0_pay75 (F := Ideal) (eK x14 x15 x16)

def r2K (x14 x15 x16 : Vec Ideal S256x128 .f32) : Vec Ideal S256x1 .f32 := k0_pay4 (F := Ideal) (k0_pay76 (k0_pay62 x14 x16 x15 x14) (eK x14 x15 x16))

def r3K (x14 x15 x16 : Vec Ideal S256x128 .f32) : Vec Ideal S256x1 .f32 := k0_pay5 (F := Ideal) (sK x14 x15 x16)

theorem read_row0 (f : (View.whole cc0_scratch6).ty.Contents (Elt Ideal)) (P0 P1 P2 P3 : Vec Ideal S256x1 .f32) (inb : ∀ j : Fin 4, ∀ a, (![0, j.val] : Fin 2 → ℕ) a + ![256, 1] a ≤ S256x128.size a) (r : Fin 256) :
    (View.whole cc0_scratch6).read (Elt Ideal) ((View.whole cc0_scratch6).writes (Elt Ideal) f [⟨Rect.unit (s := S256x128) ![0, 3] ![256, 1] (inb 3), P3⟩, ⟨Rect.unit (s := S256x128) ![0, 2] ![256, 1] (inb 2), P2⟩, ⟨Rect.unit (s := S256x128) ![0, 1] ![256, 1] (inb 1), P1⟩, ⟨Rect.unit (s := S256x128) ![0, 0] ![256, 1] (inb 0), P0⟩]) (ix2 r 0) = P0 (ix2 r 0) := by
  refine (View.read_writes_cons_unit_of_not_mem _ f _ _ _ _ rfl 1 (Or.inl (show 0 < 3 by omega))).trans ?_
  refine (View.read_writes_cons_unit_of_not_mem _ f _ _ _ _ rfl 1 (Or.inl (show 0 < 2 by omega))).trans ?_
  refine (View.read_writes_cons_unit_of_not_mem _ f _ _ _ _ rfl 1 (Or.inl (show 0 < 1 by omega))).trans ?_
  refine (View.read_writes_cons_unit_of_mem _ f _ _ _ _ (ix2 r 0 : S256x1.Idx) rfl ?_).trans rfl
  intro a
  match a with
  | ⟨0, _⟩ => exact (Nat.zero_add _).symm
  | ⟨1, _⟩ => rfl

theorem readCov_row0 (P0 P1 P2 P3 : Vec Ideal S256x1 .f32) (inb : ∀ j : Fin 4, ∀ a, (![0, j.val] : Fin 2 → ℕ) a + ![256, 1] a ≤ S256x128.size a) (inb') :
    (View.whole cc0_scratch6).readCov (Val := Elt Ideal) [⟨Rect.unit (s := S256x128) ![0, 3] ![256, 1] (inb 3), P3⟩, ⟨Rect.unit (s := S256x128) ![0, 2] ![256, 1] (inb 2), P2⟩, ⟨Rect.unit (s := S256x128) ![0, 1] ![256, 1] (inb 1), P1⟩, ⟨Rect.unit (s := S256x128) ![0, 0] ![256, 1] (inb 0), P0⟩] (Rect.unit (s := S256x128) ![0, 0] ![256, 1] inb').toLoadRect = P0 := by
  funext i
  obtain ⟨r, k, rfl⟩ : ∃ (r : Fin 256) (k : Fin 1), i = ix2 r k := ⟨i 0, i 1, eq_ix2 i⟩
  obtain rfl : k = 0 := Subsingleton.elim _ _
  unfold View.readCov
  rw [View.readAt_eq_ld, View.ld_apply]
  refine (congrArg (View.read (Elt Ideal) (View.whole cc0_scratch6) _) ?_).trans (read_row0 _ P0 P1 P2 P3 inb r)
  funext a; apply Fin.ext; refine (Rect.idx_unit_val _ _ _ _ a).trans ?_
  match a with
  | ⟨0, _⟩ => exact Nat.zero_add _
  | ⟨1, _⟩ => rfl

theorem read_row1 (f : (View.whole cc0_scratch6).ty.Contents (Elt Ideal)) (P0 P1 P2 P3 : Vec Ideal S256x1 .f32) (inb : ∀ j : Fin 4, ∀ a, (![0, j.val] : Fin 2 → ℕ) a + ![256, 1] a ≤ S256x128.size a) (r : Fin 256) :
    (View.whole cc0_scratch6).read (Elt Ideal) ((View.whole cc0_scratch6).writes (Elt Ideal) f [⟨Rect.unit (s := S256x128) ![0, 3] ![256, 1] (inb 3), P3⟩, ⟨Rect.unit (s := S256x128) ![0, 2] ![256, 1] (inb 2), P2⟩, ⟨Rect.unit (s := S256x128) ![0, 1] ![256, 1] (inb 1), P1⟩, ⟨Rect.unit (s := S256x128) ![0, 0] ![256, 1] (inb 0), P0⟩]) (ix2 r 1) = P1 (ix2 r 0) := by
  refine (View.read_writes_cons_unit_of_not_mem _ f _ _ _ _ rfl 1 (Or.inl (show 1 < 3 by omega))).trans ?_
  refine (View.read_writes_cons_unit_of_not_mem _ f _ _ _ _ rfl 1 (Or.inl (show 1 < 2 by omega))).trans ?_
  refine (View.read_writes_cons_unit_of_mem _ f _ _ _ _ (ix2 r 0 : S256x1.Idx) rfl ?_).trans rfl
  intro a
  match a with
  | ⟨0, _⟩ => exact (Nat.zero_add _).symm
  | ⟨1, _⟩ => rfl

theorem readCov_row1 (P0 P1 P2 P3 : Vec Ideal S256x1 .f32) (inb : ∀ j : Fin 4, ∀ a, (![0, j.val] : Fin 2 → ℕ) a + ![256, 1] a ≤ S256x128.size a) (inb') :
    (View.whole cc0_scratch6).readCov (Val := Elt Ideal) [⟨Rect.unit (s := S256x128) ![0, 3] ![256, 1] (inb 3), P3⟩, ⟨Rect.unit (s := S256x128) ![0, 2] ![256, 1] (inb 2), P2⟩, ⟨Rect.unit (s := S256x128) ![0, 1] ![256, 1] (inb 1), P1⟩, ⟨Rect.unit (s := S256x128) ![0, 0] ![256, 1] (inb 0), P0⟩] (Rect.unit (s := S256x128) ![0, 1] ![256, 1] inb').toLoadRect = P1 := by
  funext i
  obtain ⟨r, k, rfl⟩ : ∃ (r : Fin 256) (k : Fin 1), i = ix2 r k := ⟨i 0, i 1, eq_ix2 i⟩
  obtain rfl : k = 0 := Subsingleton.elim _ _
  unfold View.readCov
  rw [View.readAt_eq_ld, View.ld_apply]
  refine (congrArg (View.read (Elt Ideal) (View.whole cc0_scratch6) _) ?_).trans (read_row1 _ P0 P1 P2 P3 inb r)
  funext a; apply Fin.ext; refine (Rect.idx_unit_val _ _ _ _ a).trans ?_
  match a with
  | ⟨0, _⟩ => exact Nat.zero_add _
  | ⟨1, _⟩ => rfl

theorem read_row2 (f : (View.whole cc0_scratch6).ty.Contents (Elt Ideal)) (P0 P1 P2 P3 : Vec Ideal S256x1 .f32) (inb : ∀ j : Fin 4, ∀ a, (![0, j.val] : Fin 2 → ℕ) a + ![256, 1] a ≤ S256x128.size a) (r : Fin 256) :
    (View.whole cc0_scratch6).read (Elt Ideal) ((View.whole cc0_scratch6).writes (Elt Ideal) f [⟨Rect.unit (s := S256x128) ![0, 3] ![256, 1] (inb 3), P3⟩, ⟨Rect.unit (s := S256x128) ![0, 2] ![256, 1] (inb 2), P2⟩, ⟨Rect.unit (s := S256x128) ![0, 1] ![256, 1] (inb 1), P1⟩, ⟨Rect.unit (s := S256x128) ![0, 0] ![256, 1] (inb 0), P0⟩]) (ix2 r 2) = P2 (ix2 r 0) := by
  refine (View.read_writes_cons_unit_of_not_mem _ f _ _ _ _ rfl 1 (Or.inl (show 2 < 3 by omega))).trans ?_
  refine (View.read_writes_cons_unit_of_mem _ f _ _ _ _ (ix2 r 0 : S256x1.Idx) rfl ?_).trans rfl
  intro a
  match a with
  | ⟨0, _⟩ => exact (Nat.zero_add _).symm
  | ⟨1, _⟩ => rfl

theorem readCov_row2 (P0 P1 P2 P3 : Vec Ideal S256x1 .f32) (inb : ∀ j : Fin 4, ∀ a, (![0, j.val] : Fin 2 → ℕ) a + ![256, 1] a ≤ S256x128.size a) (inb') :
    (View.whole cc0_scratch6).readCov (Val := Elt Ideal) [⟨Rect.unit (s := S256x128) ![0, 3] ![256, 1] (inb 3), P3⟩, ⟨Rect.unit (s := S256x128) ![0, 2] ![256, 1] (inb 2), P2⟩, ⟨Rect.unit (s := S256x128) ![0, 1] ![256, 1] (inb 1), P1⟩, ⟨Rect.unit (s := S256x128) ![0, 0] ![256, 1] (inb 0), P0⟩] (Rect.unit (s := S256x128) ![0, 2] ![256, 1] inb').toLoadRect = P2 := by
  funext i
  obtain ⟨r, k, rfl⟩ : ∃ (r : Fin 256) (k : Fin 1), i = ix2 r k := ⟨i 0, i 1, eq_ix2 i⟩
  obtain rfl : k = 0 := Subsingleton.elim _ _
  unfold View.readCov
  rw [View.readAt_eq_ld, View.ld_apply]
  refine (congrArg (View.read (Elt Ideal) (View.whole cc0_scratch6) _) ?_).trans (read_row2 _ P0 P1 P2 P3 inb r)
  funext a; apply Fin.ext; refine (Rect.idx_unit_val _ _ _ _ a).trans ?_
  match a with
  | ⟨0, _⟩ => exact Nat.zero_add _
  | ⟨1, _⟩ => rfl

theorem read_row3 (f : (View.whole cc0_scratch6).ty.Contents (Elt Ideal)) (P0 P1 P2 P3 : Vec Ideal S256x1 .f32) (inb : ∀ j : Fin 4, ∀ a, (![0, j.val] : Fin 2 → ℕ) a + ![256, 1] a ≤ S256x128.size a) (r : Fin 256) :
    (View.whole cc0_scratch6).read (Elt Ideal) ((View.whole cc0_scratch6).writes (Elt Ideal) f [⟨Rect.unit (s := S256x128) ![0, 3] ![256, 1] (inb 3), P3⟩, ⟨Rect.unit (s := S256x128) ![0, 2] ![256, 1] (inb 2), P2⟩, ⟨Rect.unit (s := S256x128) ![0, 1] ![256, 1] (inb 1), P1⟩, ⟨Rect.unit (s := S256x128) ![0, 0] ![256, 1] (inb 0), P0⟩]) (ix2 r 3) = P3 (ix2 r 0) := by
  refine (View.read_writes_cons_unit_of_mem _ f _ _ _ _ (ix2 r 0 : S256x1.Idx) rfl ?_).trans rfl
  intro a
  match a with
  | ⟨0, _⟩ => exact (Nat.zero_add _).symm
  | ⟨1, _⟩ => rfl

theorem readCov_row3 (P0 P1 P2 P3 : Vec Ideal S256x1 .f32) (inb : ∀ j : Fin 4, ∀ a, (![0, j.val] : Fin 2 → ℕ) a + ![256, 1] a ≤ S256x128.size a) (inb') :
    (View.whole cc0_scratch6).readCov (Val := Elt Ideal) [⟨Rect.unit (s := S256x128) ![0, 3] ![256, 1] (inb 3), P3⟩, ⟨Rect.unit (s := S256x128) ![0, 2] ![256, 1] (inb 2), P2⟩, ⟨Rect.unit (s := S256x128) ![0, 1] ![256, 1] (inb 1), P1⟩, ⟨Rect.unit (s := S256x128) ![0, 0] ![256, 1] (inb 0), P0⟩] (Rect.unit (s := S256x128) ![0, 3] ![256, 1] inb').toLoadRect = P3 := by
  funext i
  obtain ⟨r, k, rfl⟩ : ∃ (r : Fin 256) (k : Fin 1), i = ix2 r k := ⟨i 0, i 1, eq_ix2 i⟩
  obtain rfl : k = 0 := Subsingleton.elim _ _
  unfold View.readCov
  rw [View.readAt_eq_ld, View.ld_apply]
  refine (congrArg (View.read (Elt Ideal) (View.whole cc0_scratch6) _) ?_).trans (read_row3 _ P0 P1 P2 P3 inb r)
  funext a; apply Fin.ext; refine (Rect.idx_unit_val _ _ _ _ a).trans ?_
  match a with
  | ⟨0, _⟩ => exact Nat.zero_add _
  | ⟨1, _⟩ => rfl

theorem inb_row (j : Fin 4) (a : Fin 2) : (![0, j.val] : Fin 2 → ℕ) a + ![256, 1] a ≤ S256x128.size a := by
  have := j.2
  match a with
  | ⟨0, _⟩ => exact Nat.le_refl 256
  | ⟨1, _⟩ => show j.val + 1 ≤ 128; omega

theorem newC_18_0 (c t h x6 x7 x8 x10 x11 x12 x14 x15 x16 x17 x18) (r : Fin 256) : newC_18 (F := Ideal) c t h x6 x7 x8 x10 x11 x12 x14 x15 x16 x17 x18 (ix2 r 0) = r0K x14 x15 x16 (ix2 r 0) := by
  unfold newC_18 atC runC; dsimp only; sl_unfold_run_names
  simp only [View.readAt_eq_ld, hsc0_0.read_unread, hsc0_1.read_unread, hsc0_2.read_unread, hsc0_3.read_unread, hsc0_4.read_unread, (hs0_0 t).read_unread, (hs0_1 t).read_unread, (hs0_2 t).read_unread, (hs0_3 t).read_unread, View.ld_unit_zero (S := S256x768) hz2, View.ld_unit_zero (S := S256x128) hz2, View.ld_unit_zero (S := S1x768x2048) hz3, View.ld_unit_zero (S := S1x256x1) hz3, hsc0_5.read_unread, hsc0_6.read_unread, (hs0_4 t).read_unread, (hs0_5 t).read_unread, (hs0_6 t).read_unread, (hs0_7 t).read_unread, View.ld_unit_zero (S := S768x256) hz2]
  exact read_row0 _ (r0K x14 x15 x16) (r1K x14 x15 x16) (r2K x14 x15 x16) (r3K x14 x15 x16) inb_row r

theorem newC_18_1 (c t h x6 x7 x8 x10 x11 x12 x14 x15 x16 x17 x18) (r : Fin 256) : newC_18 (F := Ideal) c t h x6 x7 x8 x10 x11 x12 x14 x15 x16 x17 x18 (ix2 r 1) = r1K x14 x15 x16 (ix2 r 0) := by
  unfold newC_18 atC runC; dsimp only; sl_unfold_run_names
  simp only [View.readAt_eq_ld, hsc0_0.read_unread, hsc0_1.read_unread, hsc0_2.read_unread, hsc0_3.read_unread, hsc0_4.read_unread, (hs0_0 t).read_unread, (hs0_1 t).read_unread, (hs0_2 t).read_unread, (hs0_3 t).read_unread, View.ld_unit_zero (S := S256x768) hz2, View.ld_unit_zero (S := S256x128) hz2, View.ld_unit_zero (S := S1x768x2048) hz3, View.ld_unit_zero (S := S1x256x1) hz3, hsc0_5.read_unread, hsc0_6.read_unread, (hs0_4 t).read_unread, (hs0_5 t).read_unread, (hs0_6 t).read_unread, (hs0_7 t).read_unread, View.ld_unit_zero (S := S768x256) hz2]
  exact read_row1 _ (r0K x14 x15 x16) (r1K x14 x15 x16) (r2K x14 x15 x16) (r3K x14 x15 x16) inb_row r

theorem newC_18_2 (c t h x6 x7 x8 x10 x11 x12 x14 x15 x16 x17 x18) (r : Fin 256) : newC_18 (F := Ideal) c t h x6 x7 x8 x10 x11 x12 x14 x15 x16 x17 x18 (ix2 r 2) = r2K x14 x15 x16 (ix2 r 0) := by
  unfold newC_18 atC runC; dsimp only; sl_unfold_run_names
  simp only [View.readAt_eq_ld, hsc0_0.read_unread, hsc0_1.read_unread, hsc0_2.read_unread, hsc0_3.read_unread, hsc0_4.read_unread, (hs0_0 t).read_unread, (hs0_1 t).read_unread, (hs0_2 t).read_unread, (hs0_3 t).read_unread, View.ld_unit_zero (S := S256x768) hz2, View.ld_unit_zero (S := S256x128) hz2, View.ld_unit_zero (S := S1x768x2048) hz3, View.ld_unit_zero (S := S1x256x1) hz3, hsc0_5.read_unread, hsc0_6.read_unread, (hs0_4 t).read_unread, (hs0_5 t).read_unread, (hs0_6 t).read_unread, (hs0_7 t).read_unread, View.ld_unit_zero (S := S768x256) hz2]
  exact read_row2 _ (r0K x14 x15 x16) (r1K x14 x15 x16) (r2K x14 x15 x16) (r3K x14 x15 x16) inb_row r

theorem newC_18_3 (c t h x6 x7 x8 x10 x11 x12 x14 x15 x16 x17 x18) (r : Fin 256) : newC_18 (F := Ideal) c t h x6 x7 x8 x10 x11 x12 x14 x15 x16 x17 x18 (ix2 r 3) = r3K x14 x15 x16 (ix2 r 0) := by
  unfold newC_18 atC runC; dsimp only; sl_unfold_run_names
  simp only [View.readAt_eq_ld, hsc0_0.read_unread, hsc0_1.read_unread, hsc0_2.read_unread, hsc0_3.read_unread, hsc0_4.read_unread, (hs0_0 t).read_unread, (hs0_1 t).read_unread, (hs0_2 t).read_unread, (hs0_3 t).read_unread, View.ld_unit_zero (S := S256x768) hz2, View.ld_unit_zero (S := S256x128) hz2, View.ld_unit_zero (S := S1x768x2048) hz3, View.ld_unit_zero (S := S1x256x1) hz3, hsc0_5.read_unread, hsc0_6.read_unread, (hs0_4 t).read_unread, (hs0_5 t).read_unread, (hs0_6 t).read_unread, (hs0_7 t).read_unread, View.ld_unit_zero (S := S768x256) hz2]
  exact read_row3 _ (r0K x14 x15 x16) (r1K x14 x15 x16) (r2K x14 x15 x16) (r3K x14 x15 x16) inb_row r

theorem newC_8_eq (c t h x6 x7 x8 x10 x11 x12 x14 x15 x16 x17 x18) : newC_8 (F := Ideal) c t h x6 x7 x8 x10 x11 x12 x14 x15 x16 x17 x18 = k0_pay72 (F := Ideal) (k0_pay71 (k0_pay61 x14 x16 x15 x14)) := by
  unfold newC_8 atC runC; dsimp only; sl_unfold_run_names
  rw [View.read_writes_full]
  simp only [View.readAt_eq_ld, hsc0_0.read_unread, hsc0_1.read_unread, hsc0_2.read_unread, hsc0_3.read_unread, hsc0_4.read_unread, (hs0_0 t).read_unread, (hs0_1 t).read_unread, (hs0_2 t).read_unread, (hs0_3 t).read_unread, View.ld_unit_zero (S := S256x768) hz2, View.ld_unit_zero (S := S256x128) hz2, View.ld_unit_zero (S := S1x768x2048) hz3, View.ld_unit_zero (S := S1x256x1) hz3, hsc0_5.read_unread, hsc0_6.read_unread, (hs0_4 t).read_unread, (hs0_5 t).read_unread, (hs0_6 t).read_unread, (hs0_7 t).read_unread, View.ld_unit_zero (S := S768x256) hz2]

theorem newC_11_eq (c t h x6 x7 x8 x10 x11 x12 x14 x15 x16 x17 x18) : newC_11 (F := Ideal) c t h x6 x7 x8 x10 x11 x12 x14 x15 x16 x17 x18 = k0_pay73 (F := Ideal) (sK x14 x15 x16) := by
  unfold newC_11 atC runC; dsimp only; sl_unfold_run_names
  rw [View.read_writes_full]
  simp only [View.readAt_eq_ld, hsc0_0.read_unread, hsc0_1.read_unread, hsc0_2.read_unread, hsc0_3.read_unread, hsc0_4.read_unread, (hs0_0 t).read_unread, (hs0_1 t).read_unread, (hs0_2 t).read_unread, (hs0_3 t).read_unread, View.ld_unit_zero (S := S256x768) hz2, View.ld_unit_zero (S := S256x128) hz2, View.ld_unit_zero (S := S1x768x2048) hz3, View.ld_unit_zero (S := S1x256x1) hz3, hsc0_5.read_unread, hsc0_6.read_unread, (hs0_4 t).read_unread, (hs0_5 t).read_unread, (hs0_6 t).read_unread, (hs0_7 t).read_unread, View.ld_unit_zero (S := S768x256) hz2]
  rfl

theorem newC_10_eq (c t h x6 x7 x8 x10 x11 x12 x14 x15 x16 x17 x18) (hp : ∀ r : Fin 256, (x7 (ix3 0 r 0)).toNat < 16384) :
    newC_10 (F := Ideal) c t h x6 x7 x8 x10 x11 x12 x14 x15 x16 x17 x18 = putC t x7 (r0K x14 x15 x16) (r1K x14 x15 x16) (r2K x14 x15 x16) x12 x10 := by
  unfold newC_10 atC runC; dsimp only; sl_unfold_run_names
  have rc0 := readCov_row0 (r0K x14 x15 x16) (r1K x14 x15 x16) (r2K x14 x15 x16) (r3K x14 x15 x16) inb_row
  have rc1 := readCov_row1 (r0K x14 x15 x16) (r1K x14 x15 x16) (r2K x14 x15 x16) (r3K x14 x15 x16) inb_row
  have rc2 := readCov_row2 (r0K x14 x15 x16) (r1K x14 x15 x16) (r2K x14 x15 x16) (r3K x14 x15 x16) inb_row
  unfold r0K r1K r2K r3K eK sK at rc0 rc1 rc2
  simp only [View.readAt_eq_ld, hsc0_0.read_unread, hsc0_1.read_unread, hsc0_2.read_unread, hsc0_3.read_unread, hsc0_4.read_unread, (hs0_0 t).read_unread, (hs0_1 t).read_unread, (hs0_2 t).read_unread, (hs0_3 t).read_unread, View.ld_unit_zero (S := S256x768) hz2, View.ld_unit_zero (S := S256x128) hz2, View.ld_unit_zero (S := S1x768x2048) hz3, View.ld_unit_zero (S := S1x256x1) hz3, hsc0_5.read_unread, hsc0_6.read_unread, (hs0_4 t).read_unread, (hs0_5 t).read_unread, (hs0_6 t).read_unread, (hs0_7 t).read_unread, View.ld_unit_zero (S := S768x256) hz2]
  rw [rc0, rc1, rc2]
  simp only [ld_tile x12 t 0 ⟨0, rfl⟩, ld_tile x12 t 128 ⟨1, rfl⟩, ld_tile x12 t 256 ⟨2, rfl⟩, ld_tile x12 t 384 ⟨3, rfl⟩, ld_tile x12 t 512 ⟨4, rfl⟩, ld_tile x12 t 640 ⟨5, rfl⟩, ld_tile x12 t 768 ⟨6, rfl⟩, ld_tile x12 t 896 ⟨7, rfl⟩, ld_tile x12 t 1024 ⟨8, rfl⟩, ld_tile x12 t 1152 ⟨9, rfl⟩, ld_tile x12 t 1280 ⟨10, rfl⟩, ld_tile x12 t 1408 ⟨11, rfl⟩, ld_tile x12 t 1536 ⟨12, rfl⟩, ld_tile x12 t 1664 ⟨13, rfl⟩, ld_tile x12 t 1792 ⟨14, rfl⟩, ld_tile x12 t 1920 ⟨15, rfl⟩]
  exact read_codes t x10 x7 (r0K x14 x15 x16) (r1K x14 x15 x16) (r2K x14 x15 x16) x12 (off4_inb t) hp

theorem newC_17_eq (c t h x6 x7 x8 x10 x11 x12 x14 x15 x16 x17 x18) (hp : ∀ r : Fin 256, (x7 (ix3 0 r 0)).toNat < 16384) :
    newC_17 (F := Ideal) c t h x6 x7 x8 x10 x11 x12 x14 x15 x16 x17 x18 = k0_pay8 (F := Ideal) (ccV t x7 (r0K x14 x15 x16) (r1K x14 x15 x16) (r2K x14 x15 x16) x12) (k0_pay6 (F := Ideal)) x6 := by
  unfold newC_17 atC runC; dsimp only; sl_unfold_run_names
  rw [View.read_writes_full]
  have rc0 := readCov_row0 (r0K x14 x15 x16) (r1K x14 x15 x16) (r2K x14 x15 x16) (r3K x14 x15 x16) inb_row
  have rc1 := readCov_row1 (r0K x14 x15 x16) (r1K x14 x15 x16) (r2K x14 x15 x16) (r3K x14 x15 x16) inb_row
  have rc2 := readCov_row2 (r0K x14 x15 x16) (r1K x14 x15 x16) (r2K x14 x15 x16) (r3K x14 x15 x16) inb_row
  unfold r0K r1K r2K r3K eK sK at rc0 rc1 rc2
  simp only [View.readAt_eq_ld, hsc0_0.read_unread, hsc0_1.read_unread, hsc0_2.read_unread, hsc0_3.read_unread, hsc0_4.read_unread, (hs0_0 t).read_unread, (hs0_1 t).read_unread, (hs0_2 t).read_unread, (hs0_3 t).read_unread, View.ld_unit_zero (S := S256x768) hz2, View.ld_unit_zero (S := S256x128) hz2, View.ld_unit_zero (S := S1x768x2048) hz3, View.ld_unit_zero (S := S1x256x1) hz3, hsc0_5.read_unread, hsc0_6.read_unread, (hs0_4 t).read_unread, (hs0_5 t).read_unread, (hs0_6 t).read_unread, (hs0_7 t).read_unread, View.ld_unit_zero (S := S768x256) hz2]
  rw [rc0, rc1, rc2]
  simp only [ld_tile x12 t 0 ⟨0, rfl⟩, ld_tile x12 t 128 ⟨1, rfl⟩, ld_tile x12 t 256 ⟨2, rfl⟩, ld_tile x12 t 384 ⟨3, rfl⟩, ld_tile x12 t 512 ⟨4, rfl⟩, ld_tile x12 t 640 ⟨5, rfl⟩, ld_tile x12 t 768 ⟨6, rfl⟩, ld_tile x12 t 896 ⟨7, rfl⟩, ld_tile x12 t 1024 ⟨8, rfl⟩, ld_tile x12 t 1152 ⟨9, rfl⟩, ld_tile x12 t 1280 ⟨10, rfl⟩, ld_tile x12 t 1408 ⟨11, rfl⟩, ld_tile x12 t 1536 ⟨12, rfl⟩, ld_tile x12 t 1664 ⟨13, rfl⟩, ld_tile x12 t 1792 ⟨14, rfl⟩, ld_tile x12 t 1920 ⟨15, rfl⟩]
  rw [readCov_acc]
  exact congrArg (fun z => k0_pay8 z (k0_pay6 (F := Ideal)) x6) (readCov_codes t x7 (r0K x14 x15 x16) (r1K x14 x15 x16) (r2K x14 x15 x16) x12 (off4_inb t) _ hp)

end Cert.LossDqIdeal.Hand
-- ==== Proof.LossRowC.lean ====
/- The numbers of a row that the second pass starts from. -/
module

public import proofs.«01_k».proof.Proof.LossC

@[expose] public section

noncomputable section

namespace Cert.LossDqIdeal.Hand

open Cert.LossDqIdeal Cert.LossDqIdeal.Gen Idealize.ShloMosaic Idealize.ShloMosaic.TcCoe Idealize.SL.Sem Cert.LossMath

variable (a b c : Vec Ideal S256x128 .f32) (r : Fin 256) (s : ℕ → ℝ) (p : ℕ) (hp : p < 16384)
  (ha : ∀ l : Fin 128, a (ix2 r l) = laneM s p l.1 128) (hb : ∀ l : Fin 128, b (ix2 r l) = laneP s p l.1 128)
  (hc : ∀ l : Fin 128, c (ix2 r l) = laneZ s p l.1 128)

include hp ha hb hc

theorem eK_apply : eK a c b (ix2 r 0) = eW s p := by
  have hA := pay63_apply a b c r s p hp ha hb hc
  have hx : EReal.mul (k0_pay63 (F := Ideal) a b c a (ix2 r 0)) (FloatOps.ofBits (F := Ideal) FTy.f32 932333861#32) = ((amax s p * cst : ℝ) : EReal) := by
    rw [hA]
    refine (congrArg (EReal.mul ((amax s p : ℝ) : EReal)) cst_eq).trans (EReal.coe_mul _ _).symm
  have h64 : k0_pay64 (F := Ideal) (k0_pay63 a b c a) (FloatOps.ofBits FTy.f32 932333861#32) (ix2 r 0) = ((amax s p * cst : ℝ) : EReal) := hx
  have h65 : k0_pay65 (F := Ideal) (k0_pay63 a b c a) (FloatOps.ofBits FTy.f32 932333861#32) (ix2 r 0)
      = BitVec.ofBool (decide (((amax s p * cst : ℝ) : EReal) = 0)) := by
    rw [← hx]
    refine Eq.trans ?_ (congrArg (fun z : EReal => BitVec.ofBool (decide (_ = z))) (Ideal.ofBits_zero .f32))
    pointwise [k0_pay65, k0_pay64]
    rfl
  unfold eK
  rw [pay69_apply _ _ _ _ r (pay67_apply _ _ r), h64, h65, pay66_apply, hx]
  unfold eW bisAll
  by_cases h : ((amax s p * cst : ℝ) : EReal) = 0
  · rw [if_pos h, decide_eq_true h]; rfl
  · rw [if_neg h, decide_eq_false h]; rfl

theorem sK_apply : sK a c b (ix2 r 0) = ((scale s p : ℝ) : EReal) := by
  rw [← word_scale, ← eK_apply a b c r s p hp ha hb hc]
  unfold sK eK
  pointwise [k0_pay70]

theorem r0K_apply : r0K a c b (ix2 r 0) = rowB s := by
  have h1 := pay59_apply a b r s p hp ha hb
  have h2 := pay60_apply a b c r s p hp ha hb hc
  unfold r0K
  pointwise [k0_pay74]
  rw [h1, h2, l2e_eq, ← EReal.coe_add, ← EReal.coe_mul]
  rfl

theorem r1K_apply : r1K a c b (ix2 r 0) = ((inv s p : ℝ) : EReal) := by
  rw [← word_inv, ← eK_apply a b c r s p hp ha hb hc]
  unfold r1K
  pointwise [k0_pay75]

theorem r2K_apply : r2K a c b (ix2 r 0) = ((w s p p : ℝ) : EReal) := by
  have h1 := pay62_apply a b c r s p hp ha hb hc
  rw [← code_pos, ← word_inv, ← eK_apply a b c r s p hp ha hb hc, ← h1]
  unfold r2K
  pointwise [k0_pay4, k0_pay76]

theorem r3K_apply : r3K a c b (ix2 r 0) = ((scale s p : ℝ) : EReal) := by
  rw [← sK_apply a b c r s p hp ha hb hc]
  unfold r3K
  pointwise [k0_pay5]

theorem loss_apply : k0_pay72 (F := Ideal) (k0_pay71 (k0_pay61 a b c a)) (ix3 0 0 r) = ((-(lp s p) : ℝ) : EReal) := by
  have h1 := pay61_apply a b c r s p hp ha hb hc
  pointwise [k0_pay72, k0_pay71]
  rw [h1, EReal.coe_neg, zero_sub]

theorem scale_apply : k0_pay73 (F := Ideal) (sK a c b) (ix3 0 0 r) = ((scale s p : ℝ) : EReal) := by
  rw [← sK_apply a b c r s p hp ha hb hc]
  pointwise [k0_pay73]

omit hp ha hb hc

theorem pay6_apply (d : Fin 768) : k0_pay6 (F := Ideal) (ix2 d r) = 0 := by
  pointwise [k0_pay6]

theorem pay8_apply (C : Vec Ideal S1x256x2048 .fp8e5m2) (A : Vec Ideal S768x256 .f32) (P : Vec Ideal S1x768x2048 .bf16) (d : Fin 768) :
    k0_pay8 (F := Ideal) C A P (ix2 d r) = A (ix2 d r) + ∑ k : Fin 2048, P (ix3 0 d k) * C (ix3 0 r k) := by
  pointwise [k0_pay8]

theorem pay9_apply (A : Vec Ideal S768x256 .f32) (v : Vec Ideal S256x1 .f32) (d : Fin 768) :
    k0_pay9 (F := Ideal) A v (ix3 0 r d) = A (ix2 d r) * (v (ix2 r 0) * ((20 : ℝ) : EReal)) := by
  pointwise [k0_pay9]
  rw [twenty_eq]

theorem pay16_apply (Q : Vec Ideal S256x768 .bf16) (P : Vec Ideal S1x768x2048 .bf16) (k : Fin 2048) :
    k0_pay16 (F := Ideal) Q P (ix2 r k) = ∑ d : Fin 768, Q (ix2 r d) * P (ix3 0 d k) := by
  pointwise [k0_pay16]

end Cert.LossDqIdeal.Hand
-- ==== Proof.LossBlk.lean ====
/- The loss kernel's blocks at an index, and the numbers its invariant is stated in. -/
module

public import proofs.«01_k».proof.Proof.LossRowC

@[expose] public section

noncomputable section

open scoped BigOperators

namespace Cert.LossDqIdeal.Hand

open Cert.LossDqIdeal Cert.LossDqIdeal.Gen Idealize.ShloMosaic Idealize.ShloMosaic.TcCoe Idealize.SL.Sem Cert.LossMath

variable (m : (ℓ : Loc nD τ sig) → Buf (Elt Ideal) ℓ)

/-- The four input arrays as the kernel finds them. -/
def X0 (c : Dev nD) : Vec Ideal S2x4096x768 .fp8e4m3 := V m c (Pipeline.arrRef spec0 0)
def X1 (c : Dev nD) : Vec Ideal S2x4096x6 .f32 := V m c (Pipeline.arrRef spec0 1)
def X2 (c : Dev nD) : Vec Ideal S2x768x16384 .bf16 := V m c (Pipeline.arrRef spec0 2)
def X3 (c : Dev nD) : Vec Ideal S2x4096x1 .i32 := V m c (Pipeline.arrRef spec0 3)

/-- The batch element and the query of row `r` of block `ρ`. -/
def bi (ρ : ℕ) : Fin 2 := ⟨ρ / 16 % 2, by omega⟩
def qi (ρ : ℕ) (r : Fin 256) : Fin 4096 := ⟨256 * (ρ % 16) + r.val, by have := r.2; omega⟩

/-- The block indices of the windows at a point, and its chunk. -/
theorem idx0 : ∀ t : Fin cfg0.N, win0_0.index t = ![t.val / 256, t.val / 16 % 16, 0] :=
  (by decide +kernel : ∀ t : Fin grid0.N, _)
theorem idx1 : ∀ t : Fin cfg0.N, win0_1.index t = ![t.val / 256, t.val / 16 % 16, 0] :=
  (by decide +kernel : ∀ t : Fin grid0.N, _)
theorem idx2 : ∀ t : Fin cfg0.N, win0_2.index t = ![t.val / 256, 0, t.val % 8] :=
  (by decide +kernel : ∀ t : Fin grid0.N, _)
theorem idx3 : ∀ t : Fin cfg0.N, win0_3.index t = ![t.val / 256, t.val / 16 % 16, 0] :=
  (by decide +kernel : ∀ t : Fin grid0.N, _)
theorem ck_eq : ∀ t : Fin cfg0.N, ck t = t.val % 8 :=
  (by decide +kernel : ∀ t : Fin grid0.N, (grid0.coords t 3).val = t.val % 8)

theorem lt512 (t : Fin cfg0.N) : t.val < 512 := t.isLt.trans_eq N_0

theorem blk0 (c : Dev nD) (t : Fin cfg0.N) (r : Fin 256) (d : Fin 768) :
    iblk m c 0 t (ix3 0 r d) = X0 m c (ix3 (bi (t.val / 16)) (qi (t.val / 16) r) d) := by
  unfold iblk X0
  rw [View.read_apply]
  show V m c _ _ = V m c _ _
  congr 1
  funext a; apply Fin.ext
  have h := idx0 t
  have ht := lt512 t
  match a with
  | ⟨0, _⟩ => show win0_0.index t 0 * 1 + 1 * 0 = t.val / 16 / 16 % 2; rw [h]; show t.val / 256 * 1 + 1 * 0 = _; omega
  | ⟨1, _⟩ => show win0_0.index t 1 * 256 + 1 * r.val = 256 * (t.val / 16 % 16) + r.val; rw [h]; show t.val / 16 % 16 * 256 + 1 * r.val = _; omega
  | ⟨2, _⟩ => show win0_0.index t 2 * 768 + 1 * d.val = d.val; rw [h]; show 0 * 768 + 1 * d.val = _; omega

theorem blk1 (c : Dev nD) (t : Fin cfg0.N) (r : Fin 256) (d : Fin 6) :
    iblk m c 1 t (ix3 0 r d) = X1 m c (ix3 (bi (t.val / 16)) (qi (t.val / 16) r) d) := by
  unfold iblk X1
  rw [View.read_apply]
  show V m c _ _ = V m c _ _
  congr 1
  funext a; apply Fin.ext
  have h := idx1 t
  have ht := lt512 t
  match a with
  | ⟨0, _⟩ => show win0_1.index t 0 * 1 + 1 * 0 = t.val / 16 / 16 % 2; rw [h]; show t.val / 256 * 1 + 1 * 0 = _; omega
  | ⟨1, _⟩ => show win0_1.index t 1 * 256 + 1 * r.val = 256 * (t.val / 16 % 16) + r.val; rw [h]; show t.val / 16 % 16 * 256 + 1 * r.val = _; omega
  | ⟨2, _⟩ => show win0_1.index t 2 * 6 + 1 * d.val = d.val; rw [h]; show 0 * 6 + 1 * d.val = _; omega

theorem blk2 (c : Dev nD) (t : Fin cfg0.N) (d : Fin 768) (k : Fin 2048) :
    iblk m c 2 t (ix3 0 d k) = X2 m c (ix3 (bi (t.val / 16)) d ⟨(2048 * ck t + k.val) % 16384, Nat.mod_lt _ (by omega)⟩) := by
  unfold iblk X2
  rw [View.read_apply]
  show V m c _ _ = V m c _ _
  congr 1
  funext a; apply Fin.ext
  have h := idx2 t
  have ht := lt512 t
  have hk := k.2
  match a with
  | ⟨0, _⟩ => show win0_2.index t 0 * 1 + 1 * 0 = t.val / 16 / 16 % 2; rw [h]; show t.val / 256 * 1 + 1 * 0 = _; omega
  | ⟨1, _⟩ => show win0_2.index t 1 * 768 + 1 * d.val = d.val; rw [h]; show 0 * 768 + 1 * d.val = _; omega
  | ⟨2, _⟩ => show win0_2.index t 2 * 2048 + 1 * k.val = (2048 * ck t + k.val) % 16384; rw [h, ck_eq]; show t.val % 8 * 2048 + 1 * k.val = _; omega

theorem blk3 (c : Dev nD) (t : Fin cfg0.N) (r : Fin 256) :
    iblk m c 3 t (ix3 0 r 0) = X3 m c (ix3 (bi (t.val / 16)) (qi (t.val / 16) r) 0) := by
  unfold iblk X3
  rw [View.read_apply]
  show V m c _ _ = V m c _ _
  congr 1
  funext a; apply Fin.ext
  have h := idx3 t
  have ht := lt512 t
  match a with
  | ⟨0, _⟩ => show win0_3.index t 0 * 1 + 1 * 0 = t.val / 16 / 16 % 2; rw [h]; show t.val / 256 * 1 + 1 * 0 = _; omega
  | ⟨1, _⟩ => show win0_3.index t 1 * 256 + 1 * r.val = 256 * (t.val / 16 % 16) + r.val; rw [h]; show t.val / 16 % 16 * 256 + 1 * r.val = _; omega
  | ⟨2, _⟩ => show win0_3.index t 2 * 1 + 1 * 0 = 0; rw [h]; show 0 * 1 + 1 * 0 = _; omega

end Cert.LossDqIdeal.Hand

namespace Cert.LossSpec

open Idealize.ShloMosaic Cert.LossMath

variable (A0 : Fin 2 → Fin 4096 → Fin 768 → EReal) (A1 : Fin 2 → Fin 4096 → Fin 6 → EReal) (A2 : Fin 2 → Fin 768 → Fin 16384 → EReal)
  (A3 : Fin 2 → Fin 4096 → BitVec 32) (b : Fin 2) (q : Fin 4096)

/-- A query, scaled back. -/
def qh (d : Fin 768) : EReal := A0 b q d * A1 b q ⟨d.val / 128, by have := d.2; omega⟩

/-- A score. -/
def sc (k : Fin 16384) : EReal := ∑ d : Fin 768, qh A0 A1 b q d * A2 b d k

/-- A row's scores as reals. -/
def sr (k : ℕ) : ℝ := (sc A0 A1 A2 b q ⟨k % 16384, Nat.mod_lt _ (by omega)⟩).toReal

/-- The positive's column. -/
def ps : ℕ := (A3 b q).toNat

/-- Every score is a real number and every positive a column. -/
structure Ok : Prop where
  real : ∀ b q k, sc A0 A1 A2 b q k = ((sr A0 A1 A2 b q k.val : ℝ) : EReal)
  col : ∀ b q, ps A3 b q < 16384

/-- The loss of a row. -/
def loss : EReal := ((-(lp (sr A0 A1 A2 b q) (ps A3 b q)) : ℝ) : EReal)

/-- The code of a logit's gradient. -/
def dl (k : ℕ) : EReal := code (sr A0 A1 A2 b q) (ps A3 b q) k

/-- The scale of a row's codes. -/
def scl : EReal := ((scale (sr A0 A1 A2 b q) (ps A3 b q) : ℝ) : EReal)

/-- A passage's number times the code it meets. -/
def tm (d : Fin 768) (k : ℕ) : EReal := A2 b d ⟨k % 16384, Nat.mod_lt _ (by omega)⟩ * dl A0 A1 A2 A3 b q k

/-- The gradient of a query. -/
def dq (d : Fin 768) : EReal := (∑ k ∈ Finset.range 16384, tm A0 A1 A2 A3 b q d k) * (scl A0 A1 A2 A3 b q * ((20 : ℝ) : EReal))

end Cert.LossSpec
-- ==== Proof.LossPre.lean ====
/- What the precondition `in_range` says of the arguments, and that it makes every score real. -/
module

public import proofs.«01_k».proof.Pre_in_range
public import proofs.«01_k».proof.Proof.LossBlk
public import Idealize.ShloMosaic.Lib.ReduceAll

@[expose] public section

noncomputable section

open scoped BigOperators

namespace Cert.Pre_in_range

open Idealize.ShloMosaic

/-- The side conditions of the precondition's operations. -/
theorem facts : Facts where
  bcast_S_S2x4096x768 := by decide
  reducesTo_S2x4096x768_S_d0_1_2 := by decide
  h_S_ := by decide
  bcast_S_S2x4096x6 := by decide
  reducesTo_S2x4096x6_S_d0_1_2 := by decide
  bcast_S_S2x768x16384 := by decide
  reducesTo_S2x768x16384_S_d0_1_2 := by decide
  bcast_S_S2x4096x1 := by decide
  reducesTo_S2x4096x1_S_d0_1_2 := by decide

attribute [local instance] facts

/-- A decided proposition that reads one holds. -/
theorem of_one (p : Prop) [Decidable p] (h : BitVec.ofBool (decide p) = 1#1) : p := by
  by_contra hp
  rw [decide_eq_false hp] at h
  exact absurd h (by decide)

/-- The precondition, element by element. -/
theorem of_fn (w : IVec S2x4096x768 8) (x1 : FVec Ideal S2x4096x6 .f32) (x2 : FVec Ideal S2x768x16384 .bf16) (x3 : IVec S2x4096x1 32)
    (h : fn (F := Ideal) w x1 x2 x3 = fun _ => 1#1) :
    (∀ i, w i ≠ 127#8 ∧ w i ≠ 255#8) ∧ (∀ i, max (x1 i) (-(x1 i)) < Ideal.ofBits .f32 0x7F800000#32)
      ∧ (∀ i, max (x2 i) (-(x2 i)) < Ideal.ofBits .bf16 0x7F80#16) ∧ ∀ i, 0 ≤ (x3 i).toInt ∧ (x3 i).toInt < 16384 := by
  have h0 := congrFun h (fun a => a.elim0)
  unfold fn fn_part1 at h0
  dsimp only at h0
  obtain ⟨h0, h4⟩ := IntOp.andi_eq_one.1 h0
  obtain ⟨h0, h3⟩ := IntOp.andi_eq_one.1 h0
  obtain ⟨h1, h2⟩ := IntOp.andi_eq_one.1 h0
  haveI : Subsingleton S_.Idx := ⟨fun a b => funext fun x => x.elim0⟩
  refine ⟨fun i => ?_, fun i => ?_, fun i => ?_, fun i => ?_⟩
  · obtain ⟨a, b⟩ := IntOp.andi_eq_one.1 (Host.reduce_andi_all _ _ _ _ _ h1 i)
    exact ⟨IntOp.cmpi_ne.1 a, IntOp.cmpi_ne.1 b⟩
  · exact of_one _ (Host.reduce_andi_all _ _ _ _ _ h2 i)
  · exact of_one _ (Host.reduce_andi_all _ _ _ _ _ h3 i)
  · obtain ⟨a, b⟩ := IntOp.andi_eq_one.1 (Host.reduce_andi_all _ _ _ _ _ h4 i)
    exact ⟨IntOp.cmpi_sge.1 a, IntOp.cmpi_slt.1 b⟩

theorem real_of_abs (x : EReal) (h : max x (-x) < ⊤) : ∃ r : ℝ, x = (r : EReal) := by
  induction x with
  | bot => simp at h
  | top => simp at h
  | coe r => exact ⟨r, rfl⟩

theorem inf32 : Ideal.ofBits .f32 0x7F800000#32 = (⊤ : EReal) := by
  unfold Ideal.ofBits Ideal.ieee
  simp

theorem inf16 : Ideal.ofBits .bf16 0x7F80#16 = (⊤ : EReal) := by
  unfold Ideal.ofBits Ideal.ieee
  simp

/-- An fp8 word other than the two not-a-numbers is a real number. -/
theorem real_of_word (w : BitVec 8) (h : w ≠ 127#8 ∧ w ≠ 255#8) : ∃ r : ℝ, Ideal.ofBits .fp8e4m3 w = (r : EReal) := by
  show ∃ r : ℝ, Ideal.e4m3fn w = (r : EReal)
  unfold Ideal.e4m3fn
  have hn : ¬((w.extractLsb' 3 4).toNat = 15 ∧ (w.extractLsb' 0 3).toNat = 7) := by
    revert w
    decide
  dsimp only
  rw [if_neg hn]
  split
  · exact ⟨_, rfl⟩
  · exact ⟨_, rfl⟩

open Cert.LossSpec in
/-- The precondition makes every score real and puts every positive inside its row. -/
theorem ok (w : IVec S2x4096x768 8) (x1 : FVec Ideal S2x4096x6 .f32) (x2 : FVec Ideal S2x768x16384 .bf16) (x3 : IVec S2x4096x1 32)
    (h : fn (F := Ideal) w x1 x2 x3 = fun _ => 1#1) :
    Ok (fun b q d => Ideal.ofBits .fp8e4m3 (w (ix3 b q d))) (fun b q d => x1 (ix3 b q d)) (fun b d k => x2 (ix3 b d k)) (fun b q => x3 (ix3 b q 0)) := by
  obtain ⟨h0, h1, h2, h3⟩ := of_fn w x1 x2 x3 h
  refine ⟨fun b q k => ?_, fun b q => ?_⟩
  · have hr : ∀ d : Fin 768, ∃ r : ℝ, qh (fun b q d => Ideal.ofBits .fp8e4m3 (w (ix3 b q d))) (fun b q d => x1 (ix3 b q d)) b q d * x2 (ix3 b d k) = (r : EReal) := by
      intro d
      obtain ⟨r0, e0⟩ := real_of_word _ (h0 (ix3 b q d))
      obtain ⟨r1, e1⟩ := real_of_abs (x1 (ix3 b q ⟨d.val / 128, by have := d.2; omega⟩)) (inf32 ▸ h1 _)
      obtain ⟨r2, e2⟩ := real_of_abs (x2 (ix3 b d k)) (inf16 ▸ h2 _)
      refine ⟨r0 * r1 * r2, ?_⟩
      unfold qh
      dsimp only
      rw [e0, e1, e2, EReal.coe_mul, EReal.coe_mul]
    choose r hr using hr
    have hs : sc (fun b q d => Ideal.ofBits .fp8e4m3 (w (ix3 b q d))) (fun b q d => x1 (ix3 b q d)) (fun b d k => x2 (ix3 b d k)) b q k = ((∑ d, r d : ℝ) : EReal) := by
      unfold sc
      rw [Finset.sum_congr rfl fun d _ => hr d]
      exact (map_sum (⟨⟨fun r : ℝ => (r : EReal), rfl⟩, fun a b => EReal.coe_add a b⟩ : ℝ →+ EReal) r Finset.univ).symm
    unfold sr
    rw [show (⟨k.val % 16384, Nat.mod_lt _ (by omega)⟩ : Fin 16384) = k from Fin.ext (Nat.mod_eq_of_lt k.2), hs, EReal.toReal_coe]
  · obtain ⟨ha, hb⟩ := h3 (ix3 b q 0)
    show (x3 (ix3 b q 0)).toNat < 16384
    have hw := (x3 (ix3 b q 0)).isLt
    rw [BitVec.toInt_eq_toNat_cond] at ha hb
    split at ha <;> omega

end Cert.Pre_in_range
-- ==== Proof.LossRefA.lean ====
/- The reference's payloads in pieces. -/
module

public import proofs.«01_k».proof.Proof.LossBlk
public import proofs.«01_k».proof.Proof.Gen.LossDqReferenceIdeal.Value

@[expose] public section

noncomputable section

open scoped BigOperators

namespace Cert.LossDqReferenceIdeal.Hand

open Cert.LossDqReferenceIdeal Cert.LossDqReferenceIdeal.Gen Idealize.ShloMosaic Idealize.ShloMosaic.TcCoe Idealize.SL.Sem Cert.LossMath Cert.LossSpec

/-! ### The payloads in pieces that are small enough to read at an index -/

/-- A row's maximum. -/
def rmax (L : FVec Ideal S4096x16384 .f32) : FVec Ideal S4096x1 .f32 :=
  shapeCast S4096x1 (multiReduction .maximumf [1] S4096 L 0xFF800000#32 reduces_S4096x16384_S4096 (.inl rfl) rfl) shapeCasts_S4096_S4096x1

theorem rmax_apply (L : FVec Ideal S4096x16384 .f32) (q : Fin 4096) : rmax L (ix2 q 0) = Finset.fold max ⊥ (fun k => L (ix2 q k)) Finset.univ := by
  pointwise [rmax]
  rw [ninf_eq]

/-- The exponents, from the rows' greatest magnitudes. -/
def exV (v43 : FVec Ideal S4096x1 .f32) : FVec Ideal S4096x1 .f32 :=
  select (cmpf .oeq v43 (broadcast S4096x1 (Scalar.ofBits .f32 0x00000000#32))) (broadcast S4096x1 (Scalar.ofBits .f32 0x00000000#32))
    (maximumf (addf (floor (mulf (log (mulf v43 (broadcast S4096x1 (Scalar.ofBits .f32 0x37924925#32))))
      (broadcast S4096x1 (Named.named κ "log2e" 0x3FB8AA3B#32)))) (broadcast S4096x1 (Scalar.ofBits .f32 0x3F800000#32)))
      (broadcast S4096x1 (Scalar.ofBits .f32 0xC2FC0000#32)))

theorem exV_apply (R : FVec Ideal S4096x1 .f32) (q : Fin 4096) : exV R (ix2 q 0) = (if R (ix2 q 0) = 0 then 0 else
    max (Ideal.liftRound Int.floor (Ideal.log (R (ix2 q 0) * Ideal.ofBits FTy.f32 932333861#32) * (Named.named κ "log2e" 1069066811#32 : Ideal .f32)) + 1)
      (Ideal.ofBits FTy.f32 3271294976#32) : EReal) := by
  pointwise [exV]

theorem l2e_eq : (Named.named κ "log2e" 1069066811#32 : Ideal .f32) = (((Real.log 2)⁻¹ : ℝ) : EReal) :=
  IdealRules.named_const.ideal_named_scalar _ _ _ _ rfl

/-- The logits' gradients, from the log-probabilities and the positives. -/
def dV (L : FVec Ideal S4096x16384 .f32) (I : IVec S4096x16384 1) : FVec Ideal S4096x16384 .f32 :=
  subf (exp L) (sitofp .f32 (extui 32 I natLt_1_32))

theorem absf_apply (D : FVec Ideal S4096x16384 .f32) (q : Fin 4096) (k : Fin 16384) : absf D (ix2 q k) = max (D (ix2 q k)) (-(D (ix2 q k))) := rfl

/-- The scales. -/
def scV (E : FVec Ideal S4096x1 .f32) : FVec Ideal S4096x1 .f32 := exp2 E

theorem scV_apply (E : FVec Ideal S4096x1 .f32) (q : Fin 4096) : scV E (ix2 q 0) = Ideal.exp2 (E (ix2 q 0)) := rfl

/-- The codes. -/
def codesV (D : FVec Ideal S4096x16384 .f32) (E : FVec Ideal S4096x1 .f32) : FVec Ideal S4096x16384 .fp8e5m2 :=
  truncf .fp8e5m2 (minimumf (broadcast S4096x16384 (Scalar.ofBits .f32 0x47600000#32)) (maximumf (broadcast S4096x16384 (Scalar.ofBits .f32 0xC7600000#32))
    (mulf D (broadcastTo S4096x16384 (exp2 (subf (broadcast S4096x1 (Scalar.ofBits .f32 0x00000000#32)) E)) broadcasts_S4096x1_S4096x16384)))) bitsLt_fp8e5m2_f32

theorem codesV_apply (D : FVec Ideal S4096x16384 .f32) (E : FVec Ideal S4096x1 .f32) (q : Fin 4096) (k : Fin 16384) :
    codesV D E (ix2 q k) = min (Ideal.ofBits FTy.f32 1197473792#32)
      (max (Ideal.ofBits FTy.f32 3344957440#32) (D (ix2 q k) * Ideal.exp2 (0 - E (ix2 q 0)))) := by
  pointwise [codesV]
  rfl

/-- The codes' product with the passages. -/
def dqV (T : FVec Ideal S16384x768 .bf16) (C : FVec Ideal S4096x16384 .fp8e5m2) : FVec Ideal S4096x768 .f32 :=
  matmul dot_S4096x16384_S16384x768_S4096x768_1_0_0_1_n_n none (extf .bf16 C bitsLt_fp8e5m2_bf16) T (constant S4096x768 .f32 0x00000000#32)

/-- The losses. -/
def lossV (L : FVec Ideal S4096x16384 .f32) (I : IVec S4096x16384 1) : FVec Ideal S4096x1 .f32 :=
  subf (broadcast S4096x1 (Scalar.ofBits .f32 0x00000000#32)) (shapeCast S4096x1 (multiReduction .add [1] S4096
    (select I L (broadcast S4096x16384 (Scalar.ofBits .f32 0x00000000#32))) 0x00000000#32 reduces_S4096x16384_S4096 (.inl rfl) rfl) shapeCasts_S4096_S4096x1)

theorem pay7_eq (a b c p) : k0_pay7 (F := Ideal) a b c p = lossV (k0_pay5 a b c) (k0_pay6 (F := Ideal) p) := rfl
theorem pay8_eq (a b c p) : k0_pay8 (F := Ideal) a b c p = dV (k0_pay5 a b c) (k0_pay6 (F := Ideal) p) := rfl
theorem pay9_eq (D) : k0_pay9 (F := Ideal) D = exV (rmax (absf D)) := rfl
theorem pay10_eq (D) : k0_pay10 (F := Ideal) D = scV (k0_pay9 D) := rfl
theorem pay11_eq (D) : k0_pay11 (F := Ideal) D = codesV D (k0_pay9 D) := rfl
theorem pay13_eq (T D) : k0_pay13 (F := Ideal) T D = k0_pay1 (k0_pay10 D) (dqV T (k0_pay11 D)) := rfl
theorem pay14_eq (C) : k0_pay14 (F := Ideal) C = k0_pay2 (F := Ideal) C := rfl
theorem pay15_eq (E) : k0_pay15 (F := Ideal) E = k0_pay12 (F := Ideal) E := rfl
theorem pay3_eq (E) : k0_pay3 (F := Ideal) E = k0_pay12 (F := Ideal) E := rfl
theorem pay16_eq (x) : k0_pay16 (F := Ideal) x = k0_pay4 (F := Ideal) x := rfl
theorem pay17_eq (a b c) : k0_pay17 (F := Ideal) a b c = k0_pay5 a b c := rfl
theorem pay18_eq (p) : k0_pay18 (F := Ideal) p = k0_pay6 (F := Ideal) p := rfl
theorem pay19_eq (L I) : k0_pay19 (F := Ideal) L I = dV L I := rfl
theorem pay20_eq (L I) : k0_pay20 (F := Ideal) L I = k0_pay9 (k0_pay19 (F := Ideal) L I) := rfl
theorem pay21_eq (L I) : k0_pay21 (F := Ideal) L I = scV (k0_pay20 (F := Ideal) L I) := rfl
theorem pay22_eq (L I) : k0_pay22 (F := Ideal) L I = codesV (k0_pay19 (F := Ideal) L I) (k0_pay20 (F := Ideal) L I) := rfl
theorem pay23_eq (T L I) : k0_pay23 (F := Ideal) T L I = dqV T (k0_pay22 (F := Ideal) L I) := rfl
theorem pay24_eq (L I) : k0_pay24 (F := Ideal) L I = k0_pay12 (lossV L I) := rfl

theorem pay2_apply (C : FVec Ideal S4096x16384 .fp8e5m2) (q : Fin 4096) (k : Fin 16384) : k0_pay2 (F := Ideal) C (ix3 0 q k) = C (ix2 q k) := by
  pointwise [k0_pay2]

theorem pay12_apply (E : FVec Ideal S4096x1 .f32) (j : Fin 16) (r : Fin 256) (h : j.val * 256 + r.val < 4096) :
    k0_pay12 (F := Ideal) E (ix3 j 0 r) = E (ix2 ⟨j.val * 256 + r.val, h⟩ 0) := by
  pointwise [k0_pay12]

theorem pay4_apply (x : Vec Ideal S1x768x16384 .bf16) (k : Fin 16384) (d : Fin 768) : k0_pay4 (F := Ideal) x (ix2 k d) = x (ix3 0 d k) := by
  pointwise [k0_pay4]

theorem dqV_apply (T : FVec Ideal S16384x768 .bf16) (C : FVec Ideal S4096x16384 .fp8e5m2) (q : Fin 4096) (d : Fin 768) :
    dqV T C (ix2 q d) = ∑ k : Fin 16384, C (ix2 q k) * T (ix2 k d) := by
  pointwise [dqV]

theorem pay1_apply (E : FVec Ideal S4096x1 .f32) (C : FVec Ideal S4096x768 .f32) (q : Fin 4096) (d : Fin 768) :
    k0_pay1 (F := Ideal) E C (ix3 0 q d) = C (ix2 q d) * (E (ix2 q 0) * ((20 : ℝ) : EReal)) := by
  pointwise [k0_pay1]
  rw [twenty_eq]

end Cert.LossDqReferenceIdeal.Hand
-- ==== Proof.LossRefB.lean ====
/- A row of the reference. -/
module

public import proofs.«01_k».proof.Proof.LossRefA

@[expose] public section

noncomputable section

open scoped BigOperators

namespace Cert.LossDqReferenceIdeal.Hand

open Cert.LossDqReferenceIdeal Cert.LossDqReferenceIdeal.Gen Idealize.ShloMosaic Idealize.ShloMosaic.TcCoe Idealize.SL.Sem Cert.LossMath Cert.LossSpec

/-! ### A row -/

/-- The positive is met at its column alone. -/
theorem hit (k : ℕ) (hk : k < 16384) (w : BitVec 32) :
    IntOp.cmpi CmpIPredicate.eq (BitVec.ofNat 32 k) w = if k = w.toNat then 1#1 else 0#1 := by
  have key : BitVec.ofNat 32 k = w ↔ k = w.toNat := by
    rw [← BitVec.toNat_inj, BitVec.toNat_ofNat, Nat.mod_eq_of_lt (by omega)]
  unfold IntOp.cmpi
  by_cases h : k = w.toNat
  · rw [if_pos h, key.2 h]; simp
  · rw [if_neg h]; simp only [beq_eq_false_iff_ne.2 (mt key.1 h)]; rfl

section
variable (L : FVec Ideal S4096x16384 .f32) (I : IVec S4096x16384 1) (q : Fin 4096) (s : ℕ → ℝ) (p : ℕ) (hp : p < 16384)
  (hL : ∀ k : Fin 16384, L (ix2 q k) = ((lp s k.val : ℝ) : EReal)) (hI : ∀ k : Fin 16384, I (ix2 q k) = if k.val = p then 1#1 else 0#1)

include hL hI

theorem dV_apply (k : Fin 16384) : dV L I (ix2 q k) = ((d s p k.val : ℝ) : EReal) := by
  have h : dV L I (ix2 q k) = Ideal.exp (L (ix2 q k)) - FloatOps.sitofp (F := Ideal) FTy.f32 (BitVec.setWidth 32 (I (ix2 q k))) := by
    pointwise [dV]
  rw [h, hL, hI, Ideal.exp_coe]
  unfold d
  rw [EReal.coe_sub]
  refine congrArg _ ?_
  by_cases hk : k.val = p
  · rw [if_pos hk, if_pos hk]
    show (((BitVec.setWidth 32 1#1).toInt : ℝ) : EReal) = _
    norm_num [show (BitVec.setWidth 32 1#1).toInt = 1 by decide]
  · rw [if_neg hk, if_neg hk]
    show (((BitVec.setWidth 32 0#1).toInt : ℝ) : EReal) = _
    norm_num [show (BitVec.setWidth 32 0#1).toInt = 0 by decide]

theorem ex_apply : k0_pay9 (F := Ideal) (dV L I) (ix2 q 0) = (((ex s p : ℤ) : ℝ) : EReal) := by
  have h1 : rmax (absf (dV L I)) (ix2 q 0) = ((amax s p : ℝ) : EReal) := by
    rw [rmax_apply, ← ref_amax]
    refine congrArg (fun f => Finset.fold max ⊥ f Finset.univ) (funext fun k => ?_)
    rw [← dV_apply L I q s p hL hI k]
    exact absf_apply _ _ _
  rw [pay9_eq, exV_apply, h1, cst_eq, m126_eq, l2e_eq]
  exact ref_ex s p

theorem sc_apply : k0_pay10 (F := Ideal) (dV L I) (ix2 q 0) = ((scale s p : ℝ) : EReal) := by
  rw [← ref_scale, ← ex_apply L I q s p hL hI, pay10_eq]
  exact scV_apply _ _

theorem code_apply (k : Fin 16384) : k0_pay11 (F := Ideal) (dV L I) (ix2 q k) = code s p k.val := by
  rw [pay11_eq]
  rw [codesV_apply, ex_apply L I q s p hL hI, ref_inv, dV_apply L I q s p hL hI, ← EReal.coe_mul]
  rfl

include hp in
theorem loss_apply : lossV L I (ix2 q 0) = ((-(lp s p) : ℝ) : EReal) := by
  have h : lossV L I (ix2 q 0) = 0 - ∑ k : Fin 16384, Scalar.select (I (ix2 q k)) (L (ix2 q k)) 0 := by
    pointwise [lossV]
  rw [h, EReal.coe_neg, zero_sub]
  refine congrArg _ ?_
  refine (Finset.sum_eq_single (⟨p, hp⟩ : Fin 16384) (fun k _ hk => ?_) (fun h => absurd (Finset.mem_univ _) h)).trans ?_
  · rw [hI, if_neg (fun h => hk (Fin.ext h))]; rfl
  · rw [hI, if_pos rfl, hL]; rfl

end

end Cert.LossDqReferenceIdeal.Hand
-- ==== Proof.LossRefC.lean ====
/- A batch element of the reference. -/
module

public import proofs.«01_k».proof.Proof.LossRefB

@[expose] public section

noncomputable section

open scoped BigOperators

namespace Cert.LossDqReferenceIdeal.Hand

open Cert.LossDqReferenceIdeal Cert.LossDqReferenceIdeal.Gen Idealize.ShloMosaic Idealize.ShloMosaic.TcCoe Idealize.SL.Sem Cert.LossMath Cert.LossSpec

/-! ### A batch element -/

section
variable (A0 : Fin 2 → Fin 4096 → Fin 768 → EReal) (A1 : Fin 2 → Fin 4096 → Fin 6 → EReal) (A2 : Fin 2 → Fin 768 → Fin 16384 → EReal)
  (A3 : Fin 2 → Fin 4096 → BitVec 32) (hok : Ok A0 A1 A2 A3) (b : Fin 2)
  (v0 : Vec Ideal S1x4096x768 .fp8e4m3) (v3 : Vec Ideal S1x4096x6 .f32) (v10 : Vec Ideal S1x768x16384 .bf16) (v27 : Vec Ideal S1x4096x1 .i32)
  (h0 : ∀ q d, v0 (ix3 0 q d) = A0 b q d) (h1 : ∀ q d, v3 (ix3 0 q d) = A1 b q d) (h2 : ∀ d k, v10 (ix3 0 d k) = A2 b d k)
  (h3 : ∀ q, v27 (ix3 0 q 0) = A3 b q) (q : Fin 4096)

include hok h0 h1 h2 in
theorem logp_apply (k : Fin 16384) : k0_pay5 (F := Ideal) v0 v3 v10 (ix2 q k) = ((lp (sr A0 A1 A2 b q) k.val : ℝ) : EReal) := by
  have hs : ∀ k : Fin 16384, (∑ x : Fin 768, v0 (ix3 0 q x) * v3 (ix3 0 q ⟨x.val / 128, by have := x.2; omega⟩) * v10 (ix3 0 x k))
      = ((sr A0 A1 A2 b q k.val : ℝ) : EReal) := by
    intro k
    rw [← hok.real b q k]
    refine Finset.sum_congr rfl fun d _ => ?_
    rw [h0, h1, h2]; rfl
  pointwise [k0_pay5, k0_pay4]
  simp only [hs, twenty_eq, ninf_eq]
  rw [ref_top]
  simp only [ref_shift]
  rw [ref_Z, log_Z, ref_lp]

include h3 in
theorem pos_apply (k : Fin 16384) : k0_pay6 (F := Ideal) v27 (ix2 q k) = if k.val = ps A3 b q then 1#1 else 0#1 := by
  have h : k0_pay6 (F := Ideal) v27 (ix2 q k) = IntOp.cmpi CmpIPredicate.eq (BitVec.ofNat 32 k.val) (v27 (ix3 0 q 0)) := by
    pointwise [k0_pay6]
  rw [h, hit _ k.2, h3]
  rfl

include hok h0 h1 h2 h3

theorem lossB : lossV (k0_pay5 v0 v3 v10) (k0_pay6 (F := Ideal) v27) (ix2 q 0) = loss A0 A1 A2 A3 b q :=
  loss_apply _ _ q _ _ (hok.col b q) (logp_apply A0 A1 A2 A3 hok b v0 v3 v10 h0 h1 h2 q) (pos_apply A3 b v27 h3 q)

theorem sclB : k0_pay10 (F := Ideal) (dV (k0_pay5 v0 v3 v10) (k0_pay6 (F := Ideal) v27)) (ix2 q 0) = scl A0 A1 A2 A3 b q :=
  sc_apply _ _ q _ _ (logp_apply A0 A1 A2 A3 hok b v0 v3 v10 h0 h1 h2 q) (pos_apply A3 b v27 h3 q)

theorem dlB (k : Fin 16384) : k0_pay11 (F := Ideal) (dV (k0_pay5 v0 v3 v10) (k0_pay6 (F := Ideal) v27)) (ix2 q k) = dl A0 A1 A2 A3 b q k.val :=
  code_apply _ _ q _ _ (logp_apply A0 A1 A2 A3 hok b v0 v3 v10 h0 h1 h2 q) (pos_apply A3 b v27 h3 q) k

theorem dqB (e : Fin 768) : k0_pay1 (F := Ideal) (k0_pay10 (dV (k0_pay5 v0 v3 v10) (k0_pay6 (F := Ideal) v27)))
    (dqV (k0_pay4 v10) (k0_pay11 (dV (k0_pay5 v0 v3 v10) (k0_pay6 (F := Ideal) v27)))) (ix3 0 q e) = dq A0 A1 A2 A3 b q e := by
  rw [pay1_apply, dqV_apply, sclB A0 A1 A2 A3 hok b v0 v3 v10 v27 h0 h1 h2 h3 q]
  unfold dq
  rw [Finset.sum_range]
  have h : ∀ k : Fin 16384, k0_pay11 (F := Ideal) (dV (k0_pay5 v0 v3 v10) (k0_pay6 (F := Ideal) v27)) (ix2 q k) * k0_pay4 (F := Ideal) v10 (ix2 k e)
      = tm A0 A1 A2 A3 b q e k.val := by
    intro k
    have hk : (⟨k.val % 16384, Nat.mod_lt _ (by omega)⟩ : Fin 16384) = k := Fin.ext (Nat.mod_eq_of_lt k.2)
    rw [dlB A0 A1 A2 A3 hok b v0 v3 v10 v27 h0 h1 h2 h3 q k, pay4_apply, h2, mul_comm]
    unfold tm
    rw [hk]
  rw [Finset.sum_congr rfl fun k _ => h k]

end

end Cert.LossDqReferenceIdeal.Hand
-- ==== Proof.LossRef.lean ====
/- The reference's results at an index. -/
module

public import proofs.«01_k».proof.Proof.LossRefC

@[expose] public section

noncomputable section

open scoped BigOperators

namespace Cert.LossDqReferenceIdeal.Hand

open Cert.LossDqReferenceIdeal Cert.LossDqReferenceIdeal.Gen Idealize.ShloMosaic Idealize.ShloMosaic.TcCoe Idealize.SL.Sem Cert.LossMath Cert.LossSpec

/-! ### The arrays -/

theorem ld0_0 (x : Vec Ideal S2x4096x768 .fp8e4m3) (q : Fin 4096) (d : Fin 768) : View.ld x r0_0 (ix3 0 q d) = x (ix3 0 q d) := by
  show x _ = x _
  congr 1
  funext a; apply Fin.ext
  match a with
  | ⟨0, _⟩ => rfl
  | ⟨1, _⟩ => show 0 + 1 * q.val = q.val; omega
  | ⟨2, _⟩ => show 0 + 1 * d.val = d.val; omega

theorem ld0_1 (x : Vec Ideal S2x4096x768 .fp8e4m3) (q : Fin 4096) (d : Fin 768) : View.ld x r0_6 (ix3 0 q d) = x (ix3 1 q d) := by
  show x _ = x _
  congr 1
  funext a; apply Fin.ext
  match a with
  | ⟨0, _⟩ => rfl
  | ⟨1, _⟩ => show 0 + 1 * q.val = q.val; omega
  | ⟨2, _⟩ => show 0 + 1 * d.val = d.val; omega

theorem ld1_0 (x : Vec Ideal S2x4096x6 .f32) (q : Fin 4096) (d : Fin 6) : View.ld x r0_1 (ix3 0 q d) = x (ix3 0 q d) := by
  show x _ = x _
  congr 1
  funext a; apply Fin.ext
  match a with
  | ⟨0, _⟩ => rfl
  | ⟨1, _⟩ => show 0 + 1 * q.val = q.val; omega
  | ⟨2, _⟩ => show 0 + 1 * d.val = d.val; omega

theorem ld1_1 (x : Vec Ideal S2x4096x6 .f32) (q : Fin 4096) (d : Fin 6) : View.ld x r0_7 (ix3 0 q d) = x (ix3 1 q d) := by
  show x _ = x _
  congr 1
  funext a; apply Fin.ext
  match a with
  | ⟨0, _⟩ => rfl
  | ⟨1, _⟩ => show 0 + 1 * q.val = q.val; omega
  | ⟨2, _⟩ => show 0 + 1 * d.val = d.val; omega

theorem ld2_0 (x : Vec Ideal S2x768x16384 .bf16) (d : Fin 768) (k : Fin 16384) : View.ld x r0_2 (ix3 0 d k) = x (ix3 0 d k) := by
  show x _ = x _
  congr 1
  funext a; apply Fin.ext
  match a with
  | ⟨0, _⟩ => rfl
  | ⟨1, _⟩ => show 0 + 1 * d.val = d.val; omega
  | ⟨2, _⟩ => show 0 + 1 * k.val = k.val; omega

theorem ld2_1 (x : Vec Ideal S2x768x16384 .bf16) (d : Fin 768) (k : Fin 16384) : View.ld x r0_8 (ix3 0 d k) = x (ix3 1 d k) := by
  show x _ = x _
  congr 1
  funext a; apply Fin.ext
  match a with
  | ⟨0, _⟩ => rfl
  | ⟨1, _⟩ => show 0 + 1 * d.val = d.val; omega
  | ⟨2, _⟩ => show 0 + 1 * k.val = k.val; omega

theorem ld3_0 (x : Vec Ideal S2x4096x1 .i32) (q : Fin 4096) : View.ld x r0_3 (ix3 0 q 0) = x (ix3 0 q 0) := by
  show x _ = x _
  congr 1
  funext a; apply Fin.ext
  match a with
  | ⟨0, _⟩ => rfl
  | ⟨1, _⟩ => show 0 + 1 * q.val = q.val; omega
  | ⟨2, _⟩ => show 0 + 1 * 0 = 0; omega

theorem ld3_1 (x : Vec Ideal S2x4096x1 .i32) (q : Fin 4096) : View.ld x r0_9 (ix3 0 q 0) = x (ix3 1 q 0) := by
  show x _ = x _
  congr 1
  funext a; apply Fin.ext
  match a with
  | ⟨0, _⟩ => rfl
  | ⟨1, _⟩ => show 0 + 1 * q.val = q.val; omega
  | ⟨2, _⟩ => show 0 + 1 * 0 = 0; omega

section
variable (x0 : Vec Ideal S2x4096x768 .fp8e4m3) (x1 : Vec Ideal S2x4096x6 .f32) (x2 : Vec Ideal S2x768x16384 .bf16) (x3 : Vec Ideal S2x4096x1 .i32)

def A0 : Fin 2 → Fin 4096 → Fin 768 → EReal := fun b q d => x0 (ix3 b q d)
def A1 : Fin 2 → Fin 4096 → Fin 6 → EReal := fun b q d => x1 (ix3 b q d)
def A2 : Fin 2 → Fin 768 → Fin 16384 → EReal := fun b d k => x2 (ix3 b d k)
def A3 : Fin 2 → Fin 4096 → BitVec 32 := fun b q => x3 (ix3 b q 0)

variable (hok : Ok (A0 x0) (A1 x1) (A2 x2) (A3 x3))

include hok

theorem out4_apply (ρ : Fin 32) (r : Fin 256) :
    out0_4 (F := Ideal) x0 x1 x2 x3 (ix3 ρ 0 r) = loss (A0 x0) (A1 x1) (A2 x2) (A3 x3) (Cert.LossDqIdeal.Hand.bi ρ.val) (Cert.LossDqIdeal.Hand.qi ρ.val r) := by
  unfold out0_4
  refine View.canon_apply_of_pieces (Val := Elt Ideal) (S := S32x1x256) (e := .f32)
    (fun i : S32x1x256.Idx => loss (A0 x0) (A1 x1) (A2 x2) (A3 x3) (Cert.LossDqIdeal.Hand.bi (i 0).val) (Cert.LossDqIdeal.Hand.qi (i 0).val (i 2))) _ ?_ (ix3 ρ 0 r) (cover0_4 _ _ _)
  intro pc hpc
  simp only [List.mem_cons, List.not_mem_nil, or_false] at hpc
  rcases hpc with rfl | rfl
  · intro y
    obtain ⟨j, z, r, rfl⟩ : ∃ (j : Fin 16) (z : Fin 1) (r : Fin 256), y = ix3 j z r := ⟨y 0, y 1, y 2, eq_ix3 y⟩
    obtain rfl : z = 0 := Subsingleton.elim _ _
    have hj := j.2
    have hr := r.2
    dsimp only
    rw [pay24_eq]; unfold k0_pay27 k0_pay26; rw [pay17_eq, pay18_eq]
    rw [pay12_apply _ j r (by omega)]
    refine (lossB (A0 x0) (A1 x1) (A2 x2) (A3 x3) hok 1 (View.ld x0 r0_6) (View.ld x1 r0_7) (View.ld x2 r0_8) (View.ld x3 r0_9) (ld0_1 x0) (ld1_1 x1) (ld2_1 x2) (ld3_1 x3) _).trans ?_
    have e1 : Cert.LossDqIdeal.Hand.bi (((r0_10 : Rect S32x1x256).emb (ix3 j 0 r) : S32x1x256.Idx) 0).val = 1 := by
      apply Fin.ext; show (16 + 1 * j.val) / 16 % 2 = 1; omega
    have e2 : Cert.LossDqIdeal.Hand.qi (((r0_10 : Rect S32x1x256).emb (ix3 j 0 r) : S32x1x256.Idx) 0).val (((r0_10 : Rect S32x1x256).emb (ix3 j 0 r) : S32x1x256.Idx) 2)
        = ⟨j.val * 256 + r.val, by omega⟩ := by
      apply Fin.ext; show 256 * ((16 + 1 * j.val) % 16) + (0 + 1 * r.val) = j.val * 256 + r.val; omega
    rw [e1, e2]
  · intro y
    obtain ⟨j, z, r, rfl⟩ : ∃ (j : Fin 16) (z : Fin 1) (r : Fin 256), y = ix3 j z r := ⟨y 0, y 1, y 2, eq_ix3 y⟩
    obtain rfl : z = 0 := Subsingleton.elim _ _
    have hj := j.2
    have hr := r.2
    dsimp only
    rw [pay7_eq]
    rw [pay12_apply _ j r (by omega)]
    refine (lossB (A0 x0) (A1 x1) (A2 x2) (A3 x3) hok 0 (View.ld x0 r0_0) (View.ld x1 r0_1) (View.ld x2 r0_2) (View.ld x3 r0_3) (ld0_0 x0) (ld1_0 x1) (ld2_0 x2) (ld3_0 x3) _).trans ?_
    have e1 : Cert.LossDqIdeal.Hand.bi (((r0_4 : Rect S32x1x256).emb (ix3 j 0 r) : S32x1x256.Idx) 0).val = 0 := by
      apply Fin.ext; show (0 + 1 * j.val) / 16 % 2 = 0; omega
    have e2 : Cert.LossDqIdeal.Hand.qi (((r0_4 : Rect S32x1x256).emb (ix3 j 0 r) : S32x1x256.Idx) 0).val (((r0_4 : Rect S32x1x256).emb (ix3 j 0 r) : S32x1x256.Idx) 2)
        = ⟨j.val * 256 + r.val, by omega⟩ := by
      apply Fin.ext; show 256 * ((0 + 1 * j.val) % 16) + (0 + 1 * r.val) = j.val * 256 + r.val; omega
    rw [e1, e2]

theorem out7_apply (ρ : Fin 32) (r : Fin 256) :
    out0_7 (F := Ideal) x0 x1 x2 x3 (ix3 ρ 0 r) = scl (A0 x0) (A1 x1) (A2 x2) (A3 x3) (Cert.LossDqIdeal.Hand.bi ρ.val) (Cert.LossDqIdeal.Hand.qi ρ.val r) := by
  unfold out0_7
  refine View.canon_apply_of_pieces (Val := Elt Ideal) (S := S32x1x256) (e := .f32)
    (fun i : S32x1x256.Idx => scl (A0 x0) (A1 x1) (A2 x2) (A3 x3) (Cert.LossDqIdeal.Hand.bi (i 0).val) (Cert.LossDqIdeal.Hand.qi (i 0).val (i 2))) _ ?_ (ix3 ρ 0 r) (cover0_7 _ _ _)
  intro pc hpc
  simp only [List.mem_cons, List.not_mem_nil, or_false] at hpc
  rcases hpc with rfl | rfl
  · intro y
    obtain ⟨j, z, r, rfl⟩ : ∃ (j : Fin 16) (z : Fin 1) (r : Fin 256), y = ix3 j z r := ⟨y 0, y 1, y 2, eq_ix3 y⟩
    obtain rfl : z = 0 := Subsingleton.elim _ _
    have hj := j.2
    have hr := r.2
    dsimp only
    rw [pay3_eq]; unfold k0_pay28 k0_pay27 k0_pay26; rw [pay21_eq, pay20_eq, pay19_eq, pay17_eq, pay18_eq, ← pay10_eq]
    rw [pay12_apply _ j r (by omega)]
    refine (sclB (A0 x0) (A1 x1) (A2 x2) (A3 x3) hok 1 (View.ld x0 r0_6) (View.ld x1 r0_7) (View.ld x2 r0_8) (View.ld x3 r0_9) (ld0_1 x0) (ld1_1 x1) (ld2_1 x2) (ld3_1 x3) _).trans ?_
    have e1 : Cert.LossDqIdeal.Hand.bi (((r0_10 : Rect S32x1x256).emb (ix3 j 0 r) : S32x1x256.Idx) 0).val = 1 := by
      apply Fin.ext; show (16 + 1 * j.val) / 16 % 2 = 1; omega
    have e2 : Cert.LossDqIdeal.Hand.qi (((r0_10 : Rect S32x1x256).emb (ix3 j 0 r) : S32x1x256.Idx) 0).val (((r0_10 : Rect S32x1x256).emb (ix3 j 0 r) : S32x1x256.Idx) 2)
        = ⟨j.val * 256 + r.val, by omega⟩ := by
      apply Fin.ext; show 256 * ((16 + 1 * j.val) % 16) + (0 + 1 * r.val) = j.val * 256 + r.val; omega
    rw [e1, e2]
  · intro y
    obtain ⟨j, z, r, rfl⟩ : ∃ (j : Fin 16) (z : Fin 1) (r : Fin 256), y = ix3 j z r := ⟨y 0, y 1, y 2, eq_ix3 y⟩
    obtain rfl : z = 0 := Subsingleton.elim _ _
    have hj := j.2
    have hr := r.2
    dsimp only
    rw [pay15_eq]; unfold k0_pay25; rw [pay8_eq]
    rw [pay12_apply _ j r (by omega)]
    refine (sclB (A0 x0) (A1 x1) (A2 x2) (A3 x3) hok 0 (View.ld x0 r0_0) (View.ld x1 r0_1) (View.ld x2 r0_2) (View.ld x3 r0_3) (ld0_0 x0) (ld1_0 x1) (ld2_0 x2) (ld3_0 x3) _).trans ?_
    have e1 : Cert.LossDqIdeal.Hand.bi (((r0_4 : Rect S32x1x256).emb (ix3 j 0 r) : S32x1x256.Idx) 0).val = 0 := by
      apply Fin.ext; show (0 + 1 * j.val) / 16 % 2 = 0; omega
    have e2 : Cert.LossDqIdeal.Hand.qi (((r0_4 : Rect S32x1x256).emb (ix3 j 0 r) : S32x1x256.Idx) 0).val (((r0_4 : Rect S32x1x256).emb (ix3 j 0 r) : S32x1x256.Idx) 2)
        = ⟨j.val * 256 + r.val, by omega⟩ := by
      apply Fin.ext; show 256 * ((0 + 1 * j.val) % 16) + (0 + 1 * r.val) = j.val * 256 + r.val; omega
    rw [e1, e2]

theorem out5_apply (b : Fin 2) (q : Fin 4096) (k : Fin 768) :
    out0_5 (F := Ideal) x0 x1 x2 x3 (ix3 b q k) = dq (A0 x0) (A1 x1) (A2 x2) (A3 x3) b q k := by
  unfold out0_5
  refine View.canon_apply_of_pieces (Val := Elt Ideal) (S := S2x4096x768) (e := .bf16)
    (fun i : S2x4096x768.Idx => dq (A0 x0) (A1 x1) (A2 x2) (A3 x3) (i 0) (i 1) (i 2)) _ ?_ (ix3 b q k) (cover0_5 _ _ _)
  intro pc hpc
  simp only [List.mem_cons, List.not_mem_nil, or_false] at hpc
  rcases hpc with rfl | rfl
  · intro y
    obtain ⟨z, q, k, rfl⟩ : ∃ (z : Fin 1) (q : Fin 4096) (k : Fin 768), y = ix3 z q k := ⟨y 0, y 1, y 2, eq_ix3 y⟩
    obtain rfl : z = 0 := Subsingleton.elim _ _
    rw [show (r0_6 : Rect S2x4096x768).emb (ix3 0 q k) = (ix3 1 q k : S2x4096x768.Idx) from by
      funext a; apply Fin.ext
      match a with
      | ⟨0, _⟩ => rfl
      | ⟨1, _⟩ => show 0 + 1 * q.val = q.val; omega
      | ⟨2, _⟩ => show 0 + 1 * k.val = k.val; omega]
    dsimp only
    unfold k0_pay28 k0_pay27 k0_pay26; rw [pay23_eq, pay22_eq, pay21_eq, pay20_eq, pay19_eq, pay16_eq, pay17_eq, pay18_eq, ← pay10_eq, ← pay11_eq]
    exact dqB (A0 x0) (A1 x1) (A2 x2) (A3 x3) hok 1 (View.ld x0 r0_6) (View.ld x1 r0_7) (View.ld x2 r0_8) (View.ld x3 r0_9) (ld0_1 x0) (ld1_1 x1) (ld2_1 x2) (ld3_1 x3) q k
  · intro y
    obtain ⟨z, q, k, rfl⟩ : ∃ (z : Fin 1) (q : Fin 4096) (k : Fin 768), y = ix3 z q k := ⟨y 0, y 1, y 2, eq_ix3 y⟩
    obtain rfl : z = 0 := Subsingleton.elim _ _
    rw [show (r0_0 : Rect S2x4096x768).emb (ix3 0 q k) = (ix3 0 q k : S2x4096x768.Idx) from by
      funext a; apply Fin.ext
      match a with
      | ⟨0, _⟩ => rfl
      | ⟨1, _⟩ => show 0 + 1 * q.val = q.val; omega
      | ⟨2, _⟩ => show 0 + 1 * k.val = k.val; omega]
    dsimp only
    rw [pay13_eq]; unfold k0_pay25; rw [pay8_eq]
    exact dqB (A0 x0) (A1 x1) (A2 x2) (A3 x3) hok 0 (View.ld x0 r0_0) (View.ld x1 r0_1) (View.ld x2 r0_2) (View.ld x3 r0_3) (ld0_0 x0) (ld1_0 x1) (ld2_0 x2) (ld3_0 x3) q k

theorem out6_apply (b : Fin 2) (q : Fin 4096) (k : Fin 16384) :
    out0_6 (F := Ideal) x0 x1 x2 x3 (ix3 b q k) = dl (A0 x0) (A1 x1) (A2 x2) (A3 x3) b q k.val := by
  unfold out0_6
  refine View.canon_apply_of_pieces (Val := Elt Ideal) (S := S2x4096x16384) (e := .fp8e5m2)
    (fun i : S2x4096x16384.Idx => dl (A0 x0) (A1 x1) (A2 x2) (A3 x3) (i 0) (i 1) (i 2).val) _ ?_ (ix3 b q k) (cover0_6 _ _ _)
  intro pc hpc
  simp only [List.mem_cons, List.not_mem_nil, or_false] at hpc
  rcases hpc with rfl | rfl
  · intro y
    obtain ⟨z, q, k, rfl⟩ : ∃ (z : Fin 1) (q : Fin 4096) (k : Fin 16384), y = ix3 z q k := ⟨y 0, y 1, y 2, eq_ix3 y⟩
    obtain rfl : z = 0 := Subsingleton.elim _ _
    rw [show (r0_11 : Rect S2x4096x16384).emb (ix3 0 q k) = (ix3 1 q k : S2x4096x16384.Idx) from by
      funext a; apply Fin.ext
      match a with
      | ⟨0, _⟩ => rfl
      | ⟨1, _⟩ => show 0 + 1 * q.val = q.val; omega
      | ⟨2, _⟩ => show 0 + 1 * k.val = k.val; omega]
    dsimp only
    rw [pay2_apply]; unfold k0_pay27 k0_pay26; rw [pay22_eq, pay20_eq, pay19_eq, pay17_eq, pay18_eq, ← pay11_eq]
    exact dlB (A0 x0) (A1 x1) (A2 x2) (A3 x3) hok 1 (View.ld x0 r0_6) (View.ld x1 r0_7) (View.ld x2 r0_8) (View.ld x3 r0_9) (ld0_1 x0) (ld1_1 x1) (ld2_1 x2) (ld3_1 x3) q k
  · intro y
    obtain ⟨z, q, k, rfl⟩ : ∃ (z : Fin 1) (q : Fin 4096) (k : Fin 16384), y = ix3 z q k := ⟨y 0, y 1, y 2, eq_ix3 y⟩
    obtain rfl : z = 0 := Subsingleton.elim _ _
    rw [show (r0_5 : Rect S2x4096x16384).emb (ix3 0 q k) = (ix3 0 q k : S2x4096x16384.Idx) from by
      funext a; apply Fin.ext
      match a with
      | ⟨0, _⟩ => rfl
      | ⟨1, _⟩ => show 0 + 1 * q.val = q.val; omega
      | ⟨2, _⟩ => show 0 + 1 * k.val = k.val; omega]
    dsimp only
    rw [pay14_eq, pay2_apply]; unfold k0_pay25; rw [pay8_eq]
    exact dlB (A0 x0) (A1 x1) (A2 x2) (A3 x3) hok 0 (View.ld x0 r0_0) (View.ld x1 r0_1) (View.ld x2 r0_2) (View.ld x3 r0_3) (ld0_0 x0) (ld1_0 x1) (ld2_0 x2) (ld3_0 x3) q k

end

end Cert.LossDqReferenceIdeal.Hand
-- ==== Proof.LossInv.lean ====
/- What the loss kernel's scratch buffers and staging buffers hold at each point. -/
module

public import proofs.«01_k».proof.Proof.LossBlk

@[expose] public section

noncomputable section

open scoped BigOperators

namespace Cert.LossDqIdeal.Hand

open Cert.LossDqIdeal Cert.LossDqIdeal.Gen Idealize.ShloMosaic Idealize.ShloMosaic.TcCoe Idealize.SL.Sem Cert.LossMath Cert.LossSpec

variable (m : (ℓ : Loc nD τ sig) → Buf (Elt Ideal) ℓ)

def a0 (c : Dev nD) : Fin 2 → Fin 4096 → Fin 768 → EReal := fun b q d => X0 m c (ix3 b q d)
def a1 (c : Dev nD) : Fin 2 → Fin 4096 → Fin 6 → EReal := fun b q d => X1 m c (ix3 b q d)
def a2 (c : Dev nD) : Fin 2 → Fin 768 → Fin 16384 → EReal := fun b d k => X2 m c (ix3 b d k)
def a3 (c : Dev nD) : Fin 2 → Fin 4096 → BitVec 32 := fun b q => X3 m c (ix3 b q 0)

/-- The scores and the positive's column of row `r` of block `ρ`. -/
def S (c : Dev nD) (ρ : ℕ) (r : Fin 256) : ℕ → ℝ := sr (a0 m c) (a1 m c) (a2 m c) (bi ρ) (qi ρ r)
def P (c : Dev nD) (ρ : ℕ) (r : Fin 256) : ℕ := ps (a3 m c) (bi ρ) (qi ρ r)

/-- A row's accumulated gradient after the chunks before column `n`. -/
def accB (c : Dev nD) (ρ : ℕ) (r : Fin 256) (d : Fin 768) (n : ℕ) : EReal :=
  ∑ k ∈ Finset.range n, tm (a0 m c) (a1 m c) (a2 m c) (a3 m c) (bi ρ) (qi ρ r) d k

/-- The scratch buffers after `i` of the sixteen points of block `ρ`, `i` positive. -/
structure InvB (c : Dev nD) (ρ i : ℕ) (s12 : Vec Ideal S256x16384 .f32) (s13 : Vec Ideal S256x768 .bf16)
    (s14 s15 s16 : Vec Ideal S256x128 .f32) (s17 : Vec Ideal S768x256 .f32) (s18 : Vec Ideal S256x128 .f32) : Prop where
  qx : ∀ (r : Fin 256) (d : Fin 768), s13 (ix2 r d) = qh (a0 m c) (a1 m c) (bi ρ) (qi ρ r) d
  tx : ∀ (r : Fin 256) (k : Fin 16384), k.val < 2048 * min i 8 → s12 (ix2 r k) = ((S m c ρ r k.val : ℝ) : EReal)
  mx : ∀ (r : Fin 256) (l : Fin 128), s14 (ix2 r l) = laneM (S m c ρ r) (P m c ρ r) l.val (16 * min i 8)
  zx : ∀ (r : Fin 256) (l : Fin 128), s15 (ix2 r l) = laneZ (S m c ρ r) (P m c ρ r) l.val (16 * min i 8)
  px : ∀ (r : Fin 256) (l : Fin 128), s16 (ix2 r l) = laneP (S m c ρ r) (P m c ρ r) l.val (16 * min i 8)
  row : 8 < i → ∀ r : Fin 256, s18 (ix2 r 0) = rowB (S m c ρ r) ∧ s18 (ix2 r 1) = ((inv (S m c ρ r) (P m c ρ r) : ℝ) : EReal)
    ∧ s18 (ix2 r 2) = ((w (S m c ρ r) (P m c ρ r) (P m c ρ r) : ℝ) : EReal) ∧ s18 (ix2 r 3) = ((scale (S m c ρ r) (P m c ρ r) : ℝ) : EReal)
  acc : 8 < i → ∀ (r : Fin 256) (d : Fin 768), s17 (ix2 d r) = accB m c ρ r d (2048 * (i - 8))

/-- The specification. -/
def spec : Spec Ideal where
  Inv c n s12 s13 s14 s15 s16 s17 s18 := n % 16 ≠ 0 → InvB m c (n / 16) (n % 16) s12 s13 s14 s15 s16 s17 s18
  P4 c n y := 8 ≤ n % 16 → ∀ r : Fin 256, y (ix3 0 0 r) = loss (a0 m c) (a1 m c) (a2 m c) (a3 m c) (bi (n / 16)) (qi (n / 16) r)
  P5 c n y := n % 16 = 15 → ∀ (r : Fin 256) (d : Fin 768), y (ix3 0 r d) = dq (a0 m c) (a1 m c) (a2 m c) (a3 m c) (bi (n / 16)) (qi (n / 16) r) d
  P6 c n y := 8 ≤ n % 16 → ∀ (r : Fin 256) (k : Fin 16384), k.val < 2048 * (n % 16 - 7) →
    y (ix3 0 r k) = dl (a0 m c) (a1 m c) (a2 m c) (a3 m c) (bi (n / 16)) (qi (n / 16) r) k.val
  P7 c n y := 8 ≤ n % 16 → ∀ r : Fin 256, y (ix3 0 0 r) = scl (a0 m c) (a1 m c) (a2 m c) (a3 m c) (bi (n / 16)) (qi (n / 16) r)

variable {m}

section
variable (hok : ∀ c : Dev nD, Ok (a0 m c) (a1 m c) (a2 m c) (a3 m c)) (c : Dev nD) (t : Fin cfg0.N)

theorem pos_eq (r : Fin 256) : (iblk m c 3 t (ix3 0 r 0)).toNat = P m c (t.val / 16) r := by
  rw [blk3]; rfl

include hok

theorem pos_lt (r : Fin 256) : (iblk m c 3 t (ix3 0 r 0)).toNat < 16384 := by
  rw [pos_eq]; exact (hok c).col _ _

/-- A chunk's scores. -/
theorem scores (x13 : Vec Ideal S256x768 .bf16)
    (hq : ∀ (r : Fin 256) (d : Fin 768), x13 (ix2 r d) = qh (a0 m c) (a1 m c) (bi (t.val / 16)) (qi (t.val / 16) r) d)
    (r : Fin 256) (k : Fin 2048) :
    k0_pay16 (F := Ideal) x13 (iblk m c 2 t) (ix2 r k) = ((S m c (t.val / 16) r (2048 * ck t + k.val) : ℝ) : EReal) := by
  have hc : ck t < 8 := (grid0.coords t 3).2
  have hk := k.2
  have h : (2048 * ck t + k.val) % 16384 = 2048 * ck t + k.val := Nat.mod_eq_of_lt (by omega)
  rw [pay16_apply]
  refine Eq.trans (Finset.sum_congr rfl fun d _ => ?_) (((hok c).real (bi (t.val / 16)) (qi (t.val / 16) r)
    ⟨(2048 * ck t + k.val) % 16384, Nat.mod_lt _ (by omega)⟩).trans ?_)
  · rw [hq, blk2]; rfl
  · show ((sr _ _ _ _ _ ((2048 * ck t + k.val) % 16384) : ℝ) : EReal) = _
    rw [h]; rfl

/-- A chunk of the first pass: what the five buffers hold after it, from what they held before. -/
theorem chunk (hn : t.val % 16 < 8) (s12 : Vec Ideal S256x16384 .f32) (x13 : Vec Ideal S256x768 .bf16) (s14 s15 s16 : Vec Ideal S256x128 .f32) (s17 : Vec Ideal S768x256 .f32)
    (s18 : Vec Ideal S256x128 .f32)
    (hq : ∀ (r : Fin 256) (d : Fin 768), x13 (ix2 r d) = qh (a0 m c) (a1 m c) (bi (t.val / 16)) (qi (t.val / 16) r) d)
    (ht : ∀ (r : Fin 256) (k : Fin 16384), k.val < 2048 * (t.val % 16) → s12 (ix2 r k) = ((S m c (t.val / 16) r k.val : ℝ) : EReal))
    (hm : ∀ (r : Fin 256) (l : Fin 128), s14 (ix2 r l) = laneM (S m c (t.val / 16) r) (P m c (t.val / 16) r) l.val (16 * (t.val % 16)))
    (hz : ∀ (r : Fin 256) (l : Fin 128), s15 (ix2 r l) = laneZ (S m c (t.val / 16) r) (P m c (t.val / 16) r) l.val (16 * (t.val % 16)))
    (hpp : ∀ (r : Fin 256) (l : Fin 128), s16 (ix2 r l) = laneP (S m c (t.val / 16) r) (P m c (t.val / 16) r) l.val (16 * (t.val % 16))) :
    InvB m c (t.val / 16) (t.val % 16 + 1) (put t (k0_pay16 (F := Ideal) x13 (iblk m c 2 t)) s12) x13 (mC (base t) (iblk m c 3 t) s14 (tl x13 (iblk m c 2 t)))
      (zC (base t) (iblk m c 3 t) s14 (mC (base t) (iblk m c 3 t) s14 (tl x13 (iblk m c 2 t))) s15 (tl x13 (iblk m c 2 t)))
      (pC (base t) (iblk m c 3 t) s16 (tl x13 (iblk m c 2 t))) s17 s18 := by
  have hck : ck t = t.val % 16 := by rw [ck_eq]; omega
  have hmin : min (t.val % 16 + 1) 8 = t.val % 16 + 1 := by omega
  have h16 : 16 * (t.val % 16 + 1) = 16 * ck t + 16 := by omega
  have hT : ∀ (r : Fin 256) (l : Fin 128), ∀ v < 16, tl x13 (iblk m c 2 t) (128 * v) (ix2 r l)
      = ((S m c (t.val / 16) r (2048 * ck t + 128 * v + l.val) : ℝ) : EReal) := by
    intro r l v hv
    have hl := l.2
    refine (scores hok c t x13 hq r ⟨(128 * v + l.val) % 2048, Nat.mod_lt _ (by omega)⟩).trans ?_
    have : (128 * v + l.val) % 2048 = 128 * v + l.val := Nat.mod_eq_of_lt (by omega)
    show ((S m c (t.val / 16) r (2048 * ck t + (128 * v + l.val) % 2048) : ℝ) : EReal) = _
    rw [this, Nat.add_assoc]
  have hM : ∀ (r : Fin 256) (l : Fin 128), mC (base t) (iblk m c 3 t) s14 (tl x13 (iblk m c 2 t)) (ix2 r l)
      = laneM (S m c (t.val / 16) r) (P m c (t.val / 16) r) l.val (16 * ck t + 16) := by
    intro r l
    have h := mC_apply t (iblk m c 3 t) s14 (tl x13 (iblk m c 2 t)) r l (pos_lt hok c t r) _ (hT r l) (by rw [hm, pos_eq, hck])
    rw [pos_eq] at h
    exact h
  refine ⟨hq, ?_, ?_, ?_, ?_, fun h => absurd h (by omega), fun h => absurd h (by omega)⟩
  · intro r k hk
    rw [hmin] at hk
    show (if 2048 * ck t ≤ k.val ∧ k.val < 2048 * ck t + 2048 then _ else _) = _
    by_cases h : 2048 * ck t ≤ k.val ∧ k.val < 2048 * ck t + 2048
    · rw [if_pos h]
      refine (scores hok c t x13 hq r _).trans ?_
      show ((S m c (t.val / 16) r (2048 * ck t + (k.val - 2048 * ck t) % 2048) : ℝ) : EReal) = _
      rw [show 2048 * ck t + (k.val - 2048 * ck t) % 2048 = k.val by omega]
    · rw [if_neg h]; exact ht r k (by omega)
  · intro r l
    rw [hmin, h16]; exact hM r l
  · intro r l
    rw [hmin, h16]
    have h := zC_apply t (iblk m c 3 t) s14 (mC (base t) (iblk m c 3 t) s14 (tl x13 (iblk m c 2 t))) s15 (tl x13 (iblk m c 2 t)) r l (pos_lt hok c t r) _ (hT r l) (by rw [hm, pos_eq, hck])
      (by rw [pos_eq]; exact hM r l) rfl (by rw [hz, pos_eq, hck])
    rw [pos_eq] at h
    exact h
  · intro r l
    rw [hmin, h16]
    have h := pC_apply t (iblk m c 3 t) s16 (tl x13 (iblk m c 2 t)) r l (pos_lt hok c t r) _ (hT r l) (by rw [hpp, pos_eq, hck])
    rw [pos_eq] at h
    exact h

/-- A code of the second pass. -/
theorem cd_eq (r : Fin 256) (k : ℕ) (B I W x : EReal)
    (hB : B = rowB (S m c (t.val / 16) r)) (hI : I = ((inv (S m c (t.val / 16) r) (P m c (t.val / 16) r) : ℝ) : EReal))
    (hW : W = ((w (S m c (t.val / 16) r) (P m c (t.val / 16) r) (P m c (t.val / 16) r) : ℝ) : EReal))
    (hx : x = ((S m c (t.val / 16) r k : ℝ) : EReal)) :
    cd (iblk m c 3 t (ix3 0 r 0)).toNat B I W x k = dl (a0 m c) (a1 m c) (a2 m c) (a3 m c) (bi (t.val / 16)) (qi (t.val / 16) r) k := by
  rw [pos_eq, hB, hI, hW, hx]
  show _ = code (S m c (t.val / 16) r) (P m c (t.val / 16) r) k
  unfold cd
  by_cases h : k = P m c (t.val / 16) r
  · rw [if_pos h]; unfold code; rw [← h]
  · rw [if_neg h]; exact congrArg (fun z => min _ (max _ z)) (code_neg _ _ k h)

/-- A chunk of the second pass: the codes and the accumulator after it. -/
theorem chunk2 (hn : 8 ≤ t.val % 16) (B I W : Vec Ideal S256x1 .f32) (s12 : Vec Ideal S256x16384 .f32) (s17 : Vec Ideal S768x256 .f32)
    (y : Vec Ideal S1x256x16384 .fp8e5m2)
    (hB : ∀ r : Fin 256, B (ix2 r 0) = rowB (S m c (t.val / 16) r))
    (hI : ∀ r : Fin 256, I (ix2 r 0) = ((inv (S m c (t.val / 16) r) (P m c (t.val / 16) r) : ℝ) : EReal))
    (hW : ∀ r : Fin 256, W (ix2 r 0) = ((w (S m c (t.val / 16) r) (P m c (t.val / 16) r) (P m c (t.val / 16) r) : ℝ) : EReal))
    (ht : ∀ (r : Fin 256) (k : Fin 16384), s12 (ix2 r k) = ((S m c (t.val / 16) r k.val : ℝ) : EReal))
    (hacc : ∀ (r : Fin 256) (d : Fin 768), s17 (ix2 d r) = accB m c (t.val / 16) r d (2048 * (t.val % 16 - 8)))
    (hy : ∀ (r : Fin 256) (k : Fin 16384), k.val < 2048 * (t.val % 16 - 8) →
      y (ix3 0 r k) = dl (a0 m c) (a1 m c) (a2 m c) (a3 m c) (bi (t.val / 16)) (qi (t.val / 16) r) k.val) :
    (∀ (r : Fin 256) (d : Fin 768), k0_pay8 (F := Ideal) (ccV t (iblk m c 3 t) B I W s12) s17 (iblk m c 2 t) (ix2 d r)
        = accB m c (t.val / 16) r d (2048 * (t.val % 16 - 7)))
    ∧ (∀ (r : Fin 256) (k : Fin 16384), k.val < 2048 * (t.val % 16 - 7) →
      putC t (iblk m c 3 t) B I W s12 y (ix3 0 r k) = dl (a0 m c) (a1 m c) (a2 m c) (a3 m c) (bi (t.val / 16)) (qi (t.val / 16) r) k.val) := by
  have hck : ck t = t.val % 16 - 8 := by rw [ck_eq]; omega
  constructor
  · intro r d
    rw [pay8_apply, hacc]
    unfold accB
    rw [show 2048 * (t.val % 16 - 7) = 2048 * (t.val % 16 - 8) + 2048 by omega, Finset.sum_range_add, Finset.sum_range (n := 2048)]
    refine congrArg _ (Finset.sum_congr rfl fun k _ => ?_)
    have hk := k.2
    rw [blk2, ← hck]
    have hmod : (2048 * ck t + k.val) % 16384 = 2048 * ck t + k.val := Nat.mod_eq_of_lt (by omega)
    refine congrArg _ ?_
    refine cd_eq hok c t r _ _ _ _ _ (hB r) (hI r) (hW r) ((ht r _).trans ?_)
    show ((S m c (t.val / 16) r ((2048 * ck t + k.val) % 16384) : ℝ) : EReal) = _
    rw [hmod]; rfl
  · intro r k hk
    show (if 2048 * ck t ≤ k.val ∧ k.val < 2048 * ck t + 2048 then _ else _) = _
    by_cases h : 2048 * ck t ≤ k.val ∧ k.val < 2048 * ck t + 2048
    · rw [if_pos h]
      exact cd_eq hok c t r _ _ _ _ _ (hB r) (hI r) (hW r) (ht r k)
    · rw [if_neg h]; exact hy r k (by omega)

end

end Cert.LossDqIdeal.Hand
-- ==== Proof.LossSteps.lean ====
/- Each case of the loss kernel's body keeps its specification. -/
module

public import proofs.«01_k».proof.Proof.LossInv

@[expose] public section

noncomputable section

open scoped BigOperators

namespace Cert.LossDqIdeal.Hand

open Cert.LossDqIdeal Cert.LossDqIdeal.Gen Idealize.ShloMosaic Idealize.ShloMosaic.TcCoe Idealize.SL.Sem Cert.LossMath Cert.LossSpec

variable {m : (ℓ : Loc nD τ sig) → Buf (Elt Ideal) ℓ}

/-- The queries scaled back in the first pass's first step. -/
theorem qhV_blk (c : Dev nD) (t : Fin cfg0.N) (r : Fin 256) (d : Fin 768) :
    qhV (iblk m c 0 t) (iblk m c 1 t) (ix2 r d) = qh (a0 m c) (a1 m c) (bi (t.val / 16)) (qi (t.val / 16) r) d := by
  show EReal.mul (iblk m c 0 t (ix3 0 r d)) (iblk m c 1 t (ix3 0 r _)) = _
  rw [blk0, blk1]
  rfl

variable (hok : ∀ c : Dev nD, Ok (a0 m c) (a1 m c) (a2 m c) (a3 m c))

include hok

theorem stepA (c : Dev nD) (t : Fin cfg0.N) (h : t.val % 16 = 0) (s12 : Vec Ideal S256x16384 .f32) (s13 : Vec Ideal S256x768 .bf16)
    (s14 s15 s16 : Vec Ideal S256x128 .f32) (s17 : Vec Ideal S768x256 .f32) (s18 : Vec Ideal S256x128 .f32) :
    InvB m c (t.val / 16) (t.val % 16 + 1) (newA_12 c t h (iblk m c 0 t) (iblk m c 1 t) (iblk m c 2 t) (iblk m c 3 t) s12 s13 s14 s15 s16) (newA_13 c t h (iblk m c 0 t) (iblk m c 1 t) (iblk m c 2 t) (iblk m c 3 t) s12 s13 s14 s15 s16) (newA_14 c t h (iblk m c 0 t) (iblk m c 1 t) (iblk m c 2 t) (iblk m c 3 t) s12 s13 s14 s15 s16) (newA_15 c t h (iblk m c 0 t) (iblk m c 1 t) (iblk m c 2 t) (iblk m c 3 t) s12 s13 s14 s15 s16) (newA_16 c t h (iblk m c 0 t) (iblk m c 1 t) (iblk m c 2 t) (iblk m c 3 t) s12 s13 s14 s15 s16) s17 s18 := by
  rw [newA_12_eq, newA_13_eq, newA_14_eq, newA_15_eq, newA_16_eq]
  refine chunk hok c t (by omega) s12 (qhV (iblk m c 0 t) (iblk m c 1 t)) (k0_pay1 (F := Ideal)) (k0_pay2 (F := Ideal)) (k0_pay3 (F := Ideal)) s17 s18
    (qhV_blk c t) (fun r k hk => absurd hk (by omega)) (fun r l => ?_) (fun r l => ?_) (fun r l => ?_)
  · rw [pay1_apply, h, Nat.mul_zero, laneM_zero]
  · rw [pay2_apply, h, Nat.mul_zero, laneZ_zero]
  · rw [pay3_apply, h, Nat.mul_zero, laneP_zero]

theorem stepB (c : Dev nD) (t : Fin cfg0.N) (h : t.val % 16 ≠ 0 ∧ t.val % 16 < 8) (s12 : Vec Ideal S256x16384 .f32) (s13 : Vec Ideal S256x768 .bf16)
    (s14 s15 s16 : Vec Ideal S256x128 .f32) (s17 : Vec Ideal S768x256 .f32) (s18 : Vec Ideal S256x128 .f32)
    (hI : InvB m c (t.val / 16) (t.val % 16) s12 s13 s14 s15 s16 s17 s18) :
    InvB m c (t.val / 16) (t.val % 16 + 1) (newB_12 c t h (iblk m c 2 t) (iblk m c 3 t) s12 s13 s14 s15 s16) s13 (newB_14 c t h (iblk m c 2 t) (iblk m c 3 t) s12 s13 s14 s15 s16) (newB_15 c t h (iblk m c 2 t) (iblk m c 3 t) s12 s13 s14 s15 s16) (newB_16 c t h (iblk m c 2 t) (iblk m c 3 t) s12 s13 s14 s15 s16) s17 s18 := by
  rw [newB_12_eq, newB_14_eq, newB_15_eq, newB_16_eq]
  have hmin : min (t.val % 16) 8 = t.val % 16 := by omega
  obtain ⟨hq, ht, hm, hz, hp, _, _⟩ := hI
  rw [hmin] at ht hm hz hp
  exact chunk hok c t h.2 s12 s13 s14 s15 s16 s17 s18 hq ht hm hz hp

theorem stepC (c : Dev nD) (t : Fin cfg0.N) (h : t.val % 16 = 8) (y8 : Vec Ideal S1x1x256 .f32) (y10 : Vec Ideal S1x256x16384 .fp8e5m2) (y11 : Vec Ideal S1x1x256 .f32)
    (s12 : Vec Ideal S256x16384 .f32) (s13 : Vec Ideal S256x768 .bf16)
    (s14 s15 s16 : Vec Ideal S256x128 .f32) (s17 : Vec Ideal S768x256 .f32) (s18 : Vec Ideal S256x128 .f32)
    (hI : InvB m c (t.val / 16) (t.val % 16) s12 s13 s14 s15 s16 s17 s18) :
    InvB m c (t.val / 16) (t.val % 16 + 1) s12 s13 s14 s15 s16 (newC_17 c t h (iblk m c 2 t) (iblk m c 3 t) y8 y10 y11 s12 s14 s15 s16 s17 s18) (newC_18 c t h (iblk m c 2 t) (iblk m c 3 t) y8 y10 y11 s12 s14 s15 s16 s17 s18)
    ∧ (spec m).P4 c t.val (newC_8 c t h (iblk m c 2 t) (iblk m c 3 t) y8 y10 y11 s12 s14 s15 s16 s17 s18)
    ∧ (spec m).P6 c t.val (newC_10 c t h (iblk m c 2 t) (iblk m c 3 t) y8 y10 y11 s12 s14 s15 s16 s17 s18)
    ∧ (spec m).P7 c t.val (newC_11 c t h (iblk m c 2 t) (iblk m c 3 t) y8 y10 y11 s12 s14 s15 s16 s17 s18) := by
  have hmin : min (t.val % 16) 8 = 8 := by omega
  have hmin' : min (t.val % 16 + 1) 8 = 8 := by omega
  obtain ⟨hq, ht, hm, hz, hp, _, _⟩ := hI
  rw [hmin] at ht hm hz hp
  have hP := fun r => (hok c).col (bi (t.val / 16)) (qi (t.val / 16) r)
  have e := chunk2 hok c t (by omega) (r0K s14 s15 s16) (r1K s14 s15 s16) (r2K s14 s15 s16) s12 (k0_pay6 (F := Ideal)) y10
    (fun r => r0K_apply s14 s16 s15 r _ _ (hP r) (hm r) (hp r) (hz r))
    (fun r => r1K_apply s14 s16 s15 r _ _ (hP r) (hm r) (hp r) (hz r))
    (fun r => r2K_apply s14 s16 s15 r _ _ (hP r) (hm r) (hp r) (hz r))
    (fun r k => ht r k (by have := k.2; omega))
    (fun r d => by rw [pay6_apply, h]; rfl)
    (fun r k hk => absurd hk (by omega))
  refine ⟨⟨hq, ?_, ?_, ?_, ?_, fun _ r => ⟨?_, ?_, ?_, ?_⟩, fun _ r d => ?_⟩, fun _ r => ?_, fun _ => ?_, fun _ r => ?_⟩
  · rw [hmin']; exact ht
  · rw [hmin']; exact hm
  · rw [hmin']; exact hz
  · rw [hmin']; exact hp
  · rw [newC_18_0]; exact r0K_apply s14 s16 s15 r _ _ (hP r) (hm r) (hp r) (hz r)
  · rw [newC_18_1]; exact r1K_apply s14 s16 s15 r _ _ (hP r) (hm r) (hp r) (hz r)
  · rw [newC_18_2]; exact r2K_apply s14 s16 s15 r _ _ (hP r) (hm r) (hp r) (hz r)
  · rw [newC_18_3]; exact r3K_apply s14 s16 s15 r _ _ (hP r) (hm r) (hp r) (hz r)
  · rw [newC_17_eq _ _ _ _ _ _ _ _ _ _ _ _ _ _ (pos_lt hok c t), show t.val % 16 + 1 - 8 = t.val % 16 - 7 by omega]; exact e.1 r d
  · rw [newC_8_eq]; exact loss_apply s14 s16 s15 r _ _ (hP r) (hm r) (hp r) (hz r)
  · rw [newC_10_eq _ _ _ _ _ _ _ _ _ _ _ _ _ _ (pos_lt hok c t)]; exact e.2
  · rw [newC_11_eq]; exact scale_apply s14 s16 s15 r _ _ (hP r) (hm r) (hp r) (hz r)

theorem stepD (c : Dev nD) (t : Fin cfg0.N) (h : 8 < t.val % 16 ∧ t.val % 16 < 15) (y10 : Vec Ideal S1x256x16384 .fp8e5m2)
    (s12 : Vec Ideal S256x16384 .f32) (s13 : Vec Ideal S256x768 .bf16)
    (s14 s15 s16 : Vec Ideal S256x128 .f32) (s17 : Vec Ideal S768x256 .f32) (s18 : Vec Ideal S256x128 .f32)
    (hI : InvB m c (t.val / 16) (t.val % 16) s12 s13 s14 s15 s16 s17 s18) (hy : (spec m).P6 c (t.val - 1) y10) :
    InvB m c (t.val / 16) (t.val % 16 + 1) s12 s13 s14 s15 s16 (newD_17 c t h (iblk m c 2 t) (iblk m c 3 t) y10 s12 s17 s18) s18
    ∧ (spec m).P6 c t.val (newD_10 c t h (iblk m c 2 t) (iblk m c 3 t) y10 s12 s17 s18) := by
  have hmin : min (t.val % 16) 8 = 8 := by omega
  have hmin' : min (t.val % 16 + 1) 8 = 8 := by omega
  obtain ⟨hq, ht, hm, hz, hp, hr, ha⟩ := hI
  rw [hmin] at ht hm hz hp
  have h1 : (t.val - 1) / 16 = t.val / 16 := by omega
  have h2 : (t.val - 1) % 16 - 7 = t.val % 16 - 8 := by omega
  have hy' := hy (by omega)
  rw [h1, h2] at hy'
  have e := chunk2 hok c t (by omega) (cl s18 0) (cl s18 1) (cl s18 2) s12 s17 y10 (fun r => (hr h.1 r).1) (fun r => (hr h.1 r).2.1)
    (fun r => (hr h.1 r).2.2.1) (fun r k => ht r k (by have := k.2; omega)) (ha h.1) hy'
  refine ⟨⟨hq, ?_, ?_, ?_, ?_, fun _ => hr h.1, fun _ r d => ?_⟩, fun _ => ?_⟩
  · rw [hmin']; exact ht
  · rw [hmin']; exact hm
  · rw [hmin']; exact hz
  · rw [hmin']; exact hp
  · rw [newD_17_eq _ _ _ _ _ _ _ _ _ (pos_lt hok c t), show t.val % 16 + 1 - 8 = t.val % 16 - 7 by omega]; exact e.1 r d
  · rw [newD_10_eq _ _ _ _ _ _ _ _ _ (pos_lt hok c t)]; exact e.2

theorem stepE (c : Dev nD) (t : Fin cfg0.N) (h : t.val % 16 = 15) (y9 : Vec Ideal S1x256x768 .bf16) (y10 : Vec Ideal S1x256x16384 .fp8e5m2)
    (s12 : Vec Ideal S256x16384 .f32) (s13 : Vec Ideal S256x768 .bf16)
    (s14 s15 s16 : Vec Ideal S256x128 .f32) (s17 : Vec Ideal S768x256 .f32) (s18 : Vec Ideal S256x128 .f32)
    (hI : InvB m c (t.val / 16) (t.val % 16) s12 s13 s14 s15 s16 s17 s18) (hy : (spec m).P6 c (t.val - 1) y10) :
    (spec m).P5 c t.val (newE_9 c t h (iblk m c 2 t) (iblk m c 3 t) y9 y10 s12 s17 s18)
    ∧ (spec m).P6 c t.val (newE_10 c t h (iblk m c 2 t) (iblk m c 3 t) y9 y10 s12 s17 s18) := by
  have hmin : min (t.val % 16) 8 = 8 := by omega
  obtain ⟨hq, ht, hm, hz, hp, hr, ha⟩ := hI
  rw [hmin] at ht hm hz hp
  have h1 : (t.val - 1) / 16 = t.val / 16 := by omega
  have h2 : (t.val - 1) % 16 - 7 = t.val % 16 - 8 := by omega
  have h8 : 8 < t.val % 16 := by omega
  have hy' := hy (by omega)
  rw [h1, h2] at hy'
  have e := chunk2 hok c t (by omega) (cl s18 0) (cl s18 1) (cl s18 2) s12 s17 y10 (fun r => (hr h8 r).1) (fun r => (hr h8 r).2.1)
    (fun r => (hr h8 r).2.2.1) (fun r k => ht r k (by have := k.2; omega)) (ha h8) hy'
  refine ⟨fun _ r d => ?_, fun _ => ?_⟩
  · rw [newE_9_eq (hp := pos_lt hok c t), newE_17_eq _ _ _ _ _ _ _ _ _ _ (pos_lt hok c t), pay9_apply, e.1, h]
    exact congrArg (accB m c (t.val / 16) r d 16384 * ·) (congrArg (· * _) (hr h8 r).2.2.2)
  · rw [newE_10_eq _ _ _ _ _ _ _ _ _ _ (pos_lt hok c t)]; exact e.2

/-- The body keeps the specification. -/
theorem steps : Steps m (spec m) where
  init _ _ _ _ _ _ _ _ h := absurd rfl h
  lo4 c n y h h' := absurd h' (by omega)
  lo5 c n y h h' := absurd h' (by omega)
  lo6 c n y h h' := absurd h' (by omega)
  lo7 c n y h h' := absurd h' (by omega)
  keep4 c n y h hy _ := by
    have := hy (by omega)
    rw [show (n - 1) / 16 = n / 16 by omega] at this
    exact this
  keep7 c n y h hy _ := by
    have := hy (by omega)
    rw [show (n - 1) / 16 = n / 16 by omega] at this
    exact this
  stepA c t h s12 s13 s14 s15 s16 s17 s18 _ _ := by
    rw [show (t.val + 1) / 16 = t.val / 16 by omega, show (t.val + 1) % 16 = t.val % 16 + 1 by omega]
    exact stepA hok c t h s12 s13 s14 s15 s16 s17 s18
  stepB c t h s12 s13 s14 s15 s16 s17 s18 hI _ := by
    rw [show (t.val + 1) / 16 = t.val / 16 by omega, show (t.val + 1) % 16 = t.val % 16 + 1 by omega]
    exact stepB hok c t h s12 s13 s14 s15 s16 s17 s18 (hI h.1)
  stepC c t h y8 y10 y11 s12 s13 s14 s15 s16 s17 s18 hI := by
    obtain ⟨h1, h2⟩ := stepC hok c t h y8 y10 y11 s12 s13 s14 s15 s16 s17 s18 (hI (by omega))
    refine ⟨fun _ => ?_, h2⟩
    rw [show (t.val + 1) / 16 = t.val / 16 by omega, show (t.val + 1) % 16 = t.val % 16 + 1 by omega]
    exact h1
  stepD c t h y10 s12 s13 s14 s15 s16 s17 s18 hI hy := by
    obtain ⟨h1, h2⟩ := stepD hok c t h y10 s12 s13 s14 s15 s16 s17 s18 (hI (by omega)) hy
    refine ⟨fun _ => ?_, h2⟩
    rw [show (t.val + 1) / 16 = t.val / 16 by omega, show (t.val + 1) % 16 = t.val % 16 + 1 by omega]
    exact h1
  stepE c t h y9 y10 s12 s13 s14 s15 s16 s17 s18 hI hy :=
    ⟨fun h' => absurd h' (by omega), stepE hok c t h y9 y10 s12 s13 s14 s15 s16 s17 s18 (hI (by omega)) hy⟩

end Cert.LossDqIdeal.Hand
-- ==== Proof.LossValue.lean ====
/- The loss kernel's four result arrays. -/
module

public import proofs.«01_k».proof.Proof.LossSteps
public import Idealize.ShloMosaic.Lib.Pipeline.ValueKit.Geometry
public import Idealize.ShloMosaic.Lib.Pipeline.ArrRel

@[expose] public section

noncomputable section

open scoped BigOperators

namespace Cert.LossSpec

open Idealize.ShloMosaic Cert.LossDqIdeal.Hand

variable (A0 : Fin 2 → Fin 4096 → Fin 768 → EReal) (A1 : Fin 2 → Fin 4096 → Fin 6 → EReal) (A2 : Fin 2 → Fin 768 → Fin 16384 → EReal)
  (A3 : Fin 2 → Fin 4096 → BitVec 32)

/-- The four result arrays: the losses, the queries' gradient, the codes and the scales. -/
def G4 : Vec Ideal ⟨3, ![32, 1, 256]⟩ .f32 := fun i => loss A0 A1 A2 A3 (bi (i 0).val) (qi (i 0).val (i 2))
def G5 : Vec Ideal ⟨3, ![2, 4096, 768]⟩ .bf16 := fun i => dq A0 A1 A2 A3 (i 0) (i 1) (i 2)
def G6 : Vec Ideal ⟨3, ![2, 4096, 16384]⟩ .fp8e5m2 := fun i => dl A0 A1 A2 A3 (i 0) (i 1) (i 2).val
def G7 : Vec Ideal ⟨3, ![32, 1, 256]⟩ .f32 := fun i => scl A0 A1 A2 A3 (bi (i 0).val) (qi (i 0).val (i 2))

end Cert.LossSpec

namespace Cert.LossDqIdeal.Hand

open Cert.LossDqIdeal Cert.LossDqIdeal.Gen Idealize.ShloMosaic Idealize.ShloMosaic.TcCoe Idealize.SL.Sem Cert.LossMath Cert.LossSpec
open Idealize.ShloMosaic.Pipeline (Dat RDat)

variable (m : (ℓ : Loc nD τ sig) → Buf (Elt Ideal) ℓ)

/-- The kernel's first array is the host's reading of the words as eight-bit floats. -/
theorem V_main_v0 (c : Dev nD) : V m c main_v0 = (bitcastToFloat .fp8e4m3 (m ((c : Thread nD τ).loc main_arg0) : IVec S2x4096x768 8) : FVec Ideal S2x4096x768 .fp8e4m3) := by
  rfl

/-- The block indices of the outputs at a point. -/
theorem idx4 : ∀ t : Fin cfg0.N, win0_4.index t = ![t.val / 16, 0, 0] :=
  (by decide +kernel : ∀ t : Fin grid0.N, _)
theorem idx5 : ∀ t : Fin cfg0.N, win0_5.index t = ![t.val / 256, t.val / 16 % 16, 0] :=
  (by decide +kernel : ∀ t : Fin grid0.N, _)
theorem idx6 : ∀ t : Fin cfg0.N, win0_6.index t = ![t.val / 256, t.val / 16 % 16, 0] :=
  (by decide +kernel : ∀ t : Fin grid0.N, _)
theorem idx7 : ∀ t : Fin cfg0.N, win0_7.index t = ![t.val / 16, 0, 0] :=
  (by decide +kernel : ∀ t : Fin grid0.N, _)

theorem covers4 : (cfg0.win 4).Covers := by decide +kernel
theorem covers5 : (cfg0.win 5).Covers := by decide +kernel
theorem covers6 : (cfg0.win 6).Covers := by decide +kernel
theorem covers7 : (cfg0.win 7).Covers := by decide +kernel

section
variable (c : Dev nD) (after : (w' : Fin cfg0.W) → Fin cfg0.N → (cfg0.win w').block.Idx → Elt Ideal (cfg0.win w').elt)
  (hL : ∀ (w : Fin cfg0.W) (u : Fin cfg0.N), (cfg0.win w).flush u = true → (rdat m (spec m) c).Leaves w u (after w u))

include hL

theorem arr4 : ((rdat m (spec m) c).withAfter after).arrAt 4 cfg0.N = G4 (a0 m c) (a1 m c) (a2 m c) (a3 m c) := by
  refine Dat.arrAt_eq_of_covers ((rdat m (spec m) c).withAfter after) 4 (G4 (a0 m c) (a1 m c) (a2 m c) (a3 m c)) covers4 fun t hf y => ?_
  have h15 : t.val % 16 = 15 := (flush0_4 _).mp hf
  obtain ⟨Y, _, hP⟩ := hL 4 t hf
  obtain ⟨z, z', r, rfl⟩ : ∃ (z : Fin 1) (z' : Fin 1) (r : Fin 256), y = ix3 z z' r := ⟨y 0, y 1, y 2, eq_ix3 y⟩
  obtain rfl : z = 0 := Subsingleton.elim _ _
  obtain rfl : z' = 0 := Subsingleton.elim _ _
  have hP' : after 4 t (ix3 0 0 r) = loss (a0 m c) (a1 m c) (a2 m c) (a3 m c) (bi (t.val / 16)) (qi (t.val / 16) r) :=
    hP (by omega) r
  refine Eq.trans (show _ = after 4 t (ix3 0 0 r) from rfl) (hP'.trans ?_)
  have h := idx4 t
  have e0 : (((((cfg0.win 4).blk t).view.emb (ix3 0 0 r) : S32x1x256.Idx) 0)).val = t.val / 16 := by
    show win0_4.index t 0 * 1 + 1 * 0 = _; rw [h]; show t.val / 16 * 1 + 1 * 0 = _; omega
  have e2 : (((cfg0.win 4).blk t).view.emb (ix3 0 0 r) : S32x1x256.Idx) 2 = r := by
    apply Fin.ext; show win0_4.index t 2 * 256 + 1 * r.val = _; rw [h]; show 0 * 256 + 1 * r.val = _; omega
  show _ = loss (a0 m c) (a1 m c) (a2 m c) (a3 m c) (bi (((((cfg0.win 4).blk t).view.emb (ix3 0 0 r) : S32x1x256.Idx) 0)).val)
    (qi (((((cfg0.win 4).blk t).view.emb (ix3 0 0 r) : S32x1x256.Idx) 0)).val ((((cfg0.win 4).blk t).view.emb (ix3 0 0 r) : S32x1x256.Idx) 2))
  rw [e0, e2]

theorem arr7 : ((rdat m (spec m) c).withAfter after).arrAt 7 cfg0.N = G7 (a0 m c) (a1 m c) (a2 m c) (a3 m c) := by
  refine Dat.arrAt_eq_of_covers ((rdat m (spec m) c).withAfter after) 7 (G7 (a0 m c) (a1 m c) (a2 m c) (a3 m c)) covers7 fun t hf y => ?_
  have h15 : t.val % 16 = 15 := (flush0_7 _).mp hf
  obtain ⟨Y, _, hP⟩ := hL 7 t hf
  obtain ⟨z, z', r, rfl⟩ : ∃ (z : Fin 1) (z' : Fin 1) (r : Fin 256), y = ix3 z z' r := ⟨y 0, y 1, y 2, eq_ix3 y⟩
  obtain rfl : z = 0 := Subsingleton.elim _ _
  obtain rfl : z' = 0 := Subsingleton.elim _ _
  have hP' : after 7 t (ix3 0 0 r) = scl (a0 m c) (a1 m c) (a2 m c) (a3 m c) (bi (t.val / 16)) (qi (t.val / 16) r) :=
    hP (by omega) r
  refine Eq.trans (show _ = after 7 t (ix3 0 0 r) from rfl) (hP'.trans ?_)
  have h := idx7 t
  have e0 : (((((cfg0.win 7).blk t).view.emb (ix3 0 0 r) : S32x1x256.Idx) 0)).val = t.val / 16 := by
    show win0_7.index t 0 * 1 + 1 * 0 = _; rw [h]; show t.val / 16 * 1 + 1 * 0 = _; omega
  have e2 : (((cfg0.win 7).blk t).view.emb (ix3 0 0 r) : S32x1x256.Idx) 2 = r := by
    apply Fin.ext; show win0_7.index t 2 * 256 + 1 * r.val = _; rw [h]; show 0 * 256 + 1 * r.val = _; omega
  show _ = scl (a0 m c) (a1 m c) (a2 m c) (a3 m c) (bi (((((cfg0.win 7).blk t).view.emb (ix3 0 0 r) : S32x1x256.Idx) 0)).val)
    (qi (((((cfg0.win 7).blk t).view.emb (ix3 0 0 r) : S32x1x256.Idx) 0)).val ((((cfg0.win 7).blk t).view.emb (ix3 0 0 r) : S32x1x256.Idx) 2))
  rw [e0, e2]

theorem arr5 : ((rdat m (spec m) c).withAfter after).arrAt 5 cfg0.N = G5 (a0 m c) (a1 m c) (a2 m c) (a3 m c) := by
  refine Dat.arrAt_eq_of_covers ((rdat m (spec m) c).withAfter after) 5 (G5 (a0 m c) (a1 m c) (a2 m c) (a3 m c)) covers5 fun t hf y => ?_
  have h15 : t.val % 16 = 15 := (flush0_5 _).mp hf
  obtain ⟨Y, _, hP⟩ := hL 5 t hf
  obtain ⟨z, r, k, rfl⟩ : ∃ (z : Fin 1) (r : Fin 256) (k : Fin 768), y = ix3 z r k := ⟨y 0, y 1, y 2, eq_ix3 y⟩
  obtain rfl : z = 0 := Subsingleton.elim _ _
  have hP' : after 5 t (ix3 0 r k) = dq (a0 m c) (a1 m c) (a2 m c) (a3 m c) (bi (t.val / 16)) (qi (t.val / 16) r) k :=
    hP h15 r k
  refine Eq.trans (show _ = after 5 t (ix3 0 r k) from rfl) (hP'.trans ?_)
  have h := idx5 t
  have ht := lt512 t
  have e : (((cfg0.win 5).blk t).view.emb (ix3 0 r k) : S2x4096x768.Idx) = ix3 (bi (t.val / 16)) (qi (t.val / 16) r) k := by
    funext a; apply Fin.ext
    match a with
    | ⟨0, _⟩ => show win0_5.index t 0 * 1 + 1 * 0 = t.val / 16 / 16 % 2; rw [h]; show t.val / 256 * 1 + 1 * 0 = _; omega
    | ⟨1, _⟩ => show win0_5.index t 1 * 256 + 1 * r.val = 256 * (t.val / 16 % 16) + r.val; rw [h]; show t.val / 16 % 16 * 256 + 1 * r.val = _; omega
    | ⟨2, _⟩ => show win0_5.index t 2 * 768 + 1 * k.val = k.val; rw [h]; show 0 * 768 + 1 * k.val = _; omega
  exact (congrArg (G5 (a0 m c) (a1 m c) (a2 m c) (a3 m c)) e).symm

theorem arr6 : ((rdat m (spec m) c).withAfter after).arrAt 6 cfg0.N = G6 (a0 m c) (a1 m c) (a2 m c) (a3 m c) := by
  refine Dat.arrAt_eq_of_covers ((rdat m (spec m) c).withAfter after) 6 (G6 (a0 m c) (a1 m c) (a2 m c) (a3 m c)) covers6 fun t hf y => ?_
  have h15 : t.val % 16 = 15 := (flush0_6 _).mp hf
  obtain ⟨Y, _, hP⟩ := hL 6 t hf
  obtain ⟨z, r, k, rfl⟩ : ∃ (z : Fin 1) (r : Fin 256) (k : Fin 16384), y = ix3 z r k := ⟨y 0, y 1, y 2, eq_ix3 y⟩
  obtain rfl : z = 0 := Subsingleton.elim _ _
  have hP' : after 6 t (ix3 0 r k) = dl (a0 m c) (a1 m c) (a2 m c) (a3 m c) (bi (t.val / 16)) (qi (t.val / 16) r) k.val :=
    hP (by omega) r k (by rw [h15]; exact k.2)
  refine Eq.trans (show _ = after 6 t (ix3 0 r k) from rfl) (hP'.trans ?_)
  have h := idx6 t
  have ht := lt512 t
  have e : (((cfg0.win 6).blk t).view.emb (ix3 0 r k) : S2x4096x16384.Idx) = ix3 (bi (t.val / 16)) (qi (t.val / 16) r) k := by
    funext a; apply Fin.ext
    match a with
    | ⟨0, _⟩ => show win0_6.index t 0 * 1 + 1 * 0 = t.val / 16 / 16 % 2; rw [h]; show t.val / 256 * 1 + 1 * 0 = _; omega
    | ⟨1, _⟩ => show win0_6.index t 1 * 256 + 1 * r.val = 256 * (t.val / 16 % 16) + r.val; rw [h]; show t.val / 16 % 16 * 256 + 1 * r.val = _; omega
    | ⟨2, _⟩ => show win0_6.index t 2 * 16384 + 1 * k.val = k.val; rw [h]; show 0 * 16384 + 1 * k.val = _; omega
  exact (congrArg (G6 (a0 m c) (a1 m c) (a2 m c) (a3 m c)) e).symm

end

variable {m} in
/-- The kernel's run, with its four result arrays named. -/
theorem run_value (ρ : Dev nD → PrngReg) (hok : ∀ c, Ok (a0 m c) (a1 m c) (a2 m c) (a3 m c)) :
    θ_run defs (onTc (τ := τ) (main (F := Ideal))) ⟨m, fun _ => 0, ρ⟩ fun r => ∀ c : Dev nD,
      r.2.mem ((c.tc : Thread nD τ).loc main_v1_0) = G4 (a0 m c) (a1 m c) (a2 m c) (a3 m c)
      ∧ r.2.mem ((c.tc : Thread nD τ).loc main_v1_1) = G5 (a0 m c) (a1 m c) (a2 m c) (a3 m c)
      ∧ r.2.mem ((c.tc : Thread nD τ).loc main_v1_2) = G6 (a0 m c) (a1 m c) (a2 m c) (a3 m c)
      ∧ r.2.mem ((c.tc : Thread nD τ).loc main_v1_3) = G7 (a0 m c) (a1 m c) (a2 m c) (a3 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := by
  refine (θ_run defs _ _).mono (fun r h c => ?_) (run_main (m := m) ρ (steps hok))
  obtain ⟨after, hL, hA⟩ := RDat.FramePost.exists_exact h.1 c
  exact ⟨(hA 4).trans (arr4 m c after hL), (hA 5).trans (arr5 m c after hL), (hA 6).trans (arr6 m c after hL),
    (hA 7).trans (arr7 m c after hL), args_unchanged h.1 c⟩

end Cert.LossDqIdeal.Hand

end
-- ==== Proof.LossRefArr.lean ====
/- The reference's four result arrays. -/
module

public import proofs.«01_k».proof.Proof.LossRef
public import proofs.«01_k».proof.Proof.LossValue
public import Idealize.ShloMosaic.Lib.Pipeline.ValueKit.Geometry
public import Idealize.ShloMosaic.Lib.Pipeline.ArrRel

@[expose] public section

noncomputable section

open scoped BigOperators

namespace Cert.LossDqReferenceIdeal.Hand

open Cert.LossDqReferenceIdeal Cert.LossDqReferenceIdeal.Gen Idealize.ShloMosaic Idealize.ShloMosaic.TcCoe Idealize.SL.Sem Cert.LossMath Cert.LossSpec

variable (m : (ℓ : Loc nD τ sig) → Buf (Elt Ideal) ℓ)

/-- The reference's first array is the host's reading of the words as eight-bit floats. -/
theorem V_main_v0 (c : Dev nD) : V m c main_v0 = (bitcastToFloat .fp8e4m3 (m ((c : Thread nD τ).loc main_arg0) : IVec S2x4096x768 8) : FVec Ideal S2x4096x768 .fp8e4m3) := by
  rfl

/-- The grid's one point. -/
def pt0 : Fin cfg0.N := (⟨0, by decide⟩ : Fin grid0.N)

/-- Each result is written back whole, once. -/
theorem whole4 : (cfg0.win 4).WholeAt pt0 := by decide +kernel
theorem whole5 : (cfg0.win 5).WholeAt pt0 := by decide +kernel
theorem whole6 : (cfg0.win 6).WholeAt pt0 := by decide +kernel
theorem whole7 : (cfg0.win 7).WholeAt pt0 := by decide +kernel

/-- The reference's four arrays. -/
def Y0 (c : Dev nD) : Vec Ideal S2x4096x768 .fp8e4m3 := V m c (Pipeline.arrRef spec0 0)
def Y1 (c : Dev nD) : Vec Ideal S2x4096x6 .f32 := V m c (Pipeline.arrRef spec0 1)
def Y2 (c : Dev nD) : Vec Ideal S2x768x16384 .bf16 := V m c (Pipeline.arrRef spec0 2)
def Y3 (c : Dev nD) : Vec Ideal S2x4096x1 .i32 := V m c (Pipeline.arrRef spec0 3)

theorem iblk0 (c : Dev nD) (t : Fin cfg0.N) : iblk m c 0 t = Y0 m c := by
  unfold iblk Y0
  funext i
  rw [View.read_apply]
  show V m c _ _ = V m c _ _
  congr 1
  funext a; apply Fin.ext
  match a with
  | ⟨0, _⟩ => show 0 * 2 + 1 * (i 0).val = (i 0).val; omega
  | ⟨1, _⟩ => show 0 * 4096 + 1 * (i 1).val = (i 1).val; omega
  | ⟨2, _⟩ => show 0 * 768 + 1 * (i 2).val = (i 2).val; omega

theorem iblk1 (c : Dev nD) (t : Fin cfg0.N) : iblk m c 1 t = Y1 m c := by
  unfold iblk Y1
  funext i
  rw [View.read_apply]
  show V m c _ _ = V m c _ _
  congr 1
  funext a; apply Fin.ext
  match a with
  | ⟨0, _⟩ => show 0 * 2 + 1 * (i 0).val = (i 0).val; omega
  | ⟨1, _⟩ => show 0 * 4096 + 1 * (i 1).val = (i 1).val; omega
  | ⟨2, _⟩ => show 0 * 6 + 1 * (i 2).val = (i 2).val; omega

theorem iblk2 (c : Dev nD) (t : Fin cfg0.N) : iblk m c 2 t = Y2 m c := by
  unfold iblk Y2
  funext i
  rw [View.read_apply]
  show V m c _ _ = V m c _ _
  congr 1
  funext a; apply Fin.ext
  match a with
  | ⟨0, _⟩ => show 0 * 2 + 1 * (i 0).val = (i 0).val; omega
  | ⟨1, _⟩ => show 0 * 768 + 1 * (i 1).val = (i 1).val; omega
  | ⟨2, _⟩ => show 0 * 16384 + 1 * (i 2).val = (i 2).val; omega

theorem iblk3 (c : Dev nD) (t : Fin cfg0.N) : iblk m c 3 t = Y3 m c := by
  unfold iblk Y3
  funext i
  rw [View.read_apply]
  show V m c _ _ = V m c _ _
  congr 1
  funext a; apply Fin.ext
  match a with
  | ⟨0, _⟩ => show 0 * 2 + 1 * (i 0).val = (i 0).val; omega
  | ⟨1, _⟩ => show 0 * 4096 + 1 * (i 1).val = (i 1).val; omega
  | ⟨2, _⟩ => show 0 * 1 + 1 * (i 2).val = (i 2).val; omega

theorem arr4 (c : Dev nD) (hok : Ok (A0 (Y0 m c)) (A1 (Y1 m c)) (A2 (Y2 m c)) (A3 (Y3 m c))) : (dats m 0 c).arrAt 4 cfg0.N = G4 (A0 (Y0 m c)) (A1 (Y1 m c)) (A2 (Y2 m c)) (A3 (Y3 m c)) := by
  funext i
  refine ((dats m 0 c).arrAt_emb_eq_after_last 4 pt0 whole4 i).trans ?_
  refine Eq.trans (show _ = (dats m 0 c).after 4 pt0 i from rfl) ?_
  rw [after0_4, iblk0, iblk1, iblk2, iblk3]
  obtain ⟨a, z, b, rfl⟩ : ∃ (a : Fin 32) (z : Fin 1) (b : Fin 256), i = ix3 a z b := ⟨i 0, i 1, i 2, eq_ix3 i⟩
  obtain rfl : z = 0 := Subsingleton.elim _ _
  exact out4_apply _ _ _ _ hok a b

theorem arr5 (c : Dev nD) (hok : Ok (A0 (Y0 m c)) (A1 (Y1 m c)) (A2 (Y2 m c)) (A3 (Y3 m c))) : (dats m 0 c).arrAt 5 cfg0.N = G5 (A0 (Y0 m c)) (A1 (Y1 m c)) (A2 (Y2 m c)) (A3 (Y3 m c)) := by
  funext i
  refine ((dats m 0 c).arrAt_emb_eq_after_last 5 pt0 whole5 i).trans ?_
  refine Eq.trans (show _ = (dats m 0 c).after 5 pt0 i from rfl) ?_
  rw [after0_5, iblk0, iblk1, iblk2, iblk3]
  obtain ⟨a, b, k, rfl⟩ : ∃ (a : Fin 2) (b : Fin 4096) (k : Fin 768), i = ix3 a b k := ⟨i 0, i 1, i 2, eq_ix3 i⟩
  exact out5_apply _ _ _ _ hok a b k

theorem arr6 (c : Dev nD) (hok : Ok (A0 (Y0 m c)) (A1 (Y1 m c)) (A2 (Y2 m c)) (A3 (Y3 m c))) : (dats m 0 c).arrAt 6 cfg0.N = G6 (A0 (Y0 m c)) (A1 (Y1 m c)) (A2 (Y2 m c)) (A3 (Y3 m c)) := by
  funext i
  refine ((dats m 0 c).arrAt_emb_eq_after_last 6 pt0 whole6 i).trans ?_
  refine Eq.trans (show _ = (dats m 0 c).after 6 pt0 i from rfl) ?_
  rw [after0_6, iblk0, iblk1, iblk2, iblk3]
  obtain ⟨a, b, k, rfl⟩ : ∃ (a : Fin 2) (b : Fin 4096) (k : Fin 16384), i = ix3 a b k := ⟨i 0, i 1, i 2, eq_ix3 i⟩
  exact out6_apply _ _ _ _ hok a b k

theorem arr7 (c : Dev nD) (hok : Ok (A0 (Y0 m c)) (A1 (Y1 m c)) (A2 (Y2 m c)) (A3 (Y3 m c))) : (dats m 0 c).arrAt 7 cfg0.N = G7 (A0 (Y0 m c)) (A1 (Y1 m c)) (A2 (Y2 m c)) (A3 (Y3 m c)) := by
  funext i
  refine ((dats m 0 c).arrAt_emb_eq_after_last 7 pt0 whole7 i).trans ?_
  refine Eq.trans (show _ = (dats m 0 c).after 7 pt0 i from rfl) ?_
  rw [after0_7, iblk0, iblk1, iblk2, iblk3]
  obtain ⟨a, z, b, rfl⟩ : ∃ (a : Fin 32) (z : Fin 1) (b : Fin 256), i = ix3 a z b := ⟨i 0, i 1, i 2, eq_ix3 i⟩
  obtain rfl : z = 0 := Subsingleton.elim _ _
  exact out7_apply _ _ _ _ hok a b

end Cert.LossDqReferenceIdeal.Hand

end
-- ==== Proof.LossAlg.lean ====
/- The loss kernel and its reference end with equal results. -/
module

public import proofs.«01_k».proof.Defs
public import proofs.«01_k».proof.Proof.LossPre
public import proofs.«01_k».proof.Proof.LossRefArr

@[expose] public section

noncomputable section

namespace Cert.LossDqIdeal.Hand

open Cert.LossDqIdeal Cert.LossDqIdeal.Gen Idealize.ShloMosaic Idealize.ShloMosaic.TcCoe Idealize.SL.Sem

variable (m : (ℓ : Loc nD τ sig) → Buf (Elt Ideal) ℓ) (c : Dev nD)

/-- The arrays the region works on, from the arguments. -/
theorem arg0_eq : a0 m c = fun b q d => Ideal.ofBits .fp8e4m3 ((m ((c.tc : Thread nD τ).loc main_arg0) : IVec S2x4096x768 8) (ix3 b q d)) := by
  unfold a0 X0
  funext b q d
  exact congrFun (V_main_v0 m c) (ix3 b q d)

theorem arg1_eq : a1 m c = fun b q d => (m ((c.tc : Thread nD τ).loc main_arg1) : FVec Ideal S2x4096x6 .f32) (ix3 b q d) := by
  unfold a1 X1
  funext b q d
  exact congrFun (V_main_arg1 m c) (ix3 b q d)

theorem arg2_eq : a2 m c = fun b d k => (m ((c.tc : Thread nD τ).loc main_arg2) : FVec Ideal S2x768x16384 .bf16) (ix3 b d k) := by
  unfold a2 X2
  funext b d k
  exact congrFun (V_main_arg2 m c) (ix3 b d k)

theorem arg3_eq : a3 m c = fun b q => (m ((c.tc : Thread nD τ).loc main_arg3) : IVec S2x4096x1 32) (ix3 b q 0) := by
  unfold a3 X3
  funext b q
  exact congrFun (V_main_arg3 m c) (ix3 b q 0)

end Cert.LossDqIdeal.Hand

namespace Cert.LossDqReferenceIdeal.Hand

open Cert.LossDqReferenceIdeal Cert.LossDqReferenceIdeal.Gen Idealize.ShloMosaic Idealize.ShloMosaic.TcCoe Idealize.SL.Sem

variable (m : (ℓ : Loc nD τ sig) → Buf (Elt Ideal) ℓ) (c : Dev nD)

/-- The arrays the region works on, from the arguments. -/
theorem arg0_eq : A0 (Y0 m c) = fun b q d => Ideal.ofBits .fp8e4m3 ((m ((c.tc : Thread nD τ).loc main_arg0) : IVec S2x4096x768 8) (ix3 b q d)) := by
  unfold A0 Y0
  funext b q d
  exact congrFun (V_main_v0 m c) (ix3 b q d)

theorem arg1_eq : A1 (Y1 m c) = fun b q d => (m ((c.tc : Thread nD τ).loc main_arg1) : FVec Ideal S2x4096x6 .f32) (ix3 b q d) := by
  unfold A1 Y1
  funext b q d
  exact congrFun (V_main_arg1 m c) (ix3 b q d)

theorem arg2_eq : A2 (Y2 m c) = fun b d k => (m ((c.tc : Thread nD τ).loc main_arg2) : FVec Ideal S2x768x16384 .bf16) (ix3 b d k) := by
  unfold A2 Y2
  funext b d k
  exact congrFun (V_main_arg2 m c) (ix3 b d k)

theorem arg3_eq : A3 (Y3 m c) = fun b q => (m ((c.tc : Thread nD τ).loc main_arg3) : IVec S2x4096x1 32) (ix3 b q 0) := by
  unfold A3 Y3
  funext b q
  exact congrFun (V_main_arg3 m c) (ix3 b q 0)

end Cert.LossDqReferenceIdeal.Hand

namespace Cert

open Idealize.ShloMosaic Idealize.ShloMosaic.TcCoe Idealize.SL.Sem Cert.LossSpec

/-- The kernel and its reference, over the extended reals, end with the same four arrays. -/
theorem algebraic_loss : letI := Cert.LossDqIdeal.Gen.facts; letI := Cert.LossDqReferenceIdeal.Gen.facts; letI := Cert.Pre_in_range.facts
    algebraic_LossDqIdeal_LossDqReferenceIdeal_pre_in_range := by
  intro m g m' g' hpre hagree
  have hok : ∀ c, Ok (Cert.LossDqIdeal.Hand.a0 m c) (Cert.LossDqIdeal.Hand.a1 m c) (Cert.LossDqIdeal.Hand.a2 m c) (Cert.LossDqIdeal.Hand.a3 m c) := by
    intro c
    rw [Cert.LossDqIdeal.Hand.arg0_eq, Cert.LossDqIdeal.Hand.arg1_eq, Cert.LossDqIdeal.Hand.arg2_eq, Cert.LossDqIdeal.Hand.arg3_eq]
    exact Cert.Pre_in_range.ok _ _ _ _ (hpre c)
  have he : ∀ c, Cert.LossDqReferenceIdeal.Hand.A0 (Cert.LossDqReferenceIdeal.Hand.Y0 m' c) = Cert.LossDqIdeal.Hand.a0 m c
      ∧ Cert.LossDqReferenceIdeal.Hand.A1 (Cert.LossDqReferenceIdeal.Hand.Y1 m' c) = Cert.LossDqIdeal.Hand.a1 m c
      ∧ Cert.LossDqReferenceIdeal.Hand.A2 (Cert.LossDqReferenceIdeal.Hand.Y2 m' c) = Cert.LossDqIdeal.Hand.a2 m c
      ∧ Cert.LossDqReferenceIdeal.Hand.A3 (Cert.LossDqReferenceIdeal.Hand.Y3 m' c) = Cert.LossDqIdeal.Hand.a3 m c := by
    intro c
    obtain ⟨h0, h1, h2, h3⟩ := hagree c
    rw [Cert.LossDqIdeal.Hand.arg0_eq, Cert.LossDqIdeal.Hand.arg1_eq, Cert.LossDqIdeal.Hand.arg2_eq, Cert.LossDqIdeal.Hand.arg3_eq]
    refine ⟨(Cert.LossDqReferenceIdeal.Hand.arg0_eq m' c).trans ?_, (Cert.LossDqReferenceIdeal.Hand.arg1_eq m' c).trans ?_,
      (Cert.LossDqReferenceIdeal.Hand.arg2_eq m' c).trans ?_, (Cert.LossDqReferenceIdeal.Hand.arg3_eq m' c).trans ?_⟩
    · rw [h0]
    · rw [h1]
    · rw [h2]
    · rw [h3]
  refine ⟨fun c => G4 (Cert.LossDqIdeal.Hand.a0 m c) (Cert.LossDqIdeal.Hand.a1 m c) (Cert.LossDqIdeal.Hand.a2 m c) (Cert.LossDqIdeal.Hand.a3 m c),
    fun c => G5 (Cert.LossDqIdeal.Hand.a0 m c) (Cert.LossDqIdeal.Hand.a1 m c) (Cert.LossDqIdeal.Hand.a2 m c) (Cert.LossDqIdeal.Hand.a3 m c),
    fun c => G6 (Cert.LossDqIdeal.Hand.a0 m c) (Cert.LossDqIdeal.Hand.a1 m c) (Cert.LossDqIdeal.Hand.a2 m c) (Cert.LossDqIdeal.Hand.a3 m c),
    fun c => G7 (Cert.LossDqIdeal.Hand.a0 m c) (Cert.LossDqIdeal.Hand.a1 m c) (Cert.LossDqIdeal.Hand.a2 m c) (Cert.LossDqIdeal.Hand.a3 m c),
    Cert.LossDqIdeal.Hand.run_value g hok,
    (θ_run _ _ _).mono (fun r h c => ?_) (Cert.LossDqReferenceIdeal.Value.run_blocks m' g')⟩
  obtain ⟨e0, e1, e2, e3⟩ := he c
  have hok' := hok c
  rw [← e0, ← e1, ← e2, ← e3] at hok'
  have x4 := Cert.LossDqReferenceIdeal.Hand.arr4 m' c hok'
  have x5 := Cert.LossDqReferenceIdeal.Hand.arr5 m' c hok'
  have x6 := Cert.LossDqReferenceIdeal.Hand.arr6 m' c hok'
  have x7 := Cert.LossDqReferenceIdeal.Hand.arr7 m' c hok'
  rw [e0, e1, e2, e3] at x4 x5 x6 x7
  obtain ⟨r4, r5, r6, r7, hr⟩ := h c
  exact ⟨r4.trans x4, r5.trans x5, r6.trans x6, r7.trans x7, hr⟩

end Cert

end
-- ==== Proof.lean ====
module

public import proofs.«01_k».proof.Defs
public import proofs.«01_k».proof.Proof.Gen.DequantP
public import proofs.«01_k».proof.Proof.Gen.DequantP.Frame
public import proofs.«01_k».proof.Proof.Gen.DequantPIdeal
public import proofs.«01_k».proof.Proof.Gen.DequantPIdeal.Value
public import proofs.«01_k».proof.Proof.Gen.DequantPReferenceIdeal
public import proofs.«01_k».proof.Proof.Gen.DequantPReferenceIdeal.Value
public import proofs.«01_k».proof.Proof.DequantPValue
public import proofs.«01_k».proof.Proof.Gen.DequantQ
public import proofs.«01_k».proof.Proof.Gen.DequantQ.Frame
public import proofs.«01_k».proof.Proof.Gen.DequantQIdeal
public import proofs.«01_k».proof.Proof.Gen.DequantQIdeal.Value
public import proofs.«01_k».proof.Proof.Gen.DequantQReferenceIdeal
public import proofs.«01_k».proof.Proof.Gen.DequantQReferenceIdeal.Value
public import proofs.«01_k».proof.Proof.DequantQValue
public import proofs.«01_k».proof.Proof.Gen.Dp
public import proofs.«01_k».proof.Proof.Gen.Dp.Frame
public import proofs.«01_k».proof.Proof.Gen.DpIdeal
public import proofs.«01_k».proof.Proof.Gen.DpIdeal.Value
public import proofs.«01_k».proof.Proof.Gen.DpReferenceIdeal
public import proofs.«01_k».proof.Proof.Gen.DpReferenceIdeal.Value
public import proofs.«01_k».proof.Proof.Gen.LossDq
public import proofs.«01_k».proof.Proof.Gen.LossDq.Launch
public import proofs.«01_k».proof.Proof.Gen.LossDq.Skeleton
public import proofs.«01_k».proof.Proof.Gen.LossDq.Points
public import proofs.«01_k».proof.Proof.Gen.LossDqIdeal
public import proofs.«01_k».proof.Proof.Gen.LossDqIdeal.Launch
public import proofs.«01_k».proof.Proof.Gen.LossDqIdeal.Skeleton
public import proofs.«01_k».proof.Proof.Gen.LossDqIdeal.Points
public import proofs.«01_k».proof.Proof.Gen.LossDqReferenceIdeal
public import proofs.«01_k».proof.Proof.Gen.LossDqReferenceIdeal.Value
public import proofs.«01_k».proof.Proof.DpValue
public import proofs.«01_k».proof.Proof.LossFrameP
public import proofs.«01_k».proof.Proof.LossAlg
public import Idealize.ShloMosaic.Adequacy
public import Idealize.ShloMosaic.Init

@[expose] public section

noncomputable section

namespace Cert.Proof

open Idealize.ShloMosaic Idealize.SL.Sem

theorem claim : Cert.Claim := by
  refine ⟨Cert.DequantP.Gen.facts, Cert.DequantPIdeal.Gen.facts, Cert.DequantPReferenceIdeal.Gen.facts,
    Cert.DequantQ.Gen.facts, Cert.DequantQIdeal.Gen.facts, Cert.DequantQReferenceIdeal.Gen.facts,
    Cert.Dp.Gen.facts, Cert.DpIdeal.Gen.facts, Cert.DpReferenceIdeal.Gen.facts, Cert.LossDq.Gen.facts, Cert.LossDqIdeal.Gen.facts,
    Cert.LossDqReferenceIdeal.Gen.facts, Cert.Pre_in_range.facts,
    fun m ρ _ => Cert.DequantP.Gen.frame m ρ, fun m ρ _ => Cert.DequantPIdeal.Gen.frame m ρ, fun m ρ _ => Cert.DequantPReferenceIdeal.Gen.frame m ρ,
    fun m ρ _ => Cert.DequantQ.Gen.frame m ρ, fun m ρ _ => Cert.DequantQIdeal.Gen.frame m ρ, fun m ρ _ => Cert.DequantQReferenceIdeal.Gen.frame m ρ,
    fun m ρ _ => Cert.Dp.Gen.frame m ρ, fun m ρ _ => Cert.DpIdeal.Gen.frame m ρ, fun m ρ _ => Cert.DpReferenceIdeal.Gen.frame m ρ,
    fun m ρ _ => Cert.LossDq.Hand.frame m ρ, fun m ρ _ => Cert.LossDqIdeal.Hand.frame m ρ, fun m ρ _ => Cert.LossDqIdeal.Hand.frame m ρ,
    fun m ρ _ => Cert.LossDqReferenceIdeal.Gen.frame m ρ, fun m ρ _ => Cert.LossDqReferenceIdeal.Gen.frame m ρ,
    trivial, algebraic_dequant_p, trivial, algebraic_dequant_q, trivial, algebraic_dp,
    ⟨IdealRules.named_const.statement _ _ _ _ _ rfl, IdealRules.named_const.statement _ _ _ _ _ rfl, IdealRules.named_const.statement _ _ _ _ _ rfl⟩,
    algebraic_loss⟩

end Cert.Proof

end
